-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DilDw (m : (ℓ : Loc Cert.DilDw.nD Cert.DilDw.τ Cert.DilDw.sig) → Buf (Elt Bits) ℓ) : Prop :=
  True

def Pre_DilDwIdeal (m : (ℓ : Loc Cert.DilDwIdeal.nD Cert.DilDwIdeal.τ Cert.DilDwIdeal.sig) → Buf (Elt Ideal) ℓ) : Prop :=
  True

def Pre_DilDwRefIdeal (m : (ℓ : Loc Cert.DilDwRefIdeal.nD Cert.DilDwRefIdeal.τ Cert.DilDwRefIdeal.sig) → Buf (Elt Ideal) ℓ) : Prop :=
  True

def Pre_DilDh (m : (ℓ : Loc Cert.DilDh.nD Cert.DilDh.τ Cert.DilDh.sig) → Buf (Elt Bits) ℓ) : Prop :=
  True

def Pre_DilDhIdeal (m : (ℓ : Loc Cert.DilDhIdeal.nD Cert.DilDhIdeal.τ Cert.DilDhIdeal.sig) → Buf (Elt Ideal) ℓ) : Prop :=
  True

def Pre_DilDhRefIdeal (m : (ℓ : Loc Cert.DilDhRefIdeal.nD Cert.DilDhRefIdeal.τ Cert.DilDhRefIdeal.sig) → Buf (Elt Ideal) ℓ) : Prop :=
  True

def Pre_NaDw (m : (ℓ : Loc Cert.NaDw.nD Cert.NaDw.τ Cert.NaDw.sig) → Buf (Elt Bits) ℓ) : Prop :=
  True

def Pre_NaDwIdeal (m : (ℓ : Loc Cert.NaDwIdeal.nD Cert.NaDwIdeal.τ Cert.NaDwIdeal.sig) → Buf (Elt Ideal) ℓ) : Prop :=
  True

def Pre_NaDwRefIdeal (m : (ℓ : Loc Cert.NaDwRefIdeal.nD Cert.NaDwRefIdeal.τ Cert.NaDwRefIdeal.sig) → Buf (Elt Ideal) ℓ) : Prop :=
  True

def Pre_NaDh (m : (ℓ : Loc Cert.NaDh.nD Cert.NaDh.τ Cert.NaDh.sig) → Buf (Elt Bits) ℓ) : Prop :=
  True

def Pre_NaDhIdeal (m : (ℓ : Loc Cert.NaDhIdeal.nD Cert.NaDhIdeal.τ Cert.NaDhIdeal.sig) → Buf (Elt Ideal) ℓ) : Prop :=
  True

def Pre_NaDhRefIdeal (m : (ℓ : Loc Cert.NaDhRefIdeal.nD Cert.NaDhRefIdeal.τ Cert.NaDhRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDo (m : (ℓ : Loc Cert.ProjDo.nD Cert.ProjDo.τ Cert.ProjDo.sig) → Buf (Elt Bits) ℓ) : Prop :=
  True

def Pre_ProjDoIdeal (m : (ℓ : Loc Cert.ProjDoIdeal.nD Cert.ProjDoIdeal.τ Cert.ProjDoIdeal.sig) → Buf (Elt Ideal) ℓ) : Prop :=
  True

def Pre_ProjDoRefIdeal (m : (ℓ : Loc Cert.ProjDoRefIdeal.nD Cert.ProjDoRefIdeal.τ Cert.ProjDoRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilRefIdeal (m : (ℓ : Loc Cert.DilRefIdeal.nD Cert.DilRefIdeal.τ Cert.DilRefIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaRefIdeal (m : (ℓ : Loc Cert.NaRefIdeal.nD Cert.NaRefIdeal.τ Cert.NaRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradIdeal_finite [hPre_finite : Cert.Pre_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3))) = (fun _ => 1#1)

def Pre_FfnGradRefIdeal (m : (ℓ : Loc Cert.FfnGradRefIdeal.nD Cert.FfnGradRefIdeal.τ Cert.FfnGradRefIdeal.sig) → Buf (Elt Ideal) ℓ) : Prop :=
  True

def Pre_FfnGradRefIdeal_finite [hPre_finite : Cert.Pre_finite.Facts] (m : (ℓ : Loc Cert.FfnGradRefIdeal.nD Cert.FfnGradRefIdeal.τ Cert.FfnGradRefIdeal.sig) → Buf (Elt Ideal) ℓ) : Prop :=
  ∀ c : Dev Cert.FfnGradRefIdeal.nD,
    (Cert.Pre_finite.fn (F := Ideal) (m ((c.tc : Thread Cert.FfnGradRefIdeal.nD Cert.FfnGradRefIdeal.τ).loc Cert.FfnGradRefIdeal.main_arg0)) (m ((c.tc : Thread Cert.FfnGradRefIdeal.nD Cert.FfnGradRefIdeal.τ).loc Cert.FfnGradRefIdeal.main_arg1)) (m ((c.tc : Thread Cert.FfnGradRefIdeal.nD Cert.FfnGradRefIdeal.τ).loc Cert.FfnGradRefIdeal.main_arg2)) (m ((c.tc : Thread Cert.FfnGradRefIdeal.nD Cert.FfnGradRefIdeal.τ).loc Cert.FfnGradRefIdeal.main_arg3))) = (fun _ => 1#1)

def Pre_SmallStep (m : (ℓ : Loc Cert.SmallStep.nD Cert.SmallStep.τ Cert.SmallStep.sig) → Buf (Elt Bits) ℓ) : Prop :=
  True

def Pre_SmallStepIdeal (m : (ℓ : Loc Cert.SmallStepIdeal.nD Cert.SmallStepIdeal.τ Cert.SmallStepIdeal.sig) → Buf (Elt Ideal) ℓ) : Prop :=
  True

def Pre_SmallStepRefIdeal (m : (ℓ : Loc Cert.SmallStepRefIdeal.nD Cert.SmallStepRefIdeal.τ Cert.SmallStepRefIdeal.sig) → Buf (Elt Ideal) ℓ) : Prop :=
  True

def Pre_DilOStep [hPre_numbered_out : Cert.Pre_numbered_out.Facts] (m : (ℓ : Loc Cert.DilOStep.nD Cert.DilOStep.τ Cert.DilOStep.sig) → Buf (Elt Bits) ℓ) : Prop :=
  ∀ c : Dev Cert.DilOStep.nD,
    (Cert.Pre_numbered_out.fn (F := Bits) (m ((c.tc : Thread Cert.DilOStep.nD Cert.DilOStep.τ).loc Cert.DilOStep.main_arg0)) (m ((c.tc : Thread Cert.DilOStep.nD Cert.DilOStep.τ).loc Cert.DilOStep.main_arg1)) (m ((c.tc : Thread Cert.DilOStep.nD Cert.DilOStep.τ).loc Cert.DilOStep.main_arg2)) (m ((c.tc : Thread Cert.DilOStep.nD Cert.DilOStep.τ).loc Cert.DilOStep.main_arg3)) (m ((c.tc : Thread Cert.DilOStep.nD Cert.DilOStep.τ).loc Cert.DilOStep.main_arg4)) (m ((c.tc : Thread Cert.DilOStep.nD Cert.DilOStep.τ).loc Cert.DilOStep.main_arg5))) = (fun _ => 1#1)

def Pre_DilOStepIdeal [hPre_numbered_out : Cert.Pre_numbered_out.Facts] (m : (ℓ : Loc Cert.DilOStepIdeal.nD Cert.DilOStepIdeal.τ Cert.DilOStepIdeal.sig) → Buf (Elt Ideal) ℓ) : Prop :=
  ∀ c : Dev Cert.DilOStepIdeal.nD,
    (Cert.Pre_numbered_out.fn (F := Ideal) (m ((c.tc : Thread Cert.DilOStepIdeal.nD Cert.DilOStepIdeal.τ).loc Cert.DilOStepIdeal.main_arg0)) (m ((c.tc : Thread Cert.DilOStepIdeal.nD Cert.DilOStepIdeal.τ).loc Cert.DilOStepIdeal.main_arg1)) (m ((c.tc : Thread Cert.DilOStepIdeal.nD Cert.DilOStepIdeal.τ).loc Cert.DilOStepIdeal.main_arg2)) (m ((c.tc : Thread Cert.DilOStepIdeal.nD Cert.DilOStepIdeal.τ).loc Cert.DilOStepIdeal.main_arg3)) (m ((c.tc : Thread Cert.DilOStepIdeal.nD Cert.DilOStepIdeal.τ).loc Cert.DilOStepIdeal.main_arg4)) (m ((c.tc : Thread Cert.DilOStepIdeal.nD Cert.DilOStepIdeal.τ).loc Cert.DilOStepIdeal.main_arg5))) = (fun _ => 1#1)

def Pre_DilOStepRefIdeal [hPre_numbered_out : Cert.Pre_numbered_out.Facts] (m : (ℓ : Loc Cert.DilOStepRefIdeal.nD Cert.DilOStepRefIdeal.τ Cert.DilOStepRefIdeal.sig) → Buf (Elt Ideal) ℓ) : Prop :=
  ∀ c : Dev Cert.DilOStepRefIdeal.nD,
    (Cert.Pre_numbered_out.fn (F := Ideal) (m ((c.tc : Thread Cert.DilOStepRefIdeal.nD Cert.DilOStepRefIdeal.τ).loc Cert.DilOStepRefIdeal.main_arg0)) (m ((c.tc : Thread Cert.DilOStepRefIdeal.nD Cert.DilOStepRefIdeal.τ).loc Cert.DilOStepRefIdeal.main_arg1)) (m ((c.tc : Thread Cert.DilOStepRefIdeal.nD Cert.DilOStepRefIdeal.τ).loc Cert.DilOStepRefIdeal.main_arg2)) (m ((c.tc : Thread Cert.DilOStepRefIdeal.nD Cert.DilOStepRefIdeal.τ).loc Cert.DilOStepRefIdeal.main_arg3)) (m ((c.tc : Thread Cert.DilOStepRefIdeal.nD Cert.DilOStepRefIdeal.τ).loc Cert.DilOStepRefIdeal.main_arg4)) (m ((c.tc : Thread Cert.DilOStepRefIdeal.nD Cert.DilOStepRefIdeal.τ).loc Cert.DilOStepRefIdeal.main_arg5))) = (fun _ => 1#1)

def Pre_NaOStep [hPre_numbered_out : Cert.Pre_numbered_out.Facts] (m : (ℓ : Loc Cert.NaOStep.nD Cert.NaOStep.τ Cert.NaOStep.sig) → Buf (Elt Bits) ℓ) : Prop :=
  ∀ c : Dev Cert.NaOStep.nD,
    (Cert.Pre_numbered_out.fn (F := Bits) (m ((c.tc : Thread Cert.NaOStep.nD Cert.NaOStep.τ).loc Cert.NaOStep.main_arg0)) (m ((c.tc : Thread Cert.NaOStep.nD Cert.NaOStep.τ).loc Cert.NaOStep.main_arg1)) (m ((c.tc : Thread Cert.NaOStep.nD Cert.NaOStep.τ).loc Cert.NaOStep.main_arg2)) (m ((c.tc : Thread Cert.NaOStep.nD Cert.NaOStep.τ).loc Cert.NaOStep.main_arg3)) (m ((c.tc : Thread Cert.NaOStep.nD Cert.NaOStep.τ).loc Cert.NaOStep.main_arg4)) (m ((c.tc : Thread Cert.NaOStep.nD Cert.NaOStep.τ).loc Cert.NaOStep.main_arg5))) = (fun _ => 1#1)

def Pre_NaOStepIdeal [hPre_numbered_out : Cert.Pre_numbered_out.Facts] (m : (ℓ : Loc Cert.NaOStepIdeal.nD Cert.NaOStepIdeal.τ Cert.NaOStepIdeal.sig) → Buf (Elt Ideal) ℓ) : Prop :=
  ∀ c : Dev Cert.NaOStepIdeal.nD,
    (Cert.Pre_numbered_out.fn (F := Ideal) (m ((c.tc : Thread Cert.NaOStepIdeal.nD Cert.NaOStepIdeal.τ).loc Cert.NaOStepIdeal.main_arg0)) (m ((c.tc : Thread Cert.NaOStepIdeal.nD Cert.NaOStepIdeal.τ).loc Cert.NaOStepIdeal.main_arg1)) (m ((c.tc : Thread Cert.NaOStepIdeal.nD Cert.NaOStepIdeal.τ).loc Cert.NaOStepIdeal.main_arg2)) (m ((c.tc : Thread Cert.NaOStepIdeal.nD Cert.NaOStepIdeal.τ).loc Cert.NaOStepIdeal.main_arg3)) (m ((c.tc : Thread Cert.NaOStepIdeal.nD Cert.NaOStepIdeal.τ).loc Cert.NaOStepIdeal.main_arg4)) (m ((c.tc : Thread Cert.NaOStepIdeal.nD Cert.NaOStepIdeal.τ).loc Cert.NaOStepIdeal.main_arg5))) = (fun _ => 1#1)

def Pre_NaOStepRefIdeal [hPre_numbered_out : Cert.Pre_numbered_out.Facts] (m : (ℓ : Loc Cert.NaOStepRefIdeal.nD Cert.NaOStepRefIdeal.τ Cert.NaOStepRefIdeal.sig) → Buf (Elt Ideal) ℓ) : Prop :=
  ∀ c : Dev Cert.NaOStepRefIdeal.nD,
    (Cert.Pre_numbered_out.fn (F := Ideal) (m ((c.tc : Thread Cert.NaOStepRefIdeal.nD Cert.NaOStepRefIdeal.τ).loc Cert.NaOStepRefIdeal.main_arg0)) (m ((c.tc : Thread Cert.NaOStepRefIdeal.nD Cert.NaOStepRefIdeal.τ).loc Cert.NaOStepRefIdeal.main_arg1)) (m ((c.tc : Thread Cert.NaOStepRefIdeal.nD Cert.NaOStepRefIdeal.τ).loc Cert.NaOStepRefIdeal.main_arg2)) (m ((c.tc : Thread Cert.NaOStepRefIdeal.nD Cert.NaOStepRefIdeal.τ).loc Cert.NaOStepRefIdeal.main_arg3)) (m ((c.tc : Thread Cert.NaOStepRefIdeal.nD Cert.NaOStepRefIdeal.τ).loc Cert.NaOStepRefIdeal.main_arg4)) (m ((c.tc : Thread Cert.NaOStepRefIdeal.nD Cert.NaOStepRefIdeal.τ).loc Cert.NaOStepRefIdeal.main_arg5))) = (fun _ => 1#1)

def Pre_DilQkvStep [hPre_numbered_dil : Cert.Pre_numbered_dil.Facts] (m : (ℓ : Loc Cert.DilQkvStep.nD Cert.DilQkvStep.τ Cert.DilQkvStep.sig) → Buf (Elt Bits) ℓ) : Prop :=
  ∀ c : Dev Cert.DilQkvStep.nD,
    (Cert.Pre_numbered_dil.fn (F := Bits) (m ((c.tc : Thread Cert.DilQkvStep.nD Cert.DilQkvStep.τ).loc Cert.DilQkvStep.main_arg0)) (m ((c.tc : Thread Cert.DilQkvStep.nD Cert.DilQkvStep.τ).loc Cert.DilQkvStep.main_arg1)) (m ((c.tc : Thread Cert.DilQkvStep.nD Cert.DilQkvStep.τ).loc Cert.DilQkvStep.main_arg2)) (m ((c.tc : Thread Cert.DilQkvStep.nD Cert.DilQkvStep.τ).loc Cert.DilQkvStep.main_arg3)) (m ((c.tc : Thread Cert.DilQkvStep.nD Cert.DilQkvStep.τ).loc Cert.DilQkvStep.main_arg4)) (m ((c.tc : Thread Cert.DilQkvStep.nD Cert.DilQkvStep.τ).loc Cert.DilQkvStep.main_arg5))) = (fun _ => 1#1)

def Pre_DilQkvStepIdeal [hPre_numbered_dil : Cert.Pre_numbered_dil.Facts] (m : (ℓ : Loc Cert.DilQkvStepIdeal.nD Cert.DilQkvStepIdeal.τ Cert.DilQkvStepIdeal.sig) → Buf (Elt Ideal) ℓ) : Prop :=
  ∀ c : Dev Cert.DilQkvStepIdeal.nD,
    (Cert.Pre_numbered_dil.fn (F := Ideal) (m ((c.tc : Thread Cert.DilQkvStepIdeal.nD Cert.DilQkvStepIdeal.τ).loc Cert.DilQkvStepIdeal.main_arg0)) (m ((c.tc : Thread Cert.DilQkvStepIdeal.nD Cert.DilQkvStepIdeal.τ).loc Cert.DilQkvStepIdeal.main_arg1)) (m ((c.tc : Thread Cert.DilQkvStepIdeal.nD Cert.DilQkvStepIdeal.τ).loc Cert.DilQkvStepIdeal.main_arg2)) (m ((c.tc : Thread Cert.DilQkvStepIdeal.nD Cert.DilQkvStepIdeal.τ).loc Cert.DilQkvStepIdeal.main_arg3)) (m ((c.tc : Thread Cert.DilQkvStepIdeal.nD Cert.DilQkvStepIdeal.τ).loc Cert.DilQkvStepIdeal.main_arg4)) (m ((c.tc : Thread Cert.DilQkvStepIdeal.nD Cert.DilQkvStepIdeal.τ).loc Cert.DilQkvStepIdeal.main_arg5))) = (fun _ => 1#1)

def Pre_DilQkvStepRefIdeal [hPre_numbered_dil : Cert.Pre_numbered_dil.Facts] (m : (ℓ : Loc Cert.DilQkvStepRefIdeal.nD Cert.DilQkvStepRefIdeal.τ Cert.DilQkvStepRefIdeal.sig) → Buf (Elt Ideal) ℓ) : Prop :=
  ∀ c : Dev Cert.DilQkvStepRefIdeal.nD,
    (Cert.Pre_numbered_dil.fn (F := Ideal) (m ((c.tc : Thread Cert.DilQkvStepRefIdeal.nD Cert.DilQkvStepRefIdeal.τ).loc Cert.DilQkvStepRefIdeal.main_arg0)) (m ((c.tc : Thread Cert.DilQkvStepRefIdeal.nD Cert.DilQkvStepRefIdeal.τ).loc Cert.DilQkvStepRefIdeal.main_arg1)) (m ((c.tc : Thread Cert.DilQkvStepRefIdeal.nD Cert.DilQkvStepRefIdeal.τ).loc Cert.DilQkvStepRefIdeal.main_arg2)) (m ((c.tc : Thread Cert.DilQkvStepRefIdeal.nD Cert.DilQkvStepRefIdeal.τ).loc Cert.DilQkvStepRefIdeal.main_arg3)) (m ((c.tc : Thread Cert.DilQkvStepRefIdeal.nD Cert.DilQkvStepRefIdeal.τ).loc Cert.DilQkvStepRefIdeal.main_arg4)) (m ((c.tc : Thread Cert.DilQkvStepRefIdeal.nD Cert.DilQkvStepRefIdeal.τ).loc Cert.DilQkvStepRefIdeal.main_arg5))) = (fun _ => 1#1)

def Pre_NaQkvStep [hPre_numbered_na : Cert.Pre_numbered_na.Facts] (m : (ℓ : Loc Cert.NaQkvStep.nD Cert.NaQkvStep.τ Cert.NaQkvStep.sig) → Buf (Elt Bits) ℓ) : Prop :=
  ∀ c : Dev Cert.NaQkvStep.nD,
    (Cert.Pre_numbered_na.fn (F := Bits) (m ((c.tc : Thread Cert.NaQkvStep.nD Cert.NaQkvStep.τ).loc Cert.NaQkvStep.main_arg0)) (m ((c.tc : Thread Cert.NaQkvStep.nD Cert.NaQkvStep.τ).loc Cert.NaQkvStep.main_arg1)) (m ((c.tc : Thread Cert.NaQkvStep.nD Cert.NaQkvStep.τ).loc Cert.NaQkvStep.main_arg2)) (m ((c.tc : Thread Cert.NaQkvStep.nD Cert.NaQkvStep.τ).loc Cert.NaQkvStep.main_arg3)) (m ((c.tc : Thread Cert.NaQkvStep.nD Cert.NaQkvStep.τ).loc Cert.NaQkvStep.main_arg4)) (m ((c.tc : Thread Cert.NaQkvStep.nD Cert.NaQkvStep.τ).loc Cert.NaQkvStep.main_arg5))) = (fun _ => 1#1)

def Pre_NaQkvStepIdeal [hPre_numbered_na : Cert.Pre_numbered_na.Facts] (m : (ℓ : Loc Cert.NaQkvStepIdeal.nD Cert.NaQkvStepIdeal.τ Cert.NaQkvStepIdeal.sig) → Buf (Elt Ideal) ℓ) : Prop :=
  ∀ c : Dev Cert.NaQkvStepIdeal.nD,
    (Cert.Pre_numbered_na.fn (F := Ideal) (m ((c.tc : Thread Cert.NaQkvStepIdeal.nD Cert.NaQkvStepIdeal.τ).loc Cert.NaQkvStepIdeal.main_arg0)) (m ((c.tc : Thread Cert.NaQkvStepIdeal.nD Cert.NaQkvStepIdeal.τ).loc Cert.NaQkvStepIdeal.main_arg1)) (m ((c.tc : Thread Cert.NaQkvStepIdeal.nD Cert.NaQkvStepIdeal.τ).loc Cert.NaQkvStepIdeal.main_arg2)) (m ((c.tc : Thread Cert.NaQkvStepIdeal.nD Cert.NaQkvStepIdeal.τ).loc Cert.NaQkvStepIdeal.main_arg3)) (m ((c.tc : Thread Cert.NaQkvStepIdeal.nD Cert.NaQkvStepIdeal.τ).loc Cert.NaQkvStepIdeal.main_arg4)) (m ((c.tc : Thread Cert.NaQkvStepIdeal.nD Cert.NaQkvStepIdeal.τ).loc Cert.NaQkvStepIdeal.main_arg5))) = (fun _ => 1#1)

def Pre_NaQkvStepRefIdeal [hPre_numbered_na : Cert.Pre_numbered_na.Facts] (m : (ℓ : Loc Cert.NaQkvStepRefIdeal.nD Cert.NaQkvStepRefIdeal.τ Cert.NaQkvStepRefIdeal.sig) → Buf (Elt Ideal) ℓ) : Prop :=
  ∀ c : Dev Cert.NaQkvStepRefIdeal.nD,
    (Cert.Pre_numbered_na.fn (F := Ideal) (m ((c.tc : Thread Cert.NaQkvStepRefIdeal.nD Cert.NaQkvStepRefIdeal.τ).loc Cert.NaQkvStepRefIdeal.main_arg0)) (m ((c.tc : Thread Cert.NaQkvStepRefIdeal.nD Cert.NaQkvStepRefIdeal.τ).loc Cert.NaQkvStepRefIdeal.main_arg1)) (m ((c.tc : Thread Cert.NaQkvStepRefIdeal.nD Cert.NaQkvStepRefIdeal.τ).loc Cert.NaQkvStepRefIdeal.main_arg2)) (m ((c.tc : Thread Cert.NaQkvStepRefIdeal.nD Cert.NaQkvStepRefIdeal.τ).loc Cert.NaQkvStepRefIdeal.main_arg3)) (m ((c.tc : Thread Cert.NaQkvStepRefIdeal.nD Cert.NaQkvStepRefIdeal.τ).loc Cert.NaQkvStepRefIdeal.main_arg4)) (m ((c.tc : Thread Cert.NaQkvStepRefIdeal.nD Cert.NaQkvStepRefIdeal.τ).loc Cert.NaQkvStepRefIdeal.main_arg5))) = (fun _ => 1#1)

def Pre_GateStep [hPre_numbered_ffn : Cert.Pre_numbered_ffn.Facts] (m : (ℓ : Loc Cert.GateStep.nD Cert.GateStep.τ Cert.GateStep.sig) → Buf (Elt Bits) ℓ) : Prop :=
  ∀ c : Dev Cert.GateStep.nD,
    (Cert.Pre_numbered_ffn.fn (F := Bits) (m ((c.tc : Thread Cert.GateStep.nD Cert.GateStep.τ).loc Cert.GateStep.main_arg0)) (m ((c.tc : Thread Cert.GateStep.nD Cert.GateStep.τ).loc Cert.GateStep.main_arg1)) (m ((c.tc : Thread Cert.GateStep.nD Cert.GateStep.τ).loc Cert.GateStep.main_arg2)) (m ((c.tc : Thread Cert.GateStep.nD Cert.GateStep.τ).loc Cert.GateStep.main_arg3)) (m ((c.tc : Thread Cert.GateStep.nD Cert.GateStep.τ).loc Cert.GateStep.main_arg4)) (m ((c.tc : Thread Cert.GateStep.nD Cert.GateStep.τ).loc Cert.GateStep.main_arg5)) (m ((c.tc : Thread Cert.GateStep.nD Cert.GateStep.τ).loc Cert.GateStep.main_arg6)) (m ((c.tc : Thread Cert.GateStep.nD Cert.GateStep.τ).loc Cert.GateStep.main_arg7))) = (fun _ => 1#1)

def Pre_GateStepIdeal [hPre_numbered_ffn : Cert.Pre_numbered_ffn.Facts] (m : (ℓ : Loc Cert.GateStepIdeal.nD Cert.GateStepIdeal.τ Cert.GateStepIdeal.sig) → Buf (Elt Ideal) ℓ) : Prop :=
  ∀ c : Dev Cert.GateStepIdeal.nD,
    (Cert.Pre_numbered_ffn.fn (F := Ideal) (m ((c.tc : Thread Cert.GateStepIdeal.nD Cert.GateStepIdeal.τ).loc Cert.GateStepIdeal.main_arg0)) (m ((c.tc : Thread Cert.GateStepIdeal.nD Cert.GateStepIdeal.τ).loc Cert.GateStepIdeal.main_arg1)) (m ((c.tc : Thread Cert.GateStepIdeal.nD Cert.GateStepIdeal.τ).loc Cert.GateStepIdeal.main_arg2)) (m ((c.tc : Thread Cert.GateStepIdeal.nD Cert.GateStepIdeal.τ).loc Cert.GateStepIdeal.main_arg3)) (m ((c.tc : Thread Cert.GateStepIdeal.nD Cert.GateStepIdeal.τ).loc Cert.GateStepIdeal.main_arg4)) (m ((c.tc : Thread Cert.GateStepIdeal.nD Cert.GateStepIdeal.τ).loc Cert.GateStepIdeal.main_arg5)) (m ((c.tc : Thread Cert.GateStepIdeal.nD Cert.GateStepIdeal.τ).loc Cert.GateStepIdeal.main_arg6)) (m ((c.tc : Thread Cert.GateStepIdeal.nD Cert.GateStepIdeal.τ).loc Cert.GateStepIdeal.main_arg7))) = (fun _ => 1#1)

def Pre_GateStepRefIdeal [hPre_numbered_ffn : Cert.Pre_numbered_ffn.Facts] (m : (ℓ : Loc Cert.GateStepRefIdeal.nD Cert.GateStepRefIdeal.τ Cert.GateStepRefIdeal.sig) → Buf (Elt Ideal) ℓ) : Prop :=
  ∀ c : Dev Cert.GateStepRefIdeal.nD,
    (Cert.Pre_numbered_ffn.fn (F := Ideal) (m ((c.tc : Thread Cert.GateStepRefIdeal.nD Cert.GateStepRefIdeal.τ).loc Cert.GateStepRefIdeal.main_arg0)) (m ((c.tc : Thread Cert.GateStepRefIdeal.nD Cert.GateStepRefIdeal.τ).loc Cert.GateStepRefIdeal.main_arg1)) (m ((c.tc : Thread Cert.GateStepRefIdeal.nD Cert.GateStepRefIdeal.τ).loc Cert.GateStepRefIdeal.main_arg2)) (m ((c.tc : Thread Cert.GateStepRefIdeal.nD Cert.GateStepRefIdeal.τ).loc Cert.GateStepRefIdeal.main_arg3)) (m ((c.tc : Thread Cert.GateStepRefIdeal.nD Cert.GateStepRefIdeal.τ).loc Cert.GateStepRefIdeal.main_arg4)) (m ((c.tc : Thread Cert.GateStepRefIdeal.nD Cert.GateStepRefIdeal.τ).loc Cert.GateStepRefIdeal.main_arg5)) (m ((c.tc : Thread Cert.GateStepRefIdeal.nD Cert.GateStepRefIdeal.τ).loc Cert.GateStepRefIdeal.main_arg6)) (m ((c.tc : Thread Cert.GateStepRefIdeal.nD Cert.GateStepRefIdeal.τ).loc Cert.GateStepRefIdeal.main_arg7))) = (fun _ => 1#1)

def Pre_UpStep [hPre_numbered_ffn : Cert.Pre_numbered_ffn.Facts] (m : (ℓ : Loc Cert.UpStep.nD Cert.UpStep.τ Cert.UpStep.sig) → Buf (Elt Bits) ℓ) : Prop :=
  ∀ c : Dev Cert.UpStep.nD,
    (Cert.Pre_numbered_ffn.fn (F := Bits) (m ((c.tc : Thread Cert.UpStep.nD Cert.UpStep.τ).loc Cert.UpStep.main_arg0)) (m ((c.tc : Thread Cert.UpStep.nD Cert.UpStep.τ).loc Cert.UpStep.main_arg1)) (m ((c.tc : Thread Cert.UpStep.nD Cert.UpStep.τ).loc Cert.UpStep.main_arg2)) (m ((c.tc : Thread Cert.UpStep.nD Cert.UpStep.τ).loc Cert.UpStep.main_arg3)) (m ((c.tc : Thread Cert.UpStep.nD Cert.UpStep.τ).loc Cert.UpStep.main_arg4)) (m ((c.tc : Thread Cert.UpStep.nD Cert.UpStep.τ).loc Cert.UpStep.main_arg5)) (m ((c.tc : Thread Cert.UpStep.nD Cert.UpStep.τ).loc Cert.UpStep.main_arg6)) (m ((c.tc : Thread Cert.UpStep.nD Cert.UpStep.τ).loc Cert.UpStep.main_arg7))) = (fun _ => 1#1)

def Pre_UpStepIdeal [hPre_numbered_ffn : Cert.Pre_numbered_ffn.Facts] (m : (ℓ : Loc Cert.UpStepIdeal.nD Cert.UpStepIdeal.τ Cert.UpStepIdeal.sig) → Buf (Elt Ideal) ℓ) : Prop :=
  ∀ c : Dev Cert.UpStepIdeal.nD,
    (Cert.Pre_numbered_ffn.fn (F := Ideal) (m ((c.tc : Thread Cert.UpStepIdeal.nD Cert.UpStepIdeal.τ).loc Cert.UpStepIdeal.main_arg0)) (m ((c.tc : Thread Cert.UpStepIdeal.nD Cert.UpStepIdeal.τ).loc Cert.UpStepIdeal.main_arg1)) (m ((c.tc : Thread Cert.UpStepIdeal.nD Cert.UpStepIdeal.τ).loc Cert.UpStepIdeal.main_arg2)) (m ((c.tc : Thread Cert.UpStepIdeal.nD Cert.UpStepIdeal.τ).loc Cert.UpStepIdeal.main_arg3)) (m ((c.tc : Thread Cert.UpStepIdeal.nD Cert.UpStepIdeal.τ).loc Cert.UpStepIdeal.main_arg4)) (m ((c.tc : Thread Cert.UpStepIdeal.nD Cert.UpStepIdeal.τ).loc Cert.UpStepIdeal.main_arg5)) (m ((c.tc : Thread Cert.UpStepIdeal.nD Cert.UpStepIdeal.τ).loc Cert.UpStepIdeal.main_arg6)) (m ((c.tc : Thread Cert.UpStepIdeal.nD Cert.UpStepIdeal.τ).loc Cert.UpStepIdeal.main_arg7))) = (fun _ => 1#1)

def Pre_UpStepRefIdeal [hPre_numbered_ffn : Cert.Pre_numbered_ffn.Facts] (m : (ℓ : Loc Cert.UpStepRefIdeal.nD Cert.UpStepRefIdeal.τ Cert.UpStepRefIdeal.sig) → Buf (Elt Ideal) ℓ) : Prop :=
  ∀ c : Dev Cert.UpStepRefIdeal.nD,
    (Cert.Pre_numbered_ffn.fn (F := Ideal) (m ((c.tc : Thread Cert.UpStepRefIdeal.nD Cert.UpStepRefIdeal.τ).loc Cert.UpStepRefIdeal.main_arg0)) (m ((c.tc : Thread Cert.UpStepRefIdeal.nD Cert.UpStepRefIdeal.τ).loc Cert.UpStepRefIdeal.main_arg1)) (m ((c.tc : Thread Cert.UpStepRefIdeal.nD Cert.UpStepRefIdeal.τ).loc Cert.UpStepRefIdeal.main_arg2)) (m ((c.tc : Thread Cert.UpStepRefIdeal.nD Cert.UpStepRefIdeal.τ).loc Cert.UpStepRefIdeal.main_arg3)) (m ((c.tc : Thread Cert.UpStepRefIdeal.nD Cert.UpStepRefIdeal.τ).loc Cert.UpStepRefIdeal.main_arg4)) (m ((c.tc : Thread Cert.UpStepRefIdeal.nD Cert.UpStepRefIdeal.τ).loc Cert.UpStepRefIdeal.main_arg5)) (m ((c.tc : Thread Cert.UpStepRefIdeal.nD Cert.UpStepRefIdeal.τ).loc Cert.UpStepRefIdeal.main_arg6)) (m ((c.tc : Thread Cert.UpStepRefIdeal.nD Cert.UpStepRefIdeal.τ).loc Cert.UpStepRefIdeal.main_arg7))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_DilDw [hDilDw : Cert.DilDw.Facts] : Prop :=
  ∀ (m : (ℓ : Loc Cert.DilDw.nD Cert.DilDw.τ Cert.DilDw.sig) → Buf (Elt Bits) ℓ) (g : Dev Cert.DilDw.nD → PrngReg), Pre_DilDw m →
    θ_run (Cert.DilDw.defs (F := Bits)) (onTc (τ := Cert.DilDw.τ) (Cert.DilDw.main (F := Bits))) ⟨m, fun _ => 0, g⟩ (fun r => (∀ c : Dev Cert.DilDw.nD,
      r.2.mem ((c.tc : Thread Cert.DilDw.nD Cert.DilDw.τ).loc Cert.DilDw.main_arg0) = m ((c.tc : Thread Cert.DilDw.nD Cert.DilDw.τ).loc Cert.DilDw.main_arg0)
      ∧ r.2.mem ((c.tc : Thread Cert.DilDw.nD Cert.DilDw.τ).loc Cert.DilDw.main_arg1) = m ((c.tc : Thread Cert.DilDw.nD Cert.DilDw.τ).loc Cert.DilDw.main_arg1)
      ∧ r.2.mem ((c.tc : Thread Cert.DilDw.nD Cert.DilDw.τ).loc Cert.DilDw.main_arg2) = m ((c.tc : Thread Cert.DilDw.nD Cert.DilDw.τ).loc Cert.DilDw.main_arg2))
      ∧ r.2.sem = fun _ => 0)

def quiescent_DilDwIdeal [hDilDwIdeal : Cert.DilDwIdeal.Facts] : Prop :=
  ∀ (m : (ℓ : Loc Cert.DilDwIdeal.nD Cert.DilDwIdeal.τ Cert.DilDwIdeal.sig) → Buf (Elt Ideal) ℓ) (g : Dev Cert.DilDwIdeal.nD → PrngReg), Pre_DilDwIdeal m →
    θ_run (Cert.DilDwIdeal.defs (F := Ideal)) (onTc (τ := Cert.DilDwIdeal.τ) (Cert.DilDwIdeal.main (F := Ideal))) ⟨m, fun _ => 0, g⟩ (fun r => (∀ c : Dev Cert.DilDwIdeal.nD,
      r.2.mem ((c.tc : Thread Cert.DilDwIdeal.nD Cert.DilDwIdeal.τ).loc Cert.DilDwIdeal.main_arg0) = m ((c.tc : Thread Cert.DilDwIdeal.nD Cert.DilDwIdeal.τ).loc Cert.DilDwIdeal.main_arg0)
      ∧ r.2.mem ((c.tc : Thread Cert.DilDwIdeal.nD Cert.DilDwIdeal.τ).loc Cert.DilDwIdeal.main_arg1) = m ((c.tc : Thread Cert.DilDwIdeal.nD Cert.DilDwIdeal.τ).loc Cert.DilDwIdeal.main_arg1)
      ∧ r.2.mem ((c.tc : Thread Cert.DilDwIdeal.nD Cert.DilDwIdeal.τ).loc Cert.DilDwIdeal.main_arg2) = m ((c.tc : Thread Cert.DilDwIdeal.nD Cert.DilDwIdeal.τ).loc Cert.DilDwIdeal.main_arg2))
      ∧ r.2.sem = fun _ => 0)

def quiescent_DilDwRefIdeal [hDilDwRefIdeal : Cert.DilDwRefIdeal.Facts] : Prop :=
  ∀ (m : (ℓ : Loc Cert.DilDwRefIdeal.nD Cert.DilDwRefIdeal.τ Cert.DilDwRefIdeal.sig) → Buf (Elt Ideal) ℓ) (g : Dev Cert.DilDwRefIdeal.nD → PrngReg), Pre_DilDwRefIdeal m →
    θ_run (Cert.DilDwRefIdeal.defs (F := Ideal)) (onTc (τ := Cert.DilDwRefIdeal.τ) (Cert.DilDwRefIdeal.main (F := Ideal))) ⟨m, fun _ => 0, g⟩ (fun r => (∀ c : Dev Cert.DilDwRefIdeal.nD,
      r.2.mem ((c.tc : Thread Cert.DilDwRefIdeal.nD Cert.DilDwRefIdeal.τ).loc Cert.DilDwRefIdeal.main_arg0) = m ((c.tc : Thread Cert.DilDwRefIdeal.nD Cert.DilDwRefIdeal.τ).loc Cert.DilDwRefIdeal.main_arg0)
      ∧ r.2.mem ((c.tc : Thread Cert.DilDwRefIdeal.nD Cert.DilDwRefIdeal.τ).loc Cert.DilDwRefIdeal.main_arg1) = m ((c.tc : Thread Cert.DilDwRefIdeal.nD Cert.DilDwRefIdeal.τ).loc Cert.DilDwRefIdeal.main_arg1)
      ∧ r.2.mem ((c.tc : Thread Cert.DilDwRefIdeal.nD Cert.DilDwRefIdeal.τ).loc Cert.DilDwRefIdeal.main_arg2) = m ((c.tc : Thread Cert.DilDwRefIdeal.nD Cert.DilDwRefIdeal.τ).loc Cert.DilDwRefIdeal.main_arg2))
      ∧ r.2.sem = fun _ => 0)

def quiescent_DilDh [hDilDh : Cert.DilDh.Facts] : Prop :=
  ∀ (m : (ℓ : Loc Cert.DilDh.nD Cert.DilDh.τ Cert.DilDh.sig) → Buf (Elt Bits) ℓ) (g : Dev Cert.DilDh.nD → PrngReg), Pre_DilDh m →
    θ_run (Cert.DilDh.defs (F := Bits)) (onTc (τ := Cert.DilDh.τ) (Cert.DilDh.main (F := Bits))) ⟨m, fun _ => 0, g⟩ (fun r => (∀ c : Dev Cert.DilDh.nD,
      r.2.mem ((c.tc : Thread Cert.DilDh.nD Cert.DilDh.τ).loc Cert.DilDh.main_arg0) = m ((c.tc : Thread Cert.DilDh.nD Cert.DilDh.τ).loc Cert.DilDh.main_arg0)
      ∧ r.2.mem ((c.tc : Thread Cert.DilDh.nD Cert.DilDh.τ).loc Cert.DilDh.main_arg1) = m ((c.tc : Thread Cert.DilDh.nD Cert.DilDh.τ).loc Cert.DilDh.main_arg1)
      ∧ r.2.mem ((c.tc : Thread Cert.DilDh.nD Cert.DilDh.τ).loc Cert.DilDh.main_arg2) = m ((c.tc : Thread Cert.DilDh.nD Cert.DilDh.τ).loc Cert.DilDh.main_arg2))
      ∧ r.2.sem = fun _ => 0)

def quiescent_DilDhIdeal [hDilDhIdeal : Cert.DilDhIdeal.Facts] : Prop :=
  ∀ (m : (ℓ : Loc Cert.DilDhIdeal.nD Cert.DilDhIdeal.τ Cert.DilDhIdeal.sig) → Buf (Elt Ideal) ℓ) (g : Dev Cert.DilDhIdeal.nD → PrngReg), Pre_DilDhIdeal m →
    θ_run (Cert.DilDhIdeal.defs (F := Ideal)) (onTc (τ := Cert.DilDhIdeal.τ) (Cert.DilDhIdeal.main (F := Ideal))) ⟨m, fun _ => 0, g⟩ (fun r => (∀ c : Dev Cert.DilDhIdeal.nD,
      r.2.mem ((c.tc : Thread Cert.DilDhIdeal.nD Cert.DilDhIdeal.τ).loc Cert.DilDhIdeal.main_arg0) = m ((c.tc : Thread Cert.DilDhIdeal.nD Cert.DilDhIdeal.τ).loc Cert.DilDhIdeal.main_arg0)
      ∧ r.2.mem ((c.tc : Thread Cert.DilDhIdeal.nD Cert.DilDhIdeal.τ).loc Cert.DilDhIdeal.main_arg1) = m ((c.tc : Thread Cert.DilDhIdeal.nD Cert.DilDhIdeal.τ).loc Cert.DilDhIdeal.main_arg1)
      ∧ r.2.mem ((c.tc : Thread Cert.DilDhIdeal.nD Cert.DilDhIdeal.τ).loc Cert.DilDhIdeal.main_arg2) = m ((c.tc : Thread Cert.DilDhIdeal.nD Cert.DilDhIdeal.τ).loc Cert.DilDhIdeal.main_arg2))
      ∧ r.2.sem = fun _ => 0)

def quiescent_DilDhRefIdeal [hDilDhRefIdeal : Cert.DilDhRefIdeal.Facts] : Prop :=
  ∀ (m : (ℓ : Loc Cert.DilDhRefIdeal.nD Cert.DilDhRefIdeal.τ Cert.DilDhRefIdeal.sig) → Buf (Elt Ideal) ℓ) (g : Dev Cert.DilDhRefIdeal.nD → PrngReg), Pre_DilDhRefIdeal m →
    θ_run (Cert.DilDhRefIdeal.defs (F := Ideal)) (onTc (τ := Cert.DilDhRefIdeal.τ) (Cert.DilDhRefIdeal.main (F := Ideal))) ⟨m, fun _ => 0, g⟩ (fun r => (∀ c : Dev Cert.DilDhRefIdeal.nD,
      r.2.mem ((c.tc : Thread Cert.DilDhRefIdeal.nD Cert.DilDhRefIdeal.τ).loc Cert.DilDhRefIdeal.main_arg0) = m ((c.tc : Thread Cert.DilDhRefIdeal.nD Cert.DilDhRefIdeal.τ).loc Cert.DilDhRefIdeal.main_arg0)
      ∧ r.2.mem ((c.tc : Thread Cert.DilDhRefIdeal.nD Cert.DilDhRefIdeal.τ).loc Cert.DilDhRefIdeal.main_arg1) = m ((c.tc : Thread Cert.DilDhRefIdeal.nD Cert.DilDhRefIdeal.τ).loc Cert.DilDhRefIdeal.main_arg1)
      ∧ r.2.mem ((c.tc : Thread Cert.DilDhRefIdeal.nD Cert.DilDhRefIdeal.τ).loc Cert.DilDhRefIdeal.main_arg2) = m ((c.tc : Thread Cert.DilDhRefIdeal.nD Cert.DilDhRefIdeal.τ).loc Cert.DilDhRefIdeal.main_arg2))
      ∧ r.2.sem = fun _ => 0)

def quiescent_NaDw [hNaDw : Cert.NaDw.Facts] : Prop :=
  ∀ (m : (ℓ : Loc Cert.NaDw.nD Cert.NaDw.τ Cert.NaDw.sig) → Buf (Elt Bits) ℓ) (g : Dev Cert.NaDw.nD → PrngReg), Pre_NaDw m →
    θ_run (Cert.NaDw.defs (F := Bits)) (onTc (τ := Cert.NaDw.τ) (Cert.NaDw.main (F := Bits))) ⟨m, fun _ => 0, g⟩ (fun r => (∀ c : Dev Cert.NaDw.nD,
      r.2.mem ((c.tc : Thread Cert.NaDw.nD Cert.NaDw.τ).loc Cert.NaDw.main_arg0) = m ((c.tc : Thread Cert.NaDw.nD Cert.NaDw.τ).loc Cert.NaDw.main_arg0)
      ∧ r.2.mem ((c.tc : Thread Cert.NaDw.nD Cert.NaDw.τ).loc Cert.NaDw.main_arg1) = m ((c.tc : Thread Cert.NaDw.nD Cert.NaDw.τ).loc Cert.NaDw.main_arg1)
      ∧ r.2.mem ((c.tc : Thread Cert.NaDw.nD Cert.NaDw.τ).loc Cert.NaDw.main_arg2) = m ((c.tc : Thread Cert.NaDw.nD Cert.NaDw.τ).loc Cert.NaDw.main_arg2))
      ∧ r.2.sem = fun _ => 0)

def quiescent_NaDwIdeal [hNaDwIdeal : Cert.NaDwIdeal.Facts] : Prop :=
  ∀ (m : (ℓ : Loc Cert.NaDwIdeal.nD Cert.NaDwIdeal.τ Cert.NaDwIdeal.sig) → Buf (Elt Ideal) ℓ) (g : Dev Cert.NaDwIdeal.nD → PrngReg), Pre_NaDwIdeal m →
    θ_run (Cert.NaDwIdeal.defs (F := Ideal)) (onTc (τ := Cert.NaDwIdeal.τ) (Cert.NaDwIdeal.main (F := Ideal))) ⟨m, fun _ => 0, g⟩ (fun r => (∀ c : Dev Cert.NaDwIdeal.nD,
      r.2.mem ((c.tc : Thread Cert.NaDwIdeal.nD Cert.NaDwIdeal.τ).loc Cert.NaDwIdeal.main_arg0) = m ((c.tc : Thread Cert.NaDwIdeal.nD Cert.NaDwIdeal.τ).loc Cert.NaDwIdeal.main_arg0)
      ∧ r.2.mem ((c.tc : Thread Cert.NaDwIdeal.nD Cert.NaDwIdeal.τ).loc Cert.NaDwIdeal.main_arg1) = m ((c.tc : Thread Cert.NaDwIdeal.nD Cert.NaDwIdeal.τ).loc Cert.NaDwIdeal.main_arg1)
      ∧ r.2.mem ((c.tc : Thread Cert.NaDwIdeal.nD Cert.NaDwIdeal.τ).loc Cert.NaDwIdeal.main_arg2) = m ((c.tc : Thread Cert.NaDwIdeal.nD Cert.NaDwIdeal.τ).loc Cert.NaDwIdeal.main_arg2))
      ∧ r.2.sem = fun _ => 0)

def quiescent_NaDwRefIdeal [hNaDwRefIdeal : Cert.NaDwRefIdeal.Facts] : Prop :=
  ∀ (m : (ℓ : Loc Cert.NaDwRefIdeal.nD Cert.NaDwRefIdeal.τ Cert.NaDwRefIdeal.sig) → Buf (Elt Ideal) ℓ) (g : Dev Cert.NaDwRefIdeal.nD → PrngReg), Pre_NaDwRefIdeal m →
    θ_run (Cert.NaDwRefIdeal.defs (F := Ideal)) (onTc (τ := Cert.NaDwRefIdeal.τ) (Cert.NaDwRefIdeal.main (F := Ideal))) ⟨m, fun _ => 0, g⟩ (fun r => (∀ c : Dev Cert.NaDwRefIdeal.nD,
      r.2.mem ((c.tc : Thread Cert.NaDwRefIdeal.nD Cert.NaDwRefIdeal.τ).loc Cert.NaDwRefIdeal.main_arg0) = m ((c.tc : Thread Cert.NaDwRefIdeal.nD Cert.NaDwRefIdeal.τ).loc Cert.NaDwRefIdeal.main_arg0)
      ∧ r.2.mem ((c.tc : Thread Cert.NaDwRefIdeal.nD Cert.NaDwRefIdeal.τ).loc Cert.NaDwRefIdeal.main_arg1) = m ((c.tc : Thread Cert.NaDwRefIdeal.nD Cert.NaDwRefIdeal.τ).loc Cert.NaDwRefIdeal.main_arg1)
      ∧ r.2.mem ((c.tc : Thread Cert.NaDwRefIdeal.nD Cert.NaDwRefIdeal.τ).loc Cert.NaDwRefIdeal.main_arg2) = m ((c.tc : Thread Cert.NaDwRefIdeal.nD Cert.NaDwRefIdeal.τ).loc Cert.NaDwRefIdeal.main_arg2))
      ∧ r.2.sem = fun _ => 0)

def quiescent_NaDh [hNaDh : Cert.NaDh.Facts] : Prop :=
  ∀ (m : (ℓ : Loc Cert.NaDh.nD Cert.NaDh.τ Cert.NaDh.sig) → Buf (Elt Bits) ℓ) (g : Dev Cert.NaDh.nD → PrngReg), Pre_NaDh m →
    θ_run (Cert.NaDh.defs (F := Bits)) (onTc (τ := Cert.NaDh.τ) (Cert.NaDh.main (F := Bits))) ⟨m, fun _ => 0, g⟩ (fun r => (∀ c : Dev Cert.NaDh.nD,
      r.2.mem ((c.tc : Thread Cert.NaDh.nD Cert.NaDh.τ).loc Cert.NaDh.main_arg0) = m ((c.tc : Thread Cert.NaDh.nD Cert.NaDh.τ).loc Cert.NaDh.main_arg0)
      ∧ r.2.mem ((c.tc : Thread Cert.NaDh.nD Cert.NaDh.τ).loc Cert.NaDh.main_arg1) = m ((c.tc : Thread Cert.NaDh.nD Cert.NaDh.τ).loc Cert.NaDh.main_arg1)
      ∧ r.2.mem ((c.tc : Thread Cert.NaDh.nD Cert.NaDh.τ).loc Cert.NaDh.main_arg2) = m ((c.tc : Thread Cert.NaDh.nD Cert.NaDh.τ).loc Cert.NaDh.main_arg2))
      ∧ r.2.sem = fun _ => 0)

def quiescent_NaDhIdeal [hNaDhIdeal : Cert.NaDhIdeal.Facts] : Prop :=
  ∀ (m : (ℓ : Loc Cert.NaDhIdeal.nD Cert.NaDhIdeal.τ Cert.NaDhIdeal.sig) → Buf (Elt Ideal) ℓ) (g : Dev Cert.NaDhIdeal.nD → PrngReg), Pre_NaDhIdeal m →
    θ_run (Cert.NaDhIdeal.defs (F := Ideal)) (onTc (τ := Cert.NaDhIdeal.τ) (Cert.NaDhIdeal.main (F := Ideal))) ⟨m, fun _ => 0, g⟩ (fun r => (∀ c : Dev Cert.NaDhIdeal.nD,
      r.2.mem ((c.tc : Thread Cert.NaDhIdeal.nD Cert.NaDhIdeal.τ).loc Cert.NaDhIdeal.main_arg0) = m ((c.tc : Thread Cert.NaDhIdeal.nD Cert.NaDhIdeal.τ).loc Cert.NaDhIdeal.main_arg0)
      ∧ r.2.mem ((c.tc : Thread Cert.NaDhIdeal.nD Cert.NaDhIdeal.τ).loc Cert.NaDhIdeal.main_arg1) = m ((c.tc : Thread Cert.NaDhIdeal.nD Cert.NaDhIdeal.τ).loc Cert.NaDhIdeal.main_arg1)
      ∧ r.2.mem ((c.tc : Thread Cert.NaDhIdeal.nD Cert.NaDhIdeal.τ).loc Cert.NaDhIdeal.main_arg2) = m ((c.tc : Thread Cert.NaDhIdeal.nD Cert.NaDhIdeal.τ).loc Cert.NaDhIdeal.main_arg2))
      ∧ r.2.sem = fun _ => 0)

def quiescent_NaDhRefIdeal [hNaDhRefIdeal : Cert.NaDhRefIdeal.Facts] : Prop :=
  ∀ (m : (ℓ : Loc Cert.NaDhRefIdeal.nD Cert.NaDhRefIdeal.τ Cert.NaDhRefIdeal.sig) → Buf (Elt Ideal) ℓ) (g : Dev Cert.NaDhRefIdeal.nD → PrngReg), Pre_NaDhRefIdeal m →
    θ_run (Cert.NaDhRefIdeal.defs (F := Ideal)) (onTc (τ := Cert.NaDhRefIdeal.τ) (Cert.NaDhRefIdeal.main (F := Ideal))) ⟨m, fun _ => 0, g⟩ (fun r => (∀ c : Dev Cert.NaDhRefIdeal.nD,
      r.2.mem ((c.tc : Thread Cert.NaDhRefIdeal.nD Cert.NaDhRefIdeal.τ).loc Cert.NaDhRefIdeal.main_arg0) = m ((c.tc : Thread Cert.NaDhRefIdeal.nD Cert.NaDhRefIdeal.τ).loc Cert.NaDhRefIdeal.main_arg0)
      ∧ r.2.mem ((c.tc : Thread Cert.NaDhRefIdeal.nD Cert.NaDhRefIdeal.τ).loc Cert.NaDhRefIdeal.main_arg1) = m ((c.tc : Thread Cert.NaDhRefIdeal.nD Cert.NaDhRefIdeal.τ).loc Cert.NaDhRefIdeal.main_arg1)
      ∧ r.2.mem ((c.tc : Thread Cert.NaDhRefIdeal.nD Cert.NaDhRefIdeal.τ).loc Cert.NaDhRefIdeal.main_arg2) = m ((c.tc : Thread Cert.NaDhRefIdeal.nD Cert.NaDhRefIdeal.τ).loc Cert.NaDhRefIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_ProjDo [hProjDo : Cert.ProjDo.Facts] : Prop :=
  ∀ (m : (ℓ : Loc Cert.ProjDo.nD Cert.ProjDo.τ Cert.ProjDo.sig) → Buf (Elt Bits) ℓ) (g : Dev Cert.ProjDo.nD → PrngReg), Pre_ProjDo m →
    θ_run (Cert.ProjDo.defs (F := Bits)) (onTc (τ := Cert.ProjDo.τ) (Cert.ProjDo.main (F := Bits))) ⟨m, fun _ => 0, g⟩ (fun r => (∀ c : Dev Cert.ProjDo.nD,
      r.2.mem ((c.tc : Thread Cert.ProjDo.nD Cert.ProjDo.τ).loc Cert.ProjDo.main_arg0) = m ((c.tc : Thread Cert.ProjDo.nD Cert.ProjDo.τ).loc Cert.ProjDo.main_arg0)
      ∧ r.2.mem ((c.tc : Thread Cert.ProjDo.nD Cert.ProjDo.τ).loc Cert.ProjDo.main_arg1) = m ((c.tc : Thread Cert.ProjDo.nD Cert.ProjDo.τ).loc Cert.ProjDo.main_arg1)
      ∧ r.2.mem ((c.tc : Thread Cert.ProjDo.nD Cert.ProjDo.τ).loc Cert.ProjDo.main_arg2) = m ((c.tc : Thread Cert.ProjDo.nD Cert.ProjDo.τ).loc Cert.ProjDo.main_arg2))
      ∧ r.2.sem = fun _ => 0)

def quiescent_ProjDoIdeal [hProjDoIdeal : Cert.ProjDoIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg), Pre_ProjDoIdeal m →
    θ_run (Cert.ProjDoIdeal.defs (F := Ideal)) (onTc (τ := Cert.ProjDoIdeal.τ) (Cert.ProjDoIdeal.main (F := Ideal))) ⟨m, fun _ => 0, g⟩ (fun r => (∀ c : Dev Cert.ProjDoIdeal.nD,
      r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
      ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1)
      ∧ r.2.mem ((c.tc : Thread Cert.ProjDoIdeal.nD Cert.ProjDoIdeal.τ).loc Cert.ProjDoIdeal.main_arg2) = m ((c.tc : Thread Cert.ProjDoIdeal.nD Cert.ProjDoIdeal.τ).loc Cert.ProjDoIdeal.main_arg2))
      ∧ r.2.sem = fun _ => 0)

def quiescent_ProjDoRefIdeal [hProjDoRefIdeal : Cert.ProjDoRefIdeal.Facts] : Prop :=
  ∀ (m : (ℓ : Loc Cert.ProjDoRefIdeal.nD Cert.ProjDoRefIdeal.τ Cert.ProjDoRefIdeal.sig) → Buf (Elt Ideal) ℓ) (g : Dev Cert.ProjDoRefIdeal.nD → PrngReg), Pre_ProjDoRefIdeal m →
    θ_run (Cert.ProjDoRefIdeal.defs (F := Ideal)) (onTc (τ := Cert.ProjDoRefIdeal.τ) (Cert.ProjDoRefIdeal.main (F := Ideal))) ⟨m, fun _ => 0, g⟩ (fun r => (∀ c : Dev Cert.ProjDoRefIdeal.nD,
      r.2.mem ((c.tc : Thread Cert.ProjDoRefIdeal.nD Cert.ProjDoRefIdeal.τ).loc Cert.ProjDoRefIdeal.main_arg0) = m ((c.tc : Thread Cert.ProjDoRefIdeal.nD Cert.ProjDoRefIdeal.τ).loc Cert.ProjDoRefIdeal.main_arg0)
      ∧ r.2.mem ((c.tc : Thread Cert.ProjDoRefIdeal.nD Cert.ProjDoRefIdeal.τ).loc Cert.ProjDoRefIdeal.main_arg1) = m ((c.tc : Thread Cert.ProjDoRefIdeal.nD Cert.ProjDoRefIdeal.τ).loc Cert.ProjDoRefIdeal.main_arg1)
      ∧ r.2.mem ((c.tc : Thread Cert.ProjDoRefIdeal.nD Cert.ProjDoRefIdeal.τ).loc Cert.ProjDoRefIdeal.main_arg2) = m ((c.tc : Thread Cert.ProjDoRefIdeal.nD Cert.ProjDoRefIdeal.τ).loc Cert.ProjDoRefIdeal.main_arg2))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2)
      ∧ r.2.mem ((c.tc : Thread Cert.FfnGrad.nD Cert.FfnGrad.τ).loc Cert.FfnGrad.main_arg3) = m ((c.tc : Thread Cert.FfnGrad.nD Cert.FfnGrad.τ).loc Cert.FfnGrad.main_arg3))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ r.2.sem = fun _ => 0)

def quiescent_FfnGradIdeal_pre_finite [hFfnGradIdeal : Cert.FfnGradIdeal.Facts] [hPre_finite : Cert.Pre_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ r.2.sem = fun _ => 0)

def quiescent_FfnGradRefIdeal [hFfnGradRefIdeal : Cert.FfnGradRefIdeal.Facts] : Prop :=
  ∀ (m : (ℓ : Loc Cert.FfnGradRefIdeal.nD Cert.FfnGradRefIdeal.τ Cert.FfnGradRefIdeal.sig) → Buf (Elt Ideal) ℓ) (g : Dev Cert.FfnGradRefIdeal.nD → PrngReg), Pre_FfnGradRefIdeal m →
    θ_run (Cert.FfnGradRefIdeal.defs (F := Ideal)) (onTc (τ := Cert.FfnGradRefIdeal.τ) (Cert.FfnGradRefIdeal.main (F := Ideal))) ⟨m, fun _ => 0, g⟩ (fun r => (∀ c : Dev Cert.FfnGradRefIdeal.nD,
      r.2.mem ((c.tc : Thread Cert.FfnGradRefIdeal.nD Cert.FfnGradRefIdeal.τ).loc Cert.FfnGradRefIdeal.main_arg0) = m ((c.tc : Thread Cert.FfnGradRefIdeal.nD Cert.FfnGradRefIdeal.τ).loc Cert.FfnGradRefIdeal.main_arg0)
      ∧ r.2.mem ((c.tc : Thread Cert.FfnGradRefIdeal.nD Cert.FfnGradRefIdeal.τ).loc Cert.FfnGradRefIdeal.main_arg1) = m ((c.tc : Thread Cert.FfnGradRefIdeal.nD Cert.FfnGradRefIdeal.τ).loc Cert.FfnGradRefIdeal.main_arg1)
      ∧ r.2.mem ((c.tc : Thread Cert.FfnGradRefIdeal.nD Cert.FfnGradRefIdeal.τ).loc Cert.FfnGradRefIdeal.main_arg2) = m ((c.tc : Thread Cert.FfnGradRefIdeal.nD Cert.FfnGradRefIdeal.τ).loc Cert.FfnGradRefIdeal.main_arg2)
      ∧ r.2.mem ((c.tc : Thread Cert.FfnGradRefIdeal.nD Cert.FfnGradRefIdeal.τ).loc Cert.FfnGradRefIdeal.main_arg3) = m ((c.tc : Thread Cert.FfnGradRefIdeal.nD Cert.FfnGradRefIdeal.τ).loc Cert.FfnGradRefIdeal.main_arg3))
      ∧ r.2.sem = fun _ => 0)

def quiescent_FfnGradRefIdeal_pre_finite [hFfnGradRefIdeal : Cert.FfnGradRefIdeal.Facts] [hPre_finite : Cert.Pre_finite.Facts] : Prop :=
  ∀ (m : (ℓ : Loc Cert.FfnGradRefIdeal.nD Cert.FfnGradRefIdeal.τ Cert.FfnGradRefIdeal.sig) → Buf (Elt Ideal) ℓ) (g : Dev Cert.FfnGradRefIdeal.nD → PrngReg), Pre_FfnGradRefIdeal_finite m →
    θ_run (Cert.FfnGradRefIdeal.defs (F := Ideal)) (onTc (τ := Cert.FfnGradRefIdeal.τ) (Cert.FfnGradRefIdeal.main (F := Ideal))) ⟨m, fun _ => 0, g⟩ (fun r => (∀ c : Dev Cert.FfnGradRefIdeal.nD,
      r.2.mem ((c.tc : Thread Cert.FfnGradRefIdeal.nD Cert.FfnGradRefIdeal.τ).loc Cert.FfnGradRefIdeal.main_arg0) = m ((c.tc : Thread Cert.FfnGradRefIdeal.nD Cert.FfnGradRefIdeal.τ).loc Cert.FfnGradRefIdeal.main_arg0)
      ∧ r.2.mem ((c.tc : Thread Cert.FfnGradRefIdeal.nD Cert.FfnGradRefIdeal.τ).loc Cert.FfnGradRefIdeal.main_arg1) = m ((c.tc : Thread Cert.FfnGradRefIdeal.nD Cert.FfnGradRefIdeal.τ).loc Cert.FfnGradRefIdeal.main_arg1)
      ∧ r.2.mem ((c.tc : Thread Cert.FfnGradRefIdeal.nD Cert.FfnGradRefIdeal.τ).loc Cert.FfnGradRefIdeal.main_arg2) = m ((c.tc : Thread Cert.FfnGradRefIdeal.nD Cert.FfnGradRefIdeal.τ).loc Cert.FfnGradRefIdeal.main_arg2)
      ∧ r.2.mem ((c.tc : Thread Cert.FfnGradRefIdeal.nD Cert.FfnGradRefIdeal.τ).loc Cert.FfnGradRefIdeal.main_arg3) = m ((c.tc : Thread Cert.FfnGradRefIdeal.nD Cert.FfnGradRefIdeal.τ).loc Cert.FfnGradRefIdeal.main_arg3))
      ∧ r.2.sem = fun _ => 0)

def quiescent_SmallStep [hSmallStep : Cert.SmallStep.Facts] : Prop :=
  ∀ (m : (ℓ : Loc Cert.SmallStep.nD Cert.SmallStep.τ Cert.SmallStep.sig) → Buf (Elt Bits) ℓ) (g : Dev Cert.SmallStep.nD → PrngReg), Pre_SmallStep m →
    θ_run (Cert.SmallStep.defs (F := Bits)) (onTc (τ := Cert.SmallStep.τ) (Cert.SmallStep.main (F := Bits))) ⟨m, fun _ => 0, g⟩ (fun r => (∀ c : Dev Cert.SmallStep.nD,
      r.2.mem ((c.tc : Thread Cert.SmallStep.nD Cert.SmallStep.τ).loc Cert.SmallStep.main_arg0) = m ((c.tc : Thread Cert.SmallStep.nD Cert.SmallStep.τ).loc Cert.SmallStep.main_arg0)
      ∧ r.2.mem ((c.tc : Thread Cert.SmallStep.nD Cert.SmallStep.τ).loc Cert.SmallStep.main_arg1) = m ((c.tc : Thread Cert.SmallStep.nD Cert.SmallStep.τ).loc Cert.SmallStep.main_arg1)
      ∧ r.2.mem ((c.tc : Thread Cert.SmallStep.nD Cert.SmallStep.τ).loc Cert.SmallStep.main_arg2) = m ((c.tc : Thread Cert.SmallStep.nD Cert.SmallStep.τ).loc Cert.SmallStep.main_arg2)
      ∧ r.2.mem ((c.tc : Thread Cert.SmallStep.nD Cert.SmallStep.τ).loc Cert.SmallStep.main_arg3) = m ((c.tc : Thread Cert.SmallStep.nD Cert.SmallStep.τ).loc Cert.SmallStep.main_arg3)
      ∧ r.2.mem ((c.tc : Thread Cert.SmallStep.nD Cert.SmallStep.τ).loc Cert.SmallStep.main_arg4) = m ((c.tc : Thread Cert.SmallStep.nD Cert.SmallStep.τ).loc Cert.SmallStep.main_arg4))
      ∧ r.2.sem = fun _ => 0)

def quiescent_SmallStepIdeal [hSmallStepIdeal : Cert.SmallStepIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg), Pre_SmallStepIdeal m →
    θ_run (Cert.SmallStepIdeal.defs (F := Ideal)) (onTc (τ := Cert.SmallStepIdeal.τ) (Cert.SmallStepIdeal.main (F := Ideal))) ⟨m, fun _ => 0, g⟩ (fun r => (∀ c : Dev Cert.SmallStepIdeal.nD,
      r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
      ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
      ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
      ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3)
      ∧ r.2.mem ((c.tc : Thread Cert.SmallStepIdeal.nD Cert.SmallStepIdeal.τ).loc Cert.SmallStepIdeal.main_arg4) = m ((c.tc : Thread Cert.SmallStepIdeal.nD Cert.SmallStepIdeal.τ).loc Cert.SmallStepIdeal.main_arg4))
      ∧ r.2.sem = fun _ => 0)

def quiescent_SmallStepRefIdeal [hSmallStepRefIdeal : Cert.SmallStepRefIdeal.Facts] : Prop :=
  ∀ (m : (ℓ : Loc Cert.SmallStepRefIdeal.nD Cert.SmallStepRefIdeal.τ Cert.SmallStepRefIdeal.sig) → Buf (Elt Ideal) ℓ) (g : Dev Cert.SmallStepRefIdeal.nD → PrngReg), Pre_SmallStepRefIdeal m →
    θ_run (Cert.SmallStepRefIdeal.defs (F := Ideal)) (onTc (τ := Cert.SmallStepRefIdeal.τ) (Cert.SmallStepRefIdeal.main (F := Ideal))) ⟨m, fun _ => 0, g⟩ (fun r => (∀ c : Dev Cert.SmallStepRefIdeal.nD,
      r.2.mem ((c.tc : Thread Cert.SmallStepRefIdeal.nD Cert.SmallStepRefIdeal.τ).loc Cert.SmallStepRefIdeal.main_arg0) = m ((c.tc : Thread Cert.SmallStepRefIdeal.nD Cert.SmallStepRefIdeal.τ).loc Cert.SmallStepRefIdeal.main_arg0)
      ∧ r.2.mem ((c.tc : Thread Cert.SmallStepRefIdeal.nD Cert.SmallStepRefIdeal.τ).loc Cert.SmallStepRefIdeal.main_arg1) = m ((c.tc : Thread Cert.SmallStepRefIdeal.nD Cert.SmallStepRefIdeal.τ).loc Cert.SmallStepRefIdeal.main_arg1)
      ∧ r.2.mem ((c.tc : Thread Cert.SmallStepRefIdeal.nD Cert.SmallStepRefIdeal.τ).loc Cert.SmallStepRefIdeal.main_arg2) = m ((c.tc : Thread Cert.SmallStepRefIdeal.nD Cert.SmallStepRefIdeal.τ).loc Cert.SmallStepRefIdeal.main_arg2)
      ∧ r.2.mem ((c.tc : Thread Cert.SmallStepRefIdeal.nD Cert.SmallStepRefIdeal.τ).loc Cert.SmallStepRefIdeal.main_arg3) = m ((c.tc : Thread Cert.SmallStepRefIdeal.nD Cert.SmallStepRefIdeal.τ).loc Cert.SmallStepRefIdeal.main_arg3)
      ∧ r.2.mem ((c.tc : Thread Cert.SmallStepRefIdeal.nD Cert.SmallStepRefIdeal.τ).loc Cert.SmallStepRefIdeal.main_arg4) = m ((c.tc : Thread Cert.SmallStepRefIdeal.nD Cert.SmallStepRefIdeal.τ).loc Cert.SmallStepRefIdeal.main_arg4))
      ∧ r.2.sem = fun _ => 0)

def quiescent_DilOStep [hDilOStep : Cert.DilOStep.Facts] [hPre_numbered_out : Cert.Pre_numbered_out.Facts] : Prop :=
  ∀ (m : (ℓ : Loc Cert.DilOStep.nD Cert.DilOStep.τ Cert.DilOStep.sig) → Buf (Elt Bits) ℓ) (g : Dev Cert.DilOStep.nD → PrngReg), Pre_DilOStep m →
    θ_run (Cert.DilOStep.defs (F := Bits)) (onTc (τ := Cert.DilOStep.τ) (Cert.DilOStep.main (F := Bits))) ⟨m, fun _ => 0, g⟩ (fun r => (∀ c : Dev Cert.DilOStep.nD,
      r.2.mem ((c.tc : Thread Cert.DilOStep.nD Cert.DilOStep.τ).loc Cert.DilOStep.main_arg0) = m ((c.tc : Thread Cert.DilOStep.nD Cert.DilOStep.τ).loc Cert.DilOStep.main_arg0)
      ∧ r.2.mem ((c.tc : Thread Cert.DilOStep.nD Cert.DilOStep.τ).loc Cert.DilOStep.main_arg1) = m ((c.tc : Thread Cert.DilOStep.nD Cert.DilOStep.τ).loc Cert.DilOStep.main_arg1)
      ∧ r.2.mem ((c.tc : Thread Cert.DilOStep.nD Cert.DilOStep.τ).loc Cert.DilOStep.main_arg2) = m ((c.tc : Thread Cert.DilOStep.nD Cert.DilOStep.τ).loc Cert.DilOStep.main_arg2)
      ∧ r.2.mem ((c.tc : Thread Cert.DilOStep.nD Cert.DilOStep.τ).loc Cert.DilOStep.main_arg3) = m ((c.tc : Thread Cert.DilOStep.nD Cert.DilOStep.τ).loc Cert.DilOStep.main_arg3)
      ∧ r.2.mem ((c.tc : Thread Cert.DilOStep.nD Cert.DilOStep.τ).loc Cert.DilOStep.main_arg4) = m ((c.tc : Thread Cert.DilOStep.nD Cert.DilOStep.τ).loc Cert.DilOStep.main_arg4)
      ∧ r.2.mem ((c.tc : Thread Cert.DilOStep.nD Cert.DilOStep.τ).loc Cert.DilOStep.main_arg5) = m ((c.tc : Thread Cert.DilOStep.nD Cert.DilOStep.τ).loc Cert.DilOStep.main_arg5))
      ∧ r.2.sem = fun _ => 0)

def quiescent_DilOStepIdeal [hDilOStepIdeal : Cert.DilOStepIdeal.Facts] [hPre_numbered_out : Cert.Pre_numbered_out.Facts] : Prop :=
  ∀ (m : (ℓ : Loc Cert.DilOStepIdeal.nD Cert.DilOStepIdeal.τ Cert.DilOStepIdeal.sig) → Buf (Elt Ideal) ℓ) (g : Dev Cert.DilOStepIdeal.nD → PrngReg), Pre_DilOStepIdeal m →
    θ_run (Cert.DilOStepIdeal.defs (F := Ideal)) (onTc (τ := Cert.DilOStepIdeal.τ) (Cert.DilOStepIdeal.main (F := Ideal))) ⟨m, fun _ => 0, g⟩ (fun r => (∀ c : Dev Cert.DilOStepIdeal.nD,
      r.2.mem ((c.tc : Thread Cert.DilOStepIdeal.nD Cert.DilOStepIdeal.τ).loc Cert.DilOStepIdeal.main_arg0) = m ((c.tc : Thread Cert.DilOStepIdeal.nD Cert.DilOStepIdeal.τ).loc Cert.DilOStepIdeal.main_arg0)
      ∧ r.2.mem ((c.tc : Thread Cert.DilOStepIdeal.nD Cert.DilOStepIdeal.τ).loc Cert.DilOStepIdeal.main_arg1) = m ((c.tc : Thread Cert.DilOStepIdeal.nD Cert.DilOStepIdeal.τ).loc Cert.DilOStepIdeal.main_arg1)
      ∧ r.2.mem ((c.tc : Thread Cert.DilOStepIdeal.nD Cert.DilOStepIdeal.τ).loc Cert.DilOStepIdeal.main_arg2) = m ((c.tc : Thread Cert.DilOStepIdeal.nD Cert.DilOStepIdeal.τ).loc Cert.DilOStepIdeal.main_arg2)
      ∧ r.2.mem ((c.tc : Thread Cert.DilOStepIdeal.nD Cert.DilOStepIdeal.τ).loc Cert.DilOStepIdeal.main_arg3) = m ((c.tc : Thread Cert.DilOStepIdeal.nD Cert.DilOStepIdeal.τ).loc Cert.DilOStepIdeal.main_arg3)
      ∧ r.2.mem ((c.tc : Thread Cert.DilOStepIdeal.nD Cert.DilOStepIdeal.τ).loc Cert.DilOStepIdeal.main_arg4) = m ((c.tc : Thread Cert.DilOStepIdeal.nD Cert.DilOStepIdeal.τ).loc Cert.DilOStepIdeal.main_arg4)
      ∧ r.2.mem ((c.tc : Thread Cert.DilOStepIdeal.nD Cert.DilOStepIdeal.τ).loc Cert.DilOStepIdeal.main_arg5) = m ((c.tc : Thread Cert.DilOStepIdeal.nD Cert.DilOStepIdeal.τ).loc Cert.DilOStepIdeal.main_arg5))
      ∧ r.2.sem = fun _ => 0)

def quiescent_DilOStepRefIdeal [hDilOStepRefIdeal : Cert.DilOStepRefIdeal.Facts] [hPre_numbered_out : Cert.Pre_numbered_out.Facts] : Prop :=
  ∀ (m : (ℓ : Loc Cert.DilOStepRefIdeal.nD Cert.DilOStepRefIdeal.τ Cert.DilOStepRefIdeal.sig) → Buf (Elt Ideal) ℓ) (g : Dev Cert.DilOStepRefIdeal.nD → PrngReg), Pre_DilOStepRefIdeal m →
    θ_run (Cert.DilOStepRefIdeal.defs (F := Ideal)) (onTc (τ := Cert.DilOStepRefIdeal.τ) (Cert.DilOStepRefIdeal.main (F := Ideal))) ⟨m, fun _ => 0, g⟩ (fun r => (∀ c : Dev Cert.DilOStepRefIdeal.nD,
      r.2.mem ((c.tc : Thread Cert.DilOStepRefIdeal.nD Cert.DilOStepRefIdeal.τ).loc Cert.DilOStepRefIdeal.main_arg0) = m ((c.tc : Thread Cert.DilOStepRefIdeal.nD Cert.DilOStepRefIdeal.τ).loc Cert.DilOStepRefIdeal.main_arg0)
      ∧ r.2.mem ((c.tc : Thread Cert.DilOStepRefIdeal.nD Cert.DilOStepRefIdeal.τ).loc Cert.DilOStepRefIdeal.main_arg1) = m ((c.tc : Thread Cert.DilOStepRefIdeal.nD Cert.DilOStepRefIdeal.τ).loc Cert.DilOStepRefIdeal.main_arg1)
      ∧ r.2.mem ((c.tc : Thread Cert.DilOStepRefIdeal.nD Cert.DilOStepRefIdeal.τ).loc Cert.DilOStepRefIdeal.main_arg2) = m ((c.tc : Thread Cert.DilOStepRefIdeal.nD Cert.DilOStepRefIdeal.τ).loc Cert.DilOStepRefIdeal.main_arg2)
      ∧ r.2.mem ((c.tc : Thread Cert.DilOStepRefIdeal.nD Cert.DilOStepRefIdeal.τ).loc Cert.DilOStepRefIdeal.main_arg3) = m ((c.tc : Thread Cert.DilOStepRefIdeal.nD Cert.DilOStepRefIdeal.τ).loc Cert.DilOStepRefIdeal.main_arg3)
      ∧ r.2.mem ((c.tc : Thread Cert.DilOStepRefIdeal.nD Cert.DilOStepRefIdeal.τ).loc Cert.DilOStepRefIdeal.main_arg4) = m ((c.tc : Thread Cert.DilOStepRefIdeal.nD Cert.DilOStepRefIdeal.τ).loc Cert.DilOStepRefIdeal.main_arg4)
      ∧ r.2.mem ((c.tc : Thread Cert.DilOStepRefIdeal.nD Cert.DilOStepRefIdeal.τ).loc Cert.DilOStepRefIdeal.main_arg5) = m ((c.tc : Thread Cert.DilOStepRefIdeal.nD Cert.DilOStepRefIdeal.τ).loc Cert.DilOStepRefIdeal.main_arg5))
      ∧ r.2.sem = fun _ => 0)

def quiescent_NaOStep [hNaOStep : Cert.NaOStep.Facts] [hPre_numbered_out : Cert.Pre_numbered_out.Facts] : Prop :=
  ∀ (m : (ℓ : Loc Cert.NaOStep.nD Cert.NaOStep.τ Cert.NaOStep.sig) → Buf (Elt Bits) ℓ) (g : Dev Cert.NaOStep.nD → PrngReg), Pre_NaOStep m →
    θ_run (Cert.NaOStep.defs (F := Bits)) (onTc (τ := Cert.NaOStep.τ) (Cert.NaOStep.main (F := Bits))) ⟨m, fun _ => 0, g⟩ (fun r => (∀ c : Dev Cert.NaOStep.nD,
      r.2.mem ((c.tc : Thread Cert.NaOStep.nD Cert.NaOStep.τ).loc Cert.NaOStep.main_arg0) = m ((c.tc : Thread Cert.NaOStep.nD Cert.NaOStep.τ).loc Cert.NaOStep.main_arg0)
      ∧ r.2.mem ((c.tc : Thread Cert.NaOStep.nD Cert.NaOStep.τ).loc Cert.NaOStep.main_arg1) = m ((c.tc : Thread Cert.NaOStep.nD Cert.NaOStep.τ).loc Cert.NaOStep.main_arg1)
      ∧ r.2.mem ((c.tc : Thread Cert.NaOStep.nD Cert.NaOStep.τ).loc Cert.NaOStep.main_arg2) = m ((c.tc : Thread Cert.NaOStep.nD Cert.NaOStep.τ).loc Cert.NaOStep.main_arg2)
      ∧ r.2.mem ((c.tc : Thread Cert.NaOStep.nD Cert.NaOStep.τ).loc Cert.NaOStep.main_arg3) = m ((c.tc : Thread Cert.NaOStep.nD Cert.NaOStep.τ).loc Cert.NaOStep.main_arg3)
      ∧ r.2.mem ((c.tc : Thread Cert.NaOStep.nD Cert.NaOStep.τ).loc Cert.NaOStep.main_arg4) = m ((c.tc : Thread Cert.NaOStep.nD Cert.NaOStep.τ).loc Cert.NaOStep.main_arg4)
      ∧ r.2.mem ((c.tc : Thread Cert.NaOStep.nD Cert.NaOStep.τ).loc Cert.NaOStep.main_arg5) = m ((c.tc : Thread Cert.NaOStep.nD Cert.NaOStep.τ).loc Cert.NaOStep.main_arg5))
      ∧ r.2.sem = fun _ => 0)

def quiescent_NaOStepIdeal [hNaOStepIdeal : Cert.NaOStepIdeal.Facts] [hPre_numbered_out : Cert.Pre_numbered_out.Facts] : Prop :=
  ∀ (m : (ℓ : Loc Cert.NaOStepIdeal.nD Cert.NaOStepIdeal.τ Cert.NaOStepIdeal.sig) → Buf (Elt Ideal) ℓ) (g : Dev Cert.NaOStepIdeal.nD → PrngReg), Pre_NaOStepIdeal m →
    θ_run (Cert.NaOStepIdeal.defs (F := Ideal)) (onTc (τ := Cert.NaOStepIdeal.τ) (Cert.NaOStepIdeal.main (F := Ideal))) ⟨m, fun _ => 0, g⟩ (fun r => (∀ c : Dev Cert.NaOStepIdeal.nD,
      r.2.mem ((c.tc : Thread Cert.NaOStepIdeal.nD Cert.NaOStepIdeal.τ).loc Cert.NaOStepIdeal.main_arg0) = m ((c.tc : Thread Cert.NaOStepIdeal.nD Cert.NaOStepIdeal.τ).loc Cert.NaOStepIdeal.main_arg0)
      ∧ r.2.mem ((c.tc : Thread Cert.NaOStepIdeal.nD Cert.NaOStepIdeal.τ).loc Cert.NaOStepIdeal.main_arg1) = m ((c.tc : Thread Cert.NaOStepIdeal.nD Cert.NaOStepIdeal.τ).loc Cert.NaOStepIdeal.main_arg1)
      ∧ r.2.mem ((c.tc : Thread Cert.NaOStepIdeal.nD Cert.NaOStepIdeal.τ).loc Cert.NaOStepIdeal.main_arg2) = m ((c.tc : Thread Cert.NaOStepIdeal.nD Cert.NaOStepIdeal.τ).loc Cert.NaOStepIdeal.main_arg2)
      ∧ r.2.mem ((c.tc : Thread Cert.NaOStepIdeal.nD Cert.NaOStepIdeal.τ).loc Cert.NaOStepIdeal.main_arg3) = m ((c.tc : Thread Cert.NaOStepIdeal.nD Cert.NaOStepIdeal.τ).loc Cert.NaOStepIdeal.main_arg3)
      ∧ r.2.mem ((c.tc : Thread Cert.NaOStepIdeal.nD Cert.NaOStepIdeal.τ).loc Cert.NaOStepIdeal.main_arg4) = m ((c.tc : Thread Cert.NaOStepIdeal.nD Cert.NaOStepIdeal.τ).loc Cert.NaOStepIdeal.main_arg4)
      ∧ r.2.mem ((c.tc : Thread Cert.NaOStepIdeal.nD Cert.NaOStepIdeal.τ).loc Cert.NaOStepIdeal.main_arg5) = m ((c.tc : Thread Cert.NaOStepIdeal.nD Cert.NaOStepIdeal.τ).loc Cert.NaOStepIdeal.main_arg5))
      ∧ r.2.sem = fun _ => 0)

def quiescent_NaOStepRefIdeal [hNaOStepRefIdeal : Cert.NaOStepRefIdeal.Facts] [hPre_numbered_out : Cert.Pre_numbered_out.Facts] : Prop :=
  ∀ (m : (ℓ : Loc Cert.NaOStepRefIdeal.nD Cert.NaOStepRefIdeal.τ Cert.NaOStepRefIdeal.sig) → Buf (Elt Ideal) ℓ) (g : Dev Cert.NaOStepRefIdeal.nD → PrngReg), Pre_NaOStepRefIdeal m →
    θ_run (Cert.NaOStepRefIdeal.defs (F := Ideal)) (onTc (τ := Cert.NaOStepRefIdeal.τ) (Cert.NaOStepRefIdeal.main (F := Ideal))) ⟨m, fun _ => 0, g⟩ (fun r => (∀ c : Dev Cert.NaOStepRefIdeal.nD,
      r.2.mem ((c.tc : Thread Cert.NaOStepRefIdeal.nD Cert.NaOStepRefIdeal.τ).loc Cert.NaOStepRefIdeal.main_arg0) = m ((c.tc : Thread Cert.NaOStepRefIdeal.nD Cert.NaOStepRefIdeal.τ).loc Cert.NaOStepRefIdeal.main_arg0)
      ∧ r.2.mem ((c.tc : Thread Cert.NaOStepRefIdeal.nD Cert.NaOStepRefIdeal.τ).loc Cert.NaOStepRefIdeal.main_arg1) = m ((c.tc : Thread Cert.NaOStepRefIdeal.nD Cert.NaOStepRefIdeal.τ).loc Cert.NaOStepRefIdeal.main_arg1)
      ∧ r.2.mem ((c.tc : Thread Cert.NaOStepRefIdeal.nD Cert.NaOStepRefIdeal.τ).loc Cert.NaOStepRefIdeal.main_arg2) = m ((c.tc : Thread Cert.NaOStepRefIdeal.nD Cert.NaOStepRefIdeal.τ).loc Cert.NaOStepRefIdeal.main_arg2)
      ∧ r.2.mem ((c.tc : Thread Cert.NaOStepRefIdeal.nD Cert.NaOStepRefIdeal.τ).loc Cert.NaOStepRefIdeal.main_arg3) = m ((c.tc : Thread Cert.NaOStepRefIdeal.nD Cert.NaOStepRefIdeal.τ).loc Cert.NaOStepRefIdeal.main_arg3)
      ∧ r.2.mem ((c.tc : Thread Cert.NaOStepRefIdeal.nD Cert.NaOStepRefIdeal.τ).loc Cert.NaOStepRefIdeal.main_arg4) = m ((c.tc : Thread Cert.NaOStepRefIdeal.nD Cert.NaOStepRefIdeal.τ).loc Cert.NaOStepRefIdeal.main_arg4)
      ∧ r.2.mem ((c.tc : Thread Cert.NaOStepRefIdeal.nD Cert.NaOStepRefIdeal.τ).loc Cert.NaOStepRefIdeal.main_arg5) = m ((c.tc : Thread Cert.NaOStepRefIdeal.nD Cert.NaOStepRefIdeal.τ).loc Cert.NaOStepRefIdeal.main_arg5))
      ∧ r.2.sem = fun _ => 0)

def quiescent_DilQkvStep [hDilQkvStep : Cert.DilQkvStep.Facts] [hPre_numbered_dil : Cert.Pre_numbered_dil.Facts] : Prop :=
  ∀ (m : (ℓ : Loc Cert.DilQkvStep.nD Cert.DilQkvStep.τ Cert.DilQkvStep.sig) → Buf (Elt Bits) ℓ) (g : Dev Cert.DilQkvStep.nD → PrngReg), Pre_DilQkvStep m →
    θ_run (Cert.DilQkvStep.defs (F := Bits)) (onTc (τ := Cert.DilQkvStep.τ) (Cert.DilQkvStep.main (F := Bits))) ⟨m, fun _ => 0, g⟩ (fun r => (∀ c : Dev Cert.DilQkvStep.nD,
      r.2.mem ((c.tc : Thread Cert.DilQkvStep.nD Cert.DilQkvStep.τ).loc Cert.DilQkvStep.main_arg0) = m ((c.tc : Thread Cert.DilQkvStep.nD Cert.DilQkvStep.τ).loc Cert.DilQkvStep.main_arg0)
      ∧ r.2.mem ((c.tc : Thread Cert.DilQkvStep.nD Cert.DilQkvStep.τ).loc Cert.DilQkvStep.main_arg1) = m ((c.tc : Thread Cert.DilQkvStep.nD Cert.DilQkvStep.τ).loc Cert.DilQkvStep.main_arg1)
      ∧ r.2.mem ((c.tc : Thread Cert.DilQkvStep.nD Cert.DilQkvStep.τ).loc Cert.DilQkvStep.main_arg2) = m ((c.tc : Thread Cert.DilQkvStep.nD Cert.DilQkvStep.τ).loc Cert.DilQkvStep.main_arg2)
      ∧ r.2.mem ((c.tc : Thread Cert.DilQkvStep.nD Cert.DilQkvStep.τ).loc Cert.DilQkvStep.main_arg3) = m ((c.tc : Thread Cert.DilQkvStep.nD Cert.DilQkvStep.τ).loc Cert.DilQkvStep.main_arg3)
      ∧ r.2.mem ((c.tc : Thread Cert.DilQkvStep.nD Cert.DilQkvStep.τ).loc Cert.DilQkvStep.main_arg4) = m ((c.tc : Thread Cert.DilQkvStep.nD Cert.DilQkvStep.τ).loc Cert.DilQkvStep.main_arg4)
      ∧ r.2.mem ((c.tc : Thread Cert.DilQkvStep.nD Cert.DilQkvStep.τ).loc Cert.DilQkvStep.main_arg5) = m ((c.tc : Thread Cert.DilQkvStep.nD Cert.DilQkvStep.τ).loc Cert.DilQkvStep.main_arg5))
      ∧ r.2.sem = fun _ => 0)

def quiescent_DilQkvStepIdeal [hDilQkvStepIdeal : Cert.DilQkvStepIdeal.Facts] [hPre_numbered_dil : Cert.Pre_numbered_dil.Facts] : Prop :=
  ∀ (m : (ℓ : Loc Cert.DilQkvStepIdeal.nD Cert.DilQkvStepIdeal.τ Cert.DilQkvStepIdeal.sig) → Buf (Elt Ideal) ℓ) (g : Dev Cert.DilQkvStepIdeal.nD → PrngReg), Pre_DilQkvStepIdeal m →
    θ_run (Cert.DilQkvStepIdeal.defs (F := Ideal)) (onTc (τ := Cert.DilQkvStepIdeal.τ) (Cert.DilQkvStepIdeal.main (F := Ideal))) ⟨m, fun _ => 0, g⟩ (fun r => (∀ c : Dev Cert.DilQkvStepIdeal.nD,
      r.2.mem ((c.tc : Thread Cert.DilQkvStepIdeal.nD Cert.DilQkvStepIdeal.τ).loc Cert.DilQkvStepIdeal.main_arg0) = m ((c.tc : Thread Cert.DilQkvStepIdeal.nD Cert.DilQkvStepIdeal.τ).loc Cert.DilQkvStepIdeal.main_arg0)
      ∧ r.2.mem ((c.tc : Thread Cert.DilQkvStepIdeal.nD Cert.DilQkvStepIdeal.τ).loc Cert.DilQkvStepIdeal.main_arg1) = m ((c.tc : Thread Cert.DilQkvStepIdeal.nD Cert.DilQkvStepIdeal.τ).loc Cert.DilQkvStepIdeal.main_arg1)
      ∧ r.2.mem ((c.tc : Thread Cert.DilQkvStepIdeal.nD Cert.DilQkvStepIdeal.τ).loc Cert.DilQkvStepIdeal.main_arg2) = m ((c.tc : Thread Cert.DilQkvStepIdeal.nD Cert.DilQkvStepIdeal.τ).loc Cert.DilQkvStepIdeal.main_arg2)
      ∧ r.2.mem ((c.tc : Thread Cert.DilQkvStepIdeal.nD Cert.DilQkvStepIdeal.τ).loc Cert.DilQkvStepIdeal.main_arg3) = m ((c.tc : Thread Cert.DilQkvStepIdeal.nD Cert.DilQkvStepIdeal.τ).loc Cert.DilQkvStepIdeal.main_arg3)
      ∧ r.2.mem ((c.tc : Thread Cert.DilQkvStepIdeal.nD Cert.DilQkvStepIdeal.τ).loc Cert.DilQkvStepIdeal.main_arg4) = m ((c.tc : Thread Cert.DilQkvStepIdeal.nD Cert.DilQkvStepIdeal.τ).loc Cert.DilQkvStepIdeal.main_arg4)
      ∧ r.2.mem ((c.tc : Thread Cert.DilQkvStepIdeal.nD Cert.DilQkvStepIdeal.τ).loc Cert.DilQkvStepIdeal.main_arg5) = m ((c.tc : Thread Cert.DilQkvStepIdeal.nD Cert.DilQkvStepIdeal.τ).loc Cert.DilQkvStepIdeal.main_arg5))
      ∧ r.2.sem = fun _ => 0)

def quiescent_DilQkvStepRefIdeal [hDilQkvStepRefIdeal : Cert.DilQkvStepRefIdeal.Facts] [hPre_numbered_dil : Cert.Pre_numbered_dil.Facts] : Prop :=
  ∀ (m : (ℓ : Loc Cert.DilQkvStepRefIdeal.nD Cert.DilQkvStepRefIdeal.τ Cert.DilQkvStepRefIdeal.sig) → Buf (Elt Ideal) ℓ) (g : Dev Cert.DilQkvStepRefIdeal.nD → PrngReg), Pre_DilQkvStepRefIdeal m →
    θ_run (Cert.DilQkvStepRefIdeal.defs (F := Ideal)) (onTc (τ := Cert.DilQkvStepRefIdeal.τ) (Cert.DilQkvStepRefIdeal.main (F := Ideal))) ⟨m, fun _ => 0, g⟩ (fun r => (∀ c : Dev Cert.DilQkvStepRefIdeal.nD,
      r.2.mem ((c.tc : Thread Cert.DilQkvStepRefIdeal.nD Cert.DilQkvStepRefIdeal.τ).loc Cert.DilQkvStepRefIdeal.main_arg0) = m ((c.tc : Thread Cert.DilQkvStepRefIdeal.nD Cert.DilQkvStepRefIdeal.τ).loc Cert.DilQkvStepRefIdeal.main_arg0)
      ∧ r.2.mem ((c.tc : Thread Cert.DilQkvStepRefIdeal.nD Cert.DilQkvStepRefIdeal.τ).loc Cert.DilQkvStepRefIdeal.main_arg1) = m ((c.tc : Thread Cert.DilQkvStepRefIdeal.nD Cert.DilQkvStepRefIdeal.τ).loc Cert.DilQkvStepRefIdeal.main_arg1)
      ∧ r.2.mem ((c.tc : Thread Cert.DilQkvStepRefIdeal.nD Cert.DilQkvStepRefIdeal.τ).loc Cert.DilQkvStepRefIdeal.main_arg2) = m ((c.tc : Thread Cert.DilQkvStepRefIdeal.nD Cert.DilQkvStepRefIdeal.τ).loc Cert.DilQkvStepRefIdeal.main_arg2)
      ∧ r.2.mem ((c.tc : Thread Cert.DilQkvStepRefIdeal.nD Cert.DilQkvStepRefIdeal.τ).loc Cert.DilQkvStepRefIdeal.main_arg3) = m ((c.tc : Thread Cert.DilQkvStepRefIdeal.nD Cert.DilQkvStepRefIdeal.τ).loc Cert.DilQkvStepRefIdeal.main_arg3)
      ∧ r.2.mem ((c.tc : Thread Cert.DilQkvStepRefIdeal.nD Cert.DilQkvStepRefIdeal.τ).loc Cert.DilQkvStepRefIdeal.main_arg4) = m ((c.tc : Thread Cert.DilQkvStepRefIdeal.nD Cert.DilQkvStepRefIdeal.τ).loc Cert.DilQkvStepRefIdeal.main_arg4)
      ∧ r.2.mem ((c.tc : Thread Cert.DilQkvStepRefIdeal.nD Cert.DilQkvStepRefIdeal.τ).loc Cert.DilQkvStepRefIdeal.main_arg5) = m ((c.tc : Thread Cert.DilQkvStepRefIdeal.nD Cert.DilQkvStepRefIdeal.τ).loc Cert.DilQkvStepRefIdeal.main_arg5))
      ∧ r.2.sem = fun _ => 0)

def quiescent_NaQkvStep [hNaQkvStep : Cert.NaQkvStep.Facts] [hPre_numbered_na : Cert.Pre_numbered_na.Facts] : Prop :=
  ∀ (m : (ℓ : Loc Cert.NaQkvStep.nD Cert.NaQkvStep.τ Cert.NaQkvStep.sig) → Buf (Elt Bits) ℓ) (g : Dev Cert.NaQkvStep.nD → PrngReg), Pre_NaQkvStep m →
    θ_run (Cert.NaQkvStep.defs (F := Bits)) (onTc (τ := Cert.NaQkvStep.τ) (Cert.NaQkvStep.main (F := Bits))) ⟨m, fun _ => 0, g⟩ (fun r => (∀ c : Dev Cert.NaQkvStep.nD,
      r.2.mem ((c.tc : Thread Cert.NaQkvStep.nD Cert.NaQkvStep.τ).loc Cert.NaQkvStep.main_arg0) = m ((c.tc : Thread Cert.NaQkvStep.nD Cert.NaQkvStep.τ).loc Cert.NaQkvStep.main_arg0)
      ∧ r.2.mem ((c.tc : Thread Cert.NaQkvStep.nD Cert.NaQkvStep.τ).loc Cert.NaQkvStep.main_arg1) = m ((c.tc : Thread Cert.NaQkvStep.nD Cert.NaQkvStep.τ).loc Cert.NaQkvStep.main_arg1)
      ∧ r.2.mem ((c.tc : Thread Cert.NaQkvStep.nD Cert.NaQkvStep.τ).loc Cert.NaQkvStep.main_arg2) = m ((c.tc : Thread Cert.NaQkvStep.nD Cert.NaQkvStep.τ).loc Cert.NaQkvStep.main_arg2)
      ∧ r.2.mem ((c.tc : Thread Cert.NaQkvStep.nD Cert.NaQkvStep.τ).loc Cert.NaQkvStep.main_arg3) = m ((c.tc : Thread Cert.NaQkvStep.nD Cert.NaQkvStep.τ).loc Cert.NaQkvStep.main_arg3)
      ∧ r.2.mem ((c.tc : Thread Cert.NaQkvStep.nD Cert.NaQkvStep.τ).loc Cert.NaQkvStep.main_arg4) = m ((c.tc : Thread Cert.NaQkvStep.nD Cert.NaQkvStep.τ).loc Cert.NaQkvStep.main_arg4)
      ∧ r.2.mem ((c.tc : Thread Cert.NaQkvStep.nD Cert.NaQkvStep.τ).loc Cert.NaQkvStep.main_arg5) = m ((c.tc : Thread Cert.NaQkvStep.nD Cert.NaQkvStep.τ).loc Cert.NaQkvStep.main_arg5))
      ∧ r.2.sem = fun _ => 0)

def quiescent_NaQkvStepIdeal [hNaQkvStepIdeal : Cert.NaQkvStepIdeal.Facts] [hPre_numbered_na : Cert.Pre_numbered_na.Facts] : Prop :=
  ∀ (m : (ℓ : Loc Cert.NaQkvStepIdeal.nD Cert.NaQkvStepIdeal.τ Cert.NaQkvStepIdeal.sig) → Buf (Elt Ideal) ℓ) (g : Dev Cert.NaQkvStepIdeal.nD → PrngReg), Pre_NaQkvStepIdeal m →
    θ_run (Cert.NaQkvStepIdeal.defs (F := Ideal)) (onTc (τ := Cert.NaQkvStepIdeal.τ) (Cert.NaQkvStepIdeal.main (F := Ideal))) ⟨m, fun _ => 0, g⟩ (fun r => (∀ c : Dev Cert.NaQkvStepIdeal.nD,
      r.2.mem ((c.tc : Thread Cert.NaQkvStepIdeal.nD Cert.NaQkvStepIdeal.τ).loc Cert.NaQkvStepIdeal.main_arg0) = m ((c.tc : Thread Cert.NaQkvStepIdeal.nD Cert.NaQkvStepIdeal.τ).loc Cert.NaQkvStepIdeal.main_arg0)
      ∧ r.2.mem ((c.tc : Thread Cert.NaQkvStepIdeal.nD Cert.NaQkvStepIdeal.τ).loc Cert.NaQkvStepIdeal.main_arg1) = m ((c.tc : Thread Cert.NaQkvStepIdeal.nD Cert.NaQkvStepIdeal.τ).loc Cert.NaQkvStepIdeal.main_arg1)
      ∧ r.2.mem ((c.tc : Thread Cert.NaQkvStepIdeal.nD Cert.NaQkvStepIdeal.τ).loc Cert.NaQkvStepIdeal.main_arg2) = m ((c.tc : Thread Cert.NaQkvStepIdeal.nD Cert.NaQkvStepIdeal.τ).loc Cert.NaQkvStepIdeal.main_arg2)
      ∧ r.2.mem ((c.tc : Thread Cert.NaQkvStepIdeal.nD Cert.NaQkvStepIdeal.τ).loc Cert.NaQkvStepIdeal.main_arg3) = m ((c.tc : Thread Cert.NaQkvStepIdeal.nD Cert.NaQkvStepIdeal.τ).loc Cert.NaQkvStepIdeal.main_arg3)
      ∧ r.2.mem ((c.tc : Thread Cert.NaQkvStepIdeal.nD Cert.NaQkvStepIdeal.τ).loc Cert.NaQkvStepIdeal.main_arg4) = m ((c.tc : Thread Cert.NaQkvStepIdeal.nD Cert.NaQkvStepIdeal.τ).loc Cert.NaQkvStepIdeal.main_arg4)
      ∧ r.2.mem ((c.tc : Thread Cert.NaQkvStepIdeal.nD Cert.NaQkvStepIdeal.τ).loc Cert.NaQkvStepIdeal.main_arg5) = m ((c.tc : Thread Cert.NaQkvStepIdeal.nD Cert.NaQkvStepIdeal.τ).loc Cert.NaQkvStepIdeal.main_arg5))
      ∧ r.2.sem = fun _ => 0)

def quiescent_NaQkvStepRefIdeal [hNaQkvStepRefIdeal : Cert.NaQkvStepRefIdeal.Facts] [hPre_numbered_na : Cert.Pre_numbered_na.Facts] : Prop :=
  ∀ (m : (ℓ : Loc Cert.NaQkvStepRefIdeal.nD Cert.NaQkvStepRefIdeal.τ Cert.NaQkvStepRefIdeal.sig) → Buf (Elt Ideal) ℓ) (g : Dev Cert.NaQkvStepRefIdeal.nD → PrngReg), Pre_NaQkvStepRefIdeal m →
    θ_run (Cert.NaQkvStepRefIdeal.defs (F := Ideal)) (onTc (τ := Cert.NaQkvStepRefIdeal.τ) (Cert.NaQkvStepRefIdeal.main (F := Ideal))) ⟨m, fun _ => 0, g⟩ (fun r => (∀ c : Dev Cert.NaQkvStepRefIdeal.nD,
      r.2.mem ((c.tc : Thread Cert.NaQkvStepRefIdeal.nD Cert.NaQkvStepRefIdeal.τ).loc Cert.NaQkvStepRefIdeal.main_arg0) = m ((c.tc : Thread Cert.NaQkvStepRefIdeal.nD Cert.NaQkvStepRefIdeal.τ).loc Cert.NaQkvStepRefIdeal.main_arg0)
      ∧ r.2.mem ((c.tc : Thread Cert.NaQkvStepRefIdeal.nD Cert.NaQkvStepRefIdeal.τ).loc Cert.NaQkvStepRefIdeal.main_arg1) = m ((c.tc : Thread Cert.NaQkvStepRefIdeal.nD Cert.NaQkvStepRefIdeal.τ).loc Cert.NaQkvStepRefIdeal.main_arg1)
      ∧ r.2.mem ((c.tc : Thread Cert.NaQkvStepRefIdeal.nD Cert.NaQkvStepRefIdeal.τ).loc Cert.NaQkvStepRefIdeal.main_arg2) = m ((c.tc : Thread Cert.NaQkvStepRefIdeal.nD Cert.NaQkvStepRefIdeal.τ).loc Cert.NaQkvStepRefIdeal.main_arg2)
      ∧ r.2.mem ((c.tc : Thread Cert.NaQkvStepRefIdeal.nD Cert.NaQkvStepRefIdeal.τ).loc Cert.NaQkvStepRefIdeal.main_arg3) = m ((c.tc : Thread Cert.NaQkvStepRefIdeal.nD Cert.NaQkvStepRefIdeal.τ).loc Cert.NaQkvStepRefIdeal.main_arg3)
      ∧ r.2.mem ((c.tc : Thread Cert.NaQkvStepRefIdeal.nD Cert.NaQkvStepRefIdeal.τ).loc Cert.NaQkvStepRefIdeal.main_arg4) = m ((c.tc : Thread Cert.NaQkvStepRefIdeal.nD Cert.NaQkvStepRefIdeal.τ).loc Cert.NaQkvStepRefIdeal.main_arg4)
      ∧ r.2.mem ((c.tc : Thread Cert.NaQkvStepRefIdeal.nD Cert.NaQkvStepRefIdeal.τ).loc Cert.NaQkvStepRefIdeal.main_arg5) = m ((c.tc : Thread Cert.NaQkvStepRefIdeal.nD Cert.NaQkvStepRefIdeal.τ).loc Cert.NaQkvStepRefIdeal.main_arg5))
      ∧ r.2.sem = fun _ => 0)

def quiescent_GateStep [hGateStep : Cert.GateStep.Facts] [hPre_numbered_ffn : Cert.Pre_numbered_ffn.Facts] : Prop :=
  ∀ (m : (ℓ : Loc Cert.GateStep.nD Cert.GateStep.τ Cert.GateStep.sig) → Buf (Elt Bits) ℓ) (g : Dev Cert.GateStep.nD → PrngReg), Pre_GateStep m →
    θ_run (Cert.GateStep.defs (F := Bits)) (onTc (τ := Cert.GateStep.τ) (Cert.GateStep.main (F := Bits))) ⟨m, fun _ => 0, g⟩ (fun r => (∀ c : Dev Cert.GateStep.nD,
      r.2.mem ((c.tc : Thread Cert.GateStep.nD Cert.GateStep.τ).loc Cert.GateStep.main_arg0) = m ((c.tc : Thread Cert.GateStep.nD Cert.GateStep.τ).loc Cert.GateStep.main_arg0)
      ∧ r.2.mem ((c.tc : Thread Cert.GateStep.nD Cert.GateStep.τ).loc Cert.GateStep.main_arg1) = m ((c.tc : Thread Cert.GateStep.nD Cert.GateStep.τ).loc Cert.GateStep.main_arg1)
      ∧ r.2.mem ((c.tc : Thread Cert.GateStep.nD Cert.GateStep.τ).loc Cert.GateStep.main_arg2) = m ((c.tc : Thread Cert.GateStep.nD Cert.GateStep.τ).loc Cert.GateStep.main_arg2)
      ∧ r.2.mem ((c.tc : Thread Cert.GateStep.nD Cert.GateStep.τ).loc Cert.GateStep.main_arg3) = m ((c.tc : Thread Cert.GateStep.nD Cert.GateStep.τ).loc Cert.GateStep.main_arg3)
      ∧ r.2.mem ((c.tc : Thread Cert.GateStep.nD Cert.GateStep.τ).loc Cert.GateStep.main_arg4) = m ((c.tc : Thread Cert.GateStep.nD Cert.GateStep.τ).loc Cert.GateStep.main_arg4)
      ∧ r.2.mem ((c.tc : Thread Cert.GateStep.nD Cert.GateStep.τ).loc Cert.GateStep.main_arg5) = m ((c.tc : Thread Cert.GateStep.nD Cert.GateStep.τ).loc Cert.GateStep.main_arg5)
      ∧ r.2.mem ((c.tc : Thread Cert.GateStep.nD Cert.GateStep.τ).loc Cert.GateStep.main_arg6) = m ((c.tc : Thread Cert.GateStep.nD Cert.GateStep.τ).loc Cert.GateStep.main_arg6)
      ∧ r.2.mem ((c.tc : Thread Cert.GateStep.nD Cert.GateStep.τ).loc Cert.GateStep.main_arg7) = m ((c.tc : Thread Cert.GateStep.nD Cert.GateStep.τ).loc Cert.GateStep.main_arg7))
      ∧ r.2.sem = fun _ => 0)

def quiescent_GateStepIdeal [hGateStepIdeal : Cert.GateStepIdeal.Facts] [hPre_numbered_ffn : Cert.Pre_numbered_ffn.Facts] : Prop :=
  ∀ (m : (ℓ : Loc Cert.GateStepIdeal.nD Cert.GateStepIdeal.τ Cert.GateStepIdeal.sig) → Buf (Elt Ideal) ℓ) (g : Dev Cert.GateStepIdeal.nD → PrngReg), Pre_GateStepIdeal m →
    θ_run (Cert.GateStepIdeal.defs (F := Ideal)) (onTc (τ := Cert.GateStepIdeal.τ) (Cert.GateStepIdeal.main (F := Ideal))) ⟨m, fun _ => 0, g⟩ (fun r => (∀ c : Dev Cert.GateStepIdeal.nD,
      r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
      ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
      ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
      ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3)
      ∧ r.2.mem ((c.tc : Thread Cert.GateStepIdeal.nD Cert.GateStepIdeal.τ).loc Cert.GateStepIdeal.main_arg4) = m ((c.tc : Thread Cert.GateStepIdeal.nD Cert.GateStepIdeal.τ).loc Cert.GateStepIdeal.main_arg4)
      ∧ r.2.mem ((c.tc : Thread Cert.GateStepIdeal.nD Cert.GateStepIdeal.τ).loc Cert.GateStepIdeal.main_arg5) = m ((c.tc : Thread Cert.GateStepIdeal.nD Cert.GateStepIdeal.τ).loc Cert.GateStepIdeal.main_arg5)
      ∧ r.2.mem ((c.tc : Thread Cert.GateStepIdeal.nD Cert.GateStepIdeal.τ).loc Cert.GateStepIdeal.main_arg6) = m ((c.tc : Thread Cert.GateStepIdeal.nD Cert.GateStepIdeal.τ).loc Cert.GateStepIdeal.main_arg6)
      ∧ r.2.mem ((c.tc : Thread Cert.GateStepIdeal.nD Cert.GateStepIdeal.τ).loc Cert.GateStepIdeal.main_arg7) = m ((c.tc : Thread Cert.GateStepIdeal.nD Cert.GateStepIdeal.τ).loc Cert.GateStepIdeal.main_arg7))
      ∧ r.2.sem = fun _ => 0)

def quiescent_GateStepRefIdeal [hGateStepRefIdeal : Cert.GateStepRefIdeal.Facts] [hPre_numbered_ffn : Cert.Pre_numbered_ffn.Facts] : Prop :=
  ∀ (m : (ℓ : Loc Cert.GateStepRefIdeal.nD Cert.GateStepRefIdeal.τ Cert.GateStepRefIdeal.sig) → Buf (Elt Ideal) ℓ) (g : Dev Cert.GateStepRefIdeal.nD → PrngReg), Pre_GateStepRefIdeal m →
    θ_run (Cert.GateStepRefIdeal.defs (F := Ideal)) (onTc (τ := Cert.GateStepRefIdeal.τ) (Cert.GateStepRefIdeal.main (F := Ideal))) ⟨m, fun _ => 0, g⟩ (fun r => (∀ c : Dev Cert.GateStepRefIdeal.nD,
      r.2.mem ((c.tc : Thread Cert.GateStepRefIdeal.nD Cert.GateStepRefIdeal.τ).loc Cert.GateStepRefIdeal.main_arg0) = m ((c.tc : Thread Cert.GateStepRefIdeal.nD Cert.GateStepRefIdeal.τ).loc Cert.GateStepRefIdeal.main_arg0)
      ∧ r.2.mem ((c.tc : Thread Cert.GateStepRefIdeal.nD Cert.GateStepRefIdeal.τ).loc Cert.GateStepRefIdeal.main_arg1) = m ((c.tc : Thread Cert.GateStepRefIdeal.nD Cert.GateStepRefIdeal.τ).loc Cert.GateStepRefIdeal.main_arg1)
      ∧ r.2.mem ((c.tc : Thread Cert.GateStepRefIdeal.nD Cert.GateStepRefIdeal.τ).loc Cert.GateStepRefIdeal.main_arg2) = m ((c.tc : Thread Cert.GateStepRefIdeal.nD Cert.GateStepRefIdeal.τ).loc Cert.GateStepRefIdeal.main_arg2)
      ∧ r.2.mem ((c.tc : Thread Cert.GateStepRefIdeal.nD Cert.GateStepRefIdeal.τ).loc Cert.GateStepRefIdeal.main_arg3) = m ((c.tc : Thread Cert.GateStepRefIdeal.nD Cert.GateStepRefIdeal.τ).loc Cert.GateStepRefIdeal.main_arg3)
      ∧ r.2.mem ((c.tc : Thread Cert.GateStepRefIdeal.nD Cert.GateStepRefIdeal.τ).loc Cert.GateStepRefIdeal.main_arg4) = m ((c.tc : Thread Cert.GateStepRefIdeal.nD Cert.GateStepRefIdeal.τ).loc Cert.GateStepRefIdeal.main_arg4)
      ∧ r.2.mem ((c.tc : Thread Cert.GateStepRefIdeal.nD Cert.GateStepRefIdeal.τ).loc Cert.GateStepRefIdeal.main_arg5) = m ((c.tc : Thread Cert.GateStepRefIdeal.nD Cert.GateStepRefIdeal.τ).loc Cert.GateStepRefIdeal.main_arg5)
      ∧ r.2.mem ((c.tc : Thread Cert.GateStepRefIdeal.nD Cert.GateStepRefIdeal.τ).loc Cert.GateStepRefIdeal.main_arg6) = m ((c.tc : Thread Cert.GateStepRefIdeal.nD Cert.GateStepRefIdeal.τ).loc Cert.GateStepRefIdeal.main_arg6)
      ∧ r.2.mem ((c.tc : Thread Cert.GateStepRefIdeal.nD Cert.GateStepRefIdeal.τ).loc Cert.GateStepRefIdeal.main_arg7) = m ((c.tc : Thread Cert.GateStepRefIdeal.nD Cert.GateStepRefIdeal.τ).loc Cert.GateStepRefIdeal.main_arg7))
      ∧ r.2.sem = fun _ => 0)

def quiescent_UpStep [hUpStep : Cert.UpStep.Facts] [hPre_numbered_ffn : Cert.Pre_numbered_ffn.Facts] : Prop :=
  ∀ (m : (ℓ : Loc Cert.UpStep.nD Cert.UpStep.τ Cert.UpStep.sig) → Buf (Elt Bits) ℓ) (g : Dev Cert.UpStep.nD → PrngReg), Pre_UpStep m →
    θ_run (Cert.UpStep.defs (F := Bits)) (onTc (τ := Cert.UpStep.τ) (Cert.UpStep.main (F := Bits))) ⟨m, fun _ => 0, g⟩ (fun r => (∀ c : Dev Cert.UpStep.nD,
      r.2.mem ((c.tc : Thread Cert.UpStep.nD Cert.UpStep.τ).loc Cert.UpStep.main_arg0) = m ((c.tc : Thread Cert.UpStep.nD Cert.UpStep.τ).loc Cert.UpStep.main_arg0)
      ∧ r.2.mem ((c.tc : Thread Cert.UpStep.nD Cert.UpStep.τ).loc Cert.UpStep.main_arg1) = m ((c.tc : Thread Cert.UpStep.nD Cert.UpStep.τ).loc Cert.UpStep.main_arg1)
      ∧ r.2.mem ((c.tc : Thread Cert.UpStep.nD Cert.UpStep.τ).loc Cert.UpStep.main_arg2) = m ((c.tc : Thread Cert.UpStep.nD Cert.UpStep.τ).loc Cert.UpStep.main_arg2)
      ∧ r.2.mem ((c.tc : Thread Cert.UpStep.nD Cert.UpStep.τ).loc Cert.UpStep.main_arg3) = m ((c.tc : Thread Cert.UpStep.nD Cert.UpStep.τ).loc Cert.UpStep.main_arg3)
      ∧ r.2.mem ((c.tc : Thread Cert.UpStep.nD Cert.UpStep.τ).loc Cert.UpStep.main_arg4) = m ((c.tc : Thread Cert.UpStep.nD Cert.UpStep.τ).loc Cert.UpStep.main_arg4)
      ∧ r.2.mem ((c.tc : Thread Cert.UpStep.nD Cert.UpStep.τ).loc Cert.UpStep.main_arg5) = m ((c.tc : Thread Cert.UpStep.nD Cert.UpStep.τ).loc Cert.UpStep.main_arg5)
      ∧ r.2.mem ((c.tc : Thread Cert.UpStep.nD Cert.UpStep.τ).loc Cert.UpStep.main_arg6) = m ((c.tc : Thread Cert.UpStep.nD Cert.UpStep.τ).loc Cert.UpStep.main_arg6)
      ∧ r.2.mem ((c.tc : Thread Cert.UpStep.nD Cert.UpStep.τ).loc Cert.UpStep.main_arg7) = m ((c.tc : Thread Cert.UpStep.nD Cert.UpStep.τ).loc Cert.UpStep.main_arg7))
      ∧ r.2.sem = fun _ => 0)

def quiescent_UpStepIdeal [hUpStepIdeal : Cert.UpStepIdeal.Facts] [hPre_numbered_ffn : Cert.Pre_numbered_ffn.Facts] : Prop :=
  ∀ (m : (ℓ : Loc Cert.UpStepIdeal.nD Cert.UpStepIdeal.τ Cert.UpStepIdeal.sig) → Buf (Elt Ideal) ℓ) (g : Dev Cert.UpStepIdeal.nD → PrngReg), Pre_UpStepIdeal m →
    θ_run (Cert.UpStepIdeal.defs (F := Ideal)) (onTc (τ := Cert.UpStepIdeal.τ) (Cert.UpStepIdeal.main (F := Ideal))) ⟨m, fun _ => 0, g⟩ (fun r => (∀ c : Dev Cert.UpStepIdeal.nD,
      r.2.mem ((c.tc : Thread Cert.UpStepIdeal.nD Cert.UpStepIdeal.τ).loc Cert.UpStepIdeal.main_arg0) = m ((c.tc : Thread Cert.UpStepIdeal.nD Cert.UpStepIdeal.τ).loc Cert.UpStepIdeal.main_arg0)
      ∧ r.2.mem ((c.tc : Thread Cert.UpStepIdeal.nD Cert.UpStepIdeal.τ).loc Cert.UpStepIdeal.main_arg1) = m ((c.tc : Thread Cert.UpStepIdeal.nD Cert.UpStepIdeal.τ).loc Cert.UpStepIdeal.main_arg1)
      ∧ r.2.mem ((c.tc : Thread Cert.UpStepIdeal.nD Cert.UpStepIdeal.τ).loc Cert.UpStepIdeal.main_arg2) = m ((c.tc : Thread Cert.UpStepIdeal.nD Cert.UpStepIdeal.τ).loc Cert.UpStepIdeal.main_arg2)
      ∧ r.2.mem ((c.tc : Thread Cert.UpStepIdeal.nD Cert.UpStepIdeal.τ).loc Cert.UpStepIdeal.main_arg3) = m ((c.tc : Thread Cert.UpStepIdeal.nD Cert.UpStepIdeal.τ).loc Cert.UpStepIdeal.main_arg3)
      ∧ r.2.mem ((c.tc : Thread Cert.UpStepIdeal.nD Cert.UpStepIdeal.τ).loc Cert.UpStepIdeal.main_arg4) = m ((c.tc : Thread Cert.UpStepIdeal.nD Cert.UpStepIdeal.τ).loc Cert.UpStepIdeal.main_arg4)
      ∧ r.2.mem ((c.tc : Thread Cert.UpStepIdeal.nD Cert.UpStepIdeal.τ).loc Cert.UpStepIdeal.main_arg5) = m ((c.tc : Thread Cert.UpStepIdeal.nD Cert.UpStepIdeal.τ).loc Cert.UpStepIdeal.main_arg5)
      ∧ r.2.mem ((c.tc : Thread Cert.UpStepIdeal.nD Cert.UpStepIdeal.τ).loc Cert.UpStepIdeal.main_arg6) = m ((c.tc : Thread Cert.UpStepIdeal.nD Cert.UpStepIdeal.τ).loc Cert.UpStepIdeal.main_arg6)
      ∧ r.2.mem ((c.tc : Thread Cert.UpStepIdeal.nD Cert.UpStepIdeal.τ).loc Cert.UpStepIdeal.main_arg7) = m ((c.tc : Thread Cert.UpStepIdeal.nD Cert.UpStepIdeal.τ).loc Cert.UpStepIdeal.main_arg7))
      ∧ r.2.sem = fun _ => 0)

def quiescent_UpStepRefIdeal [hUpStepRefIdeal : Cert.UpStepRefIdeal.Facts] [hPre_numbered_ffn : Cert.Pre_numbered_ffn.Facts] : Prop :=
  ∀ (m : (ℓ : Loc Cert.UpStepRefIdeal.nD Cert.UpStepRefIdeal.τ Cert.UpStepRefIdeal.sig) → Buf (Elt Ideal) ℓ) (g : Dev Cert.UpStepRefIdeal.nD → PrngReg), Pre_UpStepRefIdeal m →
    θ_run (Cert.UpStepRefIdeal.defs (F := Ideal)) (onTc (τ := Cert.UpStepRefIdeal.τ) (Cert.UpStepRefIdeal.main (F := Ideal))) ⟨m, fun _ => 0, g⟩ (fun r => (∀ c : Dev Cert.UpStepRefIdeal.nD,
      r.2.mem ((c.tc : Thread Cert.UpStepRefIdeal.nD Cert.UpStepRefIdeal.τ).loc Cert.UpStepRefIdeal.main_arg0) = m ((c.tc : Thread Cert.UpStepRefIdeal.nD Cert.UpStepRefIdeal.τ).loc Cert.UpStepRefIdeal.main_arg0)
      ∧ r.2.mem ((c.tc : Thread Cert.UpStepRefIdeal.nD Cert.UpStepRefIdeal.τ).loc Cert.UpStepRefIdeal.main_arg1) = m ((c.tc : Thread Cert.UpStepRefIdeal.nD Cert.UpStepRefIdeal.τ).loc Cert.UpStepRefIdeal.main_arg1)
      ∧ r.2.mem ((c.tc : Thread Cert.UpStepRefIdeal.nD Cert.UpStepRefIdeal.τ).loc Cert.UpStepRefIdeal.main_arg2) = m ((c.tc : Thread Cert.UpStepRefIdeal.nD Cert.UpStepRefIdeal.τ).loc Cert.UpStepRefIdeal.main_arg2)
      ∧ r.2.mem ((c.tc : Thread Cert.UpStepRefIdeal.nD Cert.UpStepRefIdeal.τ).loc Cert.UpStepRefIdeal.main_arg3) = m ((c.tc : Thread Cert.UpStepRefIdeal.nD Cert.UpStepRefIdeal.τ).loc Cert.UpStepRefIdeal.main_arg3)
      ∧ r.2.mem ((c.tc : Thread Cert.UpStepRefIdeal.nD Cert.UpStepRefIdeal.τ).loc Cert.UpStepRefIdeal.main_arg4) = m ((c.tc : Thread Cert.UpStepRefIdeal.nD Cert.UpStepRefIdeal.τ).loc Cert.UpStepRefIdeal.main_arg4)
      ∧ r.2.mem ((c.tc : Thread Cert.UpStepRefIdeal.nD Cert.UpStepRefIdeal.τ).loc Cert.UpStepRefIdeal.main_arg5) = m ((c.tc : Thread Cert.UpStepRefIdeal.nD Cert.UpStepRefIdeal.τ).loc Cert.UpStepRefIdeal.main_arg5)
      ∧ r.2.mem ((c.tc : Thread Cert.UpStepRefIdeal.nD Cert.UpStepRefIdeal.τ).loc Cert.UpStepRefIdeal.main_arg6) = m ((c.tc : Thread Cert.UpStepRefIdeal.nD Cert.UpStepRefIdeal.τ).loc Cert.UpStepRefIdeal.main_arg6)
      ∧ r.2.mem ((c.tc : Thread Cert.UpStepRefIdeal.nD Cert.UpStepRefIdeal.τ).loc Cert.UpStepRefIdeal.main_arg7) = m ((c.tc : Thread Cert.UpStepRefIdeal.nD Cert.UpStepRefIdeal.τ).loc Cert.UpStepRefIdeal.main_arg7))
      ∧ r.2.sem = fun _ => 0)

def preserves_Gate_GateIdeal : Prop :=
  True

def preserves_DilDw_DilDwIdeal : Prop :=
  True

def preserves_DilDh_DilDhIdeal : Prop :=
  True

def preserves_NaDw_NaDwIdeal : Prop :=
  True

def preserves_NaDh_NaDhIdeal : Prop :=
  True

def preserves_ProjDw_ProjDwIdeal : Prop :=
  True

def preserves_ProjDo_ProjDoIdeal : Prop :=
  True

def preserves_Dil_DilIdeal : Prop :=
  True

def preserves_Na_NaIdeal : Prop :=
  True

def preserves_Proj_ProjIdeal : Prop :=
  True

def preserves_Ffn_FfnIdeal : Prop :=
  True

def preserves_FfnGrad_FfnGradIdeal : Prop :=
  True

def preserves_SmallStep_SmallStepIdeal : Prop :=
  True

def preserves_DilOStep_DilOStepIdeal : Prop :=
  True

def preserves_NaOStep_NaOStepIdeal : Prop :=
  True

def preserves_DilQkvStep_DilQkvStepIdeal : Prop :=
  True

def preserves_NaQkvStep_NaQkvStepIdeal : Prop :=
  True

def preserves_GateStep_GateStepIdeal : Prop :=
  True

def preserves_UpStep_UpStepIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def algebraic_DilDwIdeal_DilDwRefIdeal [hDilDwIdeal : Cert.DilDwIdeal.Facts] [hDilDwRefIdeal : Cert.DilDwRefIdeal.Facts] : Prop :=
  ∀ (m : (ℓ : Loc Cert.DilDwIdeal.nD Cert.DilDwIdeal.τ Cert.DilDwIdeal.sig) → Buf (Elt Ideal) ℓ) (g : Dev Cert.DilDwIdeal.nD → PrngReg)
    (m' : (ℓ : Loc Cert.DilDwRefIdeal.nD Cert.DilDwRefIdeal.τ Cert.DilDwRefIdeal.sig) → Buf (Elt Ideal) ℓ) (g' : Dev Cert.DilDwRefIdeal.nD → PrngReg), Pre_DilDwIdeal m →
    (∀ c : Dev Cert.DilDwIdeal.nD,
      m' ((c.tc : Thread Cert.DilDwRefIdeal.nD Cert.DilDwRefIdeal.τ).loc Cert.DilDwRefIdeal.main_arg0) = m ((c.tc : Thread Cert.DilDwIdeal.nD Cert.DilDwIdeal.τ).loc Cert.DilDwIdeal.main_arg0)
      ∧ m' ((c.tc : Thread Cert.DilDwRefIdeal.nD Cert.DilDwRefIdeal.τ).loc Cert.DilDwRefIdeal.main_arg1) = m ((c.tc : Thread Cert.DilDwIdeal.nD Cert.DilDwIdeal.τ).loc Cert.DilDwIdeal.main_arg1)
      ∧ m' ((c.tc : Thread Cert.DilDwRefIdeal.nD Cert.DilDwRefIdeal.τ).loc Cert.DilDwRefIdeal.main_arg2) = m ((c.tc : Thread Cert.DilDwIdeal.nD Cert.DilDwIdeal.τ).loc Cert.DilDwIdeal.main_arg2)) →
    ∃ (v0 : (c : Dev Cert.DilDwIdeal.nD) → Buf (Elt Ideal) ((c.tc : Thread Cert.DilDwIdeal.nD Cert.DilDwIdeal.τ).loc Cert.DilDwIdeal.main_v13)),
      θ_run (Cert.DilDwIdeal.defs (F := Ideal)) (onTc (τ := Cert.DilDwIdeal.τ) (Cert.DilDwIdeal.main (F := Ideal))) ⟨m, fun _ => 0, g⟩ (fun r => ∀ c : Dev Cert.DilDwIdeal.nD,
          r.2.mem ((c.tc : Thread Cert.DilDwIdeal.nD Cert.DilDwIdeal.τ).loc Cert.DilDwIdeal.main_v13) = v0 c
          ∧ r.2.mem ((c.tc : Thread Cert.DilDwIdeal.nD Cert.DilDwIdeal.τ).loc Cert.DilDwIdeal.main_arg0) = m ((c.tc : Thread Cert.DilDwIdeal.nD Cert.DilDwIdeal.τ).loc Cert.DilDwIdeal.main_arg0)
          ∧ r.2.mem ((c.tc : Thread Cert.DilDwIdeal.nD Cert.DilDwIdeal.τ).loc Cert.DilDwIdeal.main_arg1) = m ((c.tc : Thread Cert.DilDwIdeal.nD Cert.DilDwIdeal.τ).loc Cert.DilDwIdeal.main_arg1)
          ∧ r.2.mem ((c.tc : Thread Cert.DilDwIdeal.nD Cert.DilDwIdeal.τ).loc Cert.DilDwIdeal.main_arg2) = m ((c.tc : Thread Cert.DilDwIdeal.nD Cert.DilDwIdeal.τ).loc Cert.DilDwIdeal.main_arg2))
      ∧ θ_run (Cert.DilDwRefIdeal.defs (F := Ideal)) (onTc (τ := Cert.DilDwRefIdeal.τ) (Cert.DilDwRefIdeal.main (F := Ideal))) ⟨m', fun _ => 0, g'⟩ (fun r => ∀ c : Dev Cert.DilDwRefIdeal.nD,
          r.2.mem ((c.tc : Thread Cert.DilDwRefIdeal.nD Cert.DilDwRefIdeal.τ).loc Cert.DilDwRefIdeal.main_v11) = v0 c
          ∧ r.2.mem ((c.tc : Thread Cert.DilDwRefIdeal.nD Cert.DilDwRefIdeal.τ).loc Cert.DilDwRefIdeal.main_arg0) = m' ((c.tc : Thread Cert.DilDwRefIdeal.nD Cert.DilDwRefIdeal.τ).loc Cert.DilDwRefIdeal.main_arg0)
          ∧ r.2.mem ((c.tc : Thread Cert.DilDwRefIdeal.nD Cert.DilDwRefIdeal.τ).loc Cert.DilDwRefIdeal.main_arg1) = m' ((c.tc : Thread Cert.DilDwRefIdeal.nD Cert.DilDwRefIdeal.τ).loc Cert.DilDwRefIdeal.main_arg1)
          ∧ r.2.mem ((c.tc : Thread Cert.DilDwRefIdeal.nD Cert.DilDwRefIdeal.τ).loc Cert.DilDwRefIdeal.main_arg2) = m' ((c.tc : Thread Cert.DilDwRefIdeal.nD Cert.DilDwRefIdeal.τ).loc Cert.DilDwRefIdeal.main_arg2))

def algebraic_DilDhIdeal_DilDhRefIdeal [hDilDhIdeal : Cert.DilDhIdeal.Facts] [hDilDhRefIdeal : Cert.DilDhRefIdeal.Facts] : Prop :=
  ∀ (m : (ℓ : Loc Cert.DilDhIdeal.nD Cert.DilDhIdeal.τ Cert.DilDhIdeal.sig) → Buf (Elt Ideal) ℓ) (g : Dev Cert.DilDhIdeal.nD → PrngReg)
    (m' : (ℓ : Loc Cert.DilDhRefIdeal.nD Cert.DilDhRefIdeal.τ Cert.DilDhRefIdeal.sig) → Buf (Elt Ideal) ℓ) (g' : Dev Cert.DilDhRefIdeal.nD → PrngReg), Pre_DilDhIdeal m →
    (∀ c : Dev Cert.DilDhIdeal.nD,
      m' ((c.tc : Thread Cert.DilDhRefIdeal.nD Cert.DilDhRefIdeal.τ).loc Cert.DilDhRefIdeal.main_arg0) = m ((c.tc : Thread Cert.DilDhIdeal.nD Cert.DilDhIdeal.τ).loc Cert.DilDhIdeal.main_arg0)
      ∧ m' ((c.tc : Thread Cert.DilDhRefIdeal.nD Cert.DilDhRefIdeal.τ).loc Cert.DilDhRefIdeal.main_arg1) = m ((c.tc : Thread Cert.DilDhIdeal.nD Cert.DilDhIdeal.τ).loc Cert.DilDhIdeal.main_arg1)
      ∧ m' ((c.tc : Thread Cert.DilDhRefIdeal.nD Cert.DilDhRefIdeal.τ).loc Cert.DilDhRefIdeal.main_arg2) = m ((c.tc : Thread Cert.DilDhIdeal.nD Cert.DilDhIdeal.τ).loc Cert.DilDhIdeal.main_arg2)) →
    ∃ (v0 : (c : Dev Cert.DilDhIdeal.nD) → Buf (Elt Ideal) ((c.tc : Thread Cert.DilDhIdeal.nD Cert.DilDhIdeal.τ).loc Cert.DilDhIdeal.main_v2)),
      θ_run (Cert.DilDhIdeal.defs (F := Ideal)) (onTc (τ := Cert.DilDhIdeal.τ) (Cert.DilDhIdeal.main (F := Ideal))) ⟨m, fun _ => 0, g⟩ (fun r => ∀ c : Dev Cert.DilDhIdeal.nD,
          r.2.mem ((c.tc : Thread Cert.DilDhIdeal.nD Cert.DilDhIdeal.τ).loc Cert.DilDhIdeal.main_v2) = v0 c
          ∧ r.2.mem ((c.tc : Thread Cert.DilDhIdeal.nD Cert.DilDhIdeal.τ).loc Cert.DilDhIdeal.main_arg0) = m ((c.tc : Thread Cert.DilDhIdeal.nD Cert.DilDhIdeal.τ).loc Cert.DilDhIdeal.main_arg0)
          ∧ r.2.mem ((c.tc : Thread Cert.DilDhIdeal.nD Cert.DilDhIdeal.τ).loc Cert.DilDhIdeal.main_arg1) = m ((c.tc : Thread Cert.DilDhIdeal.nD Cert.DilDhIdeal.τ).loc Cert.DilDhIdeal.main_arg1)
          ∧ r.2.mem ((c.tc : Thread Cert.DilDhIdeal.nD Cert.DilDhIdeal.τ).loc Cert.DilDhIdeal.main_arg2) = m ((c.tc : Thread Cert.DilDhIdeal.nD Cert.DilDhIdeal.τ).loc Cert.DilDhIdeal.main_arg2))
      ∧ θ_run (Cert.DilDhRefIdeal.defs (F := Ideal)) (onTc (τ := Cert.DilDhRefIdeal.τ) (Cert.DilDhRefIdeal.main (F := Ideal))) ⟨m', fun _ => 0, g'⟩ (fun r => ∀ c : Dev Cert.DilDhRefIdeal.nD,
          r.2.mem ((c.tc : Thread Cert.DilDhRefIdeal.nD Cert.DilDhRefIdeal.τ).loc Cert.DilDhRefIdeal.main_v8) = v0 c
          ∧ r.2.mem ((c.tc : Thread Cert.DilDhRefIdeal.nD Cert.DilDhRefIdeal.τ).loc Cert.DilDhRefIdeal.main_arg0) = m' ((c.tc : Thread Cert.DilDhRefIdeal.nD Cert.DilDhRefIdeal.τ).loc Cert.DilDhRefIdeal.main_arg0)
          ∧ r.2.mem ((c.tc : Thread Cert.DilDhRefIdeal.nD Cert.DilDhRefIdeal.τ).loc Cert.DilDhRefIdeal.main_arg1) = m' ((c.tc : Thread Cert.DilDhRefIdeal.nD Cert.DilDhRefIdeal.τ).loc Cert.DilDhRefIdeal.main_arg1)
          ∧ r.2.mem ((c.tc : Thread Cert.DilDhRefIdeal.nD Cert.DilDhRefIdeal.τ).loc Cert.DilDhRefIdeal.main_arg2) = m' ((c.tc : Thread Cert.DilDhRefIdeal.nD Cert.DilDhRefIdeal.τ).loc Cert.DilDhRefIdeal.main_arg2))

def algebraic_NaDwIdeal_NaDwRefIdeal [hNaDwIdeal : Cert.NaDwIdeal.Facts] [hNaDwRefIdeal : Cert.NaDwRefIdeal.Facts] : Prop :=
  ∀ (m : (ℓ : Loc Cert.NaDwIdeal.nD Cert.NaDwIdeal.τ Cert.NaDwIdeal.sig) → Buf (Elt Ideal) ℓ) (g : Dev Cert.NaDwIdeal.nD → PrngReg)
    (m' : (ℓ : Loc Cert.NaDwRefIdeal.nD Cert.NaDwRefIdeal.τ Cert.NaDwRefIdeal.sig) → Buf (Elt Ideal) ℓ) (g' : Dev Cert.NaDwRefIdeal.nD → PrngReg), Pre_NaDwIdeal m →
    (∀ c : Dev Cert.NaDwIdeal.nD,
      m' ((c.tc : Thread Cert.NaDwRefIdeal.nD Cert.NaDwRefIdeal.τ).loc Cert.NaDwRefIdeal.main_arg0) = m ((c.tc : Thread Cert.NaDwIdeal.nD Cert.NaDwIdeal.τ).loc Cert.NaDwIdeal.main_arg0)
      ∧ m' ((c.tc : Thread Cert.NaDwRefIdeal.nD Cert.NaDwRefIdeal.τ).loc Cert.NaDwRefIdeal.main_arg1) = m ((c.tc : Thread Cert.NaDwIdeal.nD Cert.NaDwIdeal.τ).loc Cert.NaDwIdeal.main_arg1)
      ∧ m' ((c.tc : Thread Cert.NaDwRefIdeal.nD Cert.NaDwRefIdeal.τ).loc Cert.NaDwRefIdeal.main_arg2) = m ((c.tc : Thread Cert.NaDwIdeal.nD Cert.NaDwIdeal.τ).loc Cert.NaDwIdeal.main_arg2)) →
    ∃ (v0 : (c : Dev Cert.NaDwIdeal.nD) → Buf (Elt Ideal) ((c.tc : Thread Cert.NaDwIdeal.nD Cert.NaDwIdeal.τ).loc Cert.NaDwIdeal.main_v3)),
      θ_run (Cert.NaDwIdeal.defs (F := Ideal)) (onTc (τ := Cert.NaDwIdeal.τ) (Cert.NaDwIdeal.main (F := Ideal))) ⟨m, fun _ => 0, g⟩ (fun r => ∀ c : Dev Cert.NaDwIdeal.nD,
          r.2.mem ((c.tc : Thread Cert.NaDwIdeal.nD Cert.NaDwIdeal.τ).loc Cert.NaDwIdeal.main_v3) = v0 c
          ∧ r.2.mem ((c.tc : Thread Cert.NaDwIdeal.nD Cert.NaDwIdeal.τ).loc Cert.NaDwIdeal.main_arg0) = m ((c.tc : Thread Cert.NaDwIdeal.nD Cert.NaDwIdeal.τ).loc Cert.NaDwIdeal.main_arg0)
          ∧ r.2.mem ((c.tc : Thread Cert.NaDwIdeal.nD Cert.NaDwIdeal.τ).loc Cert.NaDwIdeal.main_arg1) = m ((c.tc : Thread Cert.NaDwIdeal.nD Cert.NaDwIdeal.τ).loc Cert.NaDwIdeal.main_arg1)
          ∧ r.2.mem ((c.tc : Thread Cert.NaDwIdeal.nD Cert.NaDwIdeal.τ).loc Cert.NaDwIdeal.main_arg2) = m ((c.tc : Thread Cert.NaDwIdeal.nD Cert.NaDwIdeal.τ).loc Cert.NaDwIdeal.main_arg2))
      ∧ θ_run (Cert.NaDwRefIdeal.defs (F := Ideal)) (onTc (τ := Cert.NaDwRefIdeal.τ) (Cert.NaDwRefIdeal.main (F := Ideal))) ⟨m', fun _ => 0, g'⟩ (fun r => ∀ c : Dev Cert.NaDwRefIdeal.nD,
          r.2.mem ((c.tc : Thread Cert.NaDwRefIdeal.nD Cert.NaDwRefIdeal.τ).loc Cert.NaDwRefIdeal.main_v7) = v0 c
          ∧ r.2.mem ((c.tc : Thread Cert.NaDwRefIdeal.nD Cert.NaDwRefIdeal.τ).loc Cert.NaDwRefIdeal.main_arg0) = m' ((c.tc : Thread Cert.NaDwRefIdeal.nD Cert.NaDwRefIdeal.τ).loc Cert.NaDwRefIdeal.main_arg0)
          ∧ r.2.mem ((c.tc : Thread Cert.NaDwRefIdeal.nD Cert.NaDwRefIdeal.τ).loc Cert.NaDwRefIdeal.main_arg1) = m' ((c.tc : Thread Cert.NaDwRefIdeal.nD Cert.NaDwRefIdeal.τ).loc Cert.NaDwRefIdeal.main_arg1)
          ∧ r.2.mem ((c.tc : Thread Cert.NaDwRefIdeal.nD Cert.NaDwRefIdeal.τ).loc Cert.NaDwRefIdeal.main_arg2) = m' ((c.tc : Thread Cert.NaDwRefIdeal.nD Cert.NaDwRefIdeal.τ).loc Cert.NaDwRefIdeal.main_arg2))

def algebraic_NaDhIdeal_NaDhRefIdeal [hNaDhIdeal : Cert.NaDhIdeal.Facts] [hNaDhRefIdeal : Cert.NaDhRefIdeal.Facts] : Prop :=
  ∀ (m : (ℓ : Loc Cert.NaDhIdeal.nD Cert.NaDhIdeal.τ Cert.NaDhIdeal.sig) → Buf (Elt Ideal) ℓ) (g : Dev Cert.NaDhIdeal.nD → PrngReg)
    (m' : (ℓ : Loc Cert.NaDhRefIdeal.nD Cert.NaDhRefIdeal.τ Cert.NaDhRefIdeal.sig) → Buf (Elt Ideal) ℓ) (g' : Dev Cert.NaDhRefIdeal.nD → PrngReg), Pre_NaDhIdeal m →
    (∀ c : Dev Cert.NaDhIdeal.nD,
      m' ((c.tc : Thread Cert.NaDhRefIdeal.nD Cert.NaDhRefIdeal.τ).loc Cert.NaDhRefIdeal.main_arg0) = m ((c.tc : Thread Cert.NaDhIdeal.nD Cert.NaDhIdeal.τ).loc Cert.NaDhIdeal.main_arg0)
      ∧ m' ((c.tc : Thread Cert.NaDhRefIdeal.nD Cert.NaDhRefIdeal.τ).loc Cert.NaDhRefIdeal.main_arg1) = m ((c.tc : Thread Cert.NaDhIdeal.nD Cert.NaDhIdeal.τ).loc Cert.NaDhIdeal.main_arg1)
      ∧ m' ((c.tc : Thread Cert.NaDhRefIdeal.nD Cert.NaDhRefIdeal.τ).loc Cert.NaDhRefIdeal.main_arg2) = m ((c.tc : Thread Cert.NaDhIdeal.nD Cert.NaDhIdeal.τ).loc Cert.NaDhIdeal.main_arg2)) →
    ∃ (v0 : (c : Dev Cert.NaDhIdeal.nD) → Buf (Elt Ideal) ((c.tc : Thread Cert.NaDhIdeal.nD Cert.NaDhIdeal.τ).loc Cert.NaDhIdeal.main_v2)),
      θ_run (Cert.NaDhIdeal.defs (F := Ideal)) (onTc (τ := Cert.NaDhIdeal.τ) (Cert.NaDhIdeal.main (F := Ideal))) ⟨m, fun _ => 0, g⟩ (fun r => ∀ c : Dev Cert.NaDhIdeal.nD,
          r.2.mem ((c.tc : Thread Cert.NaDhIdeal.nD Cert.NaDhIdeal.τ).loc Cert.NaDhIdeal.main_v2) = v0 c
          ∧ r.2.mem ((c.tc : Thread Cert.NaDhIdeal.nD Cert.NaDhIdeal.τ).loc Cert.NaDhIdeal.main_arg0) = m ((c.tc : Thread Cert.NaDhIdeal.nD Cert.NaDhIdeal.τ).loc Cert.NaDhIdeal.main_arg0)
          ∧ r.2.mem ((c.tc : Thread Cert.NaDhIdeal.nD Cert.NaDhIdeal.τ).loc Cert.NaDhIdeal.main_arg1) = m ((c.tc : Thread Cert.NaDhIdeal.nD Cert.NaDhIdeal.τ).loc Cert.NaDhIdeal.main_arg1)
          ∧ r.2.mem ((c.tc : Thread Cert.NaDhIdeal.nD Cert.NaDhIdeal.τ).loc Cert.NaDhIdeal.main_arg2) = m ((c.tc : Thread Cert.NaDhIdeal.nD Cert.NaDhIdeal.τ).loc Cert.NaDhIdeal.main_arg2))
      ∧ θ_run (Cert.NaDhRefIdeal.defs (F := Ideal)) (onTc (τ := Cert.NaDhRefIdeal.τ) (Cert.NaDhRefIdeal.main (F := Ideal))) ⟨m', fun _ => 0, g'⟩ (fun r => ∀ c : Dev Cert.NaDhRefIdeal.nD,
          r.2.mem ((c.tc : Thread Cert.NaDhRefIdeal.nD Cert.NaDhRefIdeal.τ).loc Cert.NaDhRefIdeal.main_v6) = v0 c
          ∧ r.2.mem ((c.tc : Thread Cert.NaDhRefIdeal.nD Cert.NaDhRefIdeal.τ).loc Cert.NaDhRefIdeal.main_arg0) = m' ((c.tc : Thread Cert.NaDhRefIdeal.nD Cert.NaDhRefIdeal.τ).loc Cert.NaDhRefIdeal.main_arg0)
          ∧ r.2.mem ((c.tc : Thread Cert.NaDhRefIdeal.nD Cert.NaDhRefIdeal.τ).loc Cert.NaDhRefIdeal.main_arg1) = m' ((c.tc : Thread Cert.NaDhRefIdeal.nD Cert.NaDhRefIdeal.τ).loc Cert.NaDhRefIdeal.main_arg1)
          ∧ r.2.mem ((c.tc : Thread Cert.NaDhRefIdeal.nD Cert.NaDhRefIdeal.τ).loc Cert.NaDhRefIdeal.main_arg2) = m' ((c.tc : Thread Cert.NaDhRefIdeal.nD Cert.NaDhRefIdeal.τ).loc Cert.NaDhRefIdeal.main_arg2))

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v3)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v3) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v3) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def algebraic_ProjDoIdeal_ProjDoRefIdeal [hProjDoIdeal : Cert.ProjDoIdeal.Facts] [hProjDoRefIdeal : Cert.ProjDoRefIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg)
    (m' : (ℓ : Loc Cert.ProjDoRefIdeal.nD Cert.ProjDoRefIdeal.τ Cert.ProjDoRefIdeal.sig) → Buf (Elt Ideal) ℓ) (g' : Dev Cert.ProjDoRefIdeal.nD → PrngReg), Pre_ProjDoIdeal m →
    (∀ c : Dev Cert.ProjDoIdeal.nD,
      m' ((c.tc : Thread Cert.ProjDoRefIdeal.nD Cert.ProjDoRefIdeal.τ).loc Cert.ProjDoRefIdeal.main_arg0) = m ((c.tc : Thread Cert.ProjDoIdeal.nD Cert.ProjDoIdeal.τ).loc Cert.ProjDoIdeal.main_arg0)
      ∧ m' ((c.tc : Thread Cert.ProjDoRefIdeal.nD Cert.ProjDoRefIdeal.τ).loc Cert.ProjDoRefIdeal.main_arg1) = m ((c.tc : Thread Cert.ProjDoIdeal.nD Cert.ProjDoIdeal.τ).loc Cert.ProjDoIdeal.main_arg1)
      ∧ m' ((c.tc : Thread Cert.ProjDoRefIdeal.nD Cert.ProjDoRefIdeal.τ).loc Cert.ProjDoRefIdeal.main_arg2) = m ((c.tc : Thread Cert.ProjDoIdeal.nD Cert.ProjDoIdeal.τ).loc Cert.ProjDoIdeal.main_arg2)) →
    ∃ (v0 : (c : Dev Cert.ProjDoIdeal.nD) → Buf (Elt Ideal) ((c.tc : Thread Cert.ProjDoIdeal.nD Cert.ProjDoIdeal.τ).loc Cert.ProjDoIdeal.main_v2)),
      θ_run (Cert.ProjDoIdeal.defs (F := Ideal)) (onTc (τ := Cert.ProjDoIdeal.τ) (Cert.ProjDoIdeal.main (F := Ideal))) ⟨m, fun _ => 0, g⟩ (fun r => ∀ c : Dev Cert.ProjDoIdeal.nD,
          r.2.mem ((c.tc : Thread Cert.ProjDoIdeal.nD Cert.ProjDoIdeal.τ).loc Cert.ProjDoIdeal.main_v2) = v0 c
          ∧ r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
          ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1)
          ∧ r.2.mem ((c.tc : Thread Cert.ProjDoIdeal.nD Cert.ProjDoIdeal.τ).loc Cert.ProjDoIdeal.main_arg2) = m ((c.tc : Thread Cert.ProjDoIdeal.nD Cert.ProjDoIdeal.τ).loc Cert.ProjDoIdeal.main_arg2))
      ∧ θ_run (Cert.ProjDoRefIdeal.defs (F := Ideal)) (onTc (τ := Cert.ProjDoRefIdeal.τ) (Cert.ProjDoRefIdeal.main (F := Ideal))) ⟨m', fun _ => 0, g'⟩ (fun r => ∀ c : Dev Cert.ProjDoRefIdeal.nD,
          r.2.mem ((c.tc : Thread Cert.ProjDoRefIdeal.nD Cert.ProjDoRefIdeal.τ).loc Cert.ProjDoRefIdeal.main_v2) = v0 c
          ∧ r.2.mem ((c.tc : Thread Cert.ProjDoRefIdeal.nD Cert.ProjDoRefIdeal.τ).loc Cert.ProjDoRefIdeal.main_arg0) = m' ((c.tc : Thread Cert.ProjDoRefIdeal.nD Cert.ProjDoRefIdeal.τ).loc Cert.ProjDoRefIdeal.main_arg0)
          ∧ r.2.mem ((c.tc : Thread Cert.ProjDoRefIdeal.nD Cert.ProjDoRefIdeal.τ).loc Cert.ProjDoRefIdeal.main_arg1) = m' ((c.tc : Thread Cert.ProjDoRefIdeal.nD Cert.ProjDoRefIdeal.τ).loc Cert.ProjDoRefIdeal.main_arg1)
          ∧ r.2.mem ((c.tc : Thread Cert.ProjDoRefIdeal.nD Cert.ProjDoRefIdeal.τ).loc Cert.ProjDoRefIdeal.main_arg2) = m' ((c.tc : Thread Cert.ProjDoRefIdeal.nD Cert.ProjDoRefIdeal.τ).loc Cert.ProjDoRefIdeal.main_arg2))

def algebraic_DilIdeal_DilRefIdeal [hDilIdeal : Cert.DilIdeal.Facts] [hDilRefIdeal : Cert.DilRefIdeal.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)) →
    ∃ (v0 : (c : Dev Cert.DilIdeal.nD) → Buf (Elt Ideal) ((c.tc : Thread Cert.DilIdeal.nD Cert.DilIdeal.τ).loc Cert.DilIdeal.main_v10)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v10) = v0 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v4) = v0 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1))

def algebraic_NaIdeal_NaRefIdeal [hNaIdeal : Cert.NaIdeal.Facts] [hNaRefIdeal : Cert.NaRefIdeal.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v2)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v2) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v1) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)) (v2 : (c : Dev Cert.FfnIdeal.nD) → Buf (Elt Ideal) ((c.tc : Thread Cert.FfnIdeal.nD Cert.FfnIdeal.τ).loc Cert.FfnIdeal.main_v3_2)) (v3 : (c : Dev Cert.FfnIdeal.nD) → Buf (Elt Ideal) ((c.tc : Thread Cert.FfnIdeal.nD Cert.FfnIdeal.τ).loc Cert.FfnIdeal.main_v3_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_v3_2) = v2 c
          ∧ r.2.mem ((c.tc : Thread Cert.FfnIdeal.nD Cert.FfnIdeal.τ).loc Cert.FfnIdeal.main_v3_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v10) = v0 c
          ∧ r.2.mem ((c.tc : Thread Cert.FfnRefIdeal.nD Cert.FfnRefIdeal.τ).loc Cert.FfnRefIdeal.main_v11) = v1 c
          ∧ r.2.mem ((c.tc : Thread Cert.FfnRefIdeal.nD Cert.FfnRefIdeal.τ).loc Cert.FfnRefIdeal.main_v12) = v2 c
          ∧ r.2.mem ((c.tc : Thread Cert.FfnRefIdeal.nD Cert.FfnRefIdeal.τ).loc Cert.FfnRefIdeal.main_v14) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def algebraic_FfnGradIdeal_FfnGradRefIdeal_pre_finite [hFfnGradIdeal : Cert.FfnGradIdeal.Facts] [hFfnGradRefIdeal : Cert.FfnGradRefIdeal.Facts] [hPre_finite : Cert.Pre_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnGradRefIdeal.nD Cert.FfnGradRefIdeal.τ Cert.FfnGradRefIdeal.sig) → Buf (Elt Ideal) ℓ) (g' : Dev Cert.FfnGradRefIdeal.nD → PrngReg), Pre_FfnGradIdeal_finite m →
    (∀ c : Dev Cert.FfnGradIdeal.nD,
      m' ((c.tc : Thread Cert.FfnGradRefIdeal.nD Cert.FfnGradRefIdeal.τ).loc Cert.FfnGradRefIdeal.main_arg0) = m ((c.tc : Thread Cert.FfnGradIdeal.nD Cert.FfnGradIdeal.τ).loc Cert.FfnGradIdeal.main_arg0)
      ∧ m' ((c.tc : Thread Cert.FfnGradRefIdeal.nD Cert.FfnGradRefIdeal.τ).loc Cert.FfnGradRefIdeal.main_arg1) = m ((c.tc : Thread Cert.FfnGradIdeal.nD Cert.FfnGradIdeal.τ).loc Cert.FfnGradIdeal.main_arg1)
      ∧ m' ((c.tc : Thread Cert.FfnGradRefIdeal.nD Cert.FfnGradRefIdeal.τ).loc Cert.FfnGradRefIdeal.main_arg2) = m ((c.tc : Thread Cert.FfnGradIdeal.nD Cert.FfnGradIdeal.τ).loc Cert.FfnGradIdeal.main_arg2)
      ∧ m' ((c.tc : Thread Cert.FfnGradRefIdeal.nD Cert.FfnGradRefIdeal.τ).loc Cert.FfnGradRefIdeal.main_arg3) = m ((c.tc : Thread Cert.FfnGradIdeal.nD Cert.FfnGradIdeal.τ).loc Cert.FfnGradIdeal.main_arg3)) →
    ∃ (v0 : (c : Dev Cert.FfnGradIdeal.nD) → Buf (Elt Ideal) ((c.tc : Thread Cert.FfnGradIdeal.nD Cert.FfnGradIdeal.τ).loc Cert.FfnGradIdeal.main_v17_0)) (v1 : (c : Dev Cert.FfnGradIdeal.nD) → Buf (Elt Ideal) ((c.tc : Thread Cert.FfnGradIdeal.nD Cert.FfnGradIdeal.τ).loc Cert.FfnGradIdeal.main_v17_1)) (v2 : (c : Dev Cert.FfnGradIdeal.nD) → Buf (Elt Ideal) ((c.tc : Thread Cert.FfnGradIdeal.nD Cert.FfnGradIdeal.τ).loc Cert.FfnGradIdeal.main_v17_2)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v17_0) = v0 c
          ∧ r.2.mem ((c.tc : Thread Cert.FfnGradIdeal.nD Cert.FfnGradIdeal.τ).loc Cert.FfnGradIdeal.main_v17_1) = v1 c
          ∧ r.2.mem ((c.tc : Thread Cert.FfnGradIdeal.nD Cert.FfnGradIdeal.τ).loc Cert.FfnGradIdeal.main_v17_2) = v2 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ θ_run (Cert.FfnGradRefIdeal.defs (F := Ideal)) (onTc (τ := Cert.FfnGradRefIdeal.τ) (Cert.FfnGradRefIdeal.main (F := Ideal))) ⟨m', fun _ => 0, g'⟩ (fun r => ∀ c : Dev Cert.FfnGradRefIdeal.nD,
          r.2.mem ((c.tc : Thread Cert.FfnGradRefIdeal.nD Cert.FfnGradRefIdeal.τ).loc Cert.FfnGradRefIdeal.main_v26) = v0 c
          ∧ r.2.mem ((c.tc : Thread Cert.FfnGradRefIdeal.nD Cert.FfnGradRefIdeal.τ).loc Cert.FfnGradRefIdeal.main_v22) = v1 c
          ∧ r.2.mem ((c.tc : Thread Cert.FfnGradRefIdeal.nD Cert.FfnGradRefIdeal.τ).loc Cert.FfnGradRefIdeal.main_v27) = v2 c
          ∧ r.2.mem ((c.tc : Thread Cert.FfnGradRefIdeal.nD Cert.FfnGradRefIdeal.τ).loc Cert.FfnGradRefIdeal.main_arg0) = m' ((c.tc : Thread Cert.FfnGradRefIdeal.nD Cert.FfnGradRefIdeal.τ).loc Cert.FfnGradRefIdeal.main_arg0)
          ∧ r.2.mem ((c.tc : Thread Cert.FfnGradRefIdeal.nD Cert.FfnGradRefIdeal.τ).loc Cert.FfnGradRefIdeal.main_arg1) = m' ((c.tc : Thread Cert.FfnGradRefIdeal.nD Cert.FfnGradRefIdeal.τ).loc Cert.FfnGradRefIdeal.main_arg1)
          ∧ r.2.mem ((c.tc : Thread Cert.FfnGradRefIdeal.nD Cert.FfnGradRefIdeal.τ).loc Cert.FfnGradRefIdeal.main_arg2) = m' ((c.tc : Thread Cert.FfnGradRefIdeal.nD Cert.FfnGradRefIdeal.τ).loc Cert.FfnGradRefIdeal.main_arg2)
          ∧ r.2.mem ((c.tc : Thread Cert.FfnGradRefIdeal.nD Cert.FfnGradRefIdeal.τ).loc Cert.FfnGradRefIdeal.main_arg3) = m' ((c.tc : Thread Cert.FfnGradRefIdeal.nD Cert.FfnGradRefIdeal.τ).loc Cert.FfnGradRefIdeal.main_arg3))

def algebraic_SmallStepIdeal_SmallStepRefIdeal [hSmallStepIdeal : Cert.SmallStepIdeal.Facts] [hSmallStepRefIdeal : Cert.SmallStepRefIdeal.Facts] : Prop :=
  ∀ (m : (ℓ : Loc Cert.SmallStepIdeal.nD Cert.SmallStepIdeal.τ Cert.SmallStepIdeal.sig) → Buf (Elt Ideal) ℓ) (g : Dev Cert.SmallStepIdeal.nD → PrngReg)
    (m' : (ℓ : Loc Cert.SmallStepRefIdeal.nD Cert.SmallStepRefIdeal.τ Cert.SmallStepRefIdeal.sig) → Buf (Elt Ideal) ℓ) (g' : Dev Cert.SmallStepRefIdeal.nD → PrngReg), Pre_SmallStepIdeal m →
    (∀ c : Dev Cert.SmallStepIdeal.nD,
      m' ((c.tc : Thread Cert.SmallStepRefIdeal.nD Cert.SmallStepRefIdeal.τ).loc Cert.SmallStepRefIdeal.main_arg0) = m ((c.tc : Thread Cert.SmallStepIdeal.nD Cert.SmallStepIdeal.τ).loc Cert.SmallStepIdeal.main_arg0)
      ∧ m' ((c.tc : Thread Cert.SmallStepRefIdeal.nD Cert.SmallStepRefIdeal.τ).loc Cert.SmallStepRefIdeal.main_arg1) = m ((c.tc : Thread Cert.SmallStepIdeal.nD Cert.SmallStepIdeal.τ).loc Cert.SmallStepIdeal.main_arg1)
      ∧ m' ((c.tc : Thread Cert.SmallStepRefIdeal.nD Cert.SmallStepRefIdeal.τ).loc Cert.SmallStepRefIdeal.main_arg2) = m ((c.tc : Thread Cert.SmallStepIdeal.nD Cert.SmallStepIdeal.τ).loc Cert.SmallStepIdeal.main_arg2)
      ∧ m' ((c.tc : Thread Cert.SmallStepRefIdeal.nD Cert.SmallStepRefIdeal.τ).loc Cert.SmallStepRefIdeal.main_arg3) = m ((c.tc : Thread Cert.SmallStepIdeal.nD Cert.SmallStepIdeal.τ).loc Cert.SmallStepIdeal.main_arg3)
      ∧ m' ((c.tc : Thread Cert.SmallStepRefIdeal.nD Cert.SmallStepRefIdeal.τ).loc Cert.SmallStepRefIdeal.main_arg4) = m ((c.tc : Thread Cert.SmallStepIdeal.nD Cert.SmallStepIdeal.τ).loc Cert.SmallStepIdeal.main_arg4)) →
    ∃ (v0 : (c : Dev Cert.SmallStepIdeal.nD) → Buf (Elt Ideal) ((c.tc : Thread Cert.SmallStepIdeal.nD Cert.SmallStepIdeal.τ).loc Cert.SmallStepIdeal.main_v0_0)) (v1 : (c : Dev Cert.SmallStepIdeal.nD) → Buf (Elt Ideal) ((c.tc : Thread Cert.SmallStepIdeal.nD Cert.SmallStepIdeal.τ).loc Cert.SmallStepIdeal.main_v0_1)) (v2 : (c : Dev Cert.SmallStepIdeal.nD) → Buf (Elt Ideal) ((c.tc : Thread Cert.SmallStepIdeal.nD Cert.SmallStepIdeal.τ).loc Cert.SmallStepIdeal.main_v0_2)) (v3 : (c : Dev Cert.SmallStepIdeal.nD) → Buf (Elt Ideal) ((c.tc : Thread Cert.SmallStepIdeal.nD Cert.SmallStepIdeal.τ).loc Cert.SmallStepIdeal.main_v0_3)),
      θ_run (Cert.SmallStepIdeal.defs (F := Ideal)) (onTc (τ := Cert.SmallStepIdeal.τ) (Cert.SmallStepIdeal.main (F := Ideal))) ⟨m, fun _ => 0, g⟩ (fun r => ∀ c : Dev Cert.SmallStepIdeal.nD,
          r.2.mem ((c.tc : Thread Cert.SmallStepIdeal.nD Cert.SmallStepIdeal.τ).loc Cert.SmallStepIdeal.main_v0_0) = v0 c
          ∧ r.2.mem ((c.tc : Thread Cert.SmallStepIdeal.nD Cert.SmallStepIdeal.τ).loc Cert.SmallStepIdeal.main_v0_1) = v1 c
          ∧ r.2.mem ((c.tc : Thread Cert.SmallStepIdeal.nD Cert.SmallStepIdeal.τ).loc Cert.SmallStepIdeal.main_v0_2) = v2 c
          ∧ r.2.mem ((c.tc : Thread Cert.SmallStepIdeal.nD Cert.SmallStepIdeal.τ).loc Cert.SmallStepIdeal.main_v0_3) = v3 c
          ∧ r.2.mem ((c.tc : Thread Cert.SmallStepIdeal.nD Cert.SmallStepIdeal.τ).loc Cert.SmallStepIdeal.main_arg0) = m ((c.tc : Thread Cert.SmallStepIdeal.nD Cert.SmallStepIdeal.τ).loc Cert.SmallStepIdeal.main_arg0)
          ∧ r.2.mem ((c.tc : Thread Cert.SmallStepIdeal.nD Cert.SmallStepIdeal.τ).loc Cert.SmallStepIdeal.main_arg1) = m ((c.tc : Thread Cert.SmallStepIdeal.nD Cert.SmallStepIdeal.τ).loc Cert.SmallStepIdeal.main_arg1)
          ∧ r.2.mem ((c.tc : Thread Cert.SmallStepIdeal.nD Cert.SmallStepIdeal.τ).loc Cert.SmallStepIdeal.main_arg2) = m ((c.tc : Thread Cert.SmallStepIdeal.nD Cert.SmallStepIdeal.τ).loc Cert.SmallStepIdeal.main_arg2)
          ∧ r.2.mem ((c.tc : Thread Cert.SmallStepIdeal.nD Cert.SmallStepIdeal.τ).loc Cert.SmallStepIdeal.main_arg3) = m ((c.tc : Thread Cert.SmallStepIdeal.nD Cert.SmallStepIdeal.τ).loc Cert.SmallStepIdeal.main_arg3)
          ∧ r.2.mem ((c.tc : Thread Cert.SmallStepIdeal.nD Cert.SmallStepIdeal.τ).loc Cert.SmallStepIdeal.main_arg4) = m ((c.tc : Thread Cert.SmallStepIdeal.nD Cert.SmallStepIdeal.τ).loc Cert.SmallStepIdeal.main_arg4))
      ∧ θ_run (Cert.SmallStepRefIdeal.defs (F := Ideal)) (onTc (τ := Cert.SmallStepRefIdeal.τ) (Cert.SmallStepRefIdeal.main (F := Ideal))) ⟨m', fun _ => 0, g'⟩ (fun r => ∀ c : Dev Cert.SmallStepRefIdeal.nD,
          r.2.mem ((c.tc : Thread Cert.SmallStepRefIdeal.nD Cert.SmallStepRefIdeal.τ).loc Cert.SmallStepRefIdeal.main_v1) = v0 c
          ∧ r.2.mem ((c.tc : Thread Cert.SmallStepRefIdeal.nD Cert.SmallStepRefIdeal.τ).loc Cert.SmallStepRefIdeal.main_v25) = v1 c
          ∧ r.2.mem ((c.tc : Thread Cert.SmallStepRefIdeal.nD Cert.SmallStepRefIdeal.τ).loc Cert.SmallStepRefIdeal.main_v6) = v2 c
          ∧ r.2.mem ((c.tc : Thread Cert.SmallStepRefIdeal.nD Cert.SmallStepRefIdeal.τ).loc Cert.SmallStepRefIdeal.main_v12) = v3 c
          ∧ r.2.mem ((c.tc : Thread Cert.SmallStepRefIdeal.nD Cert.SmallStepRefIdeal.τ).loc Cert.SmallStepRefIdeal.main_arg0) = m' ((c.tc : Thread Cert.SmallStepRefIdeal.nD Cert.SmallStepRefIdeal.τ).loc Cert.SmallStepRefIdeal.main_arg0)
          ∧ r.2.mem ((c.tc : Thread Cert.SmallStepRefIdeal.nD Cert.SmallStepRefIdeal.τ).loc Cert.SmallStepRefIdeal.main_arg1) = m' ((c.tc : Thread Cert.SmallStepRefIdeal.nD Cert.SmallStepRefIdeal.τ).loc Cert.SmallStepRefIdeal.main_arg1)
          ∧ r.2.mem ((c.tc : Thread Cert.SmallStepRefIdeal.nD Cert.SmallStepRefIdeal.τ).loc Cert.SmallStepRefIdeal.main_arg2) = m' ((c.tc : Thread Cert.SmallStepRefIdeal.nD Cert.SmallStepRefIdeal.τ).loc Cert.SmallStepRefIdeal.main_arg2)
          ∧ r.2.mem ((c.tc : Thread Cert.SmallStepRefIdeal.nD Cert.SmallStepRefIdeal.τ).loc Cert.SmallStepRefIdeal.main_arg3) = m' ((c.tc : Thread Cert.SmallStepRefIdeal.nD Cert.SmallStepRefIdeal.τ).loc Cert.SmallStepRefIdeal.main_arg3)
          ∧ r.2.mem ((c.tc : Thread Cert.SmallStepRefIdeal.nD Cert.SmallStepRefIdeal.τ).loc Cert.SmallStepRefIdeal.main_arg4) = m' ((c.tc : Thread Cert.SmallStepRefIdeal.nD Cert.SmallStepRefIdeal.τ).loc Cert.SmallStepRefIdeal.main_arg4))

def algebraic_DilOStepIdeal_DilOStepRefIdeal [hDilOStepIdeal : Cert.DilOStepIdeal.Facts] [hDilOStepRefIdeal : Cert.DilOStepRefIdeal.Facts] [hPre_numbered_out : Cert.Pre_numbered_out.Facts] : Prop :=
  ∀ (m : (ℓ : Loc Cert.DilOStepIdeal.nD Cert.DilOStepIdeal.τ Cert.DilOStepIdeal.sig) → Buf (Elt Ideal) ℓ) (g : Dev Cert.DilOStepIdeal.nD → PrngReg)
    (m' : (ℓ : Loc Cert.DilOStepRefIdeal.nD Cert.DilOStepRefIdeal.τ Cert.DilOStepRefIdeal.sig) → Buf (Elt Ideal) ℓ) (g' : Dev Cert.DilOStepRefIdeal.nD → PrngReg), Pre_DilOStepIdeal m →
    (∀ c : Dev Cert.DilOStepIdeal.nD,
      m' ((c.tc : Thread Cert.DilOStepRefIdeal.nD Cert.DilOStepRefIdeal.τ).loc Cert.DilOStepRefIdeal.main_arg0) = m ((c.tc : Thread Cert.DilOStepIdeal.nD Cert.DilOStepIdeal.τ).loc Cert.DilOStepIdeal.main_arg0)
      ∧ m' ((c.tc : Thread Cert.DilOStepRefIdeal.nD Cert.DilOStepRefIdeal.τ).loc Cert.DilOStepRefIdeal.main_arg1) = m ((c.tc : Thread Cert.DilOStepIdeal.nD Cert.DilOStepIdeal.τ).loc Cert.DilOStepIdeal.main_arg1)
      ∧ m' ((c.tc : Thread Cert.DilOStepRefIdeal.nD Cert.DilOStepRefIdeal.τ).loc Cert.DilOStepRefIdeal.main_arg2) = m ((c.tc : Thread Cert.DilOStepIdeal.nD Cert.DilOStepIdeal.τ).loc Cert.DilOStepIdeal.main_arg2)
      ∧ m' ((c.tc : Thread Cert.DilOStepRefIdeal.nD Cert.DilOStepRefIdeal.τ).loc Cert.DilOStepRefIdeal.main_arg3) = m ((c.tc : Thread Cert.DilOStepIdeal.nD Cert.DilOStepIdeal.τ).loc Cert.DilOStepIdeal.main_arg3)
      ∧ m' ((c.tc : Thread Cert.DilOStepRefIdeal.nD Cert.DilOStepRefIdeal.τ).loc Cert.DilOStepRefIdeal.main_arg4) = m ((c.tc : Thread Cert.DilOStepIdeal.nD Cert.DilOStepIdeal.τ).loc Cert.DilOStepIdeal.main_arg4)
      ∧ m' ((c.tc : Thread Cert.DilOStepRefIdeal.nD Cert.DilOStepRefIdeal.τ).loc Cert.DilOStepRefIdeal.main_arg5) = m ((c.tc : Thread Cert.DilOStepIdeal.nD Cert.DilOStepIdeal.τ).loc Cert.DilOStepIdeal.main_arg5)) →
    ∃ (v0 : (c : Dev Cert.DilOStepIdeal.nD) → Buf (Elt Ideal) ((c.tc : Thread Cert.DilOStepIdeal.nD Cert.DilOStepIdeal.τ).loc Cert.DilOStepIdeal.main_v2_0)) (v1 : (c : Dev Cert.DilOStepIdeal.nD) → Buf (Elt Ideal) ((c.tc : Thread Cert.DilOStepIdeal.nD Cert.DilOStepIdeal.τ).loc Cert.DilOStepIdeal.main_v2_1)) (v2 : (c : Dev Cert.DilOStepIdeal.nD) → Buf (Elt Ideal) ((c.tc : Thread Cert.DilOStepIdeal.nD Cert.DilOStepIdeal.τ).loc Cert.DilOStepIdeal.main_v2_2)) (v3 : (c : Dev Cert.DilOStepIdeal.nD) → Buf (Elt Ideal) ((c.tc : Thread Cert.DilOStepIdeal.nD Cert.DilOStepIdeal.τ).loc Cert.DilOStepIdeal.main_v2_3)),
      θ_run (Cert.DilOStepIdeal.defs (F := Ideal)) (onTc (τ := Cert.DilOStepIdeal.τ) (Cert.DilOStepIdeal.main (F := Ideal))) ⟨m, fun _ => 0, g⟩ (fun r => ∀ c : Dev Cert.DilOStepIdeal.nD,
          r.2.mem ((c.tc : Thread Cert.DilOStepIdeal.nD Cert.DilOStepIdeal.τ).loc Cert.DilOStepIdeal.main_v2_0) = v0 c
          ∧ r.2.mem ((c.tc : Thread Cert.DilOStepIdeal.nD Cert.DilOStepIdeal.τ).loc Cert.DilOStepIdeal.main_v2_1) = v1 c
          ∧ r.2.mem ((c.tc : Thread Cert.DilOStepIdeal.nD Cert.DilOStepIdeal.τ).loc Cert.DilOStepIdeal.main_v2_2) = v2 c
          ∧ r.2.mem ((c.tc : Thread Cert.DilOStepIdeal.nD Cert.DilOStepIdeal.τ).loc Cert.DilOStepIdeal.main_v2_3) = v3 c
          ∧ r.2.mem ((c.tc : Thread Cert.DilOStepIdeal.nD Cert.DilOStepIdeal.τ).loc Cert.DilOStepIdeal.main_arg0) = m ((c.tc : Thread Cert.DilOStepIdeal.nD Cert.DilOStepIdeal.τ).loc Cert.DilOStepIdeal.main_arg0)
          ∧ r.2.mem ((c.tc : Thread Cert.DilOStepIdeal.nD Cert.DilOStepIdeal.τ).loc Cert.DilOStepIdeal.main_arg1) = m ((c.tc : Thread Cert.DilOStepIdeal.nD Cert.DilOStepIdeal.τ).loc Cert.DilOStepIdeal.main_arg1)
          ∧ r.2.mem ((c.tc : Thread Cert.DilOStepIdeal.nD Cert.DilOStepIdeal.τ).loc Cert.DilOStepIdeal.main_arg2) = m ((c.tc : Thread Cert.DilOStepIdeal.nD Cert.DilOStepIdeal.τ).loc Cert.DilOStepIdeal.main_arg2)
          ∧ r.2.mem ((c.tc : Thread Cert.DilOStepIdeal.nD Cert.DilOStepIdeal.τ).loc Cert.DilOStepIdeal.main_arg3) = m ((c.tc : Thread Cert.DilOStepIdeal.nD Cert.DilOStepIdeal.τ).loc Cert.DilOStepIdeal.main_arg3)
          ∧ r.2.mem ((c.tc : Thread Cert.DilOStepIdeal.nD Cert.DilOStepIdeal.τ).loc Cert.DilOStepIdeal.main_arg4) = m ((c.tc : Thread Cert.DilOStepIdeal.nD Cert.DilOStepIdeal.τ).loc Cert.DilOStepIdeal.main_arg4)
          ∧ r.2.mem ((c.tc : Thread Cert.DilOStepIdeal.nD Cert.DilOStepIdeal.τ).loc Cert.DilOStepIdeal.main_arg5) = m ((c.tc : Thread Cert.DilOStepIdeal.nD Cert.DilOStepIdeal.τ).loc Cert.DilOStepIdeal.main_arg5))
      ∧ θ_run (Cert.DilOStepRefIdeal.defs (F := Ideal)) (onTc (τ := Cert.DilOStepRefIdeal.τ) (Cert.DilOStepRefIdeal.main (F := Ideal))) ⟨m', fun _ => 0, g'⟩ (fun r => ∀ c : Dev Cert.DilOStepRefIdeal.nD,
          r.2.mem ((c.tc : Thread Cert.DilOStepRefIdeal.nD Cert.DilOStepRefIdeal.τ).loc Cert.DilOStepRefIdeal.main_v9) = v0 c
          ∧ r.2.mem ((c.tc : Thread Cert.DilOStepRefIdeal.nD Cert.DilOStepRefIdeal.τ).loc Cert.DilOStepRefIdeal.main_v33) = v1 c
          ∧ r.2.mem ((c.tc : Thread Cert.DilOStepRefIdeal.nD Cert.DilOStepRefIdeal.τ).loc Cert.DilOStepRefIdeal.main_v14) = v2 c
          ∧ r.2.mem ((c.tc : Thread Cert.DilOStepRefIdeal.nD Cert.DilOStepRefIdeal.τ).loc Cert.DilOStepRefIdeal.main_v20) = v3 c
          ∧ r.2.mem ((c.tc : Thread Cert.DilOStepRefIdeal.nD Cert.DilOStepRefIdeal.τ).loc Cert.DilOStepRefIdeal.main_arg0) = m' ((c.tc : Thread Cert.DilOStepRefIdeal.nD Cert.DilOStepRefIdeal.τ).loc Cert.DilOStepRefIdeal.main_arg0)
          ∧ r.2.mem ((c.tc : Thread Cert.DilOStepRefIdeal.nD Cert.DilOStepRefIdeal.τ).loc Cert.DilOStepRefIdeal.main_arg1) = m' ((c.tc : Thread Cert.DilOStepRefIdeal.nD Cert.DilOStepRefIdeal.τ).loc Cert.DilOStepRefIdeal.main_arg1)
          ∧ r.2.mem ((c.tc : Thread Cert.DilOStepRefIdeal.nD Cert.DilOStepRefIdeal.τ).loc Cert.DilOStepRefIdeal.main_arg2) = m' ((c.tc : Thread Cert.DilOStepRefIdeal.nD Cert.DilOStepRefIdeal.τ).loc Cert.DilOStepRefIdeal.main_arg2)
          ∧ r.2.mem ((c.tc : Thread Cert.DilOStepRefIdeal.nD Cert.DilOStepRefIdeal.τ).loc Cert.DilOStepRefIdeal.main_arg3) = m' ((c.tc : Thread Cert.DilOStepRefIdeal.nD Cert.DilOStepRefIdeal.τ).loc Cert.DilOStepRefIdeal.main_arg3)
          ∧ r.2.mem ((c.tc : Thread Cert.DilOStepRefIdeal.nD Cert.DilOStepRefIdeal.τ).loc Cert.DilOStepRefIdeal.main_arg4) = m' ((c.tc : Thread Cert.DilOStepRefIdeal.nD Cert.DilOStepRefIdeal.τ).loc Cert.DilOStepRefIdeal.main_arg4)
          ∧ r.2.mem ((c.tc : Thread Cert.DilOStepRefIdeal.nD Cert.DilOStepRefIdeal.τ).loc Cert.DilOStepRefIdeal.main_arg5) = m' ((c.tc : Thread Cert.DilOStepRefIdeal.nD Cert.DilOStepRefIdeal.τ).loc Cert.DilOStepRefIdeal.main_arg5))

def algebraic_NaOStepIdeal_NaOStepRefIdeal [hNaOStepIdeal : Cert.NaOStepIdeal.Facts] [hNaOStepRefIdeal : Cert.NaOStepRefIdeal.Facts] [hPre_numbered_out : Cert.Pre_numbered_out.Facts] : Prop :=
  ∀ (m : (ℓ : Loc Cert.NaOStepIdeal.nD Cert.NaOStepIdeal.τ Cert.NaOStepIdeal.sig) → Buf (Elt Ideal) ℓ) (g : Dev Cert.NaOStepIdeal.nD → PrngReg)
    (m' : (ℓ : Loc Cert.NaOStepRefIdeal.nD Cert.NaOStepRefIdeal.τ Cert.NaOStepRefIdeal.sig) → Buf (Elt Ideal) ℓ) (g' : Dev Cert.NaOStepRefIdeal.nD → PrngReg), Pre_NaOStepIdeal m →
    (∀ c : Dev Cert.NaOStepIdeal.nD,
      m' ((c.tc : Thread Cert.NaOStepRefIdeal.nD Cert.NaOStepRefIdeal.τ).loc Cert.NaOStepRefIdeal.main_arg0) = m ((c.tc : Thread Cert.NaOStepIdeal.nD Cert.NaOStepIdeal.τ).loc Cert.NaOStepIdeal.main_arg0)
      ∧ m' ((c.tc : Thread Cert.NaOStepRefIdeal.nD Cert.NaOStepRefIdeal.τ).loc Cert.NaOStepRefIdeal.main_arg1) = m ((c.tc : Thread Cert.NaOStepIdeal.nD Cert.NaOStepIdeal.τ).loc Cert.NaOStepIdeal.main_arg1)
      ∧ m' ((c.tc : Thread Cert.NaOStepRefIdeal.nD Cert.NaOStepRefIdeal.τ).loc Cert.NaOStepRefIdeal.main_arg2) = m ((c.tc : Thread Cert.NaOStepIdeal.nD Cert.NaOStepIdeal.τ).loc Cert.NaOStepIdeal.main_arg2)
      ∧ m' ((c.tc : Thread Cert.NaOStepRefIdeal.nD Cert.NaOStepRefIdeal.τ).loc Cert.NaOStepRefIdeal.main_arg3) = m ((c.tc : Thread Cert.NaOStepIdeal.nD Cert.NaOStepIdeal.τ).loc Cert.NaOStepIdeal.main_arg3)
      ∧ m' ((c.tc : Thread Cert.NaOStepRefIdeal.nD Cert.NaOStepRefIdeal.τ).loc Cert.NaOStepRefIdeal.main_arg4) = m ((c.tc : Thread Cert.NaOStepIdeal.nD Cert.NaOStepIdeal.τ).loc Cert.NaOStepIdeal.main_arg4)
      ∧ m' ((c.tc : Thread Cert.NaOStepRefIdeal.nD Cert.NaOStepRefIdeal.τ).loc Cert.NaOStepRefIdeal.main_arg5) = m ((c.tc : Thread Cert.NaOStepIdeal.nD Cert.NaOStepIdeal.τ).loc Cert.NaOStepIdeal.main_arg5)) →
    ∃ (v0 : (c : Dev Cert.NaOStepIdeal.nD) → Buf (Elt Ideal) ((c.tc : Thread Cert.NaOStepIdeal.nD Cert.NaOStepIdeal.τ).loc Cert.NaOStepIdeal.main_v2_0)) (v1 : (c : Dev Cert.NaOStepIdeal.nD) → Buf (Elt Ideal) ((c.tc : Thread Cert.NaOStepIdeal.nD Cert.NaOStepIdeal.τ).loc Cert.NaOStepIdeal.main_v2_1)) (v2 : (c : Dev Cert.NaOStepIdeal.nD) → Buf (Elt Ideal) ((c.tc : Thread Cert.NaOStepIdeal.nD Cert.NaOStepIdeal.τ).loc Cert.NaOStepIdeal.main_v2_2)) (v3 : (c : Dev Cert.NaOStepIdeal.nD) → Buf (Elt Ideal) ((c.tc : Thread Cert.NaOStepIdeal.nD Cert.NaOStepIdeal.τ).loc Cert.NaOStepIdeal.main_v2_3)),
      θ_run (Cert.NaOStepIdeal.defs (F := Ideal)) (onTc (τ := Cert.NaOStepIdeal.τ) (Cert.NaOStepIdeal.main (F := Ideal))) ⟨m, fun _ => 0, g⟩ (fun r => ∀ c : Dev Cert.NaOStepIdeal.nD,
          r.2.mem ((c.tc : Thread Cert.NaOStepIdeal.nD Cert.NaOStepIdeal.τ).loc Cert.NaOStepIdeal.main_v2_0) = v0 c
          ∧ r.2.mem ((c.tc : Thread Cert.NaOStepIdeal.nD Cert.NaOStepIdeal.τ).loc Cert.NaOStepIdeal.main_v2_1) = v1 c
          ∧ r.2.mem ((c.tc : Thread Cert.NaOStepIdeal.nD Cert.NaOStepIdeal.τ).loc Cert.NaOStepIdeal.main_v2_2) = v2 c
          ∧ r.2.mem ((c.tc : Thread Cert.NaOStepIdeal.nD Cert.NaOStepIdeal.τ).loc Cert.NaOStepIdeal.main_v2_3) = v3 c
          ∧ r.2.mem ((c.tc : Thread Cert.NaOStepIdeal.nD Cert.NaOStepIdeal.τ).loc Cert.NaOStepIdeal.main_arg0) = m ((c.tc : Thread Cert.NaOStepIdeal.nD Cert.NaOStepIdeal.τ).loc Cert.NaOStepIdeal.main_arg0)
          ∧ r.2.mem ((c.tc : Thread Cert.NaOStepIdeal.nD Cert.NaOStepIdeal.τ).loc Cert.NaOStepIdeal.main_arg1) = m ((c.tc : Thread Cert.NaOStepIdeal.nD Cert.NaOStepIdeal.τ).loc Cert.NaOStepIdeal.main_arg1)
          ∧ r.2.mem ((c.tc : Thread Cert.NaOStepIdeal.nD Cert.NaOStepIdeal.τ).loc Cert.NaOStepIdeal.main_arg2) = m ((c.tc : Thread Cert.NaOStepIdeal.nD Cert.NaOStepIdeal.τ).loc Cert.NaOStepIdeal.main_arg2)
          ∧ r.2.mem ((c.tc : Thread Cert.NaOStepIdeal.nD Cert.NaOStepIdeal.τ).loc Cert.NaOStepIdeal.main_arg3) = m ((c.tc : Thread Cert.NaOStepIdeal.nD Cert.NaOStepIdeal.τ).loc Cert.NaOStepIdeal.main_arg3)
          ∧ r.2.mem ((c.tc : Thread Cert.NaOStepIdeal.nD Cert.NaOStepIdeal.τ).loc Cert.NaOStepIdeal.main_arg4) = m ((c.tc : Thread Cert.NaOStepIdeal.nD Cert.NaOStepIdeal.τ).loc Cert.NaOStepIdeal.main_arg4)
          ∧ r.2.mem ((c.tc : Thread Cert.NaOStepIdeal.nD Cert.NaOStepIdeal.τ).loc Cert.NaOStepIdeal.main_arg5) = m ((c.tc : Thread Cert.NaOStepIdeal.nD Cert.NaOStepIdeal.τ).loc Cert.NaOStepIdeal.main_arg5))
      ∧ θ_run (Cert.NaOStepRefIdeal.defs (F := Ideal)) (onTc (τ := Cert.NaOStepRefIdeal.τ) (Cert.NaOStepRefIdeal.main (F := Ideal))) ⟨m', fun _ => 0, g'⟩ (fun r => ∀ c : Dev Cert.NaOStepRefIdeal.nD,
          r.2.mem ((c.tc : Thread Cert.NaOStepRefIdeal.nD Cert.NaOStepRefIdeal.τ).loc Cert.NaOStepRefIdeal.main_v9) = v0 c
          ∧ r.2.mem ((c.tc : Thread Cert.NaOStepRefIdeal.nD Cert.NaOStepRefIdeal.τ).loc Cert.NaOStepRefIdeal.main_v33) = v1 c
          ∧ r.2.mem ((c.tc : Thread Cert.NaOStepRefIdeal.nD Cert.NaOStepRefIdeal.τ).loc Cert.NaOStepRefIdeal.main_v14) = v2 c
          ∧ r.2.mem ((c.tc : Thread Cert.NaOStepRefIdeal.nD Cert.NaOStepRefIdeal.τ).loc Cert.NaOStepRefIdeal.main_v20) = v3 c
          ∧ r.2.mem ((c.tc : Thread Cert.NaOStepRefIdeal.nD Cert.NaOStepRefIdeal.τ).loc Cert.NaOStepRefIdeal.main_arg0) = m' ((c.tc : Thread Cert.NaOStepRefIdeal.nD Cert.NaOStepRefIdeal.τ).loc Cert.NaOStepRefIdeal.main_arg0)
          ∧ r.2.mem ((c.tc : Thread Cert.NaOStepRefIdeal.nD Cert.NaOStepRefIdeal.τ).loc Cert.NaOStepRefIdeal.main_arg1) = m' ((c.tc : Thread Cert.NaOStepRefIdeal.nD Cert.NaOStepRefIdeal.τ).loc Cert.NaOStepRefIdeal.main_arg1)
          ∧ r.2.mem ((c.tc : Thread Cert.NaOStepRefIdeal.nD Cert.NaOStepRefIdeal.τ).loc Cert.NaOStepRefIdeal.main_arg2) = m' ((c.tc : Thread Cert.NaOStepRefIdeal.nD Cert.NaOStepRefIdeal.τ).loc Cert.NaOStepRefIdeal.main_arg2)
          ∧ r.2.mem ((c.tc : Thread Cert.NaOStepRefIdeal.nD Cert.NaOStepRefIdeal.τ).loc Cert.NaOStepRefIdeal.main_arg3) = m' ((c.tc : Thread Cert.NaOStepRefIdeal.nD Cert.NaOStepRefIdeal.τ).loc Cert.NaOStepRefIdeal.main_arg3)
          ∧ r.2.mem ((c.tc : Thread Cert.NaOStepRefIdeal.nD Cert.NaOStepRefIdeal.τ).loc Cert.NaOStepRefIdeal.main_arg4) = m' ((c.tc : Thread Cert.NaOStepRefIdeal.nD Cert.NaOStepRefIdeal.τ).loc Cert.NaOStepRefIdeal.main_arg4)
          ∧ r.2.mem ((c.tc : Thread Cert.NaOStepRefIdeal.nD Cert.NaOStepRefIdeal.τ).loc Cert.NaOStepRefIdeal.main_arg5) = m' ((c.tc : Thread Cert.NaOStepRefIdeal.nD Cert.NaOStepRefIdeal.τ).loc Cert.NaOStepRefIdeal.main_arg5))

def algebraic_DilQkvStepIdeal_DilQkvStepRefIdeal [hDilQkvStepIdeal : Cert.DilQkvStepIdeal.Facts] [hDilQkvStepRefIdeal : Cert.DilQkvStepRefIdeal.Facts] [hPre_numbered_dil : Cert.Pre_numbered_dil.Facts] : Prop :=
  ∀ (m : (ℓ : Loc Cert.DilQkvStepIdeal.nD Cert.DilQkvStepIdeal.τ Cert.DilQkvStepIdeal.sig) → Buf (Elt Ideal) ℓ) (g : Dev Cert.DilQkvStepIdeal.nD → PrngReg)
    (m' : (ℓ : Loc Cert.DilQkvStepRefIdeal.nD Cert.DilQkvStepRefIdeal.τ Cert.DilQkvStepRefIdeal.sig) → Buf (Elt Ideal) ℓ) (g' : Dev Cert.DilQkvStepRefIdeal.nD → PrngReg), Pre_DilQkvStepIdeal m →
    (∀ c : Dev Cert.DilQkvStepIdeal.nD,
      m' ((c.tc : Thread Cert.DilQkvStepRefIdeal.nD Cert.DilQkvStepRefIdeal.τ).loc Cert.DilQkvStepRefIdeal.main_arg0) = m ((c.tc : Thread Cert.DilQkvStepIdeal.nD Cert.DilQkvStepIdeal.τ).loc Cert.DilQkvStepIdeal.main_arg0)
      ∧ m' ((c.tc : Thread Cert.DilQkvStepRefIdeal.nD Cert.DilQkvStepRefIdeal.τ).loc Cert.DilQkvStepRefIdeal.main_arg1) = m ((c.tc : Thread Cert.DilQkvStepIdeal.nD Cert.DilQkvStepIdeal.τ).loc Cert.DilQkvStepIdeal.main_arg1)
      ∧ m' ((c.tc : Thread Cert.DilQkvStepRefIdeal.nD Cert.DilQkvStepRefIdeal.τ).loc Cert.DilQkvStepRefIdeal.main_arg2) = m ((c.tc : Thread Cert.DilQkvStepIdeal.nD Cert.DilQkvStepIdeal.τ).loc Cert.DilQkvStepIdeal.main_arg2)
      ∧ m' ((c.tc : Thread Cert.DilQkvStepRefIdeal.nD Cert.DilQkvStepRefIdeal.τ).loc Cert.DilQkvStepRefIdeal.main_arg3) = m ((c.tc : Thread Cert.DilQkvStepIdeal.nD Cert.DilQkvStepIdeal.τ).loc Cert.DilQkvStepIdeal.main_arg3)
      ∧ m' ((c.tc : Thread Cert.DilQkvStepRefIdeal.nD Cert.DilQkvStepRefIdeal.τ).loc Cert.DilQkvStepRefIdeal.main_arg4) = m ((c.tc : Thread Cert.DilQkvStepIdeal.nD Cert.DilQkvStepIdeal.τ).loc Cert.DilQkvStepIdeal.main_arg4)
      ∧ m' ((c.tc : Thread Cert.DilQkvStepRefIdeal.nD Cert.DilQkvStepRefIdeal.τ).loc Cert.DilQkvStepRefIdeal.main_arg5) = m ((c.tc : Thread Cert.DilQkvStepIdeal.nD Cert.DilQkvStepIdeal.τ).loc Cert.DilQkvStepIdeal.main_arg5)) →
    ∃ (v0 : (c : Dev Cert.DilQkvStepIdeal.nD) → Buf (Elt Ideal) ((c.tc : Thread Cert.DilQkvStepIdeal.nD Cert.DilQkvStepIdeal.τ).loc Cert.DilQkvStepIdeal.main_v2_0)) (v1 : (c : Dev Cert.DilQkvStepIdeal.nD) → Buf (Elt Ideal) ((c.tc : Thread Cert.DilQkvStepIdeal.nD Cert.DilQkvStepIdeal.τ).loc Cert.DilQkvStepIdeal.main_v2_1)) (v2 : (c : Dev Cert.DilQkvStepIdeal.nD) → Buf (Elt Ideal) ((c.tc : Thread Cert.DilQkvStepIdeal.nD Cert.DilQkvStepIdeal.τ).loc Cert.DilQkvStepIdeal.main_v2_2)) (v3 : (c : Dev Cert.DilQkvStepIdeal.nD) → Buf (Elt Ideal) ((c.tc : Thread Cert.DilQkvStepIdeal.nD Cert.DilQkvStepIdeal.τ).loc Cert.DilQkvStepIdeal.main_v2_3)),
      θ_run (Cert.DilQkvStepIdeal.defs (F := Ideal)) (onTc (τ := Cert.DilQkvStepIdeal.τ) (Cert.DilQkvStepIdeal.main (F := Ideal))) ⟨m, fun _ => 0, g⟩ (fun r => ∀ c : Dev Cert.DilQkvStepIdeal.nD,
          r.2.mem ((c.tc : Thread Cert.DilQkvStepIdeal.nD Cert.DilQkvStepIdeal.τ).loc Cert.DilQkvStepIdeal.main_v2_0) = v0 c
          ∧ r.2.mem ((c.tc : Thread Cert.DilQkvStepIdeal.nD Cert.DilQkvStepIdeal.τ).loc Cert.DilQkvStepIdeal.main_v2_1) = v1 c
          ∧ r.2.mem ((c.tc : Thread Cert.DilQkvStepIdeal.nD Cert.DilQkvStepIdeal.τ).loc Cert.DilQkvStepIdeal.main_v2_2) = v2 c
          ∧ r.2.mem ((c.tc : Thread Cert.DilQkvStepIdeal.nD Cert.DilQkvStepIdeal.τ).loc Cert.DilQkvStepIdeal.main_v2_3) = v3 c
          ∧ r.2.mem ((c.tc : Thread Cert.DilQkvStepIdeal.nD Cert.DilQkvStepIdeal.τ).loc Cert.DilQkvStepIdeal.main_arg0) = m ((c.tc : Thread Cert.DilQkvStepIdeal.nD Cert.DilQkvStepIdeal.τ).loc Cert.DilQkvStepIdeal.main_arg0)
          ∧ r.2.mem ((c.tc : Thread Cert.DilQkvStepIdeal.nD Cert.DilQkvStepIdeal.τ).loc Cert.DilQkvStepIdeal.main_arg1) = m ((c.tc : Thread Cert.DilQkvStepIdeal.nD Cert.DilQkvStepIdeal.τ).loc Cert.DilQkvStepIdeal.main_arg1)
          ∧ r.2.mem ((c.tc : Thread Cert.DilQkvStepIdeal.nD Cert.DilQkvStepIdeal.τ).loc Cert.DilQkvStepIdeal.main_arg2) = m ((c.tc : Thread Cert.DilQkvStepIdeal.nD Cert.DilQkvStepIdeal.τ).loc Cert.DilQkvStepIdeal.main_arg2)
          ∧ r.2.mem ((c.tc : Thread Cert.DilQkvStepIdeal.nD Cert.DilQkvStepIdeal.τ).loc Cert.DilQkvStepIdeal.main_arg3) = m ((c.tc : Thread Cert.DilQkvStepIdeal.nD Cert.DilQkvStepIdeal.τ).loc Cert.DilQkvStepIdeal.main_arg3)
          ∧ r.2.mem ((c.tc : Thread Cert.DilQkvStepIdeal.nD Cert.DilQkvStepIdeal.τ).loc Cert.DilQkvStepIdeal.main_arg4) = m ((c.tc : Thread Cert.DilQkvStepIdeal.nD Cert.DilQkvStepIdeal.τ).loc Cert.DilQkvStepIdeal.main_arg4)
          ∧ r.2.mem ((c.tc : Thread Cert.DilQkvStepIdeal.nD Cert.DilQkvStepIdeal.τ).loc Cert.DilQkvStepIdeal.main_arg5) = m ((c.tc : Thread Cert.DilQkvStepIdeal.nD Cert.DilQkvStepIdeal.τ).loc Cert.DilQkvStepIdeal.main_arg5))
      ∧ θ_run (Cert.DilQkvStepRefIdeal.defs (F := Ideal)) (onTc (τ := Cert.DilQkvStepRefIdeal.τ) (Cert.DilQkvStepRefIdeal.main (F := Ideal))) ⟨m', fun _ => 0, g'⟩ (fun r => ∀ c : Dev Cert.DilQkvStepRefIdeal.nD,
          r.2.mem ((c.tc : Thread Cert.DilQkvStepRefIdeal.nD Cert.DilQkvStepRefIdeal.τ).loc Cert.DilQkvStepRefIdeal.main_v11) = v0 c
          ∧ r.2.mem ((c.tc : Thread Cert.DilQkvStepRefIdeal.nD Cert.DilQkvStepRefIdeal.τ).loc Cert.DilQkvStepRefIdeal.main_v35) = v1 c
          ∧ r.2.mem ((c.tc : Thread Cert.DilQkvStepRefIdeal.nD Cert.DilQkvStepRefIdeal.τ).loc Cert.DilQkvStepRefIdeal.main_v16) = v2 c
          ∧ r.2.mem ((c.tc : Thread Cert.DilQkvStepRefIdeal.nD Cert.DilQkvStepRefIdeal.τ).loc Cert.DilQkvStepRefIdeal.main_v22) = v3 c
          ∧ r.2.mem ((c.tc : Thread Cert.DilQkvStepRefIdeal.nD Cert.DilQkvStepRefIdeal.τ).loc Cert.DilQkvStepRefIdeal.main_arg0) = m' ((c.tc : Thread Cert.DilQkvStepRefIdeal.nD Cert.DilQkvStepRefIdeal.τ).loc Cert.DilQkvStepRefIdeal.main_arg0)
          ∧ r.2.mem ((c.tc : Thread Cert.DilQkvStepRefIdeal.nD Cert.DilQkvStepRefIdeal.τ).loc Cert.DilQkvStepRefIdeal.main_arg1) = m' ((c.tc : Thread Cert.DilQkvStepRefIdeal.nD Cert.DilQkvStepRefIdeal.τ).loc Cert.DilQkvStepRefIdeal.main_arg1)
          ∧ r.2.mem ((c.tc : Thread Cert.DilQkvStepRefIdeal.nD Cert.DilQkvStepRefIdeal.τ).loc Cert.DilQkvStepRefIdeal.main_arg2) = m' ((c.tc : Thread Cert.DilQkvStepRefIdeal.nD Cert.DilQkvStepRefIdeal.τ).loc Cert.DilQkvStepRefIdeal.main_arg2)
          ∧ r.2.mem ((c.tc : Thread Cert.DilQkvStepRefIdeal.nD Cert.DilQkvStepRefIdeal.τ).loc Cert.DilQkvStepRefIdeal.main_arg3) = m' ((c.tc : Thread Cert.DilQkvStepRefIdeal.nD Cert.DilQkvStepRefIdeal.τ).loc Cert.DilQkvStepRefIdeal.main_arg3)
          ∧ r.2.mem ((c.tc : Thread Cert.DilQkvStepRefIdeal.nD Cert.DilQkvStepRefIdeal.τ).loc Cert.DilQkvStepRefIdeal.main_arg4) = m' ((c.tc : Thread Cert.DilQkvStepRefIdeal.nD Cert.DilQkvStepRefIdeal.τ).loc Cert.DilQkvStepRefIdeal.main_arg4)
          ∧ r.2.mem ((c.tc : Thread Cert.DilQkvStepRefIdeal.nD Cert.DilQkvStepRefIdeal.τ).loc Cert.DilQkvStepRefIdeal.main_arg5) = m' ((c.tc : Thread Cert.DilQkvStepRefIdeal.nD Cert.DilQkvStepRefIdeal.τ).loc Cert.DilQkvStepRefIdeal.main_arg5))

def algebraic_NaQkvStepIdeal_NaQkvStepRefIdeal [hNaQkvStepIdeal : Cert.NaQkvStepIdeal.Facts] [hNaQkvStepRefIdeal : Cert.NaQkvStepRefIdeal.Facts] [hPre_numbered_na : Cert.Pre_numbered_na.Facts] : Prop :=
  ∀ (m : (ℓ : Loc Cert.NaQkvStepIdeal.nD Cert.NaQkvStepIdeal.τ Cert.NaQkvStepIdeal.sig) → Buf (Elt Ideal) ℓ) (g : Dev Cert.NaQkvStepIdeal.nD → PrngReg)
    (m' : (ℓ : Loc Cert.NaQkvStepRefIdeal.nD Cert.NaQkvStepRefIdeal.τ Cert.NaQkvStepRefIdeal.sig) → Buf (Elt Ideal) ℓ) (g' : Dev Cert.NaQkvStepRefIdeal.nD → PrngReg), Pre_NaQkvStepIdeal m →
    (∀ c : Dev Cert.NaQkvStepIdeal.nD,
      m' ((c.tc : Thread Cert.NaQkvStepRefIdeal.nD Cert.NaQkvStepRefIdeal.τ).loc Cert.NaQkvStepRefIdeal.main_arg0) = m ((c.tc : Thread Cert.NaQkvStepIdeal.nD Cert.NaQkvStepIdeal.τ).loc Cert.NaQkvStepIdeal.main_arg0)
      ∧ m' ((c.tc : Thread Cert.NaQkvStepRefIdeal.nD Cert.NaQkvStepRefIdeal.τ).loc Cert.NaQkvStepRefIdeal.main_arg1) = m ((c.tc : Thread Cert.NaQkvStepIdeal.nD Cert.NaQkvStepIdeal.τ).loc Cert.NaQkvStepIdeal.main_arg1)
      ∧ m' ((c.tc : Thread Cert.NaQkvStepRefIdeal.nD Cert.NaQkvStepRefIdeal.τ).loc Cert.NaQkvStepRefIdeal.main_arg2) = m ((c.tc : Thread Cert.NaQkvStepIdeal.nD Cert.NaQkvStepIdeal.τ).loc Cert.NaQkvStepIdeal.main_arg2)
      ∧ m' ((c.tc : Thread Cert.NaQkvStepRefIdeal.nD Cert.NaQkvStepRefIdeal.τ).loc Cert.NaQkvStepRefIdeal.main_arg3) = m ((c.tc : Thread Cert.NaQkvStepIdeal.nD Cert.NaQkvStepIdeal.τ).loc Cert.NaQkvStepIdeal.main_arg3)
      ∧ m' ((c.tc : Thread Cert.NaQkvStepRefIdeal.nD Cert.NaQkvStepRefIdeal.τ).loc Cert.NaQkvStepRefIdeal.main_arg4) = m ((c.tc : Thread Cert.NaQkvStepIdeal.nD Cert.NaQkvStepIdeal.τ).loc Cert.NaQkvStepIdeal.main_arg4)
      ∧ m' ((c.tc : Thread Cert.NaQkvStepRefIdeal.nD Cert.NaQkvStepRefIdeal.τ).loc Cert.NaQkvStepRefIdeal.main_arg5) = m ((c.tc : Thread Cert.NaQkvStepIdeal.nD Cert.NaQkvStepIdeal.τ).loc Cert.NaQkvStepIdeal.main_arg5)) →
    ∃ (v0 : (c : Dev Cert.NaQkvStepIdeal.nD) → Buf (Elt Ideal) ((c.tc : Thread Cert.NaQkvStepIdeal.nD Cert.NaQkvStepIdeal.τ).loc Cert.NaQkvStepIdeal.main_v2_0)) (v1 : (c : Dev Cert.NaQkvStepIdeal.nD) → Buf (Elt Ideal) ((c.tc : Thread Cert.NaQkvStepIdeal.nD Cert.NaQkvStepIdeal.τ).loc Cert.NaQkvStepIdeal.main_v2_1)) (v2 : (c : Dev Cert.NaQkvStepIdeal.nD) → Buf (Elt Ideal) ((c.tc : Thread Cert.NaQkvStepIdeal.nD Cert.NaQkvStepIdeal.τ).loc Cert.NaQkvStepIdeal.main_v2_2)) (v3 : (c : Dev Cert.NaQkvStepIdeal.nD) → Buf (Elt Ideal) ((c.tc : Thread Cert.NaQkvStepIdeal.nD Cert.NaQkvStepIdeal.τ).loc Cert.NaQkvStepIdeal.main_v2_3)),
      θ_run (Cert.NaQkvStepIdeal.defs (F := Ideal)) (onTc (τ := Cert.NaQkvStepIdeal.τ) (Cert.NaQkvStepIdeal.main (F := Ideal))) ⟨m, fun _ => 0, g⟩ (fun r => ∀ c : Dev Cert.NaQkvStepIdeal.nD,
          r.2.mem ((c.tc : Thread Cert.NaQkvStepIdeal.nD Cert.NaQkvStepIdeal.τ).loc Cert.NaQkvStepIdeal.main_v2_0) = v0 c
          ∧ r.2.mem ((c.tc : Thread Cert.NaQkvStepIdeal.nD Cert.NaQkvStepIdeal.τ).loc Cert.NaQkvStepIdeal.main_v2_1) = v1 c
          ∧ r.2.mem ((c.tc : Thread Cert.NaQkvStepIdeal.nD Cert.NaQkvStepIdeal.τ).loc Cert.NaQkvStepIdeal.main_v2_2) = v2 c
          ∧ r.2.mem ((c.tc : Thread Cert.NaQkvStepIdeal.nD Cert.NaQkvStepIdeal.τ).loc Cert.NaQkvStepIdeal.main_v2_3) = v3 c
          ∧ r.2.mem ((c.tc : Thread Cert.NaQkvStepIdeal.nD Cert.NaQkvStepIdeal.τ).loc Cert.NaQkvStepIdeal.main_arg0) = m ((c.tc : Thread Cert.NaQkvStepIdeal.nD Cert.NaQkvStepIdeal.τ).loc Cert.NaQkvStepIdeal.main_arg0)
          ∧ r.2.mem ((c.tc : Thread Cert.NaQkvStepIdeal.nD Cert.NaQkvStepIdeal.τ).loc Cert.NaQkvStepIdeal.main_arg1) = m ((c.tc : Thread Cert.NaQkvStepIdeal.nD Cert.NaQkvStepIdeal.τ).loc Cert.NaQkvStepIdeal.main_arg1)
          ∧ r.2.mem ((c.tc : Thread Cert.NaQkvStepIdeal.nD Cert.NaQkvStepIdeal.τ).loc Cert.NaQkvStepIdeal.main_arg2) = m ((c.tc : Thread Cert.NaQkvStepIdeal.nD Cert.NaQkvStepIdeal.τ).loc Cert.NaQkvStepIdeal.main_arg2)
          ∧ r.2.mem ((c.tc : Thread Cert.NaQkvStepIdeal.nD Cert.NaQkvStepIdeal.τ).loc Cert.NaQkvStepIdeal.main_arg3) = m ((c.tc : Thread Cert.NaQkvStepIdeal.nD Cert.NaQkvStepIdeal.τ).loc Cert.NaQkvStepIdeal.main_arg3)
          ∧ r.2.mem ((c.tc : Thread Cert.NaQkvStepIdeal.nD Cert.NaQkvStepIdeal.τ).loc Cert.NaQkvStepIdeal.main_arg4) = m ((c.tc : Thread Cert.NaQkvStepIdeal.nD Cert.NaQkvStepIdeal.τ).loc Cert.NaQkvStepIdeal.main_arg4)
          ∧ r.2.mem ((c.tc : Thread Cert.NaQkvStepIdeal.nD Cert.NaQkvStepIdeal.τ).loc Cert.NaQkvStepIdeal.main_arg5) = m ((c.tc : Thread Cert.NaQkvStepIdeal.nD Cert.NaQkvStepIdeal.τ).loc Cert.NaQkvStepIdeal.main_arg5))
      ∧ θ_run (Cert.NaQkvStepRefIdeal.defs (F := Ideal)) (onTc (τ := Cert.NaQkvStepRefIdeal.τ) (Cert.NaQkvStepRefIdeal.main (F := Ideal))) ⟨m', fun _ => 0, g'⟩ (fun r => ∀ c : Dev Cert.NaQkvStepRefIdeal.nD,
          r.2.mem ((c.tc : Thread Cert.NaQkvStepRefIdeal.nD Cert.NaQkvStepRefIdeal.τ).loc Cert.NaQkvStepRefIdeal.main_v11) = v0 c
          ∧ r.2.mem ((c.tc : Thread Cert.NaQkvStepRefIdeal.nD Cert.NaQkvStepRefIdeal.τ).loc Cert.NaQkvStepRefIdeal.main_v35) = v1 c
          ∧ r.2.mem ((c.tc : Thread Cert.NaQkvStepRefIdeal.nD Cert.NaQkvStepRefIdeal.τ).loc Cert.NaQkvStepRefIdeal.main_v16) = v2 c
          ∧ r.2.mem ((c.tc : Thread Cert.NaQkvStepRefIdeal.nD Cert.NaQkvStepRefIdeal.τ).loc Cert.NaQkvStepRefIdeal.main_v22) = v3 c
          ∧ r.2.mem ((c.tc : Thread Cert.NaQkvStepRefIdeal.nD Cert.NaQkvStepRefIdeal.τ).loc Cert.NaQkvStepRefIdeal.main_arg0) = m' ((c.tc : Thread Cert.NaQkvStepRefIdeal.nD Cert.NaQkvStepRefIdeal.τ).loc Cert.NaQkvStepRefIdeal.main_arg0)
          ∧ r.2.mem ((c.tc : Thread Cert.NaQkvStepRefIdeal.nD Cert.NaQkvStepRefIdeal.τ).loc Cert.NaQkvStepRefIdeal.main_arg1) = m' ((c.tc : Thread Cert.NaQkvStepRefIdeal.nD Cert.NaQkvStepRefIdeal.τ).loc Cert.NaQkvStepRefIdeal.main_arg1)
          ∧ r.2.mem ((c.tc : Thread Cert.NaQkvStepRefIdeal.nD Cert.NaQkvStepRefIdeal.τ).loc Cert.NaQkvStepRefIdeal.main_arg2) = m' ((c.tc : Thread Cert.NaQkvStepRefIdeal.nD Cert.NaQkvStepRefIdeal.τ).loc Cert.NaQkvStepRefIdeal.main_arg2)
          ∧ r.2.mem ((c.tc : Thread Cert.NaQkvStepRefIdeal.nD Cert.NaQkvStepRefIdeal.τ).loc Cert.NaQkvStepRefIdeal.main_arg3) = m' ((c.tc : Thread Cert.NaQkvStepRefIdeal.nD Cert.NaQkvStepRefIdeal.τ).loc Cert.NaQkvStepRefIdeal.main_arg3)
          ∧ r.2.mem ((c.tc : Thread Cert.NaQkvStepRefIdeal.nD Cert.NaQkvStepRefIdeal.τ).loc Cert.NaQkvStepRefIdeal.main_arg4) = m' ((c.tc : Thread Cert.NaQkvStepRefIdeal.nD Cert.NaQkvStepRefIdeal.τ).loc Cert.NaQkvStepRefIdeal.main_arg4)
          ∧ r.2.mem ((c.tc : Thread Cert.NaQkvStepRefIdeal.nD Cert.NaQkvStepRefIdeal.τ).loc Cert.NaQkvStepRefIdeal.main_arg5) = m' ((c.tc : Thread Cert.NaQkvStepRefIdeal.nD Cert.NaQkvStepRefIdeal.τ).loc Cert.NaQkvStepRefIdeal.main_arg5))

def algebraic_GateStepIdeal_GateStepRefIdeal [hGateStepIdeal : Cert.GateStepIdeal.Facts] [hGateStepRefIdeal : Cert.GateStepRefIdeal.Facts] [hPre_numbered_ffn : Cert.Pre_numbered_ffn.Facts] : Prop :=
  ∀ (m : (ℓ : Loc Cert.GateStepIdeal.nD Cert.GateStepIdeal.τ Cert.GateStepIdeal.sig) → Buf (Elt Ideal) ℓ) (g : Dev Cert.GateStepIdeal.nD → PrngReg)
    (m' : (ℓ : Loc Cert.GateStepRefIdeal.nD Cert.GateStepRefIdeal.τ Cert.GateStepRefIdeal.sig) → Buf (Elt Ideal) ℓ) (g' : Dev Cert.GateStepRefIdeal.nD → PrngReg), Pre_GateStepIdeal m →
    (∀ c : Dev Cert.GateStepIdeal.nD,
      m' ((c.tc : Thread Cert.GateStepRefIdeal.nD Cert.GateStepRefIdeal.τ).loc Cert.GateStepRefIdeal.main_arg0) = m ((c.tc : Thread Cert.GateStepIdeal.nD Cert.GateStepIdeal.τ).loc Cert.GateStepIdeal.main_arg0)
      ∧ m' ((c.tc : Thread Cert.GateStepRefIdeal.nD Cert.GateStepRefIdeal.τ).loc Cert.GateStepRefIdeal.main_arg1) = m ((c.tc : Thread Cert.GateStepIdeal.nD Cert.GateStepIdeal.τ).loc Cert.GateStepIdeal.main_arg1)
      ∧ m' ((c.tc : Thread Cert.GateStepRefIdeal.nD Cert.GateStepRefIdeal.τ).loc Cert.GateStepRefIdeal.main_arg2) = m ((c.tc : Thread Cert.GateStepIdeal.nD Cert.GateStepIdeal.τ).loc Cert.GateStepIdeal.main_arg2)
      ∧ m' ((c.tc : Thread Cert.GateStepRefIdeal.nD Cert.GateStepRefIdeal.τ).loc Cert.GateStepRefIdeal.main_arg3) = m ((c.tc : Thread Cert.GateStepIdeal.nD Cert.GateStepIdeal.τ).loc Cert.GateStepIdeal.main_arg3)
      ∧ m' ((c.tc : Thread Cert.GateStepRefIdeal.nD Cert.GateStepRefIdeal.τ).loc Cert.GateStepRefIdeal.main_arg4) = m ((c.tc : Thread Cert.GateStepIdeal.nD Cert.GateStepIdeal.τ).loc Cert.GateStepIdeal.main_arg4)
      ∧ m' ((c.tc : Thread Cert.GateStepRefIdeal.nD Cert.GateStepRefIdeal.τ).loc Cert.GateStepRefIdeal.main_arg5) = m ((c.tc : Thread Cert.GateStepIdeal.nD Cert.GateStepIdeal.τ).loc Cert.GateStepIdeal.main_arg5)
      ∧ m' ((c.tc : Thread Cert.GateStepRefIdeal.nD Cert.GateStepRefIdeal.τ).loc Cert.GateStepRefIdeal.main_arg6) = m ((c.tc : Thread Cert.GateStepIdeal.nD Cert.GateStepIdeal.τ).loc Cert.GateStepIdeal.main_arg6)
      ∧ m' ((c.tc : Thread Cert.GateStepRefIdeal.nD Cert.GateStepRefIdeal.τ).loc Cert.GateStepRefIdeal.main_arg7) = m ((c.tc : Thread Cert.GateStepIdeal.nD Cert.GateStepIdeal.τ).loc Cert.GateStepIdeal.main_arg7)) →
    ∃ (v0 : (c : Dev Cert.GateStepIdeal.nD) → Buf (Elt Ideal) ((c.tc : Thread Cert.GateStepIdeal.nD Cert.GateStepIdeal.τ).loc Cert.GateStepIdeal.main_v4_0)) (v1 : (c : Dev Cert.GateStepIdeal.nD) → Buf (Elt Ideal) ((c.tc : Thread Cert.GateStepIdeal.nD Cert.GateStepIdeal.τ).loc Cert.GateStepIdeal.main_v4_1)) (v2 : (c : Dev Cert.GateStepIdeal.nD) → Buf (Elt Ideal) ((c.tc : Thread Cert.GateStepIdeal.nD Cert.GateStepIdeal.τ).loc Cert.GateStepIdeal.main_v4_2)) (v3 : (c : Dev Cert.GateStepIdeal.nD) → Buf (Elt Ideal) ((c.tc : Thread Cert.GateStepIdeal.nD Cert.GateStepIdeal.τ).loc Cert.GateStepIdeal.main_v4_3)),
      θ_run (Cert.GateStepIdeal.defs (F := Ideal)) (onTc (τ := Cert.GateStepIdeal.τ) (Cert.GateStepIdeal.main (F := Ideal))) ⟨m, fun _ => 0, g⟩ (fun r => ∀ c : Dev Cert.GateStepIdeal.nD,
          r.2.mem ((c.tc : Thread Cert.GateStepIdeal.nD Cert.GateStepIdeal.τ).loc Cert.GateStepIdeal.main_v4_0) = v0 c
          ∧ r.2.mem ((c.tc : Thread Cert.GateStepIdeal.nD Cert.GateStepIdeal.τ).loc Cert.GateStepIdeal.main_v4_1) = v1 c
          ∧ r.2.mem ((c.tc : Thread Cert.GateStepIdeal.nD Cert.GateStepIdeal.τ).loc Cert.GateStepIdeal.main_v4_2) = v2 c
          ∧ r.2.mem ((c.tc : Thread Cert.GateStepIdeal.nD Cert.GateStepIdeal.τ).loc Cert.GateStepIdeal.main_v4_3) = v3 c
          ∧ r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
          ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
          ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
          ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3)
          ∧ r.2.mem ((c.tc : Thread Cert.GateStepIdeal.nD Cert.GateStepIdeal.τ).loc Cert.GateStepIdeal.main_arg4) = m ((c.tc : Thread Cert.GateStepIdeal.nD Cert.GateStepIdeal.τ).loc Cert.GateStepIdeal.main_arg4)
          ∧ r.2.mem ((c.tc : Thread Cert.GateStepIdeal.nD Cert.GateStepIdeal.τ).loc Cert.GateStepIdeal.main_arg5) = m ((c.tc : Thread Cert.GateStepIdeal.nD Cert.GateStepIdeal.τ).loc Cert.GateStepIdeal.main_arg5)
          ∧ r.2.mem ((c.tc : Thread Cert.GateStepIdeal.nD Cert.GateStepIdeal.τ).loc Cert.GateStepIdeal.main_arg6) = m ((c.tc : Thread Cert.GateStepIdeal.nD Cert.GateStepIdeal.τ).loc Cert.GateStepIdeal.main_arg6)
          ∧ r.2.mem ((c.tc : Thread Cert.GateStepIdeal.nD Cert.GateStepIdeal.τ).loc Cert.GateStepIdeal.main_arg7) = m ((c.tc : Thread Cert.GateStepIdeal.nD Cert.GateStepIdeal.τ).loc Cert.GateStepIdeal.main_arg7))
      ∧ θ_run (Cert.GateStepRefIdeal.defs (F := Ideal)) (onTc (τ := Cert.GateStepRefIdeal.τ) (Cert.GateStepRefIdeal.main (F := Ideal))) ⟨m', fun _ => 0, g'⟩ (fun r => ∀ c : Dev Cert.GateStepRefIdeal.nD,
          r.2.mem ((c.tc : Thread Cert.GateStepRefIdeal.nD Cert.GateStepRefIdeal.τ).loc Cert.GateStepRefIdeal.main_v28) = v0 c
          ∧ r.2.mem ((c.tc : Thread Cert.GateStepRefIdeal.nD Cert.GateStepRefIdeal.τ).loc Cert.GateStepRefIdeal.main_v52) = v1 c
          ∧ r.2.mem ((c.tc : Thread Cert.GateStepRefIdeal.nD Cert.GateStepRefIdeal.τ).loc Cert.GateStepRefIdeal.main_v33) = v2 c
          ∧ r.2.mem ((c.tc : Thread Cert.GateStepRefIdeal.nD Cert.GateStepRefIdeal.τ).loc Cert.GateStepRefIdeal.main_v39) = v3 c
          ∧ r.2.mem ((c.tc : Thread Cert.GateStepRefIdeal.nD Cert.GateStepRefIdeal.τ).loc Cert.GateStepRefIdeal.main_arg0) = m' ((c.tc : Thread Cert.GateStepRefIdeal.nD Cert.GateStepRefIdeal.τ).loc Cert.GateStepRefIdeal.main_arg0)
          ∧ r.2.mem ((c.tc : Thread Cert.GateStepRefIdeal.nD Cert.GateStepRefIdeal.τ).loc Cert.GateStepRefIdeal.main_arg1) = m' ((c.tc : Thread Cert.GateStepRefIdeal.nD Cert.GateStepRefIdeal.τ).loc Cert.GateStepRefIdeal.main_arg1)
          ∧ r.2.mem ((c.tc : Thread Cert.GateStepRefIdeal.nD Cert.GateStepRefIdeal.τ).loc Cert.GateStepRefIdeal.main_arg2) = m' ((c.tc : Thread Cert.GateStepRefIdeal.nD Cert.GateStepRefIdeal.τ).loc Cert.GateStepRefIdeal.main_arg2)
          ∧ r.2.mem ((c.tc : Thread Cert.GateStepRefIdeal.nD Cert.GateStepRefIdeal.τ).loc Cert.GateStepRefIdeal.main_arg3) = m' ((c.tc : Thread Cert.GateStepRefIdeal.nD Cert.GateStepRefIdeal.τ).loc Cert.GateStepRefIdeal.main_arg3)
          ∧ r.2.mem ((c.tc : Thread Cert.GateStepRefIdeal.nD Cert.GateStepRefIdeal.τ).loc Cert.GateStepRefIdeal.main_arg4) = m' ((c.tc : Thread Cert.GateStepRefIdeal.nD Cert.GateStepRefIdeal.τ).loc Cert.GateStepRefIdeal.main_arg4)
          ∧ r.2.mem ((c.tc : Thread Cert.GateStepRefIdeal.nD Cert.GateStepRefIdeal.τ).loc Cert.GateStepRefIdeal.main_arg5) = m' ((c.tc : Thread Cert.GateStepRefIdeal.nD Cert.GateStepRefIdeal.τ).loc Cert.GateStepRefIdeal.main_arg5)
          ∧ r.2.mem ((c.tc : Thread Cert.GateStepRefIdeal.nD Cert.GateStepRefIdeal.τ).loc Cert.GateStepRefIdeal.main_arg6) = m' ((c.tc : Thread Cert.GateStepRefIdeal.nD Cert.GateStepRefIdeal.τ).loc Cert.GateStepRefIdeal.main_arg6)
          ∧ r.2.mem ((c.tc : Thread Cert.GateStepRefIdeal.nD Cert.GateStepRefIdeal.τ).loc Cert.GateStepRefIdeal.main_arg7) = m' ((c.tc : Thread Cert.GateStepRefIdeal.nD Cert.GateStepRefIdeal.τ).loc Cert.GateStepRefIdeal.main_arg7))

def algebraic_UpStepIdeal_UpStepRefIdeal [hUpStepIdeal : Cert.UpStepIdeal.Facts] [hUpStepRefIdeal : Cert.UpStepRefIdeal.Facts] [hPre_numbered_ffn : Cert.Pre_numbered_ffn.Facts] : Prop :=
  ∀ (m : (ℓ : Loc Cert.UpStepIdeal.nD Cert.UpStepIdeal.τ Cert.UpStepIdeal.sig) → Buf (Elt Ideal) ℓ) (g : Dev Cert.UpStepIdeal.nD → PrngReg)
    (m' : (ℓ : Loc Cert.UpStepRefIdeal.nD Cert.UpStepRefIdeal.τ Cert.UpStepRefIdeal.sig) → Buf (Elt Ideal) ℓ) (g' : Dev Cert.UpStepRefIdeal.nD → PrngReg), Pre_UpStepIdeal m →
    (∀ c : Dev Cert.UpStepIdeal.nD,
      m' ((c.tc : Thread Cert.UpStepRefIdeal.nD Cert.UpStepRefIdeal.τ).loc Cert.UpStepRefIdeal.main_arg0) = m ((c.tc : Thread Cert.UpStepIdeal.nD Cert.UpStepIdeal.τ).loc Cert.UpStepIdeal.main_arg0)
      ∧ m' ((c.tc : Thread Cert.UpStepRefIdeal.nD Cert.UpStepRefIdeal.τ).loc Cert.UpStepRefIdeal.main_arg1) = m ((c.tc : Thread Cert.UpStepIdeal.nD Cert.UpStepIdeal.τ).loc Cert.UpStepIdeal.main_arg1)
      ∧ m' ((c.tc : Thread Cert.UpStepRefIdeal.nD Cert.UpStepRefIdeal.τ).loc Cert.UpStepRefIdeal.main_arg2) = m ((c.tc : Thread Cert.UpStepIdeal.nD Cert.UpStepIdeal.τ).loc Cert.UpStepIdeal.main_arg2)
      ∧ m' ((c.tc : Thread Cert.UpStepRefIdeal.nD Cert.UpStepRefIdeal.τ).loc Cert.UpStepRefIdeal.main_arg3) = m ((c.tc : Thread Cert.UpStepIdeal.nD Cert.UpStepIdeal.τ).loc Cert.UpStepIdeal.main_arg3)
      ∧ m' ((c.tc : Thread Cert.UpStepRefIdeal.nD Cert.UpStepRefIdeal.τ).loc Cert.UpStepRefIdeal.main_arg4) = m ((c.tc : Thread Cert.UpStepIdeal.nD Cert.UpStepIdeal.τ).loc Cert.UpStepIdeal.main_arg4)
      ∧ m' ((c.tc : Thread Cert.UpStepRefIdeal.nD Cert.UpStepRefIdeal.τ).loc Cert.UpStepRefIdeal.main_arg5) = m ((c.tc : Thread Cert.UpStepIdeal.nD Cert.UpStepIdeal.τ).loc Cert.UpStepIdeal.main_arg5)
      ∧ m' ((c.tc : Thread Cert.UpStepRefIdeal.nD Cert.UpStepRefIdeal.τ).loc Cert.UpStepRefIdeal.main_arg6) = m ((c.tc : Thread Cert.UpStepIdeal.nD Cert.UpStepIdeal.τ).loc Cert.UpStepIdeal.main_arg6)
      ∧ m' ((c.tc : Thread Cert.UpStepRefIdeal.nD Cert.UpStepRefIdeal.τ).loc Cert.UpStepRefIdeal.main_arg7) = m ((c.tc : Thread Cert.UpStepIdeal.nD Cert.UpStepIdeal.τ).loc Cert.UpStepIdeal.main_arg7)) →
    ∃ (v0 : (c : Dev Cert.UpStepIdeal.nD) → Buf (Elt Ideal) ((c.tc : Thread Cert.UpStepIdeal.nD Cert.UpStepIdeal.τ).loc Cert.UpStepIdeal.main_v4_0)) (v1 : (c : Dev Cert.UpStepIdeal.nD) → Buf (Elt Ideal) ((c.tc : Thread Cert.UpStepIdeal.nD Cert.UpStepIdeal.τ).loc Cert.UpStepIdeal.main_v4_1)) (v2 : (c : Dev Cert.UpStepIdeal.nD) → Buf (Elt Ideal) ((c.tc : Thread Cert.UpStepIdeal.nD Cert.UpStepIdeal.τ).loc Cert.UpStepIdeal.main_v4_2)) (v3 : (c : Dev Cert.UpStepIdeal.nD) → Buf (Elt Ideal) ((c.tc : Thread Cert.UpStepIdeal.nD Cert.UpStepIdeal.τ).loc Cert.UpStepIdeal.main_v4_3)),
      θ_run (Cert.UpStepIdeal.defs (F := Ideal)) (onTc (τ := Cert.UpStepIdeal.τ) (Cert.UpStepIdeal.main (F := Ideal))) ⟨m, fun _ => 0, g⟩ (fun r => ∀ c : Dev Cert.UpStepIdeal.nD,
          r.2.mem ((c.tc : Thread Cert.UpStepIdeal.nD Cert.UpStepIdeal.τ).loc Cert.UpStepIdeal.main_v4_0) = v0 c
          ∧ r.2.mem ((c.tc : Thread Cert.UpStepIdeal.nD Cert.UpStepIdeal.τ).loc Cert.UpStepIdeal.main_v4_1) = v1 c
          ∧ r.2.mem ((c.tc : Thread Cert.UpStepIdeal.nD Cert.UpStepIdeal.τ).loc Cert.UpStepIdeal.main_v4_2) = v2 c
          ∧ r.2.mem ((c.tc : Thread Cert.UpStepIdeal.nD Cert.UpStepIdeal.τ).loc Cert.UpStepIdeal.main_v4_3) = v3 c
          ∧ r.2.mem ((c.tc : Thread Cert.UpStepIdeal.nD Cert.UpStepIdeal.τ).loc Cert.UpStepIdeal.main_arg0) = m ((c.tc : Thread Cert.UpStepIdeal.nD Cert.UpStepIdeal.τ).loc Cert.UpStepIdeal.main_arg0)
          ∧ r.2.mem ((c.tc : Thread Cert.UpStepIdeal.nD Cert.UpStepIdeal.τ).loc Cert.UpStepIdeal.main_arg1) = m ((c.tc : Thread Cert.UpStepIdeal.nD Cert.UpStepIdeal.τ).loc Cert.UpStepIdeal.main_arg1)
          ∧ r.2.mem ((c.tc : Thread Cert.UpStepIdeal.nD Cert.UpStepIdeal.τ).loc Cert.UpStepIdeal.main_arg2) = m ((c.tc : Thread Cert.UpStepIdeal.nD Cert.UpStepIdeal.τ).loc Cert.UpStepIdeal.main_arg2)
          ∧ r.2.mem ((c.tc : Thread Cert.UpStepIdeal.nD Cert.UpStepIdeal.τ).loc Cert.UpStepIdeal.main_arg3) = m ((c.tc : Thread Cert.UpStepIdeal.nD Cert.UpStepIdeal.τ).loc Cert.UpStepIdeal.main_arg3)
          ∧ r.2.mem ((c.tc : Thread Cert.UpStepIdeal.nD Cert.UpStepIdeal.τ).loc Cert.UpStepIdeal.main_arg4) = m ((c.tc : Thread Cert.UpStepIdeal.nD Cert.UpStepIdeal.τ).loc Cert.UpStepIdeal.main_arg4)
          ∧ r.2.mem ((c.tc : Thread Cert.UpStepIdeal.nD Cert.UpStepIdeal.τ).loc Cert.UpStepIdeal.main_arg5) = m ((c.tc : Thread Cert.UpStepIdeal.nD Cert.UpStepIdeal.τ).loc Cert.UpStepIdeal.main_arg5)
          ∧ r.2.mem ((c.tc : Thread Cert.UpStepIdeal.nD Cert.UpStepIdeal.τ).loc Cert.UpStepIdeal.main_arg6) = m ((c.tc : Thread Cert.UpStepIdeal.nD Cert.UpStepIdeal.τ).loc Cert.UpStepIdeal.main_arg6)
          ∧ r.2.mem ((c.tc : Thread Cert.UpStepIdeal.nD Cert.UpStepIdeal.τ).loc Cert.UpStepIdeal.main_arg7) = m ((c.tc : Thread Cert.UpStepIdeal.nD Cert.UpStepIdeal.τ).loc Cert.UpStepIdeal.main_arg7))
      ∧ θ_run (Cert.UpStepRefIdeal.defs (F := Ideal)) (onTc (τ := Cert.UpStepRefIdeal.τ) (Cert.UpStepRefIdeal.main (F := Ideal))) ⟨m', fun _ => 0, g'⟩ (fun r => ∀ c : Dev Cert.UpStepRefIdeal.nD,
          r.2.mem ((c.tc : Thread Cert.UpStepRefIdeal.nD Cert.UpStepRefIdeal.τ).loc Cert.UpStepRefIdeal.main_v28) = v0 c
          ∧ r.2.mem ((c.tc : Thread Cert.UpStepRefIdeal.nD Cert.UpStepRefIdeal.τ).loc Cert.UpStepRefIdeal.main_v52) = v1 c
          ∧ r.2.mem ((c.tc : Thread Cert.UpStepRefIdeal.nD Cert.UpStepRefIdeal.τ).loc Cert.UpStepRefIdeal.main_v33) = v2 c
          ∧ r.2.mem ((c.tc : Thread Cert.UpStepRefIdeal.nD Cert.UpStepRefIdeal.τ).loc Cert.UpStepRefIdeal.main_v39) = v3 c
          ∧ r.2.mem ((c.tc : Thread Cert.UpStepRefIdeal.nD Cert.UpStepRefIdeal.τ).loc Cert.UpStepRefIdeal.main_arg0) = m' ((c.tc : Thread Cert.UpStepRefIdeal.nD Cert.UpStepRefIdeal.τ).loc Cert.UpStepRefIdeal.main_arg0)
          ∧ r.2.mem ((c.tc : Thread Cert.UpStepRefIdeal.nD Cert.UpStepRefIdeal.τ).loc Cert.UpStepRefIdeal.main_arg1) = m' ((c.tc : Thread Cert.UpStepRefIdeal.nD Cert.UpStepRefIdeal.τ).loc Cert.UpStepRefIdeal.main_arg1)
          ∧ r.2.mem ((c.tc : Thread Cert.UpStepRefIdeal.nD Cert.UpStepRefIdeal.τ).loc Cert.UpStepRefIdeal.main_arg2) = m' ((c.tc : Thread Cert.UpStepRefIdeal.nD Cert.UpStepRefIdeal.τ).loc Cert.UpStepRefIdeal.main_arg2)
          ∧ r.2.mem ((c.tc : Thread Cert.UpStepRefIdeal.nD Cert.UpStepRefIdeal.τ).loc Cert.UpStepRefIdeal.main_arg3) = m' ((c.tc : Thread Cert.UpStepRefIdeal.nD Cert.UpStepRefIdeal.τ).loc Cert.UpStepRefIdeal.main_arg3)
          ∧ r.2.mem ((c.tc : Thread Cert.UpStepRefIdeal.nD Cert.UpStepRefIdeal.τ).loc Cert.UpStepRefIdeal.main_arg4) = m' ((c.tc : Thread Cert.UpStepRefIdeal.nD Cert.UpStepRefIdeal.τ).loc Cert.UpStepRefIdeal.main_arg4)
          ∧ r.2.mem ((c.tc : Thread Cert.UpStepRefIdeal.nD Cert.UpStepRefIdeal.τ).loc Cert.UpStepRefIdeal.main_arg5) = m' ((c.tc : Thread Cert.UpStepRefIdeal.nD Cert.UpStepRefIdeal.τ).loc Cert.UpStepRefIdeal.main_arg5)
          ∧ r.2.mem ((c.tc : Thread Cert.UpStepRefIdeal.nD Cert.UpStepRefIdeal.τ).loc Cert.UpStepRefIdeal.main_arg6) = m' ((c.tc : Thread Cert.UpStepRefIdeal.nD Cert.UpStepRefIdeal.τ).loc Cert.UpStepRefIdeal.main_arg6)
          ∧ r.2.mem ((c.tc : Thread Cert.UpStepRefIdeal.nD Cert.UpStepRefIdeal.τ).loc Cert.UpStepRefIdeal.main_arg7) = m' ((c.tc : Thread Cert.UpStepRefIdeal.nD Cert.UpStepRefIdeal.τ).loc Cert.UpStepRefIdeal.main_arg7))

def Claim : Prop :=
  ∃ (hGate : Cert.Gate.Facts) (hGateIdeal : Cert.GateIdeal.Facts) (hGateRefIdeal : Cert.GateRefIdeal.Facts) (hDilDw : Cert.DilDw.Facts) (hDilDwIdeal : Cert.DilDwIdeal.Facts) (hDilDwRefIdeal : Cert.DilDwRefIdeal.Facts) (hDilDh : Cert.DilDh.Facts) (hDilDhIdeal : Cert.DilDhIdeal.Facts) (hDilDhRefIdeal : Cert.DilDhRefIdeal.Facts) (hNaDw : Cert.NaDw.Facts) (hNaDwIdeal : Cert.NaDwIdeal.Facts) (hNaDwRefIdeal : Cert.NaDwRefIdeal.Facts) (hNaDh : Cert.NaDh.Facts) (hNaDhIdeal : Cert.NaDhIdeal.Facts) (hNaDhRefIdeal : Cert.NaDhRefIdeal.Facts) (hProjDw : Cert.ProjDw.Facts) (hProjDwIdeal : Cert.ProjDwIdeal.Facts) (hProjDwRefIdeal : Cert.ProjDwRefIdeal.Facts) (hProjDo : Cert.ProjDo.Facts) (hProjDoIdeal : Cert.ProjDoIdeal.Facts) (hProjDoRefIdeal : Cert.ProjDoRefIdeal.Facts) (hDil : Cert.Dil.Facts) (hDilIdeal : Cert.DilIdeal.Facts) (hDilRefIdeal : Cert.DilRefIdeal.Facts) (hNa : Cert.Na.Facts) (hNaIdeal : Cert.NaIdeal.Facts) (hNaRefIdeal : Cert.NaRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hFfnGrad : Cert.FfnGrad.Facts) (hFfnGradIdeal : Cert.FfnGradIdeal.Facts) (hFfnGradRefIdeal : Cert.FfnGradRefIdeal.Facts) (hSmallStep : Cert.SmallStep.Facts) (hSmallStepIdeal : Cert.SmallStepIdeal.Facts) (hSmallStepRefIdeal : Cert.SmallStepRefIdeal.Facts) (hDilOStep : Cert.DilOStep.Facts) (hDilOStepIdeal : Cert.DilOStepIdeal.Facts) (hDilOStepRefIdeal : Cert.DilOStepRefIdeal.Facts) (hNaOStep : Cert.NaOStep.Facts) (hNaOStepIdeal : Cert.NaOStepIdeal.Facts) (hNaOStepRefIdeal : Cert.NaOStepRefIdeal.Facts) (hDilQkvStep : Cert.DilQkvStep.Facts) (hDilQkvStepIdeal : Cert.DilQkvStepIdeal.Facts) (hDilQkvStepRefIdeal : Cert.DilQkvStepRefIdeal.Facts) (hNaQkvStep : Cert.NaQkvStep.Facts) (hNaQkvStepIdeal : Cert.NaQkvStepIdeal.Facts) (hNaQkvStepRefIdeal : Cert.NaQkvStepRefIdeal.Facts) (hGateStep : Cert.GateStep.Facts) (hGateStepIdeal : Cert.GateStepIdeal.Facts) (hGateStepRefIdeal : Cert.GateStepRefIdeal.Facts) (hUpStep : Cert.UpStep.Facts) (hUpStepIdeal : Cert.UpStepIdeal.Facts) (hUpStepRefIdeal : Cert.UpStepRefIdeal.Facts) (hPre_finite : Cert.Pre_finite.Facts) (hPre_numbered_out : Cert.Pre_numbered_out.Facts) (hPre_numbered_dil : Cert.Pre_numbered_dil.Facts) (hPre_numbered_na : Cert.Pre_numbered_na.Facts) (hPre_numbered_ffn : Cert.Pre_numbered_ffn.Facts),
    quiescent_Gate (hGate := hGate)
    ∧ quiescent_GateIdeal (hGateIdeal := hGateIdeal)
    ∧ quiescent_GateRefIdeal (hGateRefIdeal := hGateRefIdeal)
    ∧ quiescent_DilDw (hDilDw := hDilDw)
    ∧ quiescent_DilDwIdeal (hDilDwIdeal := hDilDwIdeal)
    ∧ quiescent_DilDwRefIdeal (hDilDwRefIdeal := hDilDwRefIdeal)
    ∧ quiescent_DilDh (hDilDh := hDilDh)
    ∧ quiescent_DilDhIdeal (hDilDhIdeal := hDilDhIdeal)
    ∧ quiescent_DilDhRefIdeal (hDilDhRefIdeal := hDilDhRefIdeal)
    ∧ quiescent_NaDw (hNaDw := hNaDw)
    ∧ quiescent_NaDwIdeal (hNaDwIdeal := hNaDwIdeal)
    ∧ quiescent_NaDwRefIdeal (hNaDwRefIdeal := hNaDwRefIdeal)
    ∧ quiescent_NaDh (hNaDh := hNaDh)
    ∧ quiescent_NaDhIdeal (hNaDhIdeal := hNaDhIdeal)
    ∧ quiescent_NaDhRefIdeal (hNaDhRefIdeal := hNaDhRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDo (hProjDo := hProjDo)
    ∧ quiescent_ProjDoIdeal (hProjDoIdeal := hProjDoIdeal)
    ∧ quiescent_ProjDoRefIdeal (hProjDoRefIdeal := hProjDoRefIdeal)
    ∧ quiescent_Dil (hDil := hDil)
    ∧ quiescent_DilIdeal (hDilIdeal := hDilIdeal)
    ∧ quiescent_DilRefIdeal (hDilRefIdeal := hDilRefIdeal)
    ∧ quiescent_Na (hNa := hNa)
    ∧ quiescent_NaIdeal (hNaIdeal := hNaIdeal)
    ∧ quiescent_NaRefIdeal (hNaRefIdeal := hNaRefIdeal)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnGrad (hFfnGrad := hFfnGrad)
    ∧ quiescent_FfnGradIdeal (hFfnGradIdeal := hFfnGradIdeal)
    ∧ quiescent_FfnGradIdeal_pre_finite (hFfnGradIdeal := hFfnGradIdeal) (hPre_finite := hPre_finite)
    ∧ quiescent_FfnGradRefIdeal (hFfnGradRefIdeal := hFfnGradRefIdeal)
    ∧ quiescent_FfnGradRefIdeal_pre_finite (hFfnGradRefIdeal := hFfnGradRefIdeal) (hPre_finite := hPre_finite)
    ∧ quiescent_SmallStep (hSmallStep := hSmallStep)
    ∧ quiescent_SmallStepIdeal (hSmallStepIdeal := hSmallStepIdeal)
    ∧ quiescent_SmallStepRefIdeal (hSmallStepRefIdeal := hSmallStepRefIdeal)
    ∧ quiescent_DilOStep (hDilOStep := hDilOStep) (hPre_numbered_out := hPre_numbered_out)
    ∧ quiescent_DilOStepIdeal (hDilOStepIdeal := hDilOStepIdeal) (hPre_numbered_out := hPre_numbered_out)
    ∧ quiescent_DilOStepRefIdeal (hDilOStepRefIdeal := hDilOStepRefIdeal) (hPre_numbered_out := hPre_numbered_out)
    ∧ quiescent_NaOStep (hNaOStep := hNaOStep) (hPre_numbered_out := hPre_numbered_out)
    ∧ quiescent_NaOStepIdeal (hNaOStepIdeal := hNaOStepIdeal) (hPre_numbered_out := hPre_numbered_out)
    ∧ quiescent_NaOStepRefIdeal (hNaOStepRefIdeal := hNaOStepRefIdeal) (hPre_numbered_out := hPre_numbered_out)
    ∧ quiescent_DilQkvStep (hDilQkvStep := hDilQkvStep) (hPre_numbered_dil := hPre_numbered_dil)
    ∧ quiescent_DilQkvStepIdeal (hDilQkvStepIdeal := hDilQkvStepIdeal) (hPre_numbered_dil := hPre_numbered_dil)
    ∧ quiescent_DilQkvStepRefIdeal (hDilQkvStepRefIdeal := hDilQkvStepRefIdeal) (hPre_numbered_dil := hPre_numbered_dil)
    ∧ quiescent_NaQkvStep (hNaQkvStep := hNaQkvStep) (hPre_numbered_na := hPre_numbered_na)
    ∧ quiescent_NaQkvStepIdeal (hNaQkvStepIdeal := hNaQkvStepIdeal) (hPre_numbered_na := hPre_numbered_na)
    ∧ quiescent_NaQkvStepRefIdeal (hNaQkvStepRefIdeal := hNaQkvStepRefIdeal) (hPre_numbered_na := hPre_numbered_na)
    ∧ quiescent_GateStep (hGateStep := hGateStep) (hPre_numbered_ffn := hPre_numbered_ffn)
    ∧ quiescent_GateStepIdeal (hGateStepIdeal := hGateStepIdeal) (hPre_numbered_ffn := hPre_numbered_ffn)
    ∧ quiescent_GateStepRefIdeal (hGateStepRefIdeal := hGateStepRefIdeal) (hPre_numbered_ffn := hPre_numbered_ffn)
    ∧ quiescent_UpStep (hUpStep := hUpStep) (hPre_numbered_ffn := hPre_numbered_ffn)
    ∧ quiescent_UpStepIdeal (hUpStepIdeal := hUpStepIdeal) (hPre_numbered_ffn := hPre_numbered_ffn)
    ∧ quiescent_UpStepRefIdeal (hUpStepRefIdeal := hUpStepRefIdeal) (hPre_numbered_ffn := hPre_numbered_ffn)
    ∧ preserves_Gate_GateIdeal
    ∧ preserves_DilDw_DilDwIdeal
    ∧ preserves_DilDh_DilDhIdeal
    ∧ preserves_NaDw_NaDwIdeal
    ∧ preserves_NaDh_NaDhIdeal
    ∧ preserves_ProjDw_ProjDwIdeal
    ∧ preserves_ProjDo_ProjDoIdeal
    ∧ preserves_Dil_DilIdeal
    ∧ preserves_Na_NaIdeal
    ∧ preserves_Proj_ProjIdeal
    ∧ preserves_Ffn_FfnIdeal
    ∧ preserves_FfnGrad_FfnGradIdeal
    ∧ preserves_SmallStep_SmallStepIdeal
    ∧ preserves_DilOStep_DilOStepIdeal
    ∧ preserves_NaOStep_NaOStepIdeal
    ∧ preserves_DilQkvStep_DilQkvStepIdeal
    ∧ preserves_NaQkvStep_NaQkvStepIdeal
    ∧ preserves_GateStep_GateStepIdeal
    ∧ preserves_UpStep_UpStepIdeal
    ∧ algebraic_GateIdeal_GateRefIdeal (hGateIdeal := hGateIdeal) (hGateRefIdeal := hGateRefIdeal)
    ∧ algebraic_DilDwIdeal_DilDwRefIdeal (hDilDwIdeal := hDilDwIdeal) (hDilDwRefIdeal := hDilDwRefIdeal)
    ∧ algebraic_DilDhIdeal_DilDhRefIdeal (hDilDhIdeal := hDilDhIdeal) (hDilDhRefIdeal := hDilDhRefIdeal)
    ∧ algebraic_NaDwIdeal_NaDwRefIdeal (hNaDwIdeal := hNaDwIdeal) (hNaDwRefIdeal := hNaDwRefIdeal)
    ∧ algebraic_NaDhIdeal_NaDhRefIdeal (hNaDhIdeal := hNaDhIdeal) (hNaDhRefIdeal := hNaDhRefIdeal)
    ∧ algebraic_ProjDwIdeal_ProjDwRefIdeal (hProjDwIdeal := hProjDwIdeal) (hProjDwRefIdeal := hProjDwRefIdeal)
    ∧ algebraic_ProjDoIdeal_ProjDoRefIdeal (hProjDoIdeal := hProjDoIdeal) (hProjDoRefIdeal := hProjDoRefIdeal)
    ∧ algebraic_DilIdeal_DilRefIdeal (hDilIdeal := hDilIdeal) (hDilRefIdeal := hDilRefIdeal)
    ∧ algebraic_NaIdeal_NaRefIdeal (hNaIdeal := hNaIdeal) (hNaRefIdeal := hNaRefIdeal)
    ∧ algebraic_ProjIdeal_ProjRefIdeal (hProjIdeal := hProjIdeal) (hProjRefIdeal := hProjRefIdeal)
    ∧ algebraic_FfnIdeal_FfnRefIdeal (hFfnIdeal := hFfnIdeal) (hFfnRefIdeal := hFfnRefIdeal)
    ∧ algebraic_FfnGradIdeal_FfnGradRefIdeal_pre_finite (hFfnGradIdeal := hFfnGradIdeal) (hFfnGradRefIdeal := hFfnGradRefIdeal) (hPre_finite := hPre_finite)
    ∧ algebraic_SmallStepIdeal_SmallStepRefIdeal (hSmallStepIdeal := hSmallStepIdeal) (hSmallStepRefIdeal := hSmallStepRefIdeal)
    ∧ algebraic_DilOStepIdeal_DilOStepRefIdeal (hDilOStepIdeal := hDilOStepIdeal) (hDilOStepRefIdeal := hDilOStepRefIdeal) (hPre_numbered_out := hPre_numbered_out)
    ∧ algebraic_NaOStepIdeal_NaOStepRefIdeal (hNaOStepIdeal := hNaOStepIdeal) (hNaOStepRefIdeal := hNaOStepRefIdeal) (hPre_numbered_out := hPre_numbered_out)
    ∧ algebraic_DilQkvStepIdeal_DilQkvStepRefIdeal (hDilQkvStepIdeal := hDilQkvStepIdeal) (hDilQkvStepRefIdeal := hDilQkvStepRefIdeal) (hPre_numbered_dil := hPre_numbered_dil)
    ∧ algebraic_NaQkvStepIdeal_NaQkvStepRefIdeal (hNaQkvStepIdeal := hNaQkvStepIdeal) (hNaQkvStepRefIdeal := hNaQkvStepRefIdeal) (hPre_numbered_na := hPre_numbered_na)
    ∧ algebraic_GateStepIdeal_GateStepRefIdeal (hGateStepIdeal := hGateStepIdeal) (hGateStepRefIdeal := hGateStepRefIdeal) (hPre_numbered_ffn := hPre_numbered_ffn)
    ∧ algebraic_UpStepIdeal_UpStepRefIdeal (hUpStepIdeal := hUpStepIdeal) (hUpStepRefIdeal := hUpStepRefIdeal) (hPre_numbered_ffn := hPre_numbered_ffn)
-- ==== Pre_finite.lean ====
abbrev S2048x1024 : Shape := ⟨2, ![2048, 1024]⟩
abbrev S8x2x1024x384 : Shape := ⟨4, ![8, 2, 1024, 384]⟩
abbrev S8x384x1024 : Shape := ⟨3, ![8, 384, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x2x1024x384 : S_.BroadcastsInDim S8x2x1024x384 (![] : Fin 0 → Fin S8x2x1024x384.rank)
  reducesTo_S8x2x1024x384_S_d0_1_2_3 : S8x2x1024x384.ReducesTo [0, 1, 2, 3] S_
  bcast_S_S8x384x1024 : S_.BroadcastsInDim S8x384x1024 (![] : Fin 0 → Fin S8x384x1024.rank)
  reducesTo_S8x384x1024_S_d0_1_2 : S8x384x1024.ReducesTo [0, 1, 2] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S8x2x1024x384 .f32) (main_arg2 : FVec F S8x384x1024 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8x2x1024x384 .f32 := Host.absf main_arg1
  let main_cst_0 : FVec F S_ .f32 := constant S_ .f32 0x7F800000#32
  let main_v5 : FVec F S8x2x1024x384 .f32 := broadcastInDim S8x2x1024x384 ![] bcast_S_S8x2x1024x384 main_cst_0
  let main_v6 : IVec S8x2x1024x384 1 := cmpf .olt main_v4 main_v5
  let main_c_1 : IVec S_ 1 := constantI S_ 1 1#1
  let main_v7 : IVec S_ 1 := (fun x v => Host.reduce IntOp.andi x v reducesTo_S8x2x1024x384_S_d0_1_2_3 h_S_) main_v6 main_c_1
  let main_v8 : IVec S_ 1 := andi main_v3 main_v7
  let main_v9 : FVec F S8x384x1024 .f32 := Host.absf main_arg2
  let main_cst_2 : FVec F S_ .f32 := constant S_ .f32 0x7F800000#32
  let main_v10 : FVec F S8x384x1024 .f32 := broadcastInDim S8x384x1024 ![] bcast_S_S8x384x1024 main_cst_2
  let main_v11 : IVec S8x384x1024 1 := cmpf .olt main_v9 main_v10
  let main_c_3 : IVec S_ 1 := constantI S_ 1 1#1
  let main_v12 : IVec S_ 1 := (fun x v => Host.reduce IntOp.andi x v reducesTo_S8x384x1024_S_d0_1_2 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_numbered_dil.lean ====
abbrev S1 : Shape := ⟨1, ![1]⟩
abbrev S7x1024x1152 : Shape := ⟨3, ![7, 1024, 1152]⟩
abbrev S1024x9216 : Shape := ⟨2, ![1024, 9216]⟩
abbrev S1x1024x1152 : Shape := ⟨3, ![1, 1024, 1152]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S7x1024x1152 .f32) (main_arg2 : FVec F S1024x9216 .f32) (main_arg3 : FVec F S1x1024x1152 .f32) (main_arg4 : FVec F S1x1024x1152 .f32) (main_arg5 : FVec F S1x1024x1152 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 7#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_numbered_ffn.lean ====
abbrev S1 : Shape := ⟨1, ![1]⟩
abbrev S7x2x1024x384 : Shape := ⟨4, ![7, 2, 1024, 384]⟩
abbrev S8x2x1024x384 : Shape := ⟨4, ![8, 2, 1024, 384]⟩
abbrev S2x1024x352 : Shape := ⟨3, ![2, 1024, 352]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S7x2x1024x384 .f32) (main_arg2 : FVec F S7x2x1024x384 .f32) (main_arg3 : FVec F S8x2x1024x384 .f32) (main_arg4 : FVec F S8x2x1024x384 .f32) (main_arg5 : FVec F S2x1024x352 .f32) (main_arg6 : FVec F S2x1024x352 .f32) (main_arg7 : FVec F S2x1024x352 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 7#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_numbered_na.lean ====
abbrev S1 : Shape := ⟨1, ![1]⟩
abbrev S7x1024x384 : Shape := ⟨3, ![7, 1024, 384]⟩
abbrev S1024x3072 : Shape := ⟨2, ![1024, 3072]⟩
abbrev S1x1024x384 : Shape := ⟨3, ![1, 1024, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S7x1024x384 .f32) (main_arg2 : FVec F S1024x3072 .f32) (main_arg3 : FVec F S1x1024x384 .f32) (main_arg4 : FVec F S1x1024x384 .f32) (main_arg5 : FVec F S1x1024x384 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 7#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_numbered_out.lean ====
abbrev S1 : Shape := ⟨1, ![1]⟩
abbrev S7x128x1024 : Shape := ⟨3, ![7, 128, 1024]⟩
abbrev S8x128x1024 : Shape := ⟨3, ![8, 128, 1024]⟩
abbrev S1x128x1024 : Shape := ⟨3, ![1, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S7x128x1024 .f32) (main_arg2 : FVec F S8x128x1024 .f32) (main_arg3 : FVec F S1x128x1024 .f32) (main_arg4 : FVec F S1x128x1024 .f32) (main_arg5 : FVec F S1x128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 7#32
  let main_v2 : IVec S1 32 := broadcastInDim S1 ![] bcast_S_S1 main_c_0
  let main_v3 : IVec S1 1 := cmpi .sle main_arg0 main_v2
  let main_v4 : IVec S1 1 := andi main_v1 main_v3
  main_v4
-- ==== Gate.lean ====
abbrev S2048x1024 : Shape := ⟨2, ![2048, 1024]⟩
abbrev S8x2x1024x384 : Shape := ⟨4, ![8, 2, 1024, 384]⟩
abbrev S2x8x2048x384 : Shape := ⟨4, ![2, 8, 2048, 384]⟩
abbrev S1024x2048 : Shape := ⟨2, ![1024, 2048]⟩
abbrev S2x1x2048x384 : Shape := ⟨4, ![2, 1, 2048, 384]⟩
abbrev S1x2x1024x384 : Shape := ⟨4, ![1, 2, 1024, 384]⟩
abbrev S1x1x2048x384 : Shape := ⟨4, ![1, 1, 2048, 384]⟩
abbrev S2048x384 : Shape := ⟨2, ![2048, 384]⟩
abbrev S2048x768 : Shape := ⟨2, ![2048, 768]⟩
abbrev S1024x768 : Shape := ⟨2, ![1024, 768]⟩
abbrev S1024x384 : Shape := ⟨2, ![1024, 384]⟩
abbrev S1x1x1024x384 : Shape := ⟨4, ![1, 1, 1024, 384]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x2x1024x384, .f32⟩
  | .hbm, ⟨2, _⟩ => ⟨S2x8x2048x384, .f32⟩
  | .hbm, ⟨3, _⟩ => ⟨S2048x1024, .bf16⟩
  | .hbm, ⟨4, _⟩ => ⟨S1024x2048, .bf16⟩
  | .hbm, ⟨5, _⟩ => ⟨S2x8x2048x384, .bf16⟩
  | .hbm, ⟨6, _⟩ => ⟨S8x2x1024x384, .bf16⟩
  | .local _ .vmem, ⟨0, _⟩ => ⟨S1024x2048, .bf16⟩
  | .local _ .vmem, ⟨1, _⟩ => ⟨S2x1x2048x384, .bf16⟩
  | .local _ .vmem, ⟨2, _⟩ => ⟨S2x1x2048x384, .bf16⟩
  | .local _ .vmem, ⟨3, _⟩ => ⟨S1x2x1024x384, .bf16⟩
  | .local _ .vmem, ⟨4, _⟩ => ⟨S1x2x1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S2048x1024 : Shape := ⟨2, ![2048, 1024]⟩
abbrev S8x2x1024x384 : Shape := ⟨4, ![8, 2, 1024, 384]⟩
abbrev S2x8x2048x384 : Shape := ⟨4, ![2, 8, 2048, 384]⟩
abbrev S8x2x384x2048 : Shape := ⟨4, ![8, 2, 384, 2048]⟩
abbrev S8x2x384x1024 : Shape := ⟨4, ![8, 2, 384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2x1024x384, .f32⟩
  | .hbm, ⟨2, _⟩ => ⟨S2x8x2048x384, .f32⟩
  | .hbm, ⟨3, _⟩ => ⟨S8x2x384x2048, .f32⟩
  | .hbm, ⟨4, _⟩ => ⟨S2x8x2048x384, .f32⟩
  | .hbm, ⟨5, _⟩ => ⟨S8x2x384x2048, .f32⟩
  | .hbm, ⟨6, _⟩ => ⟨S8x2x384x1024, .f32⟩
  | .hbm, ⟨7, _⟩ => ⟨S8x2x1024x384, .f32⟩
  | .hbm, ⟨8, _⟩ => ⟨S8x2x1024x384, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DilDw.lean ====
abbrev S3x2048x1024 : Shape := ⟨3, ![3, 2048, 1024]⟩
abbrev S1024x9216 : Shape := ⟨2, ![1024, 9216]⟩
abbrev S9x2048x1024 : Shape := ⟨3, ![9, 2048, 1024]⟩
abbrev S1x2048x1024 : Shape := ⟨3, ![1, 2048, 1024]⟩
abbrev S2048x1024 : Shape := ⟨2, ![2048, 1024]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 17
  | .vmem => 10
  | .smem => 0
  | _ => 0

abbrev bufTy : (tb : Table) → Fin (tcTables nBuf tb) → BufTy
  | .hbm, ⟨0, _⟩ => ⟨S3x2048x1024, .f32⟩
  | .hbm, ⟨1, _⟩ => ⟨S1024x9216, .f32⟩
  | .hbm, ⟨2, _⟩ => ⟨S9x2048x1024, .f32⟩
  | .hbm, ⟨3, _⟩ => ⟨S1x2048x1024, .f32⟩
  | .hbm, ⟨4, _⟩ => ⟨S2048x1024, .f32⟩
  | .hbm, ⟨5, _⟩ => ⟨S2048x1024, .bf16⟩
  | .hbm, ⟨6, _⟩ => ⟨S1024x2048, .bf16⟩
  | .hbm, ⟨7, _⟩ => ⟨S1x2048x1024, .f32⟩
  | .hbm, ⟨8, _⟩ => ⟨S2048x1024, .f32⟩
  | .hbm, ⟨9, _⟩ => ⟨S2048x1024, .bf16⟩
  | .hbm, ⟨10, _⟩ => ⟨S1024x2048, .bf16⟩
  | .hbm, ⟨11, _⟩ => ⟨S1x2048x1024, .f32⟩
  | .hbm, ⟨12, _⟩ => ⟨S2048x1024, .f32⟩
  | .hbm, ⟨13, _⟩ => ⟨S2048x1024, .bf16⟩
  | .hbm, ⟨14, _⟩ => ⟨S1024x2048, .bf16⟩
  | .hbm, ⟨15, _⟩ => ⟨S9x2048x1024, .bf16⟩
  | .hbm, ⟨16, _⟩ => ⟨S1024x9216, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S512x1024, .bf16⟩
  | .local _ .vmem, ⟨9, _⟩ => ⟨S512x1024, .bf16⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 2], ![false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 1 := Scalar.cmpi .slt v16 c0_i32_5
  let c0_i32_6 : BitVec 32 := 0#32
  let c1_i32_7 : BitVec 32 := 1#32
  let v19 : BitVec 32 := Scalar.select v18 c0_i32_6 c1_i32_7
  let v20 : BitVec 32 := Scalar.select v17 arg1 v19
  let c0_i32_8 : BitVec 32 := 0#32
  let c0_i32_9 : BitVec 32 := 0#32
  ![v20.toNat, c0_i32_8.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c1_i32_5 : BitVec 32 := 1#32
  let v18 : BitVec 1 := Scalar.cmpi .slt v16 c1_i32_5
  let c0_i32_6 : BitVec 32 := 0#32
  let c1_i32_7 : BitVec 32 := 1#32
  let v19 : BitVec 32 := Scalar.select v18 c0_i32_6 c1_i32_7
  let v20 : BitVec 32 := Scalar.select v17 arg1 v19
  let c0_i32_8 : BitVec 32 := 0#32
  let c0_i32_9 : BitVec 32 := 0#32
  ![v20.toNat, c0_i32_8.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 1 := Scalar.cmpi .eq v16 c2_i32
  let c2_i32_4 : BitVec 32 := 2#32
  let v18 : BitVec 1 := Scalar.cmpi .slt v16 c2_i32_4
  let c0_i32_5 : BitVec 32 := 0#32
  let c1_i32_6 : BitVec 32 := 1#32
  let v19 : BitVec 32 := Scalar.select v18 c0_i32_5 c1_i32_6
  let v20 : BitVec 32 := Scalar.select v17 arg1 v19
  let c0_i32_7 : BitVec 32 := 0#32
  let c0_i32_8 : BitVec 32 := 0#32
  ![v20.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DilDwRefIdeal.lean ====
abbrev S3x2048x1024 : Shape := ⟨3, ![3, 2048, 1024]⟩
abbrev S1024x9216 : Shape := ⟨2, ![1024, 9216]⟩
abbrev S9x2048x1024 : Shape := ⟨3, ![9, 2048, 1024]⟩
abbrev S1024x3x3072 : Shape := ⟨3, ![1024, 3, 3072]⟩
abbrev S3x2048x3072 : Shape := ⟨3, ![3, 2048, 3072]⟩
abbrev S3x2048x3x1024 : Shape := ⟨4, ![3, 2048, 3, 1024]⟩
abbrev S3x3x2048x1024 : Shape := ⟨4, ![3, 3, 2048, 1024]⟩
abbrev S3x3072x1024 : Shape := ⟨3, ![3, 3072, 1024]⟩

abbrev nBuf : Space → Nat
  | .hbm => 15
  | .vmem => 0
  | .smem => 0
  | _ => 0

abbrev bufTy : (tb : Table) → Fin (tcTables nBuf tb) → BufTy
  | .hbm, ⟨0, _⟩ => ⟨S3x2048x1024, .f32⟩
  | .hbm, ⟨1, _⟩ => ⟨S1024x9216, .f32⟩
  | .hbm, ⟨2, _⟩ => ⟨S9x2048x1024, .f32⟩
  | .hbm, ⟨3, _⟩ => ⟨S1024x3x3072, .f32⟩
  | .hbm, ⟨4, _⟩ => ⟨S3x2048x3072, .f32⟩
  | .hbm, ⟨5, _⟩ => ⟨S3x2048x3x1024, .f32⟩
  | .hbm, ⟨6, _⟩ => ⟨S3x3x2048x1024, .f32⟩
  | .hbm, ⟨7, _⟩ => ⟨S9x2048x1024, .f32⟩
  | .hbm, ⟨8, _⟩ => ⟨S3x3x2048x1024, .f32⟩
  | .hbm, ⟨9, _⟩ => ⟨S3x2048x3x1024, .f32⟩
  | .hbm, ⟨10, _⟩ => ⟨S3x2048x3072, .f32⟩
  | .hbm, ⟨11, _⟩ => ⟨S3x3072x1024, .f32⟩
  | .hbm, ⟨12, _⟩ => ⟨S1024x3x3072, .f32⟩
  | .hbm, ⟨13, _⟩ => ⟨S1024x9216, .f32⟩
  | .hbm, ⟨14, _⟩ => ⟨S1024x9216, .bf16⟩
  | _, _ => ⟨S3x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DilDh.lean ====
abbrev S3x2048x1024 : Shape := ⟨3, ![3, 2048, 1024]⟩
abbrev S1024x9216 : Shape := ⟨2, ![1024, 9216]⟩
abbrev S9x2048x1024 : Shape := ⟨3, ![9, 2048, 1024]⟩
abbrev S3x1024x1024 : Shape := ⟨3, ![3, 1024, 1024]⟩
abbrev S1024x3072 : Shape := ⟨2, ![1024, 3072]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S3x2048x1024, .f32⟩
  | .hbm, ⟨1, _⟩ => ⟨S1024x9216, .f32⟩
  | .hbm, ⟨2, _⟩ => ⟨S9x2048x1024, .f32⟩
  | .hbm, ⟨3, _⟩ => ⟨S9x2048x1024, .bf16⟩
  | .hbm, ⟨4, _⟩ => ⟨S1024x9216, .bf16⟩
  | .hbm, ⟨5, _⟩ => ⟨S3x2048x1024, .f32⟩
  | .local _ .vmem, ⟨0, _⟩ => ⟨S3x1024x1024, .bf16⟩
  | .local _ .vmem, ⟨1, _⟩ => ⟨S3x1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1x1024x1024, .f32⟩
  | .local _ .vmem, ⟨5, _⟩ => ⟨S1x1024x1024, .f32⟩
  | .local _ .vmem, ⟨6, _⟩ => ⟨S8x128, .f32⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S3x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilDhRefIdeal.lean ====
abbrev S3x2048x1024 : Shape := ⟨3, ![3, 2048, 1024]⟩
abbrev S1024x9216 : Shape := ⟨2, ![1024, 9216]⟩
abbrev S9x2048x1024 : Shape := ⟨3, ![9, 2048, 1024]⟩
abbrev S1024x3x3072 : Shape := ⟨3, ![1024, 3, 3072]⟩
abbrev S3x2048x3072 : Shape := ⟨3, ![3, 2048, 3072]⟩
abbrev S3x2048x3x1024 : Shape := ⟨4, ![3, 2048, 3, 1024]⟩
abbrev S3x3x2048x1024 : Shape := ⟨4, ![3, 3, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S3x2048x1024, .f32⟩
  | .hbm, ⟨1, _⟩ => ⟨S1024x9216, .f32⟩
  | .hbm, ⟨2, _⟩ => ⟨S9x2048x1024, .f32⟩
  | .hbm, ⟨3, _⟩ => ⟨S1024x3x3072, .f32⟩
  | .hbm, ⟨4, _⟩ => ⟨S3x2048x3072, .f32⟩
  | .hbm, ⟨5, _⟩ => ⟨S3x2048x3x1024, .f32⟩
  | .hbm, ⟨6, _⟩ => ⟨S3x3x2048x1024, .f32⟩
  | .hbm, ⟨7, _⟩ => ⟨S9x2048x1024, .f32⟩
  | .hbm, ⟨8, _⟩ => ⟨S3x3x2048x1024, .f32⟩
  | .hbm, ⟨9, _⟩ => ⟨S3x2048x3x1024, .f32⟩
  | .hbm, ⟨10, _⟩ => ⟨S3x2048x3072, .f32⟩
  | .hbm, ⟨11, _⟩ => ⟨S3x2048x1024, .f32⟩
  | _, _ => ⟨S3x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NaDw.lean ====
abbrev S2048x1024 : Shape := ⟨2, ![2048, 1024]⟩
abbrev S1024x3072 : Shape := ⟨2, ![1024, 3072]⟩
abbrev S3x2048x1024 : Shape := ⟨3, ![3, 2048, 1024]⟩
abbrev S1024x2048 : Shape := ⟨2, ![1024, 2048]⟩
abbrev S512x2048 : Shape := ⟨2, ![512, 2048]⟩
abbrev S1x2048x1024 : Shape := ⟨3, ![1, 2048, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x2048x1024, .f32⟩
  | .hbm, ⟨3, _⟩ => ⟨S2048x1024, .bf16⟩
  | .hbm, ⟨4, _⟩ => ⟨S1024x2048, .bf16⟩
  | .hbm, ⟨5, _⟩ => ⟨S3x2048x1024, .bf16⟩
  | .hbm, ⟨6, _⟩ => ⟨S1024x3072, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 1 := Scalar.cmpi .slt v16 c0_i32_5
  let c0_i32_6 : BitVec 32 := 0#32
  let c1_i32_7 : BitVec 32 := 1#32
  let v19 : BitVec 32 := Scalar.select v18 c0_i32_6 c1_i32_7
  let v20 : BitVec 32 := Scalar.select v17 arg1 v19
  let c0_i32_8 : BitVec 32 := 0#32
  let c0_i32_9 : BitVec 32 := 0#32
  ![v20.toNat, c0_i32_8.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NaDwRefIdeal.lean ====
abbrev S2048x1024 : Shape := ⟨2, ![2048, 1024]⟩
abbrev S1024x3072 : Shape := ⟨2, ![1024, 3072]⟩
abbrev S3x2048x1024 : Shape := ⟨3, ![3, 2048, 1024]⟩
abbrev S2048x3072 : Shape := ⟨2, ![2048, 3072]⟩
abbrev S2048x3x1024 : Shape := ⟨3, ![2048, 3, 1024]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x2048x1024, .f32⟩
  | .hbm, ⟨3, _⟩ => ⟨S2048x3072, .f32⟩
  | .hbm, ⟨4, _⟩ => ⟨S2048x3x1024, .f32⟩
  | .hbm, ⟨5, _⟩ => ⟨S3x2048x1024, .f32⟩
  | .hbm, ⟨6, _⟩ => ⟨S2048x3x1024, .f32⟩
  | .hbm, ⟨7, _⟩ => ⟨S2048x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== NaDh.lean ====
abbrev S2048x1024 : Shape := ⟨2, ![2048, 1024]⟩
abbrev S1024x3072 : Shape := ⟨2, ![1024, 3072]⟩
abbrev S3x2048x1024 : Shape := ⟨3, ![3, 2048, 1024]⟩
abbrev S1x2048x1024 : Shape := ⟨3, ![1, 2048, 1024]⟩
abbrev S3x1024x1024 : Shape := ⟨3, ![3, 1024, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x2048x1024, .f32⟩
  | .hbm, ⟨3, _⟩ => ⟨S3x2048x1024, .bf16⟩
  | .hbm, ⟨4, _⟩ => ⟨S1024x3072, .bf16⟩
  | .hbm, ⟨5, _⟩ => ⟨S1x2048x1024, .f32⟩
  | .local _ .vmem, ⟨0, _⟩ => ⟨S3x1024x1024, .bf16⟩
  | .local _ .vmem, ⟨1, _⟩ => ⟨S3x1024x1024, .bf16⟩
  | .local _ .vmem, ⟨2, _⟩ => ⟨S1024x3072, .bf16⟩
  | .local _ .vmem, ⟨3, _⟩ => ⟨S1x1024x1024, .f32⟩
  | .local _ .vmem, ⟨4, _⟩ => ⟨S1x1024x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S3x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NaDhRefIdeal.lean ====
abbrev S2048x1024 : Shape := ⟨2, ![2048, 1024]⟩
abbrev S1024x3072 : Shape := ⟨2, ![1024, 3072]⟩
abbrev S3x2048x1024 : Shape := ⟨3, ![3, 2048, 1024]⟩
abbrev S2048x3072 : Shape := ⟨2, ![2048, 3072]⟩
abbrev S2048x3x1024 : Shape := ⟨3, ![2048, 3, 1024]⟩
abbrev S1x2048x1024 : Shape := ⟨3, ![1, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x2048x1024, .f32⟩
  | .hbm, ⟨3, _⟩ => ⟨S2048x3072, .f32⟩
  | .hbm, ⟨4, _⟩ => ⟨S2048x3x1024, .f32⟩
  | .hbm, ⟨5, _⟩ => ⟨S3x2048x1024, .f32⟩
  | .hbm, ⟨6, _⟩ => ⟨S2048x3x1024, .f32⟩
  | .hbm, ⟨7, _⟩ => ⟨S2048x3072, .f32⟩
  | .hbm, ⟨8, _⟩ => ⟨S2048x1024, .f32⟩
  | .hbm, ⟨9, _⟩ => ⟨S1x2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDw.lean ====
abbrev S2048x1024 : Shape := ⟨2, ![2048, 1024]⟩
abbrev S1024x1024 : Shape := ⟨2, ![1024, 1024]⟩
abbrev S1024x2048 : Shape := ⟨2, ![1024, 2048]⟩
abbrev S512x2048 : Shape := ⟨2, ![512, 2048]⟩
abbrev S512x1024 : Shape := ⟨2, ![512, 1024]⟩
abbrev S8x128 : Shape := ⟨2, ![8, 128]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x2048, .bf16⟩
  | .hbm, ⟨5, _⟩ => ⟨S2048x1024, .bf16⟩
  | .hbm, ⟨6, _⟩ => ⟨S1024x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDwRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDo.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDoRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dil.lean ====
abbrev S3x2048x1024 : Shape := ⟨3, ![3, 2048, 1024]⟩
abbrev S1024x9216 : Shape := ⟨2, ![1024, 9216]⟩
abbrev S1x2048x1024 : Shape := ⟨3, ![1, 2048, 1024]⟩
abbrev S2048x1024 : Shape := ⟨2, ![2048, 1024]⟩
abbrev S2048x9216 : Shape := ⟨2, ![2048, 9216]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S3x2048x1024, .f32⟩
  | .hbm, ⟨1, _⟩ => ⟨S1024x9216, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S1x2048x1024, .f32⟩
  | .hbm, ⟨9, _⟩ => ⟨S2048x1024, .f32⟩
  | .hbm, ⟨10, _⟩ => ⟨S2048x1024, .bf16⟩
  | .hbm, ⟨11, _⟩ => ⟨S1024x9216, .bf16⟩
  | .hbm, ⟨12, _⟩ => ⟨S2048x9216, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 1], ![false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 1 := Scalar.cmpi .slt v16 c0_i32_5
  let c0_i32_6 : BitVec 32 := 0#32
  let c0_i32_7 : BitVec 32 := 0#32
  let v19 : BitVec 32 := Scalar.select v18 c0_i32_6 c0_i32_7
  let v20 : BitVec 32 := Scalar.select v17 arg1 v19
  let c0_i32_8 : BitVec 32 := 0#32
  let c0_i32_9 : BitVec 32 := 0#32
  ![v20.toNat, c0_i32_8.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c1_i32_5 : BitVec 32 := 1#32
  let v18 : BitVec 1 := Scalar.cmpi .slt v16 c1_i32_5
  let c0_i32_6 : BitVec 32 := 0#32
  let c0_i32_7 : BitVec 32 := 0#32
  let v19 : BitVec 32 := Scalar.select v18 c0_i32_6 c0_i32_7
  let v20 : BitVec 32 := Scalar.select v17 arg1 v19
  let c0_i32_8 : BitVec 32 := 0#32
  let c0_i32_9 : BitVec 32 := 0#32
  ![v20.toNat, c0_i32_8.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 1 := Scalar.cmpi .eq v16 c2_i32
  let c2_i32_4 : BitVec 32 := 2#32
  let v18 : BitVec 1 := Scalar.cmpi .slt v16 c2_i32_4
  let c0_i32_5 : BitVec 32 := 0#32
  let c0_i32_6 : BitVec 32 := 0#32
  let v19 : BitVec 32 := Scalar.select v18 c0_i32_5 c0_i32_6
  let v20 : BitVec 32 := Scalar.select v17 arg1 v19
  let c0_i32_7 : BitVec 32 := 0#32
  let c0_i32_8 : BitVec 32 := 0#32
  ![v20.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DilRefIdeal.lean ====
abbrev S3x2048x1024 : Shape := ⟨3, ![3, 2048, 1024]⟩
abbrev S1024x9216 : Shape := ⟨2, ![1024, 9216]⟩
abbrev S1024x3x3072 : Shape := ⟨3, ![1024, 3, 3072]⟩
abbrev S3x2048x3072 : Shape := ⟨3, ![3, 2048, 3072]⟩
abbrev S2048x3x3072 : Shape := ⟨3, ![2048, 3, 3072]⟩
abbrev S2048x9216 : Shape := ⟨2, ![2048, 9216]⟩

abbrev nBuf : Space → Nat
  | .hbm => 7
  | .vmem => 0
  | .smem => 0
  | _ => 0

abbrev bufTy : (tb : Table) → Fin (tcTables nBuf tb) → BufTy
  | .hbm, ⟨0, _⟩ => ⟨S3x2048x1024, .f32⟩
  | .hbm, ⟨1, _⟩ => ⟨S1024x9216, .f32⟩
  | .hbm, ⟨2, _⟩ => ⟨S1024x3x3072, .f32⟩
  | .hbm, ⟨3, _⟩ => ⟨S3x2048x3072, .f32⟩
  | .hbm, ⟨4, _⟩ => ⟨S2048x3x3072, .f32⟩
  | .hbm, ⟨5, _⟩ => ⟨S2048x9216, .f32⟩
  | .hbm, ⟨6, _⟩ => ⟨S2048x9216, .bf16⟩
  | _, _ => ⟨S3x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Na.lean ====
abbrev S2048x1024 : Shape := ⟨2, ![2048, 1024]⟩
abbrev S1024x3072 : Shape := ⟨2, ![1024, 3072]⟩
abbrev S2048x3072 : Shape := ⟨2, ![2048, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x1024, .bf16⟩
  | .hbm, ⟨3, _⟩ => ⟨S1024x3072, .bf16⟩
  | .hbm, ⟨4, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 1 := Scalar.cmpi .slt v16 c0_i32_5
  let c0_i32_6 : BitVec 32 := 0#32
  let c0_i32_7 : BitVec 32 := 0#32
  let v19 : BitVec 32 := Scalar.select v18 c0_i32_6 c0_i32_7
  let v20 : BitVec 32 := Scalar.select v17 arg1 v19
  let c0_i32_8 : BitVec 32 := 0#32
  let c0_i32_9 : BitVec 32 := 0#32
  ![v20.toNat, c0_i32_8.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NaRefIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proj.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ffn.lean ====
abbrev S2048x1024 : Shape := ⟨2, ![2048, 1024]⟩
abbrev S8x2x1024x384 : Shape := ⟨4, ![8, 2, 1024, 384]⟩
abbrev S8x384x1024 : Shape := ⟨3, ![8, 384, 1024]⟩
abbrev S8x2048x384 : Shape := ⟨3, ![8, 2048, 384]⟩
abbrev S8x384x2048 : Shape := ⟨3, ![8, 384, 2048]⟩
abbrev S1024x1024 : Shape := ⟨2, ![1024, 1024]⟩
abbrev S1x1x1024x384 : Shape := ⟨4, ![1, 1, 1024, 384]⟩
abbrev S1x384x1024 : Shape := ⟨3, ![1, 384, 1024]⟩
abbrev S1x1024x384 : Shape := ⟨3, ![1, 1024, 384]⟩
abbrev S1024x384 : Shape := ⟨2, ![1024, 384]⟩
abbrev S384x1024 : Shape := ⟨2, ![384, 1024]⟩

abbrev nBuf : Space → Nat
  | .hbm => 10
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S8x2x1024x384, .f32⟩
  | .hbm, ⟨2, _⟩ => ⟨S8x384x1024, .f32⟩
  | .hbm, ⟨3, _⟩ => ⟨S2048x1024, .bf16⟩
  | .hbm, ⟨4, _⟩ => ⟨S8x2x1024x384, .bf16⟩
  | .hbm, ⟨5, _⟩ => ⟨S8x384x1024, .bf16⟩
  | .hbm, ⟨6, _⟩ => ⟨S2048x1024, .f32⟩
  | .hbm, ⟨7, _⟩ => ⟨S8x2048x384, .bf16⟩
  | .hbm, ⟨8, _⟩ => ⟨S8x2048x384, .bf16⟩
  | .hbm, ⟨9, _⟩ => ⟨S8x384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1x1x1024x384, .bf16⟩
  | .local _ .vmem, ⟨5, _⟩ => ⟨S1x1x1024x384, .bf16⟩
  | .local _ .vmem, ⟨6, _⟩ => ⟨S1x384x1024, .bf16⟩
  | .local _ .vmem, ⟨7, _⟩ => ⟨S1x384x1024, .bf16⟩
  | .local _ .vmem, ⟨8, _⟩ => ⟨S2048x1024, .f32⟩
  | .local _ .vmem, ⟨9, _⟩ => ⟨S1x1024x384, .bf16⟩
  | .local _ .vmem, ⟨10, _⟩ => ⟨S1x1024x384, .bf16⟩
  | .local _ .vmem, ⟨11, _⟩ => ⟨S1x1024x384, .bf16⟩
  | .local _ .vmem, ⟨12, _⟩ => ⟨S1x1024x384, .bf16⟩
  | .local _ .vmem, ⟨13, _⟩ => ⟨S1x384x1024, .bf16⟩
  | .local _ .vmem, ⟨14, _⟩ => ⟨S1x384x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v29 : BitVec 32 := Scalar.muli arg1 c1024_i32
  v29
def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v31 : BitVec 32 := Scalar.extui v24
  let c0_i32_23 : BitVec 32 := 0#32
  let v32 : BitVec 1 := Scalar.cmpi .ne v31 c0_i32_23
  v32

def k0_off1 (i : grid0.Coords) : Fin 2 → Nat :=
  let arg1 : BitVec 32 := BitVec.ofNat 32 (i 1).val
  let c1024_i32 : BitVec 32 := 1024#32
  let v29 : BitVec 32 := Scalar.muli arg1 c1024_i32
  let v30 : BitVec 32 := v29
  let v36 : Index := Scalar.indexCast v30
  let c0_25 : Index := 0#32
  ![v36.toNat, 0]
def k0_cond2 (i : grid0.Coords) : BitVec 1 :=
  let arg0 : BitVec 32 := BitVec.ofNat 32 (i 0).val
  let c0_i32 : BitVec 32 := 0#32
  let v24 : BitVec 1 := Scalar.cmpi .eq arg0 c0_i32
  let v_true : BitVec 1 := 1#1
  let v33 : BitVec 1 := Scalar.xori v24 v_true
  let v34 : BitVec 32 := Scalar.extui v33
  let c0_i32_24 : BitVec 32 := 0#32
  let v35 : BitVec 1 := Scalar.cmpi .ne v34 c0_i32_24
  v35

def k0_off2 (i : grid0.Coords) : Fin 2 → Nat :=
  let arg1 : BitVec 32 := BitVec.ofNat 32 (i 1).val
  let c1024_i32 : BitVec 32 := 1024#32
  let v29 : BitVec 32 := Scalar.muli arg1 c1024_i32
  let v30 : BitVec 32 := v29
  let v36 : Index := Scalar.indexCast v30
  let c0_25 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S2048x1024 : Shape := ⟨2, ![2048, 1024]⟩
abbrev S8x2x1024x384 : Shape := ⟨4, ![8, 2, 1024, 384]⟩
abbrev S8x384x1024 : Shape := ⟨3, ![8, 384, 1024]⟩
abbrev S8x1x1024x384 : Shape := ⟨4, ![8, 1, 1024, 384]⟩
abbrev S8x1024x384 : Shape := ⟨3, ![8, 1024, 384]⟩
abbrev S8x384x2048 : Shape := ⟨3, ![8, 384, 2048]⟩
abbrev S8x2048x384 : Shape := ⟨3, ![8, 2048, 384]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2x1024x384, .f32⟩
  | .hbm, ⟨2, _⟩ => ⟨S8x384x1024, .f32⟩
  | .hbm, ⟨3, _⟩ => ⟨S8x1x1024x384, .f32⟩
  | .hbm, ⟨4, _⟩ => ⟨S8x1024x384, .f32⟩
  | .hbm, ⟨5, _⟩ => ⟨S8x384x2048, .f32⟩
  | .hbm, ⟨6, _⟩ => ⟨S8x2048x384, .f32⟩
  | .hbm, ⟨7, _⟩ => ⟨S8x1x1024x384, .f32⟩
  | .hbm, ⟨8, _⟩ => ⟨S8x1024x384, .f32⟩
  | .hbm, ⟨9, _⟩ => ⟨S8x384x2048, .f32⟩
  | .hbm, ⟨10, _⟩ => ⟨S8x2048x384, .f32⟩
  | .hbm, ⟨11, _⟩ => ⟨S8x2048x384, .f32⟩
  | .hbm, ⟨12, _⟩ => ⟨S8x2048x384, .f32⟩
  | .hbm, ⟨13, _⟩ => ⟨S_, .f32⟩
  | .hbm, ⟨14, _⟩ => ⟨S8x2048x384, .f32⟩
  | .hbm, ⟨15, _⟩ => ⟨S8x2048x384, .f32⟩
  | .hbm, ⟨16, _⟩ => ⟨S_, .f32⟩
  | .hbm, ⟨17, _⟩ => ⟨S8x2048x384, .f32⟩
  | .hbm, ⟨18, _⟩ => ⟨S8x2048x384, .f32⟩
  | .hbm, ⟨19, _⟩ => ⟨S8x2048x384, .f32⟩
  | .hbm, ⟨20, _⟩ => ⟨S8x2048x384, .f32⟩
  | .hbm, ⟨21, _⟩ => ⟨S2048x1024, .f32⟩
  | .hbm, ⟨22, _⟩ => ⟨S8x2048x384, .bf16⟩
  | .hbm, ⟨23, _⟩ => ⟨S8x2048x384, .bf16⟩
  | .hbm, ⟨24, _⟩ => ⟨S8x384x2048, .f32⟩
  | .hbm, ⟨25, _⟩ => ⟨S8x384x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== FfnGrad.lean ====
abbrev S2048x1024 : Shape := ⟨2, ![2048, 1024]⟩
abbrev S8x2x1024x384 : Shape := ⟨4, ![8, 2, 1024, 384]⟩
abbrev S8x384x1024 : Shape := ⟨3, ![8, 384, 1024]⟩
abbrev S8x1x1024x384 : Shape := ⟨4, ![8, 1, 1024, 384]⟩
abbrev S8x1024x384 : Shape := ⟨3, ![8, 1024, 384]⟩
abbrev S8x384x2048 : Shape := ⟨3, ![8, 384, 2048]⟩
abbrev S8x2048x384 : Shape := ⟨3, ![8, 2048, 384]⟩
abbrev S_ : Shape := ⟨0, ![]⟩
abbrev S2x8x2048x384 : Shape := ⟨4, ![2, 8, 2048, 384]⟩
abbrev S1024x1024 : Shape := ⟨2, ![1024, 1024]⟩
abbrev S1x1x1024x384 : Shape := ⟨4, ![1, 1, 1024, 384]⟩
abbrev S1x384x1024 : Shape := ⟨3, ![1, 384, 1024]⟩
abbrev S1x1024x384 : Shape := ⟨3, ![1, 1024, 384]⟩
abbrev S2x1x1024x384 : Shape := ⟨4, ![2, 1, 1024, 384]⟩
abbrev S384x1024 : Shape := ⟨2, ![384, 1024]⟩
abbrev S1024x384 : Shape := ⟨2, ![1024, 384]⟩
abbrev S1024x768 : Shape := ⟨2, ![1024, 768]⟩

abbrev nBuf : Space → Nat
  | .hbm => 32
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S8x2x1024x384, .f32⟩
  | .hbm, ⟨2, _⟩ => ⟨S8x384x1024, .f32⟩
  | .hbm, ⟨3, _⟩ => ⟨S2048x1024, .f32⟩
  | .hbm, ⟨4, _⟩ => ⟨S8x1x1024x384, .f32⟩
  | .hbm, ⟨5, _⟩ => ⟨S8x1024x384, .f32⟩
  | .hbm, ⟨6, _⟩ => ⟨S8x384x2048, .f32⟩
  | .hbm, ⟨7, _⟩ => ⟨S8x2048x384, .f32⟩
  | .hbm, ⟨8, _⟩ => ⟨S8x1x1024x384, .f32⟩
  | .hbm, ⟨9, _⟩ => ⟨S8x1024x384, .f32⟩
  | .hbm, ⟨10, _⟩ => ⟨S8x384x2048, .f32⟩
  | .hbm, ⟨11, _⟩ => ⟨S8x2048x384, .f32⟩
  | .hbm, ⟨12, _⟩ => ⟨S8x2048x384, .f32⟩
  | .hbm, ⟨13, _⟩ => ⟨S8x2048x384, .f32⟩
  | .hbm, ⟨14, _⟩ => ⟨S_, .f32⟩
  | .hbm, ⟨15, _⟩ => ⟨S8x2048x384, .f32⟩
  | .hbm, ⟨16, _⟩ => ⟨S8x2048x384, .f32⟩
  | .hbm, ⟨17, _⟩ => ⟨S_, .f32⟩
  | .hbm, ⟨18, _⟩ => ⟨S8x2048x384, .f32⟩
  | .hbm, ⟨19, _⟩ => ⟨S8x2048x384, .f32⟩
  | .hbm, ⟨20, _⟩ => ⟨S8x2048x384, .f32⟩
  | .hbm, ⟨21, _⟩ => ⟨S8x2048x384, .f32⟩
  | .hbm, ⟨22, _⟩ => ⟨S8x384x2048, .f32⟩
  | .hbm, ⟨23, _⟩ => ⟨S2048x1024, .bf16⟩
  | .hbm, ⟨24, _⟩ => ⟨S8x2x1024x384, .bf16⟩
  | .hbm, ⟨25, _⟩ => ⟨S8x384x1024, .bf16⟩
  | .hbm, ⟨26, _⟩ => ⟨S8x2048x384, .bf16⟩
  | .hbm, ⟨27, _⟩ => ⟨S8x2048x384, .bf16⟩
  | .hbm, ⟨28, _⟩ => ⟨S8x384x2048, .bf16⟩
  | .hbm, ⟨29, _⟩ => ⟨S2x8x2048x384, .bf16⟩
  | .hbm, ⟨30, _⟩ => ⟨S2048x1024, .f32⟩
  | .hbm, ⟨31, _⟩ => ⟨S8x384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1x1x1024x384, .bf16⟩
  | .local _ .vmem, ⟨5, _⟩ => ⟨S1x1x1024x384, .bf16⟩
  | .local _ .vmem, ⟨6, _⟩ => ⟨S1x384x1024, .bf16⟩
  | .local _ .vmem, ⟨7, _⟩ => ⟨S1x384x1024, .bf16⟩
  | .local _ .vmem, ⟨8, _⟩ => ⟨S1x1024x384, .bf16⟩
  | .local _ .vmem, ⟨9, _⟩ => ⟨S1x1024x384, .bf16⟩
  | .local _ .vmem, ⟨10, _⟩ => ⟨S1x1024x384, .bf16⟩
  | .local _ .vmem, ⟨11, _⟩ => ⟨S1x1024x384, .bf16⟩
  | .local _ .vmem, ⟨12, _⟩ => ⟨S1x384x1024, .bf16⟩
  | .local _ .vmem, ⟨13, _⟩ => ⟨S1x384x1024, .bf16⟩
  | .local _ .vmem, ⟨14, _⟩ => ⟨S2x1x1024x384, .bf16⟩
  | .local _ .vmem, ⟨15, _⟩ => ⟨S2x1x1024x384, .bf16⟩
  | .local _ .vmem, ⟨16, _⟩ => ⟨S2048x1024, .f32⟩
  | .local _ .vmem, ⟨17, _⟩ => ⟨S1x384x1024, .bf16⟩
  | .local _ .vmem, ⟨18, _⟩ => ⟨S1x384x1024, .bf16⟩
  | .local _ .vmem, ⟨19, _⟩ => ⟨S384x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v52 : BitVec 32 := Scalar.muli arg1 c1024_i32
  v52
def k0_cond4 (i : grid0.Coords) : BitVec 1 :=
  let arg0 : BitVec 32 := BitVec.ofNat 32 (i 0).val
  let c0_i32_38 : BitVec 32 := 0#32
  let v51 : BitVec 1 := Scalar.cmpi .eq arg0 c0_i32_38
  let v54 : BitVec 32 := Scalar.extui v51
  let c0_i32_39 : BitVec 32 := 0#32
  let v55 : BitVec 1 := Scalar.cmpi .ne v54 c0_i32_39
  v55

def k0_off1 (i : grid0.Coords) : Fin 2 → Nat :=
  let arg1 : BitVec 32 := BitVec.ofNat 32 (i 1).val
  let c1024_i32 : BitVec 32 := 1024#32
  let v52 : BitVec 32 := Scalar.muli arg1 c1024_i32
  let v53 : BitVec 32 := v52
  let v59 : Index := Scalar.indexCast v53
  let c0_41 : Index := 0#32
  ![v59.toNat, 0]
def k0_cond5 (i : grid0.Coords) : BitVec 1 :=
  let arg0 : BitVec 32 := BitVec.ofNat 32 (i 0).val
  let c0_i32_38 : BitVec 32 := 0#32
  let v51 : BitVec 1 := Scalar.cmpi .eq arg0 c0_i32_38
  let v_true : BitVec 1 := 1#1
  let v56 : BitVec 1 := Scalar.xori v51 v_true
  let v57 : BitVec 32 := Scalar.extui v56
  let c0_i32_40 : BitVec 32 := 0#32
  let v58 : BitVec 1 := Scalar.cmpi .ne v57 c0_i32_40
  v58

def k0_off2 (i : grid0.Coords) : Fin 2 → Nat :=
  let arg1 : BitVec 32 := BitVec.ofNat 32 (i 1).val
  let c1024_i32 : BitVec 32 := 1024#32
  let v52 : BitVec 32 := Scalar.muli arg1 c1024_i32
  let v53 : BitVec 32 := v52
  let v59 : Index := Scalar.indexCast v53
  let c0_41 : Index := 0#32
  ![v59.toNat, 0]
def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnGradRefIdeal.lean ====
abbrev S2048x1024 : Shape := ⟨2, ![2048, 1024]⟩
abbrev S8x2x1024x384 : Shape := ⟨4, ![8, 2, 1024, 384]⟩
abbrev S8x384x1024 : Shape := ⟨3, ![8, 384, 1024]⟩
abbrev S8x1x1024x384 : Shape := ⟨4, ![8, 1, 1024, 384]⟩
abbrev S8x1024x384 : Shape := ⟨3, ![8, 1024, 384]⟩
abbrev S8x384x2048 : Shape := ⟨3, ![8, 384, 2048]⟩
abbrev S8x2048x384 : Shape := ⟨3, ![8, 2048, 384]⟩
abbrev S_ : Shape := ⟨0, ![]⟩
abbrev S1024x8x384 : Shape := ⟨3, ![1024, 8, 384]⟩
abbrev S2048x8x384 : Shape := ⟨3, ![2048, 8, 384]⟩
abbrev S1x8x2048x384 : Shape := ⟨4, ![1, 8, 2048, 384]⟩
abbrev S2x8x2048x384 : Shape := ⟨4, ![2, 8, 2048, 384]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x2x1024x384, .f32⟩
  | .hbm, ⟨2, _⟩ => ⟨S8x384x1024, .f32⟩
  | .hbm, ⟨3, _⟩ => ⟨S2048x1024, .f32⟩
  | .hbm, ⟨4, _⟩ => ⟨S8x1x1024x384, .f32⟩
  | .hbm, ⟨5, _⟩ => ⟨S8x1024x384, .f32⟩
  | .hbm, ⟨6, _⟩ => ⟨S8x384x2048, .f32⟩
  | .hbm, ⟨7, _⟩ => ⟨S8x2048x384, .f32⟩
  | .hbm, ⟨8, _⟩ => ⟨S8x1x1024x384, .f32⟩
  | .hbm, ⟨9, _⟩ => ⟨S8x1024x384, .f32⟩
  | .hbm, ⟨10, _⟩ => ⟨S8x384x2048, .f32⟩
  | .hbm, ⟨11, _⟩ => ⟨S8x2048x384, .f32⟩
  | .hbm, ⟨12, _⟩ => ⟨S8x2048x384, .f32⟩
  | .hbm, ⟨13, _⟩ => ⟨S8x2048x384, .f32⟩
  | .hbm, ⟨14, _⟩ => ⟨S_, .f32⟩
  | .hbm, ⟨15, _⟩ => ⟨S8x2048x384, .f32⟩
  | .hbm, ⟨16, _⟩ => ⟨S8x2048x384, .f32⟩
  | .hbm, ⟨17, _⟩ => ⟨S_, .f32⟩
  | .hbm, ⟨18, _⟩ => ⟨S8x2048x384, .f32⟩
  | .hbm, ⟨19, _⟩ => ⟨S8x2048x384, .f32⟩
  | .hbm, ⟨20, _⟩ => ⟨S_, .f32⟩
  | .hbm, ⟨21, _⟩ => ⟨S8x2048x384, .f32⟩
  | .hbm, ⟨22, _⟩ => ⟨S8x2048x384, .f32⟩
  | .hbm, ⟨23, _⟩ => ⟨S8x2048x384, .f32⟩
  | .hbm, ⟨24, _⟩ => ⟨S8x2048x384, .f32⟩
  | .hbm, ⟨25, _⟩ => ⟨S8x2048x384, .f32⟩
  | .hbm, ⟨26, _⟩ => ⟨S2048x1024, .f32⟩
  | .hbm, ⟨27, _⟩ => ⟨S1024x8x384, .f32⟩
  | .hbm, ⟨28, _⟩ => ⟨S8x384x1024, .f32⟩
  | .hbm, ⟨29, _⟩ => ⟨S2048x8x384, .f32⟩
  | .hbm, ⟨30, _⟩ => ⟨S8x2048x384, .f32⟩
  | .hbm, ⟨31, _⟩ => ⟨S8x2048x384, .f32⟩
  | .hbm, ⟨32, _⟩ => ⟨S8x2048x384, .f32⟩
  | .hbm, ⟨33, _⟩ => ⟨S8x2048x384, .f32⟩
  | .hbm, ⟨34, _⟩ => ⟨S8x2048x384, .f32⟩
  | .hbm, ⟨35, _⟩ => ⟨S8x2048x384, .f32⟩
  | .hbm, ⟨36, _⟩ => ⟨S8x2048x384, .f32⟩
  | .hbm, ⟨37, _⟩ => ⟨S8x384x2048, .f32⟩
  | .hbm, ⟨38, _⟩ => ⟨S2048x1024, .f32⟩
  | .hbm, ⟨39, _⟩ => ⟨S8x384x2048, .f32⟩
  | .hbm, ⟨40, _⟩ => ⟨S2048x1024, .f32⟩
  | .hbm, ⟨41, _⟩ => ⟨S2048x1024, .f32⟩
  | .hbm, ⟨42, _⟩ => ⟨S1x8x2048x384, .f32⟩
  | .hbm, ⟨43, _⟩ => ⟨S1x8x2048x384, .f32⟩
  | .hbm, ⟨44, _⟩ => ⟨S2x8x2048x384, .f32⟩
  | .hbm, ⟨45, _⟩ => ⟨S2x8x2048x384, .bf16⟩
  | .hbm, ⟨46, _⟩ => ⟨S8x384x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== SmallStep.lean ====
abbrev S1 : Shape := ⟨1, ![1]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 8
  | .vmem => 8
  | .smem => 1
  | _ => 0

abbrev bufTy : (tb : Table) → Fin (tcTables nBuf tb) → BufTy
  | .hbm, ⟨0, _⟩ => ⟨S8x128x128, .f32⟩
  | .hbm, ⟨1, _⟩ => ⟨S1x128x128, .f32⟩
  | .hbm, ⟨2, _⟩ => ⟨S1x128x128, .f32⟩
  | .hbm, ⟨3, _⟩ => ⟨S1x128x128, .f32⟩
  | .hbm, ⟨4, _⟩ => ⟨S1x128x128, .f32⟩
  | .hbm, ⟨5, _⟩ => ⟨S1x128x128, .f32⟩
  | .hbm, ⟨6, _⟩ => ⟨S1x128x128, .f32⟩
  | .hbm, ⟨7, _⟩ => ⟨S1x128x128, .f32⟩
  | .local _ .vmem, ⟨0, _⟩ => ⟨S8x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .smem, ⟨0, _⟩ => ⟨S1, .i32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SmallStepRefIdeal.lean ====
abbrev S1 : Shape := ⟨1, ![1]⟩
abbrev S8x128x128 : Shape := ⟨3, ![8, 128, 128]⟩
abbrev S1x128x128 : Shape := ⟨3, ![1, 128, 128]⟩
abbrev S_ : Shape := ⟨0, ![]⟩
abbrev S128x128 : Shape := ⟨2, ![128, 128]⟩

abbrev nBuf : Space → Nat
  | .hbm => 41
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x128, .f32⟩
  | .hbm, ⟨2, _⟩ => ⟨S1x128x128, .f32⟩
  | .hbm, ⟨3, _⟩ => ⟨S1x128x128, .f32⟩
  | .hbm, ⟨4, _⟩ => ⟨S1x128x128, .f32⟩
  | .hbm, ⟨5, _⟩ => ⟨S_, .f32⟩
  | .hbm, ⟨6, _⟩ => ⟨S128x128, .f32⟩
  | .hbm, ⟨7, _⟩ => ⟨S1x128x128, .f32⟩
  | .hbm, ⟨8, _⟩ => ⟨S_, .f32⟩
  | .hbm, ⟨9, _⟩ => ⟨S1x128x128, .f32⟩
  | .hbm, ⟨10, _⟩ => ⟨S1x128x128, .f32⟩
  | .hbm, ⟨11, _⟩ => ⟨S_, .f32⟩
  | .hbm, ⟨12, _⟩ => ⟨S1x128x128, .f32⟩
  | .hbm, ⟨13, _⟩ => ⟨S1x128x128, .f32⟩
  | .hbm, ⟨14, _⟩ => ⟨S1x128x128, .f32⟩
  | .hbm, ⟨15, _⟩ => ⟨S_, .f32⟩
  | .hbm, ⟨16, _⟩ => ⟨S1x128x128, .f32⟩
  | .hbm, ⟨17, _⟩ => ⟨S1x128x128, .f32⟩
  | .hbm, ⟨18, _⟩ => ⟨S1x128x128, .f32⟩
  | .hbm, ⟨19, _⟩ => ⟨S_, .f32⟩
  | .hbm, ⟨20, _⟩ => ⟨S1x128x128, .f32⟩
  | .hbm, ⟨21, _⟩ => ⟨S1x128x128, .f32⟩
  | .hbm, ⟨22, _⟩ => ⟨S1x128x128, .f32⟩
  | .hbm, ⟨23, _⟩ => ⟨S_, .f32⟩
  | .hbm, ⟨24, _⟩ => ⟨S1x128x128, .f32⟩
  | .hbm, ⟨25, _⟩ => ⟨S1x128x128, .f32⟩
  | .hbm, ⟨26, _⟩ => ⟨S_, .f32⟩
  | .hbm, ⟨27, _⟩ => ⟨S1x128x128, .f32⟩
  | .hbm, ⟨28, _⟩ => ⟨S1x128x128, .f32⟩
  | .hbm, ⟨29, _⟩ => ⟨S1x128x128, .f32⟩
  | .hbm, ⟨30, _⟩ => ⟨S_, .f32⟩
  | .hbm, ⟨31, _⟩ => ⟨S1x128x128, .f32⟩
  | .hbm, ⟨32, _⟩ => ⟨S1x128x128, .f32⟩
  | .hbm, ⟨33, _⟩ => ⟨S1x128x128, .f32⟩
  | .hbm, ⟨34, _⟩ => ⟨S_, .f32⟩
  | .hbm, ⟨35, _⟩ => ⟨S1x128x128, .f32⟩
  | .hbm, ⟨36, _⟩ => ⟨S1x128x128, .f32⟩
  | .hbm, ⟨37, _⟩ => ⟨S1x128x128, .f32⟩
  | .hbm, ⟨38, _⟩ => ⟨S_, .f32⟩
  | .hbm, ⟨39, _⟩ => ⟨S1x128x128, .f32⟩
  | .hbm, ⟨40, _⟩ => ⟨S1x128x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== DilOStep.lean ====
abbrev S1 : Shape := ⟨1, ![1]⟩
abbrev S7x128x1024 : Shape := ⟨3, ![7, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 9
  | .smem => 1
  | _ => 0

abbrev bufTy : (tb : Table) → Fin (tcTables nBuf tb) → BufTy
  | .hbm, ⟨0, _⟩ => ⟨S7x128x1024, .f32⟩
  | .hbm, ⟨1, _⟩ => ⟨S8x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S7x128x1024, .bf16⟩
  | .hbm, ⟨6, _⟩ => ⟨S8x128x1024, .bf16⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .local _ .vmem, ⟨0, _⟩ => ⟨S7x128x1024, .bf16⟩
  | .local _ .vmem, ⟨1, _⟩ => ⟨S1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S7x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== DilOStepRefIdeal.lean ====
abbrev S1 : Shape := ⟨1, ![1]⟩
abbrev S7x128x1024 : Shape := ⟨3, ![7, 128, 1024]⟩
abbrev S8x128x1024 : Shape := ⟨3, ![8, 128, 1024]⟩
abbrev S1x128x1024 : Shape := ⟨3, ![1, 128, 1024]⟩
abbrev S_ : Shape := ⟨0, ![]⟩
abbrev S1x1 : Shape := ⟨2, ![1, 1]⟩
abbrev S128x1024 : Shape := ⟨2, ![128, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1, .i32⟩
  | .hbm, ⟨1, _⟩ => ⟨S7x128x1024, .f32⟩
  | .hbm, ⟨2, _⟩ => ⟨S8x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1x1, .i32⟩
  | .hbm, ⟨14, _⟩ => ⟨S1x128x1024, .f32⟩
  | .hbm, ⟨15, _⟩ => ⟨S_, .f32⟩
  | .hbm, ⟨16, _⟩ => ⟨S128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | .hbm, ⟨40, _⟩ => ⟨S1x128x1024, .f32⟩
  | .hbm, ⟨41, _⟩ => ⟨S_, .f32⟩
  | .hbm, ⟨42, _⟩ => ⟨S1x128x1024, .f32⟩
  | .hbm, ⟨43, _⟩ => ⟨S1x128x1024, .f32⟩
  | .hbm, ⟨44, _⟩ => ⟨S1x128x1024, .f32⟩
  | .hbm, ⟨45, _⟩ => ⟨S_, .f32⟩
  | .hbm, ⟨46, _⟩ => ⟨S1x128x1024, .f32⟩
  | .hbm, ⟨47, _⟩ => ⟨S1x128x1024, .f32⟩
  | .hbm, ⟨48, _⟩ => ⟨S1x128x1024, .f32⟩
  | .hbm, ⟨49, _⟩ => ⟨S_, .f32⟩
  | .hbm, ⟨50, _⟩ => ⟨S1x128x1024, .f32⟩
  | .hbm, ⟨51, _⟩ => ⟨S1x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== NaOStep.lean ====
abbrev S1 : Shape := ⟨1, ![1]⟩
abbrev S7x128x1024 : Shape := ⟨3, ![7, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 9
  | .smem => 1
  | _ => 0

abbrev bufTy : (tb : Table) → Fin (tcTables nBuf tb) → BufTy
  | .hbm, ⟨0, _⟩ => ⟨S7x128x1024, .f32⟩
  | .hbm, ⟨1, _⟩ => ⟨S8x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S7x128x1024, .bf16⟩
  | .hbm, ⟨6, _⟩ => ⟨S8x128x1024, .bf16⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .local _ .vmem, ⟨0, _⟩ => ⟨S7x128x1024, .bf16⟩
  | .local _ .vmem, ⟨1, _⟩ => ⟨S1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S7x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== NaOStepRefIdeal.lean ====
abbrev S1 : Shape := ⟨1, ![1]⟩
abbrev S7x128x1024 : Shape := ⟨3, ![7, 128, 1024]⟩
abbrev S8x128x1024 : Shape := ⟨3, ![8, 128, 1024]⟩
abbrev S1x128x1024 : Shape := ⟨3, ![1, 128, 1024]⟩
abbrev S_ : Shape := ⟨0, ![]⟩
abbrev S1x1 : Shape := ⟨2, ![1, 1]⟩
abbrev S128x1024 : Shape := ⟨2, ![128, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1, .i32⟩
  | .hbm, ⟨1, _⟩ => ⟨S7x128x1024, .f32⟩
  | .hbm, ⟨2, _⟩ => ⟨S8x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1x1, .i32⟩
  | .hbm, ⟨14, _⟩ => ⟨S1x128x1024, .f32⟩
  | .hbm, ⟨15, _⟩ => ⟨S_, .f32⟩
  | .hbm, ⟨16, _⟩ => ⟨S128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | .hbm, ⟨40, _⟩ => ⟨S1x128x1024, .f32⟩
  | .hbm, ⟨41, _⟩ => ⟨S_, .f32⟩
  | .hbm, ⟨42, _⟩ => ⟨S1x128x1024, .f32⟩
  | .hbm, ⟨43, _⟩ => ⟨S1x128x1024, .f32⟩
  | .hbm, ⟨44, _⟩ => ⟨S1x128x1024, .f32⟩
  | .hbm, ⟨45, _⟩ => ⟨S_, .f32⟩
  | .hbm, ⟨46, _⟩ => ⟨S1x128x1024, .f32⟩
  | .hbm, ⟨47, _⟩ => ⟨S1x128x1024, .f32⟩
  | .hbm, ⟨48, _⟩ => ⟨S1x128x1024, .f32⟩
  | .hbm, ⟨49, _⟩ => ⟨S_, .f32⟩
  | .hbm, ⟨50, _⟩ => ⟨S1x128x1024, .f32⟩
  | .hbm, ⟨51, _⟩ => ⟨S1x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== DilQkvStep.lean ====
abbrev S1 : Shape := ⟨1, ![1]⟩
abbrev S7x1024x1152 : Shape := ⟨3, ![7, 1024, 1152]⟩
abbrev S1024x9216 : Shape := ⟨2, ![1024, 9216]⟩
abbrev S1x1024x1152 : Shape := ⟨3, ![1, 1024, 1152]⟩
abbrev S7x128x1152 : Shape := ⟨3, ![7, 128, 1152]⟩
abbrev S128x1152 : Shape := ⟨2, ![128, 1152]⟩
abbrev S1x128x1152 : Shape := ⟨3, ![1, 128, 1152]⟩

abbrev nBuf : Space → Nat
  | .hbm => 11
  | .vmem => 18
  | .smem => 1
  | _ => 0

abbrev bufTy : (tb : Table) → Fin (tcTables nBuf tb) → BufTy
  | .hbm, ⟨0, _⟩ => ⟨S7x1024x1152, .f32⟩
  | .hbm, ⟨1, _⟩ => ⟨S1024x9216, .f32⟩
  | .hbm, ⟨2, _⟩ => ⟨S1x1024x1152, .f32⟩
  | .hbm, ⟨3, _⟩ => ⟨S1x1024x1152, .f32⟩
  | .hbm, ⟨4, _⟩ => ⟨S1x1024x1152, .f32⟩
  | .hbm, ⟨5, _⟩ => ⟨S7x1024x1152, .bf16⟩
  | .hbm, ⟨6, _⟩ => ⟨S1024x9216, .bf16⟩
  | .hbm, ⟨7, _⟩ => ⟨S1x1024x1152, .f32⟩
  | .hbm, ⟨8, _⟩ => ⟨S1x1024x1152, .f32⟩
  | .hbm, ⟨9, _⟩ => ⟨S1x1024x1152, .f32⟩
  | .hbm, ⟨10, _⟩ => ⟨S1x1024x1152, .f32⟩
  | .local _ .vmem, ⟨0, _⟩ => ⟨S7x128x1152, .bf16⟩
  | .local _ .vmem, ⟨1, _⟩ => ⟨S7x128x1152, .bf16⟩
  | .local _ .vmem, ⟨2, _⟩ => ⟨S128x1152, .bf16⟩
  | .local _ .vmem, ⟨3, _⟩ => ⟨S128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | .local _ .smem, ⟨0, _⟩ => ⟨S1, .i32⟩
  | _, _ => ⟨S7x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DilQkvStepRefIdeal.lean ====
abbrev S1 : Shape := ⟨1, ![1]⟩
abbrev S7x1024x1152 : Shape := ⟨3, ![7, 1024, 1152]⟩
abbrev S1024x9216 : Shape := ⟨2, ![1024, 9216]⟩
abbrev S1x1024x1152 : Shape := ⟨3, ![1, 1024, 1152]⟩
abbrev S1024x8x1152 : Shape := ⟨3, ![1024, 8, 1152]⟩
abbrev S8x1024x1152 : Shape := ⟨3, ![8, 1024, 1152]⟩
abbrev S_ : Shape := ⟨0, ![]⟩
abbrev S1x1 : Shape := ⟨2, ![1, 1]⟩
abbrev S1024x1152 : Shape := ⟨2, ![1024, 1152]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S7x1024x1152, .f32⟩
  | .hbm, ⟨2, _⟩ => ⟨S1024x9216, .f32⟩
  | .hbm, ⟨3, _⟩ => ⟨S1x1024x1152, .f32⟩
  | .hbm, ⟨4, _⟩ => ⟨S1x1024x1152, .f32⟩
  | .hbm, ⟨5, _⟩ => ⟨S1x1024x1152, .f32⟩
  | .hbm, ⟨6, _⟩ => ⟨S1024x8x1152, .f32⟩
  | .hbm, ⟨7, _⟩ => ⟨S8x1024x1152, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1x1, .i32⟩
  | .hbm, ⟨16, _⟩ => ⟨S1x1024x1152, .f32⟩
  | .hbm, ⟨17, _⟩ => ⟨S_, .f32⟩
  | .hbm, ⟨18, _⟩ => ⟨S1024x1152, .f32⟩
  | .hbm, ⟨19, _⟩ => ⟨S1x1024x1152, .f32⟩
  | .hbm, ⟨20, _⟩ => ⟨S1x1024x1152, .f32⟩
  | .hbm, ⟨21, _⟩ => ⟨S_, .f32⟩
  | .hbm, ⟨22, _⟩ => ⟨S1x1024x1152, .f32⟩
  | .hbm, ⟨23, _⟩ => ⟨S1x1024x1152, .f32⟩
  | .hbm, ⟨24, _⟩ => ⟨S_, .f32⟩
  | .hbm, ⟨25, _⟩ => ⟨S1x1024x1152, .f32⟩
  | .hbm, ⟨26, _⟩ => ⟨S1x1024x1152, .f32⟩
  | .hbm, ⟨27, _⟩ => ⟨S1x1024x1152, .f32⟩
  | .hbm, ⟨28, _⟩ => ⟨S_, .f32⟩
  | .hbm, ⟨29, _⟩ => ⟨S1x1024x1152, .f32⟩
  | .hbm, ⟨30, _⟩ => ⟨S1x1024x1152, .f32⟩
  | .hbm, ⟨31, _⟩ => ⟨S1x1024x1152, .f32⟩
  | .hbm, ⟨32, _⟩ => ⟨S_, .f32⟩
  | .hbm, ⟨33, _⟩ => ⟨S1x1024x1152, .f32⟩
  | .hbm, ⟨34, _⟩ => ⟨S1x1024x1152, .f32⟩
  | .hbm, ⟨35, _⟩ => ⟨S1x1024x1152, .f32⟩
  | .hbm, ⟨36, _⟩ => ⟨S_, .f32⟩
  | .hbm, ⟨37, _⟩ => ⟨S1x1024x1152, .f32⟩
  | .hbm, ⟨38, _⟩ => ⟨S1x1024x1152, .f32⟩
  | .hbm, ⟨39, _⟩ => ⟨S_, .f32⟩
  | .hbm, ⟨40, _⟩ => ⟨S1x1024x1152, .f32⟩
  | .hbm, ⟨41, _⟩ => ⟨S1x1024x1152, .f32⟩
  | .hbm, ⟨42, _⟩ => ⟨S1x1024x1152, .f32⟩
  | .hbm, ⟨43, _⟩ => ⟨S_, .f32⟩
  | .hbm, ⟨44, _⟩ => ⟨S1x1024x1152, .f32⟩
  | .hbm, ⟨45, _⟩ => ⟨S1x1024x1152, .f32⟩
  | .hbm, ⟨46, _⟩ => ⟨S1x1024x1152, .f32⟩
  | .hbm, ⟨47, _⟩ => ⟨S_, .f32⟩
  | .hbm, ⟨48, _⟩ => ⟨S1x1024x1152, .f32⟩
  | .hbm, ⟨49, _⟩ => ⟨S1x1024x1152, .f32⟩
  | .hbm, ⟨50, _⟩ => ⟨S1x1024x1152, .f32⟩
  | .hbm, ⟨51, _⟩ => ⟨S_, .f32⟩
  | .hbm, ⟨52, _⟩ => ⟨S1x1024x1152, .f32⟩
  | .hbm, ⟨53, _⟩ => ⟨S1x1024x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== NaQkvStep.lean ====
abbrev S1 : Shape := ⟨1, ![1]⟩
abbrev S7x1024x384 : Shape := ⟨3, ![7, 1024, 384]⟩
abbrev S1024x3072 : Shape := ⟨2, ![1024, 3072]⟩
abbrev S1x1024x384 : Shape := ⟨3, ![1, 1024, 384]⟩
abbrev S7x256x384 : Shape := ⟨3, ![7, 256, 384]⟩
abbrev S256x384 : Shape := ⟨2, ![256, 384]⟩
abbrev S1x256x384 : Shape := ⟨3, ![1, 256, 384]⟩

abbrev nBuf : Space → Nat
  | .hbm => 11
  | .vmem => 18
  | .smem => 1
  | _ => 0

abbrev bufTy : (tb : Table) → Fin (tcTables nBuf tb) → BufTy
  | .hbm, ⟨0, _⟩ => ⟨S7x1024x384, .f32⟩
  | .hbm, ⟨1, _⟩ => ⟨S1024x3072, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S7x1024x384, .bf16⟩
  | .hbm, ⟨6, _⟩ => ⟨S1024x3072, .bf16⟩
  | .hbm, ⟨7, _⟩ => ⟨S1x1024x384, .f32⟩
  | .hbm, ⟨8, _⟩ => ⟨S1x1024x384, .f32⟩
  | .hbm, ⟨9, _⟩ => ⟨S1x1024x384, .f32⟩
  | .hbm, ⟨10, _⟩ => ⟨S1x1024x384, .f32⟩
  | .local _ .vmem, ⟨0, _⟩ => ⟨S7x256x384, .bf16⟩
  | .local _ .vmem, ⟨1, _⟩ => ⟨S7x256x384, .bf16⟩
  | .local _ .vmem, ⟨2, _⟩ => ⟨S256x384, .bf16⟩
  | .local _ .vmem, ⟨3, _⟩ => ⟨S256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S7x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NaQkvStepRefIdeal.lean ====
abbrev S1 : Shape := ⟨1, ![1]⟩
abbrev S7x1024x384 : Shape := ⟨3, ![7, 1024, 384]⟩
abbrev S1024x3072 : Shape := ⟨2, ![1024, 3072]⟩
abbrev S1x1024x384 : Shape := ⟨3, ![1, 1024, 384]⟩
abbrev S1024x8x384 : Shape := ⟨3, ![1024, 8, 384]⟩
abbrev S8x1024x384 : Shape := ⟨3, ![8, 1024, 384]⟩
abbrev S_ : Shape := ⟨0, ![]⟩
abbrev S1x1 : Shape := ⟨2, ![1, 1]⟩
abbrev S1024x384 : Shape := ⟨2, ![1024, 384]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S7x1024x384, .f32⟩
  | .hbm, ⟨2, _⟩ => ⟨S1024x3072, .f32⟩
  | .hbm, ⟨3, _⟩ => ⟨S1x1024x384, .f32⟩
  | .hbm, ⟨4, _⟩ => ⟨S1x1024x384, .f32⟩
  | .hbm, ⟨5, _⟩ => ⟨S1x1024x384, .f32⟩
  | .hbm, ⟨6, _⟩ => ⟨S1024x8x384, .f32⟩
  | .hbm, ⟨7, _⟩ => ⟨S8x1024x384, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1x1, .i32⟩
  | .hbm, ⟨16, _⟩ => ⟨S1x1024x384, .f32⟩
  | .hbm, ⟨17, _⟩ => ⟨S_, .f32⟩
  | .hbm, ⟨18, _⟩ => ⟨S1024x384, .f32⟩
  | .hbm, ⟨19, _⟩ => ⟨S1x1024x384, .f32⟩
  | .hbm, ⟨20, _⟩ => ⟨S1x1024x384, .f32⟩
  | .hbm, ⟨21, _⟩ => ⟨S_, .f32⟩
  | .hbm, ⟨22, _⟩ => ⟨S1x1024x384, .f32⟩
  | .hbm, ⟨23, _⟩ => ⟨S1x1024x384, .f32⟩
  | .hbm, ⟨24, _⟩ => ⟨S_, .f32⟩
  | .hbm, ⟨25, _⟩ => ⟨S1x1024x384, .f32⟩
  | .hbm, ⟨26, _⟩ => ⟨S1x1024x384, .f32⟩
  | .hbm, ⟨27, _⟩ => ⟨S1x1024x384, .f32⟩
  | .hbm, ⟨28, _⟩ => ⟨S_, .f32⟩
  | .hbm, ⟨29, _⟩ => ⟨S1x1024x384, .f32⟩
  | .hbm, ⟨30, _⟩ => ⟨S1x1024x384, .f32⟩
  | .hbm, ⟨31, _⟩ => ⟨S1x1024x384, .f32⟩
  | .hbm, ⟨32, _⟩ => ⟨S_, .f32⟩
  | .hbm, ⟨33, _⟩ => ⟨S1x1024x384, .f32⟩
  | .hbm, ⟨34, _⟩ => ⟨S1x1024x384, .f32⟩
  | .hbm, ⟨35, _⟩ => ⟨S1x1024x384, .f32⟩
  | .hbm, ⟨36, _⟩ => ⟨S_, .f32⟩
  | .hbm, ⟨37, _⟩ => ⟨S1x1024x384, .f32⟩
  | .hbm, ⟨38, _⟩ => ⟨S1x1024x384, .f32⟩
  | .hbm, ⟨39, _⟩ => ⟨S_, .f32⟩
  | .hbm, ⟨40, _⟩ => ⟨S1x1024x384, .f32⟩
  | .hbm, ⟨41, _⟩ => ⟨S1x1024x384, .f32⟩
  | .hbm, ⟨42, _⟩ => ⟨S1x1024x384, .f32⟩
  | .hbm, ⟨43, _⟩ => ⟨S_, .f32⟩
  | .hbm, ⟨44, _⟩ => ⟨S1x1024x384, .f32⟩
  | .hbm, ⟨45, _⟩ => ⟨S1x1024x384, .f32⟩
  | .hbm, ⟨46, _⟩ => ⟨S1x1024x384, .f32⟩
  | .hbm, ⟨47, _⟩ => ⟨S_, .f32⟩
  | .hbm, ⟨48, _⟩ => ⟨S1x1024x384, .f32⟩
  | .hbm, ⟨49, _⟩ => ⟨S1x1024x384, .f32⟩
  | .hbm, ⟨50, _⟩ => ⟨S1x1024x384, .f32⟩
  | .hbm, ⟨51, _⟩ => ⟨S_, .f32⟩
  | .hbm, ⟨52, _⟩ => ⟨S1x1024x384, .f32⟩
  | .hbm, ⟨53, _⟩ => ⟨S1x1024x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== GateStep.lean ====
abbrev S1 : Shape := ⟨1, ![1]⟩
abbrev S7x2x1024x384 : Shape := ⟨4, ![7, 2, 1024, 384]⟩
abbrev S8x2x1024x384 : Shape := ⟨4, ![8, 2, 1024, 384]⟩
abbrev S2x1024x352 : Shape := ⟨3, ![2, 1024, 352]⟩
abbrev S7x1x128x384 : Shape := ⟨4, ![7, 1, 128, 384]⟩
abbrev S1x1x128x384 : Shape := ⟨4, ![1, 1, 128, 384]⟩
abbrev S1x128x352 : Shape := ⟨3, ![1, 128, 352]⟩
abbrev S128x384 : Shape := ⟨2, ![128, 384]⟩
abbrev S128x352 : Shape := ⟨2, ![128, 352]⟩

abbrev nBuf : Space → Nat
  | .hbm => 15
  | .vmem => 22
  | .smem => 1
  | _ => 0

abbrev bufTy : (tb : Table) → Fin (tcTables nBuf tb) → BufTy
  | .hbm, ⟨0, _⟩ => ⟨S7x2x1024x384, .f32⟩
  | .hbm, ⟨1, _⟩ => ⟨S7x2x1024x384, .f32⟩
  | .hbm, ⟨2, _⟩ => ⟨S8x2x1024x384, .f32⟩
  | .hbm, ⟨3, _⟩ => ⟨S8x2x1024x384, .f32⟩
  | .hbm, ⟨4, _⟩ => ⟨S2x1024x352, .f32⟩
  | .hbm, ⟨5, _⟩ => ⟨S2x1024x352, .f32⟩
  | .hbm, ⟨6, _⟩ => ⟨S2x1024x352, .f32⟩
  | .hbm, ⟨7, _⟩ => ⟨S7x2x1024x384, .bf16⟩
  | .hbm, ⟨8, _⟩ => ⟨S7x2x1024x384, .bf16⟩
  | .hbm, ⟨9, _⟩ => ⟨S8x2x1024x384, .bf16⟩
  | .hbm, ⟨10, _⟩ => ⟨S8x2x1024x384, .bf16⟩
  | .hbm, ⟨11, _⟩ => ⟨S2x1024x352, .f32⟩
  | .hbm, ⟨12, _⟩ => ⟨S2x1024x352, .f32⟩
  | .hbm, ⟨13, _⟩ => ⟨S2x1024x352, .f32⟩
  | .hbm, ⟨14, _⟩ => ⟨S2x1024x352, .f32⟩
  | .local _ .vmem, ⟨0, _⟩ => ⟨S7x1x128x384, .bf16⟩
  | .local _ .vmem, ⟨1, _⟩ => ⟨S7x1x128x384, .bf16⟩
  | .local _ .vmem, ⟨2, _⟩ => ⟨S7x1x128x384, .bf16⟩
  | .local _ .vmem, ⟨3, _⟩ => ⟨S7x1x128x384, .bf16⟩
  | .local _ .vmem, ⟨4, _⟩ => ⟨S1x1x128x384, .bf16⟩
  | .local _ .vmem, ⟨5, _⟩ => ⟨S1x1x128x384, .bf16⟩
  | .local _ .vmem, ⟨6, _⟩ => ⟨S1x1x128x384, .bf16⟩
  | .local _ .vmem, ⟨7, _⟩ => ⟨S1x1x128x384, .bf16⟩
  | .local _ .vmem, ⟨8, _⟩ => ⟨S1x128x352, .f32⟩
  | .local _ .vmem, ⟨9, _⟩ => ⟨S1x128x352, .f32⟩
  | .local _ .vmem, ⟨10, _⟩ => ⟨S1x128x352, .f32⟩
  | .local _ .vmem, ⟨11, _⟩ => ⟨S1x128x352, .f32⟩
  | .local _ .vmem, ⟨12, _⟩ => ⟨S1x128x352, .f32⟩
  | .local _ .vmem, ⟨13, _⟩ => ⟨S1x128x352, .f32⟩
  | .local _ .vmem, ⟨14, _⟩ => ⟨S1x128x352, .f32⟩
  | .local _ .vmem, ⟨15, _⟩ => ⟨S1x128x352, .f32⟩
  | .local _ .vmem, ⟨16, _⟩ => ⟨S1x128x352, .f32⟩
  | .local _ .vmem, ⟨17, _⟩ => ⟨S1x128x352, .f32⟩
  | .local _ .vmem, ⟨18, _⟩ => ⟨S1x128x352, .f32⟩
  | .local _ .vmem, ⟨19, _⟩ => ⟨S1x128x352, .f32⟩
  | .local _ .vmem, ⟨20, _⟩ => ⟨S1x128x352, .f32⟩
  | .local _ .vmem, ⟨21, _⟩ => ⟨S1x128x352, .f32⟩
  | .local _ .smem, ⟨0, _⟩ => ⟨S1, .i32⟩
  | _, _ => ⟨S7x2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c7_i32 : BitVec 32 := 7#32
  let v2 : BitVec 32 := Scalar.select v1 arg1 c7_i32
  let c0_i32_0 : BitVec 32 := 0#32
  let c0_i32_1 : BitVec 32 := 0#32
  let c0_i32_2 : BitVec 32 := 0#32
  ![v0.toNat, c0_i32_0.toNat, v2.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 c0_i32_0 arg1
  let c0_i32_1 : BitVec 32 := 0#32
  let c0_i32_2 : BitVec 32 := 0#32
  let c0_i32_3 : BitVec 32 := 0#32
  ![v0.toNat, c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S7x1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x352 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x352 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GateStepRefIdeal.lean ====
abbrev S1 : Shape := ⟨1, ![1]⟩
abbrev S7x2x1024x384 : Shape := ⟨4, ![7, 2, 1024, 384]⟩
abbrev S8x2x1024x384 : Shape := ⟨4, ![8, 2, 1024, 384]⟩
abbrev S2x1024x352 : Shape := ⟨3, ![2, 1024, 352]⟩
abbrev S8x1x1024x352 : Shape := ⟨4, ![8, 1, 1024, 352]⟩
abbrev S8x1024x352 : Shape := ⟨3, ![8, 1024, 352]⟩
abbrev S_ : Shape := ⟨0, ![]⟩
abbrev S1x1 : Shape := ⟨2, ![1, 1]⟩
abbrev S1x1024x352 : Shape := ⟨3, ![1, 1024, 352]⟩
abbrev S7x1x1024x352 : Shape := ⟨4, ![7, 1, 1024, 352]⟩
abbrev S7x1024x352 : Shape := ⟨3, ![7, 1024, 352]⟩
abbrev S1024x352 : Shape := ⟨2, ![1024, 352]⟩

abbrev nBuf : Space → Nat
  | .hbm => 76
  | .vmem => 0
  | .smem => 0
  | _ => 0

abbrev bufTy : (tb : Table) → Fin (tcTables nBuf tb) → BufTy
  | .hbm, ⟨0, _⟩ => ⟨S1, .i32⟩
  | .hbm, ⟨1, _⟩ => ⟨S7x2x1024x384, .f32⟩
  | .hbm, ⟨2, _⟩ => ⟨S7x2x1024x384, .f32⟩
  | .hbm, ⟨3, _⟩ => ⟨S8x2x1024x384, .f32⟩
  | .hbm, ⟨4, _⟩ => ⟨S8x2x1024x384, .f32⟩
  | .hbm, ⟨5, _⟩ => ⟨S2x1024x352, .f32⟩
  | .hbm, ⟨6, _⟩ => ⟨S2x1024x352, .f32⟩
  | .hbm, ⟨7, _⟩ => ⟨S2x1024x352, .f32⟩
  | .hbm, ⟨8, _⟩ => ⟨S8x1x1024x352, .f32⟩
  | .hbm, ⟨9, _⟩ => ⟨S8x1024x352, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x1024x352, .f32⟩
  | .hbm, ⟨19, _⟩ => ⟨S7x1x1024x352, .f32⟩
  | .hbm, ⟨20, _⟩ => ⟨S7x1024x352, .f32⟩
  | .hbm, ⟨21, _⟩ => ⟨S_, .f32⟩
  | .hbm, ⟨22, _⟩ => ⟨S1024x352, .f32⟩
  | .hbm, ⟨23, _⟩ => ⟨S1x1024x352, .f32⟩
  | .hbm, ⟨24, _⟩ => ⟨S1x1024x352, .f32⟩
  | .hbm, ⟨25, _⟩ => ⟨S8x1x1024x352, .f32⟩
  | .hbm, ⟨26, _⟩ => ⟨S8x1024x352, .f32⟩
  | .hbm, ⟨27, _⟩ => ⟨S_, .i32⟩
  | .hbm, ⟨28, _⟩ => ⟨S1, .i32⟩
  | .hbm, ⟨29, _⟩ => ⟨S1, .i1⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S1, .i32⟩
  | .hbm, ⟨34, _⟩ => ⟨S1x1, .i32⟩
  | .hbm, ⟨35, _⟩ => ⟨S1x1024x352, .f32⟩
  | .hbm, ⟨36, _⟩ => ⟨S7x1x1024x352, .f32⟩
  | .hbm, ⟨37, _⟩ => ⟨S7x1024x352, .f32⟩
  | .hbm, ⟨38, _⟩ => ⟨S_, .f32⟩
  | .hbm, ⟨39, _⟩ => ⟨S1024x352, .f32⟩
  | .hbm, ⟨40, _⟩ => ⟨S1x1024x352, .f32⟩
  | .hbm, ⟨41, _⟩ => ⟨S1x1024x352, .f32⟩
  | .hbm, ⟨42, _⟩ => ⟨S2x1024x352, .f32⟩
  | .hbm, ⟨43, _⟩ => ⟨S_, .f32⟩
  | .hbm, ⟨44, _⟩ => ⟨S2x1024x352, .f32⟩
  | .hbm, ⟨45, _⟩ => ⟨S2x1024x352, .f32⟩
  | .hbm, ⟨46, _⟩ => ⟨S_, .f32⟩
  | .hbm, ⟨47, _⟩ => ⟨S2x1024x352, .f32⟩
  | .hbm, ⟨48, _⟩ => ⟨S2x1024x352, .f32⟩
  | .hbm, ⟨49, _⟩ => ⟨S2x1024x352, .f32⟩
  | .hbm, ⟨50, _⟩ => ⟨S_, .f32⟩
  | .hbm, ⟨51, _⟩ => ⟨S2x1024x352, .f32⟩
  | .hbm, ⟨52, _⟩ => ⟨S2x1024x352, .f32⟩
  | .hbm, ⟨53, _⟩ => ⟨S2x1024x352, .f32⟩
  | .hbm, ⟨54, _⟩ => ⟨S_, .f32⟩
  | .hbm, ⟨55, _⟩ => ⟨S2x1024x352, .f32⟩
  | .hbm, ⟨56, _⟩ => ⟨S2x1024x352, .f32⟩
  | .hbm, ⟨57, _⟩ => ⟨S2x1024x352, .f32⟩
  | .hbm, ⟨58, _⟩ => ⟨S_, .f32⟩
  | .hbm, ⟨59, _⟩ => ⟨S2x1024x352, .f32⟩
  | .hbm, ⟨60, _⟩ => ⟨S2x1024x352, .f32⟩
  | .hbm, ⟨61, _⟩ => ⟨S_, .f32⟩
  | .hbm, ⟨62, _⟩ => ⟨S2x1024x352, .f32⟩
  | .hbm, ⟨63, _⟩ => ⟨S2x1024x352, .f32⟩
  | .hbm, ⟨64, _⟩ => ⟨S2x1024x352, .f32⟩
  | .hbm, ⟨65, _⟩ => ⟨S_, .f32⟩
  | .hbm, ⟨66, _⟩ => ⟨S2x1024x352, .f32⟩
  | .hbm, ⟨67, _⟩ => ⟨S2x1024x352, .f32⟩
  | .hbm, ⟨68, _⟩ => ⟨S2x1024x352, .f32⟩
  | .hbm, ⟨69, _⟩ => ⟨S_, .f32⟩
  | .hbm, ⟨70, _⟩ => ⟨S2x1024x352, .f32⟩
  | .hbm, ⟨71, _⟩ => ⟨S2x1024x352, .f32⟩
  | .hbm, ⟨72, _⟩ => ⟨S2x1024x352, .f32⟩
  | .hbm, ⟨73, _⟩ => ⟨S_, .f32⟩
  | .hbm, ⟨74, _⟩ => ⟨S2x1024x352, .f32⟩
  | .hbm, ⟨75, _⟩ => ⟨S2x1024x352, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== UpStep.lean ====
abbrev S1 : Shape := ⟨1, ![1]⟩
abbrev S7x2x1024x384 : Shape := ⟨4, ![7, 2, 1024, 384]⟩
abbrev S8x2x1024x384 : Shape := ⟨4, ![8, 2, 1024, 384]⟩
abbrev S2x1024x352 : Shape := ⟨3, ![2, 1024, 352]⟩
abbrev S7x1x128x384 : Shape := ⟨4, ![7, 1, 128, 384]⟩
abbrev S1x1x128x384 : Shape := ⟨4, ![1, 1, 128, 384]⟩
abbrev S1x128x352 : Shape := ⟨3, ![1, 128, 352]⟩
abbrev S128x384 : Shape := ⟨2, ![128, 384]⟩
abbrev S128x352 : Shape := ⟨2, ![128, 352]⟩

abbrev nBuf : Space → Nat
  | .hbm => 15
  | .vmem => 22
  | .smem => 1
  | _ => 0

abbrev bufTy : (tb : Table) → Fin (tcTables nBuf tb) → BufTy
  | .hbm, ⟨0, _⟩ => ⟨S7x2x1024x384, .f32⟩
  | .hbm, ⟨1, _⟩ => ⟨S7x2x1024x384, .f32⟩
  | .hbm, ⟨2, _⟩ => ⟨S8x2x1024x384, .f32⟩
  | .hbm, ⟨3, _⟩ => ⟨S8x2x1024x384, .f32⟩
  | .hbm, ⟨4, _⟩ => ⟨S2x1024x352, .f32⟩
  | .hbm, ⟨5, _⟩ => ⟨S2x1024x352, .f32⟩
  | .hbm, ⟨6, _⟩ => ⟨S2x1024x352, .f32⟩
  | .hbm, ⟨7, _⟩ => ⟨S7x2x1024x384, .bf16⟩
  | .hbm, ⟨8, _⟩ => ⟨S7x2x1024x384, .bf16⟩
  | .hbm, ⟨9, _⟩ => ⟨S8x2x1024x384, .bf16⟩
  | .hbm, ⟨10, _⟩ => ⟨S8x2x1024x384, .bf16⟩
  | .hbm, ⟨11, _⟩ => ⟨S2x1024x352, .f32⟩
  | .hbm, ⟨12, _⟩ => ⟨S2x1024x352, .f32⟩
  | .hbm, ⟨13, _⟩ => ⟨S2x1024x352, .f32⟩
  | .hbm, ⟨14, _⟩ => ⟨S2x1024x352, .f32⟩
  | .local _ .vmem, ⟨0, _⟩ => ⟨S7x1x128x384, .bf16⟩
  | .local _ .vmem, ⟨1, _⟩ => ⟨S7x1x128x384, .bf16⟩
  | .local _ .vmem, ⟨2, _⟩ => ⟨S7x1x128x384, .bf16⟩
  | .local _ .vmem, ⟨3, _⟩ => ⟨S7x1x128x384, .bf16⟩
  | .local _ .vmem, ⟨4, _⟩ => ⟨S1x1x128x384, .bf16⟩
  | .local _ .vmem, ⟨5, _⟩ => ⟨S1x1x128x384, .bf16⟩
  | .local _ .vmem, ⟨6, _⟩ => ⟨S1x1x128x384, .bf16⟩
  | .local _ .vmem, ⟨7, _⟩ => ⟨S1x1x128x384, .bf16⟩
  | .local _ .vmem, ⟨8, _⟩ => ⟨S1x128x352, .f32⟩
  | .local _ .vmem, ⟨9, _⟩ => ⟨S1x128x352, .f32⟩
  | .local _ .vmem, ⟨10, _⟩ => ⟨S1x128x352, .f32⟩
  | .local _ .vmem, ⟨11, _⟩ => ⟨S1x128x352, .f32⟩
  | .local _ .vmem, ⟨12, _⟩ => ⟨S1x128x352, .f32⟩
  | .local _ .vmem, ⟨13, _⟩ => ⟨S1x128x352, .f32⟩
  | .local _ .vmem, ⟨14, _⟩ => ⟨S1x128x352, .f32⟩
  | .local _ .vmem, ⟨15, _⟩ => ⟨S1x128x352, .f32⟩
  | .local _ .vmem, ⟨16, _⟩ => ⟨S1x128x352, .f32⟩
  | .local _ .vmem, ⟨17, _⟩ => ⟨S1x128x352, .f32⟩
  | .local _ .vmem, ⟨18, _⟩ => ⟨S1x128x352, .f32⟩
  | .local _ .vmem, ⟨19, _⟩ => ⟨S1x128x352, .f32⟩
  | .local _ .vmem, ⟨20, _⟩ => ⟨S1x128x352, .f32⟩
  | .local _ .vmem, ⟨21, _⟩ => ⟨S1x128x352, .f32⟩
  | .local _ .smem, ⟨0, _⟩ => ⟨S1, .i32⟩
  | _, _ => ⟨S7x2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c1_i32 : BitVec 32 := 1#32
  let c0_i32_1 : BitVec 32 := 0#32
  let c0_i32_2 : BitVec 32 := 0#32
  ![c0_i32_0.toNat, c1_i32.toNat, v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c1_i32 : BitVec 32 := 1#32
  let c0_i32_2 : BitVec 32 := 0#32
  let c0_i32_3 : BitVec 32 := 0#32
  ![c0_i32_1.toNat, c1_i32.toNat, v1.toNat, c0_i32_2.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c7_i32 : BitVec 32 := 7#32
  let v2 : BitVec 32 := Scalar.select v1 arg1 c7_i32
  let c1_i32 : BitVec 32 := 1#32
  let c0_i32_0 : BitVec 32 := 0#32
  let c0_i32_1 : BitVec 32 := 0#32
  ![v0.toNat, c1_i32.toNat, v2.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 c0_i32_0 arg1
  let c1_i32 : BitVec 32 := 1#32
  let c0_i32_1 : BitVec 32 := 0#32
  let c0_i32_2 : BitVec 32 := 0#32
  ![v0.toNat, c1_i32.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S7x1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x1x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x352 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x352 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpStepRefIdeal.lean ====
abbrev S1 : Shape := ⟨1, ![1]⟩
abbrev S7x2x1024x384 : Shape := ⟨4, ![7, 2, 1024, 384]⟩
abbrev S8x2x1024x384 : Shape := ⟨4, ![8, 2, 1024, 384]⟩
abbrev S2x1024x352 : Shape := ⟨3, ![2, 1024, 352]⟩
abbrev S8x1x1024x352 : Shape := ⟨4, ![8, 1, 1024, 352]⟩
abbrev S8x1024x352 : Shape := ⟨3, ![8, 1024, 352]⟩
abbrev S_ : Shape := ⟨0, ![]⟩
abbrev S1x1 : Shape := ⟨2, ![1, 1]⟩
abbrev S1x1024x352 : Shape := ⟨3, ![1, 1024, 352]⟩
abbrev S7x1x1024x352 : Shape := ⟨4, ![7, 1, 1024, 352]⟩
abbrev S7x1024x352 : Shape := ⟨3, ![7, 1024, 352]⟩
abbrev S1024x352 : Shape := ⟨2, ![1024, 352]⟩

abbrev nBuf : Space → Nat
  | .hbm => 76
  | .vmem => 0
  | .smem => 0
  | _ => 0

abbrev bufTy : (tb : Table) → Fin (tcTables nBuf tb) → BufTy
  | .hbm, ⟨0, _⟩ => ⟨S1, .i32⟩
  | .hbm, ⟨1, _⟩ => ⟨S7x2x1024x384, .f32⟩
  | .hbm, ⟨2, _⟩ => ⟨S7x2x1024x384, .f32⟩
  | .hbm, ⟨3, _⟩ => ⟨S8x2x1024x384, .f32⟩
  | .hbm, ⟨4, _⟩ => ⟨S8x2x1024x384, .f32⟩
  | .hbm, ⟨5, _⟩ => ⟨S2x1024x352, .f32⟩
  | .hbm, ⟨6, _⟩ => ⟨S2x1024x352, .f32⟩
  | .hbm, ⟨7, _⟩ => ⟨S2x1024x352, .f32⟩
  | .hbm, ⟨8, _⟩ => ⟨S8x1x1024x352, .f32⟩
  | .hbm, ⟨9, _⟩ => ⟨S8x1024x352, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x1024x352, .f32⟩
  | .hbm, ⟨19, _⟩ => ⟨S7x1x1024x352, .f32⟩
  | .hbm, ⟨20, _⟩ => ⟨S7x1024x352, .f32⟩
  | .hbm, ⟨21, _⟩ => ⟨S_, .f32⟩
  | .hbm, ⟨22, _⟩ => ⟨S1024x352, .f32⟩
  | .hbm, ⟨23, _⟩ => ⟨S1x1024x352, .f32⟩
  | .hbm, ⟨24, _⟩ => ⟨S1x1024x352, .f32⟩
  | .hbm, ⟨25, _⟩ => ⟨S8x1x1024x352, .f32⟩
  | .hbm, ⟨26, _⟩ => ⟨S8x1024x352, .f32⟩
  | .hbm, ⟨27, _⟩ => ⟨S_, .i32⟩
  | .hbm, ⟨28, _⟩ => ⟨S1, .i32⟩
  | .hbm, ⟨29, _⟩ => ⟨S1, .i1⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S1, .i32⟩
  | .hbm, ⟨34, _⟩ => ⟨S1x1, .i32⟩
  | .hbm, ⟨35, _⟩ => ⟨S1x1024x352, .f32⟩
  | .hbm, ⟨36, _⟩ => ⟨S7x1x1024x352, .f32⟩
  | .hbm, ⟨37, _⟩ => ⟨S7x1024x352, .f32⟩
  | .hbm, ⟨38, _⟩ => ⟨S_, .f32⟩
  | .hbm, ⟨39, _⟩ => ⟨S1024x352, .f32⟩
  | .hbm, ⟨40, _⟩ => ⟨S1x1024x352, .f32⟩
  | .hbm, ⟨41, _⟩ => ⟨S1x1024x352, .f32⟩
  | .hbm, ⟨42, _⟩ => ⟨S2x1024x352, .f32⟩
  | .hbm, ⟨43, _⟩ => ⟨S_, .f32⟩
  | .hbm, ⟨44, _⟩ => ⟨S2x1024x352, .f32⟩
  | .hbm, ⟨45, _⟩ => ⟨S2x1024x352, .f32⟩
  | .hbm, ⟨46, _⟩ => ⟨S_, .f32⟩
  | .hbm, ⟨47, _⟩ => ⟨S2x1024x352, .f32⟩
  | .hbm, ⟨48, _⟩ => ⟨S2x1024x352, .f32⟩
  | .hbm, ⟨49, _⟩ => ⟨S2x1024x352, .f32⟩
  | .hbm, ⟨50, _⟩ => ⟨S_, .f32⟩
  | .hbm, ⟨51, _⟩ => ⟨S2x1024x352, .f32⟩
  | .hbm, ⟨52, _⟩ => ⟨S2x1024x352, .f32⟩
  | .hbm, ⟨53, _⟩ => ⟨S2x1024x352, .f32⟩
  | .hbm, ⟨54, _⟩ => ⟨S_, .f32⟩
  | .hbm, ⟨55, _⟩ => ⟨S2x1024x352, .f32⟩
  | .hbm, ⟨56, _⟩ => ⟨S2x1024x352, .f32⟩
  | .hbm, ⟨57, _⟩ => ⟨S2x1024x352, .f32⟩
  | .hbm, ⟨58, _⟩ => ⟨S_, .f32⟩
  | .hbm, ⟨59, _⟩ => ⟨S2x1024x352, .f32⟩
  | .hbm, ⟨60, _⟩ => ⟨S2x1024x352, .f32⟩
  | .hbm, ⟨61, _⟩ => ⟨S_, .f32⟩
  | .hbm, ⟨62, _⟩ => ⟨S2x1024x352, .f32⟩
  | .hbm, ⟨63, _⟩ => ⟨S2x1024x352, .f32⟩
  | .hbm, ⟨64, _⟩ => ⟨S2x1024x352, .f32⟩
  | .hbm, ⟨65, _⟩ => ⟨S_, .f32⟩
  | .hbm, ⟨66, _⟩ => ⟨S2x1024x352, .f32⟩
  | .hbm, ⟨67, _⟩ => ⟨S2x1024x352, .f32⟩
  | .hbm, ⟨68, _⟩ => ⟨S2x1024x352, .f32⟩
  | .hbm, ⟨69, _⟩ => ⟨S_, .f32⟩
  | .hbm, ⟨70, _⟩ => ⟨S2x1024x352, .f32⟩
  | .hbm, ⟨71, _⟩ => ⟨S2x1024x352, .f32⟩
  | .hbm, ⟨72, _⟩ => ⟨S2x1024x352, .f32⟩
  | .hbm, ⟨73, _⟩ => ⟨S_, .f32⟩
  | .hbm, ⟨74, _⟩ => ⟨S2x1024x352, .f32⟩
  | .hbm, ⟨75, _⟩ => ⟨S2x1024x352, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Products.Gate.lean ====
module

public import proofs.«01_k».proof.Proof.Gen.GateIdeal.Value
public import proofs.«01_k».proof.Proof.Gen.GateRefIdeal.Read
public import Idealize.ShloMosaic.Lib.Pipeline.ValueKit

@[expose] public section

set_option maxRecDepth 16384

noncomputable section

namespace Cert.Proof.Gate

open Idealize.ShloMosaic Idealize.ShloMosaic.TcCoe Idealize.SL.Sem
open Cert.GateIdeal Cert.GateIdeal.Gen

variable (m : (ℓ : Loc nD τ sig) → Buf (Elt Ideal) ℓ)

/-- Which block each window shows at grid point `t`. -/
theorem idx : ∀ t : Fin cfg0.N, win0_0.index t = ![0, 0] ∧ win0_1.index t = ![0, t.val, 0, 0]
    ∧ win0_2.index t = ![t.val, 0, 0, 0] :=
  (by decide +kernel : ∀ t : Fin grid0.N, _)

/-- What a grid point stores is its block of the reference's gradient. -/
theorem point (c : Dev nD) (t : Fin cfg0.N) (y : S1x2x1024x384.Idx) :
    out0_2 (iblk m c 0 t) (iblk m c 1 t) y
      = Cert.GateRefIdeal.Read.val_main_v5 (F := Ideal) (m ((c : Thread nD τ).loc main_arg0)) (m ((c : Thread nD τ).loc main_arg2))
          (((cfg0.win 2).blk t).view.emb y) := by
  unfold out0_2
  rw [Cert.GateIdeal.Value.canon2_eq]
  pointwise [k0_pay1, Cert.GateRefIdeal.Read.val_main_v5, Cert.GateRefIdeal.Read.val_main_v4, Cert.GateRefIdeal.Read.val_main_v3, Cert.GateRefIdeal.Read.val_main_v2]
  refine Finset.sum_congr rfl fun x _ => Eq.trans ?_ (mul_comm _ _)
  blk_point [iblk, V, idx t]

/-- The result array after the run is the reference's gradient. -/
theorem final (c : Dev nD) : (dats m 0 c).arrAt 2 cfg0.N
    = Cert.GateRefIdeal.Read.val_main_v5 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  exact point m c t y

end Cert.Proof.Gate

end
-- ==== Proof.Products.DilDw.lean ====
module

public import proofs.«01_k».proof.Proof.Gen.DilDwIdeal.Value
public import proofs.«01_k».proof.Proof.Gen.DilDwRefIdeal.Read
public import Idealize.ShloMosaic.Lib.Pipeline.ValueKit

@[expose] public section

set_option maxRecDepth 16384

noncomputable section

namespace Cert.Proof.DilDw

open Idealize.ShloMosaic Idealize.ShloMosaic.TcCoe Idealize.SL.Sem
open Cert.DilDwIdeal Cert.DilDwIdeal.Gen

variable (m : (ℓ : Loc nD τ sig) → Buf (Elt Ideal) ℓ)

/-- Which block each window shows at grid point `t`: the tokens' window of group `g` follows the row tile while the
    columns belong to group `g`. -/
theorem idx : ∀ t : Fin cfg0.N, (t.val < 6 → win0_0.index t = ![t.val % 2, 0])
    ∧ ((3 ≤ t.val / 2 % 9 ∧ t.val / 2 % 9 ≤ 5) → win0_1.index t = ![t.val % 2, 0])
    ∧ (12 ≤ t.val → win0_2.index t = ![t.val % 2, 0])
    ∧ win0_3.index t = ![t.val / 2, 0, 0] ∧ win0_4.index t = ![t.val % 2, t.val / 2] :=
  (by decide +kernel : ∀ t : Fin grid0.N, _)

set_option maxHeartbeats 1600000 in
/-- A product of a block of the tokens of group `t / 6` with the point's cotangent block is the point's block of the
    reference's gradient. -/
theorem point (c : Dev nD) (t : Fin cfg0.N) (hN : t.val < 18) (X : FVec Ideal S512x2048 .bf16)
    (hX : ∀ (r : Fin 512) (x : Fin 2048), X (ix2 r x) = m ((c : Thread nD τ).loc main_arg0)
      (ix3 (⟨t.val / 6, by omega⟩ : Fin 3) x (⟨t.val % 2 * 512 + r.val, by omega⟩ : Fin 1024))) (y : S512x1024.Idx) :
    k0_pay1 X (iblk m c 3 t) y
      = Cert.DilDwRefIdeal.Read.val_main_v11 (F := Ideal) (m ((c : Thread nD τ).loc main_arg0)) (m ((c : Thread nD τ).loc main_arg2))
          (((cfg0.win 4).blk t).view.emb y) := by
  obtain ⟨-, -, -, e3, e4⟩ := idx t
  pointwise [k0_pay1, Cert.DilDwRefIdeal.Read.val_main_v11, Cert.DilDwRefIdeal.Read.val_main_v10, Cert.DilDwRefIdeal.Read.val_main_v9, Cert.DilDwRefIdeal.Read.val_main_v8, Cert.DilDwRefIdeal.Read.val_main_v7, Cert.DilDwRefIdeal.Read.val_main_v6, Cert.DilDwRefIdeal.Read.val_main_v5]
  refine Finset.sum_congr rfl fun x _ => Eq.trans ?_ (mul_comm _ _)
  blk_point [iblk, V, e3, e4]
  refine (hX (y 0) x).trans ?_
  blk_ext [e4]

/-- The result array after the run is the reference's gradient. -/
theorem final (c : Dev nD) : (dats m 0 c).arrAt 4 cfg0.N
    = Cert.DilDwRefIdeal.Read.val_main_v11 (F := Ideal) (m ((c : Thread nD τ).loc main_arg0)) (m ((c : Thread nD τ).loc main_arg2)) := by
  refine (dats m 0 c).arrAt_eq_of_covers 4 _ (by decide +kernel) fun t _ y => ?_
  obtain ⟨e0, e1, e2, e3, e4⟩ := idx t
  have hN : t.val < 18 := lt_of_lt_of_eq t.isLt N_0
  blk_simp
  rw [after0_4]
  by_cases h0 : t.val < 6
  · have h1 : ¬(3 ≤ t.val / 2 % 9 ∧ t.val / 2 % 9 ≤ 5) := by omega
    have h2 : ¬12 ≤ t.val := by omega
    rw [outsAt0_A m c t h0 h1 h2]
    frame_out
    refine point m c t hN _ (fun r x => ?_) y
    blk_ext! [iblk, V, e0 h0]
  by_cases h2 : 12 ≤ t.val
  · have h1 : ¬(3 ≤ t.val / 2 % 9 ∧ t.val / 2 % 9 ≤ 5) := by omega
    rw [outsAt0_C m c t h0 h1 h2]
    frame_out
    refine point m c t hN _ (fun r x => ?_) y
    blk_ext! [iblk, V, e2 h2]
  · have h1 : 3 ≤ t.val / 2 % 9 ∧ t.val / 2 % 9 ≤ 5 := by omega
    rw [outsAt0_B m c t h0 h1 h2]
    frame_out
    refine point m c t hN _ (fun r x => ?_) y
    blk_ext! [iblk, V, e1 h1]

end Cert.Proof.DilDw

end
-- ==== Proof.Products.DilDh.lean ====
module

public import proofs.«01_k».proof.Proof.Gen.DilDhIdeal.Value
public import proofs.«01_k».proof.Proof.Gen.DilDhRefIdeal.Read
public import Idealize.ShloMosaic.Lib.Pipeline.ValueKit

@[expose] public section

set_option maxRecDepth 16384

noncomputable section

namespace Cert.Proof.DilDh

open Idealize.ShloMosaic Idealize.ShloMosaic.TcCoe Idealize.SL.Sem
open Cert.DilDhIdeal Cert.DilDhIdeal.Gen

variable (m : (ℓ : Loc nD τ sig) → Buf (Elt Ideal) ℓ)

/-- Which block each window shows at grid point `t`. -/
theorem idx : ∀ t : Fin cfg0.N, win0_0.index t = ![t.val / 2, t.val % 2, 0] ∧ win0_1.index t = ![0, t.val / 2]
    ∧ win0_2.index t = ![t.val / 2, t.val % 2, 0] :=
  (by decide +kernel : ∀ t : Fin grid0.N, _)

/-- The result array after the run is the reference's gradient. -/
theorem final (c : Dev nD) : (dats m 0 c).arrAt 2 cfg0.N
    = Cert.DilDhRefIdeal.Read.val_main_v8 (F := Ideal) (m ((c : Thread nD τ).loc main_arg1)) (m ((c : Thread nD τ).loc main_arg2)) := by
  refine (dats m 0 c).arrAt_eq_of_covers 2 _ (by decide +kernel) fun t _ y => ?_
  have hN : t.val < 6 := lt_of_lt_of_eq t.isLt N_0
  blk_simp
  rw [after0_2, outsAt0]
  frame_out
  pointwise [k0_pay1, Cert.DilDhRefIdeal.Read.val_main_v8, Cert.DilDhRefIdeal.Read.val_main_v7, Cert.DilDhRefIdeal.Read.val_main_v6, Cert.DilDhRefIdeal.Read.val_main_v5, Cert.DilDhRefIdeal.Read.val_main_v0]
  blk_point [iblk, V, idx t]

end Cert.Proof.DilDh

end
-- ==== Proof.Products.NaDw.lean ====
module

public import proofs.«01_k».proof.Proof.Gen.NaDwIdeal.Value
public import proofs.«01_k».proof.Proof.Gen.NaDwRefIdeal.Read
public import Idealize.ShloMosaic.Lib.Pipeline.ValueKit

@[expose] public section

set_option maxRecDepth 16384

noncomputable section

namespace Cert.Proof.NaDw

open Idealize.ShloMosaic Idealize.ShloMosaic.TcCoe Idealize.SL.Sem
open Cert.NaDwIdeal Cert.NaDwIdeal.Gen

variable (m : (ℓ : Loc nD τ sig) → Buf (Elt Ideal) ℓ)

/-- Which block each window shows at grid point `t`. -/
theorem idx : ∀ t : Fin cfg0.N, win0_0.index t = ![t.val % 2, 0] ∧ win0_1.index t = ![t.val / 2, 0, 0] ∧ win0_2.index t = ![t.val % 2, t.val / 2] :=
  (by decide +kernel : ∀ t : Fin grid0.N, _)

/-- The point's product is the point's block of the reference's gradient. -/
theorem point (c : Dev nD) (t : Fin cfg0.N) (hN : t.val < 6) (y : S512x1024.Idx) :
    k0_pay1 (iblk m c 0 t) (iblk m c 1 t) y = Cert.NaDwRefIdeal.Read.val_main_v7 (F := Ideal) (m ((c : Thread nD τ).loc main_arg0)) (m ((c : Thread nD τ).loc main_arg2))
      (((cfg0.win 2).blk t).view.emb y) := by
  pointwise [k0_pay1, Cert.NaDwRefIdeal.Read.val_main_v7, Cert.NaDwRefIdeal.Read.val_main_v6, Cert.NaDwRefIdeal.Read.val_main_v5, Cert.NaDwRefIdeal.Read.val_main_v4, Cert.NaDwRefIdeal.Read.val_main_v3]
  refine Finset.sum_congr rfl fun x _ => Eq.trans ?_ (mul_comm _ _)
  blk_point [iblk, V, idx t]

/-- The result array after the run is the reference's gradient. -/
theorem final (c : Dev nD) : (dats m 0 c).arrAt 2 cfg0.N
    = Cert.NaDwRefIdeal.Read.val_main_v7 (F := Ideal) (m ((c : Thread nD τ).loc main_arg0)) (m ((c : Thread nD τ).loc main_arg2)) := by
  refine (dats m 0 c).arrAt_eq_of_covers 2 _ (by decide +kernel) fun t _ y => ?_
  have hN : t.val < 6 := lt_of_lt_of_eq t.isLt N_0
  blk_simp
  rw [after0_2, outsAt0]
  frame_out
  exact point m c t hN y

end Cert.Proof.NaDw

end
-- ==== Proof.Products.NaDh.lean ====
module

public import proofs.«01_k».proof.Proof.Gen.NaDhIdeal.Value
public import proofs.«01_k».proof.Proof.Gen.NaDhRefIdeal.Read
public import Idealize.ShloMosaic.Lib.Pipeline.ValueKit

@[expose] public section

set_option maxRecDepth 16384

noncomputable section

namespace Cert.Proof.NaDh

open Idealize.ShloMosaic Idealize.ShloMosaic.TcCoe Idealize.SL.Sem
open Cert.NaDhIdeal Cert.NaDhIdeal.Gen

variable (m : (ℓ : Loc nD τ sig) → Buf (Elt Ideal) ℓ)

/-- Which block each window shows at grid point `t`. -/
theorem idx : ∀ t : Fin cfg0.N, win0_0.index t = ![0, t.val, 0] ∧ win0_1.index t = ![0, 0] ∧ win0_2.index t = ![0, t.val, 0] :=
  (by decide +kernel : ∀ t : Fin grid0.N, _)

/-- The result array after the run is the reference's gradient. -/
theorem final (c : Dev nD) : (dats m 0 c).arrAt 2 cfg0.N
    = Cert.NaDhRefIdeal.Read.val_main_v6 (F := Ideal) (m ((c : Thread nD τ).loc main_arg1)) (m ((c : Thread nD τ).loc main_arg2)) := by
  refine (dats m 0 c).arrAt_eq_of_covers 2 _ (by decide +kernel) fun t _ y => ?_
  have hN : t.val < 2 := lt_of_lt_of_eq t.isLt N_0
  blk_simp
  rw [after0_2, outsAt0]
  frame_out
  pointwise [k0_pay1, Cert.NaDhRefIdeal.Read.val_main_v6, Cert.NaDhRefIdeal.Read.val_main_v5, Cert.NaDhRefIdeal.Read.val_main_v4, Cert.NaDhRefIdeal.Read.val_main_v3]
  blk_point [iblk, V, idx t]

end Cert.Proof.NaDh

end
-- ==== Proof.Products.ProjDw.lean ====
module

public import proofs.«01_k».proof.Proof.Gen.ProjDwIdeal.Value
public import proofs.«01_k».proof.Proof.Gen.ProjDwRefIdeal.Read
public import Idealize.ShloMosaic.Lib.Pipeline.ValueKit

@[expose] public section

set_option maxRecDepth 16384

noncomputable section

namespace Cert.Proof.ProjDw

open Idealize.ShloMosaic Idealize.ShloMosaic.TcCoe Idealize.SL.Sem
open Cert.ProjDwIdeal Cert.ProjDwIdeal.Gen

variable (m : (ℓ : Loc nD τ sig) → Buf (Elt Ideal) ℓ)

/-- Which block each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The point's product is the point's block of the reference's gradient. -/
theorem point (c : Dev nD) (t : Fin cfg0.N) (hN : t.val < 2) (y : S512x1024.Idx) :
    k0_pay1 (iblk m c 0 t) (iblk m c 1 t) y = Cert.ProjDwRefIdeal.Read.val_main_v3 (F := Ideal) (m ((c : Thread nD τ).loc main_arg0)) (m ((c : Thread nD τ).loc main_arg2))
      (((cfg0.win 2).blk t).view.emb y) := by
  pointwise [k0_pay1, Cert.ProjDwRefIdeal.Read.val_main_v3, Cert.ProjDwRefIdeal.Read.val_main_v2, Cert.ProjDwRefIdeal.Read.val_main_v1]
  refine Finset.sum_congr rfl fun x _ => Eq.trans ?_ (mul_comm _ _)
  blk_point [iblk, V, idx t]

/-- The result array after the run is the reference's gradient. -/
theorem final (c : Dev nD) : (dats m 0 c).arrAt 2 cfg0.N
    = Cert.ProjDwRefIdeal.Read.val_main_v3 (F := Ideal) (m ((c : Thread nD τ).loc main_arg0)) (m ((c : Thread nD τ).loc main_arg2)) := by
  refine (dats m 0 c).arrAt_eq_of_covers 2 _ (by decide +kernel) fun t _ y => ?_
  have hN : t.val < 2 := lt_of_lt_of_eq t.isLt N_0
  blk_simp
  rw [after0_2, outsAt0]
  frame_out
  exact point m c t hN y

end Cert.Proof.ProjDw

end
-- ==== Proof.Products.ProjDo.lean ====
module

public import proofs.«01_k».proof.Proof.Gen.ProjDoIdeal.Value
public import proofs.«01_k».proof.Proof.Gen.ProjDoRefIdeal.Read
public import Idealize.ShloMosaic.Lib.Pipeline.ValueKit

@[expose] public section

set_option maxRecDepth 16384

noncomputable section

namespace Cert.Proof.ProjDo

open Idealize.ShloMosaic Idealize.ShloMosaic.TcCoe Idealize.SL.Sem
open Cert.ProjDoIdeal Cert.ProjDoIdeal.Gen

variable (m : (ℓ : Loc nD τ sig) → Buf (Elt Ideal) ℓ)

/-- Which block each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's gradient. -/
theorem final (c : Dev nD) : (dats m 0 c).arrAt 2 cfg0.N
    = Cert.ProjDoRefIdeal.Read.val_main_v2 (F := Ideal) (m ((c : Thread nD τ).loc main_arg1)) (m ((c : Thread nD τ).loc main_arg2)) := by
  refine (dats m 0 c).arrAt_eq_of_covers 2 _ (by decide +kernel) fun t _ y => ?_
  have hN : t.val < 2 := lt_of_lt_of_eq t.isLt N_0
  blk_simp
  rw [after0_2, outsAt0]
  frame_out
  pointwise [k0_pay1, Cert.ProjDoRefIdeal.Read.val_main_v2, Cert.ProjDoRefIdeal.Read.val_main_v1]
  blk_point [iblk, V, idx t]

end Cert.Proof.ProjDo

end
-- ==== Proof.Products.Dil.lean ====
module

public import proofs.«01_k».proof.Proof.Gen.DilIdeal.Value
public import proofs.«01_k».proof.Proof.Gen.DilRefIdeal.Read
public import Idealize.ShloMosaic.Lib.Pipeline.ValueKit

@[expose] public section

set_option maxRecDepth 16384

noncomputable section

namespace Cert.Proof.Dil

open Idealize.ShloMosaic Idealize.ShloMosaic.TcCoe Idealize.SL.Sem
open Cert.DilIdeal Cert.DilIdeal.Gen

variable (m : (ℓ : Loc nD τ sig) → Buf (Elt Ideal) ℓ)

/-- Which block each window shows at grid point `t`: a window of the tokens shows the whole of its group's rows. -/
theorem idx : ∀ t : Fin cfg0.N, win0_0.index t = ![0, 0] ∧ win0_1.index t = ![0, 0] ∧ win0_2.index t = ![0, 0]
    ∧ win0_3.index t = ![0, t.val] ∧ win0_4.index t = ![0, t.val] :=
  (by decide +kernel : ∀ t : Fin grid0.N, _)

set_option maxHeartbeats 1600000 in
/-- The product of the tokens of group `t / 3` with the point's weights is the point's block of the reference's product. -/
theorem point (c : Dev nD) (t : Fin cfg0.N) (hN : t.val < 9) (X : FVec Ideal S2048x1024 .bf16)
    (hX : ∀ (r : Fin 2048) (x : Fin 1024), X (ix2 r x) = m ((c : Thread nD τ).loc main_arg0)
      (ix3 (⟨t.val / 3, by omega⟩ : Fin 3) r x)) (y : S2048x1024.Idx) :
    k0_pay1 X (iblk m c 3 t) y
      = Cert.DilRefIdeal.Read.val_main_v4 (F := Ideal) (m ((c : Thread nD τ).loc main_arg0)) (m ((c : Thread nD τ).loc main_arg1))
          (((cfg0.win 4).blk t).view.emb y) := by
  obtain ⟨-, -, -, e3, e4⟩ := idx t
  pointwise [k0_pay1, Cert.DilRefIdeal.Read.val_main_v4, Cert.DilRefIdeal.Read.val_main_v3, Cert.DilRefIdeal.Read.val_main_v2, Cert.DilRefIdeal.Read.val_main_v1, Cert.DilRefIdeal.Read.val_main_v0]
  refine Finset.sum_congr rfl fun x _ => ?_
  blk_point [iblk, V, e3, e4]
  refine (hX (y 0) x).trans ?_
  blk_ext [e4]

/-- The result array after the run is the reference's product. -/
theorem final (c : Dev nD) : (dats m 0 c).arrAt 4 cfg0.N
    = Cert.DilRefIdeal.Read.val_main_v4 (F := Ideal) (m ((c : Thread nD τ).loc main_arg0)) (m ((c : Thread nD τ).loc main_arg1)) := by
  refine (dats m 0 c).arrAt_eq_of_covers 4 _ (by decide +kernel) fun t _ y => ?_
  obtain ⟨e0, e1, e2, e3, e4⟩ := idx t
  have hN : t.val < 9 := lt_of_lt_of_eq t.isLt N_0
  blk_simp
  rw [after0_4]
  by_cases h0 : t.val < 3
  · have h1 : ¬(3 ≤ t.val % 9 ∧ t.val % 9 ≤ 5) := by omega
    have h2 : ¬6 ≤ t.val := by omega
    rw [outsAt0_A m c t h0 h1 h2]
    frame_out
    refine point m c t hN _ (fun r x => ?_) y
    blk_ext! [iblk, V, e0]
  by_cases h2 : 6 ≤ t.val
  · have h1 : ¬(3 ≤ t.val % 9 ∧ t.val % 9 ≤ 5) := by omega
    rw [outsAt0_C m c t h0 h1 h2]
    frame_out
    refine point m c t hN _ (fun r x => ?_) y
    blk_ext! [iblk, V, e2]
  · have h1 : 3 ≤ t.val % 9 ∧ t.val % 9 ≤ 5 := by omega
    rw [outsAt0_B m c t h0 h1 h2]
    frame_out
    refine point m c t hN _ (fun r x => ?_) y
    blk_ext! [iblk, V, e1]

end Cert.Proof.Dil

end
-- ==== Proof.Products.Na.lean ====
module

public import proofs.«01_k».proof.Proof.Gen.NaIdeal.Value
public import proofs.«01_k».proof.Proof.Gen.NaRefIdeal.Read
public import Idealize.ShloMosaic.Lib.Pipeline.ValueKit

@[expose] public section

set_option maxRecDepth 16384

noncomputable section

namespace Cert.Proof.Na

open Idealize.ShloMosaic Idealize.ShloMosaic.TcCoe Idealize.SL.Sem
open Cert.NaIdeal Cert.NaIdeal.Gen

variable (m : (ℓ : Loc nD τ sig) → Buf (Elt Ideal) ℓ)

/-- Which block each window shows at grid point `t`. -/
theorem idx : ∀ t : Fin cfg0.N, win0_0.index t = ![0, 0] ∧ win0_1.index t = ![0, t.val] ∧ win0_2.index t = ![0, t.val] :=
  (by decide +kernel : ∀ t : Fin grid0.N, _)

/-- The result array after the run is the reference's product. -/
theorem final (c : Dev nD) : (dats m 0 c).arrAt 2 cfg0.N
    = Cert.NaRefIdeal.Read.val_main_v1 (F := Ideal) (m ((c : Thread nD τ).loc main_arg0)) (m ((c : Thread nD τ).loc main_arg1)) := by
  refine (dats m 0 c).arrAt_eq_of_covers 2 _ (by decide +kernel) fun t _ y => ?_
  have hN : t.val < 3 := lt_of_lt_of_eq t.isLt N_0
  blk_simp
  rw [after0_2, outsAt0]
  frame_out
  pointwise [k0_pay1, Cert.NaRefIdeal.Read.val_main_v1, Cert.NaRefIdeal.Read.val_main_v0]
  blk_point [iblk, V, idx t]

end Cert.Proof.Na

end
-- ==== Proof.Products.Proj.lean ====
module

public import proofs.«01_k».proof.Proof.Gen.ProjIdeal.Value
public import proofs.«01_k».proof.Proof.Gen.ProjRefIdeal.Read
public import Idealize.ShloMosaic.Lib.Pipeline.ValueKit

@[expose] public section

set_option maxRecDepth 16384

noncomputable section

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ)

/-- Which block each window shows at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's product. -/
theorem final (c : Dev nD) : (dats m 0 c).arrAt 2 cfg0.N
    = Cert.ProjRefIdeal.Read.val_main_v0 (F := Ideal) (m ((c : Thread nD τ).loc main_arg0)) (m ((c : Thread nD τ).loc main_arg1)) := by
  refine (dats m 0 c).arrAt_eq_of_covers 2 _ (by decide +kernel) fun t _ y => ?_
  have hN : t.val < 2 := lt_of_lt_of_eq t.isLt N_0
  blk_simp
  rw [after0_2, outsAt0]
  frame_out
  pointwise [k0_pay1, Cert.ProjRefIdeal.Read.val_main_v0]
  blk_point [iblk, V, idx t]

end Cert.Proof.Proj

end
-- ==== Proof.Ffn.Run.lean ====
/-
  The run of the feed-forward block's body over the idealized program: what it leaves in each result's block, from the
  blocks of the inputs and what the accumulated block held.
-/
module

public import proofs.«01_k».proof.Proof.Gen.FfnIdeal.Frame
public import proofs.«01_k».proof.Proof.Gen.FfnIdeal.Launch
public import proofs.«01_k».proof.Proof.Gen.FfnIdeal.Skeleton
public import proofs.«01_k».proof.Proof.Gen.FfnIdeal.Points
public import Idealize.ShloMosaic.Lib.VecWindow
public import Idealize.ShloMosaic.Lib.Pipeline.FrameBody
public import Idealize.ShloMosaic.Lib.Pipeline.ValueKit
public import Idealize.ShloMosaic.Lib.Tactic
public import Idealize.ShloMosaic.Lib.WordCmp

@[expose] public section

set_option maxRecDepth 16384

noncomputable section

namespace Cert.FfnIdeal.Block

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the shard is the first. -/
abbrev First (i : grid0.Coords) : Prop := k0_cond1 i = 1#1
/-- The body's second branch is taken: the shard is not the first. -/
abbrev Later (i : grid0.Coords) : Prop := k0_cond2 i = 1#1

set_option maxHeartbeats 1000000 in
/-- The body at the first shard: the row tile of the sum is the part that the shard contributes. -/
theorem run_first (c : Dev nD) (i : grid0.Coords) (arg2 : Memref sig .tc .vmem S1024x1024 .bf16) (harg2 : arg2.IsWhole) (arg3 : Memref sig .tc .vmem S1x1x1024x384 .bf16) (harg3 : arg3.IsWhole) (arg4 : Memref sig .tc .vmem S1x1x1024x384 .bf16) (harg4 : arg4.IsWhole) (arg5 : Memref sig .tc .vmem S1x384x1024 .bf16) (harg5 : arg5.IsWhole) (arg6 : Memref sig .tc .vmem S2048x1024 .f32) (harg6 : arg6.IsWhole) (arg7 : Memref sig .tc .vmem S1x1024x384 .bf16) (harg7 : arg7.IsWhole) (arg8 : Memref sig .tc .vmem S1x1024x384 .bf16) (harg8 : arg8.IsWhole) (arg9 : Memref sig .tc .vmem S1x384x1024 .bf16) (harg9 : arg9.IsWhole) (hc0 : First i) (hc1 : ¬ Later i)
    (x0 : Vec F S1024x1024 .bf16) (x1 : Vec F S1x1x1024x384 .bf16) (x2 : Vec F S1x1x1024x384 .bf16) (x3 : Vec F S1x384x1024 .bf16) (d : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (VecWindow.put d (k0_off1 i) S1024x1024.size (k0_pay9 x0 x1 x2 x3))
          ∗ owns (c : Thread nD τ) arg7 fullShare (k0_pay7 x0 x1)
          ∗ owns (c : Thread nD τ) arg8 fullShare (k0_pay8 x0 x2)
          ∗ owns (c : Thread nD τ) arg9 fullShare (k0_pay6 x0 x1 x2)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  have e0 := (View.readAt_full arg2.view (harg2.unread x0) inb_S1024x1024_S1024x1024_0_0).trans hf0
  have e1 := (View.readAt_full arg3.view (harg3.unread x1) inb_S1x1x1024x384_S1x1x1024x384_0_0_0_0).trans hf1
  have e2 := (View.readAt_full arg4.view (harg4.unread x2) inb_S1x1x1024x384_S1x1x1024x384_0_0_0_0).trans hf2
  have e3 := (View.readAt_full arg5.view (harg5.unread x3) inb_S1x384x1024_S1x384x1024_0_0_0).trans hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_cons_put _ _ _ _ [] rfl).trans ?_
    rw [View.writes_nil, hf4]
  isplitl [H5]
  · iexists _; isplitr; swap; · iexact H5
    ipureintro; rw [View.read_writes_full]
  isplitl [H6]
  · iexists _; isplitr; swap; · iexact H6
    ipureintro; rw [View.read_writes_full]
  iexists _; isplitr; swap; · iexact H7
  ipureintro; rw [View.read_writes_full]

set_option maxHeartbeats 1000000 in
/-- The body at a later shard: the part that the shard contributes is added into the row tile of the sum. -/
theorem run_later (c : Dev nD) (i : grid0.Coords) (arg2 : Memref sig .tc .vmem S1024x1024 .bf16) (harg2 : arg2.IsWhole) (arg3 : Memref sig .tc .vmem S1x1x1024x384 .bf16) (harg3 : arg3.IsWhole) (arg4 : Memref sig .tc .vmem S1x1x1024x384 .bf16) (harg4 : arg4.IsWhole) (arg5 : Memref sig .tc .vmem S1x384x1024 .bf16) (harg5 : arg5.IsWhole) (arg6 : Memref sig .tc .vmem S2048x1024 .f32) (harg6 : arg6.IsWhole) (arg7 : Memref sig .tc .vmem S1x1024x384 .bf16) (harg7 : arg7.IsWhole) (arg8 : Memref sig .tc .vmem S1x1024x384 .bf16) (harg8 : arg8.IsWhole) (arg9 : Memref sig .tc .vmem S1x384x1024 .bf16) (harg9 : arg9.IsWhole) (hc0 : ¬ First i) (hc1 : Later i)
    (x0 : Vec F S1024x1024 .bf16) (x1 : Vec F S1x1x1024x384 .bf16) (x2 : Vec F S1x1x1024x384 .bf16) (x3 : Vec F S1x384x1024 .bf16) (d : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (VecWindow.put d (k0_off2 i) S1024x1024.size (k0_pay1 (k0_pay9 x0 x1 x2 x3) (VecWindow.window d (k0_off2 i) S1024x1024.size (k0_off2_inb i hc1))))
          ∗ owns (c : Thread nD τ) arg7 fullShare (k0_pay7 x0 x1)
          ∗ owns (c : Thread nD τ) arg8 fullShare (k0_pay8 x0 x2)
          ∗ owns (c : Thread nD τ) arg9 fullShare (k0_pay6 x0 x1 x2)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  have e0 := (View.readAt_full arg2.view (harg2.unread x0) inb_S1024x1024_S1024x1024_0_0).trans hf0
  have e1 := (View.readAt_full arg3.view (harg3.unread x1) inb_S1x1x1024x384_S1x1x1024x384_0_0_0_0).trans hf1
  have e2 := (View.readAt_full arg4.view (harg4.unread x2) inb_S1x1x1024x384_S1x1x1024x384_0_0_0_0).trans hf2
  have e3 := (View.readAt_full arg5.view (harg5.unread x3) inb_S1x384x1024_S1x384x1024_0_0_0).trans hf3
  have e4 : arg6.view.readAt (Elt F) (Rect.unit (s := S2048x1024) (k0_off2 i) S1024x1024.size (k0_off2_inb i hc1)).toLoadRect (harg6.unread d) = VecWindow.window d (k0_off2 i) S1024x1024.size (k0_off2_inb i hc1) := by
    rw [View.readAt_unit _ _ _ rfl (k0_off2_inb i hc1), hf4]
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_cons_put _ _ _ _ [] rfl).trans ?_
    rw [View.writes_nil, hf4]
  isplitl [H5]
  · iexists _; isplitr; swap; · iexact H5
    ipureintro; rw [View.read_writes_full]
  isplitl [H6]
  · iexists _; isplitr; swap; · iexact H6
    ipureintro; rw [View.read_writes_full]
  iexists _; isplitr; swap; · iexact H7
  ipureintro; rw [View.read_writes_full]

end Cert.FfnIdeal.Block

end
-- ==== Proof.Rows.lean ====
/-
  A sum of 2048 rows kept in one block while a grid of points goes over it: the even points reach its first row tile, the
  odd points its second, the first two points store and the others add.
-/
module

public import Idealize.ShloMosaic.Lib.ValueIdx
public import Idealize.ShloMosaic.Lib.VecWindow
public import Idealize.ShloMosaic.Lib.Pipeline.ValueKit

@[expose] public section

noncomputable section

namespace Cert.Proof.Rows

open Idealize.ShloMosaic

/-- The whole sum. -/
abbrev Whole : Shape := ⟨2, ![2048, 1024]⟩
/-- One row tile of it. -/
abbrev Tile : Shape := ⟨2, ![1024, 1024]⟩

/-- The position, within its row tile, of an index of the sum. -/
def inTile (y : Whole.Idx) : Tile.Idx :=
  ValueIdx.ix2 (⟨(y 0).val % 1024, Nat.mod_lt _ (by decide)⟩ : Fin 1024) (⟨(y 1).val, (y 1).isLt⟩ : Fin 1024)

section Steps

variable {F : FTy → Type} [FloatOps F] {N : ℕ} (hN : 0 < N) (p : Fin N → Vec F Tile .f32)

/-- One point's step at an index of the sum: outside its row tile nothing; inside, the point's part, or the part added to
    what was there. -/
def step (t : Fin N) (y : Whole.Idx) (x : F .f32) : F .f32 :=
  if t.val % 2 = (y 0).val / 1024 then (if t.val < 2 then p t (inTile y) else FloatOps.addf x (p t (inTile y))) else x

/-- At the first two points, inside the row tile, what was there does not matter. -/
theorem step_first (t : Fin N) (y : Whole.Idx) (ha : t.val % 2 = (y 0).val / 1024) (hb : t.val < 2) (x : F .f32) :
    step p t y x = p t (inTile y) := by
  unfold step; rw [if_pos ha, if_pos hb]

/-- The sum at an index after the point numbered `n`. -/
def total : ℕ → Whole.Idx → F .f32
  | 0, y => p ⟨0, hN⟩ (inTile y)
  | n + 1, y => if h : n + 1 < N then step p ⟨n + 1, h⟩ y (total n y) else total n y

/-- Rows put at a row tile: read inside the tile the payload, outside it what was there. -/
theorem put_at (d : Vec F Whole .f32) (b : ℕ) (w : Vec F Tile .f32) (y : Whole.Idx) :
    VecWindow.put d ![b * 1024, 0] Tile.size w y = if b = (y 0).val / 1024 then w (inTile y) else d y := by
  have h0 : (y 0).val < 2048 := (y 0).isLt
  have h1 : (y 1).val < 1024 := (y 1).isLt
  unfold VecWindow.put
  by_cases h : b = (y 0).val / 1024
  · have hin : ∀ a, (![b * 1024, 0] : Fin 2 → ℕ) a ≤ (y a).val ∧ (y a).val < (![b * 1024, 0] : Fin 2 → ℕ) a + Tile.size a :=
      Fin.forall_fin_two.mpr ⟨⟨show b * 1024 ≤ (y 0).val by omega, show (y 0).val < b * 1024 + 1024 by omega⟩,
        ⟨show 0 ≤ (y 1).val by omega, show (y 1).val < 0 + 1024 by omega⟩⟩
    rw [if_pos h, dif_pos hin]
    refine congrArg w (funext ?_)
    refine Fin.forall_fin_two.mpr ⟨Fin.ext ?_, Fin.ext ?_⟩
    · show (y 0).val - b * 1024 = (y 0).val % 1024; omega
    · show (y 1).val - 0 = (y 1).val; omega
  · rw [if_neg h, dif_neg]
    intro hin
    have e : b * 1024 ≤ (y 0).val ∧ (y 0).val < b * 1024 + 1024 := hin 0
    omega

/-- A row tile read back at an index inside it. -/
theorem window_at (d : Vec F Whole .f32) (b : ℕ) {off : Fin 2 → ℕ} (ho : off = ![b * 1024, 0])
    (inb : ∀ a, off a + Tile.size a ≤ Whole.size a)
    (y : Whole.Idx) (h : b = (y 0).val / 1024) : VecWindow.window d off Tile.size inb (inTile y) = d y := by
  subst ho
  refine congrArg d (funext ?_)
  refine Fin.forall_fin_two.mpr ⟨Fin.ext ?_, Fin.ext ?_⟩
  · show b * 1024 + 1 * ((y 0).val % 1024) = (y 0).val
    omega
  · show 0 + 1 * (y 1).val = (y 1).val
    omega

/-- The part stored at one of the first two points, -/
theorem stored_at (t : Fin N) (ht : t.val < 2) {off : Fin 2 → ℕ} (ho : off = ![t.val % 2 * 1024, 0]) (d : Vec F Whole .f32)
    (y : Whole.Idx) : VecWindow.put d off Tile.size (p t) y = step p t y (d y) := by
  subst ho
  rw [put_at]; unfold step; rw [if_pos ht]

/-- and the part added at a later one. -/
theorem added_at (t : Fin N) (ht : ¬ t.val < 2) {off : Fin 2 → ℕ} (ho : off = ![t.val % 2 * 1024, 0]) (d : Vec F Whole .f32)
    (inb : ∀ a, off a + Tile.size a ≤ Whole.size a) (y : Whole.Idx) :
    VecWindow.put d off Tile.size (addf (VecWindow.window d off Tile.size inb) (p t)) y = step p t y (d y) := by
  have hw := window_at d _ ho inb y
  subst ho
  rw [put_at]; unfold step; rw [if_neg ht]
  by_cases h : t.val % 2 = (y 0).val / 1024
  · rw [if_pos h, if_pos h]
    exact congrArg (fun x => FloatOps.addf x (p t (inTile y))) (hw h)
  · rw [if_neg h, if_neg h]

/-- The rows reached by the points up to the one numbered `n` hold what those points leave. -/
def Summed (n : ℕ) (X : Whole.Idx → F .f32) : Prop := ∀ y : Whole.Idx, (y 0).val / 1024 ≤ n → X y = total hN p n y

/-- A point keeps it so. -/
theorem summed_step (t : Fin N) (d d' : Vec F Whole .f32) (hd : t.val ≠ 0 → Summed hN p (t.val - 1) d)
    (h' : ∀ y, d' y = step p t y (d y)) : Summed hN p t.val d' := by
  intro y hy
  have hy0 : (y 0).val < 2048 := (y 0).isLt
  rw [h']
  obtain ⟨n, hn⟩ := t
  cases n with
  | zero =>
    have h0 : (y 0).val / 1024 = 0 := Nat.le_zero.mp hy
    exact step_first p ⟨0, hn⟩ y h0.symm (show 0 < 2 by omega) _
  | succ n =>
    have e : total hN p (n + 1) y = step p ⟨n + 1, hn⟩ y (total hN p n y) := dif_pos hn
    show _ = total hN p (n + 1) y
    rw [e]
    by_cases h : (y 0).val / 1024 ≤ n
    · rw [show d y = total hN p n y from hd (Nat.succ_ne_zero n) y h]
    · have hy' : (y 0).val / 1024 ≤ n + 1 := hy
      have ha : (n + 1) % 2 = (y 0).val / 1024 := by omega
      have hb : n + 1 < 2 := by omega
      rw [step_first p ⟨n + 1, hn⟩ y ha hb, step_first p ⟨n + 1, hn⟩ y ha hb]

end Steps

/-! ## Over the extended reals -/

section Ideal

variable {N : ℕ} (hN : 0 < N) (p : Fin N → Vec Ideal Tile .f32)

/-- What the point numbered `n` adds at an index. -/
def term (n : ℕ) (y : Whole.Idx) : EReal :=
  if h : n < N then (if n % 2 = (y 0).val / 1024 then p ⟨n, h⟩ (inTile y) else 0) else 0

/-- Inside its row tile a point adds its part, -/
theorem term_of_eq (t : Fin N) (y : Whole.Idx) (h : t.val % 2 = (y 0).val / 1024) : term p t.val y = p t (inTile y) := by
  unfold term; rw [dif_pos t.isLt, if_pos h]

/-- and outside it nothing. -/
theorem term_of_ne (t : Fin N) (y : Whole.Idx) (h : ¬ t.val % 2 = (y 0).val / 1024) : term p t.val y = 0 := by
  unfold term; rw [dif_pos t.isLt, if_neg h]

/-- Where the points up to `n` have reached the row tile, what they leave is their terms' sum. -/
theorem total_sum (y : Whole.Idx) (n : ℕ) (hn : n < N) (hy : (y 0).val / 1024 ≤ n) :
    total hN p n y = ∑ s ∈ Finset.range (n + 1), term p s y := by
  induction n with
  | zero =>
    rw [Finset.sum_range_one]
    exact (term_of_eq p ⟨0, hn⟩ y (Nat.le_zero.mp hy).symm).symm
  | succ n ih =>
    have e : total hN p (n + 1) y = step p ⟨n + 1, hn⟩ y (total hN p n y) := dif_pos hn
    rw [e, Finset.sum_range_succ]
    have h0 : (y 0).val < 2048 := (y 0).isLt
    by_cases hb : (n + 1) % 2 = (y 0).val / 1024
    · rw [term_of_eq p ⟨n + 1, hn⟩ y hb]
      by_cases h2 : n + 1 < 2
      · rw [step_first p ⟨n + 1, hn⟩ y hb h2]
        obtain rfl : n = 0 := by omega
        rw [Finset.sum_range_one, term_of_ne p ⟨0, by omega⟩ y (by show ¬ 0 % 2 = _; omega)]
        exact (zero_add _).symm
      · unfold step
        rw [if_pos hb, if_neg h2, ih (by omega) (by omega)]
        rfl
    · rw [term_of_ne p ⟨n + 1, hn⟩ y hb, add_zero, ← ih (by omega) (by omega)]
      unfold step
      rw [if_neg hb]

/-- A sum over the points, two by two. -/
theorem sum_two (g : ℕ → EReal) (n : ℕ) : ∑ s ∈ Finset.range (2 * n), g s = ∑ d ∈ Finset.range n, (g (2 * d) + g (2 * d + 1)) := by
  induction n with
  | zero => rfl
  | succ n ih => rw [show 2 * (n + 1) = 2 * n + 1 + 1 from rfl, Finset.sum_range_succ, Finset.sum_range_succ, Finset.sum_range_succ, ih, add_assoc]

/-- Sixteen points leave the sum, over eight shards, of the parts that reach the index. -/
theorem total_shards (h16 : N = 16) (y : Whole.Idx) (g : Fin 8 → EReal)
    (hg : ∀ (t : Fin N) (d : Fin 8), t.val / 2 = d.val → t.val % 2 = (y 0).val / 1024 → p t (inTile y) = g d) :
    total hN p 15 y = ∑ d, g d := by
  have hy : (y 0).val < 2048 := (y 0).isLt
  rw [total_sum hN p y 15 (by omega) (by omega), show 15 + 1 = 2 * 8 from rfl, sum_two, Finset.sum_range]
  refine Finset.sum_congr rfl fun d _ => ?_
  have hd := d.isLt
  by_cases hb : (y 0).val / 1024 = 0
  · rw [term_of_ne p ⟨2 * d.val + 1, by omega⟩ y (by show ¬ (2 * d.val + 1) % 2 = _; omega),
      term_of_eq p ⟨2 * d.val, by omega⟩ y (by show (2 * d.val) % 2 = _; omega), add_zero]
    exact hg _ d (by show 2 * d.val / 2 = d.val; omega) (by show 2 * d.val % 2 = _; omega)
  · rw [term_of_ne p ⟨2 * d.val, by omega⟩ y (by show ¬ (2 * d.val) % 2 = _; omega),
      term_of_eq p ⟨2 * d.val + 1, by omega⟩ y (by show (2 * d.val + 1) % 2 = _; omega), zero_add]
    exact hg _ d (by show (2 * d.val + 1) / 2 = d.val; omega) (by show (2 * d.val + 1) % 2 = _; omega)

end Ideal

end Cert.Proof.Rows

end
-- ==== Proof.Ffn.Sum.lean ====
/-
  The feed-forward block, from its launch to its end, at any float values: at each grid point the three blocked
  results hold what the point computes, and the rows of the sum that the points so far have reached hold the parts of
  those points added up.
-/
module

public import proofs.«01_k».proof.Proof.Ffn.Run
public import proofs.«01_k».proof.Proof.Rows
public import Idealize.ShloMosaic.Lib.Pipeline.DatRel
public import Idealize.ShloMosaic.Lib.Pipeline.ArrRel

@[expose] public section

set_option maxRecDepth 16384

noncomputable section

namespace Cert.FfnIdeal.Block

open Cert.FfnIdeal Cert.FfnIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulated sum -/

/-- What grid point `t` contributes to its row tile of the sum. -/
def part (c : Dev nD) (t : Fin cfg0.N) : Vec F S1024x1024 .f32 :=
  k0_pay9 (iblk m c 0 t) (iblk m c 1 t) (iblk m c 2 t) (iblk m c 3 t)

/-- The rows stored at a point: its row tile, whole. -/
theorem off_eq : ∀ t : Fin cfg0.N, k0_off1 (grid0.coords t) = ![t.val % 2 * 1024, 0] ∧ k0_off2 (grid0.coords t) = ![t.val % 2 * 1024, 0] :=
  (by decide +kernel : ∀ t : Fin grid0.N, k0_off1 (grid0.coords t) = ![t.val % 2 * 1024, 0] ∧ k0_off2 (grid0.coords t) = ![t.val % 2 * 1024, 0])

/-- The first branch is taken at the first two points, -/
theorem first_iff : ∀ t : Fin cfg0.N, First (grid0.coords t) ↔ t.val < 2 :=
  (by decide +kernel : ∀ t : Fin grid0.N, First (grid0.coords t) ↔ t.val < 2)

/-- and the second at the others. -/
theorem later_iff : ∀ t : Fin cfg0.N, Later (grid0.coords t) ↔ ¬ t.val < 2 :=
  (by decide +kernel : ∀ t : Fin grid0.N, Later (grid0.coords t) ↔ ¬ t.val < 2)

/-- There is a first point. -/
theorem N_pos : 0 < cfg0.N := by rw [show cfg0.N = 16 from N_0]; decide

/-- What a later point stores: what was there and its part. -/
theorem added_eq (v : FVec F S1024x1024 .f32) (u : Vec F S1024x1024 .f32) : k0_pay1 v u = addf u v :=
  congrArg (fun q => addf q v) (shapeCast_self u _)

/-- Of the sum's block: the rows reached by the points up to `t` hold what those points leave. -/
abbrev Summed (c : Dev nD) (t : Fin cfg0.N) (X : S2048x1024.Idx → F .f32) : Prop := Rows.Summed N_pos (part m c) t.val X

/-- Storing the part at a point of the first shard. -/
theorem summed_first (c : Dev nD) (t : Fin cfg0.N) (ht : t.val < 2) (d : Vec F S2048x1024 .f32)
    (hd : ∀ h : t.val ≠ 0, Summed m c ⟨t.val - 1, Nat.lt_of_le_of_lt (Nat.sub_le _ _) t.isLt⟩ d) :
    Summed m c t (VecWindow.put d (k0_off1 (grid0.coords t)) S1024x1024.size (part m c t)) :=
  Rows.summed_step N_pos (part m c) t d _ hd (Rows.stored_at (part m c) t ht (off_eq t).1 d)

/-- Adding the part at a point of a later shard. -/
theorem summed_later (c : Dev nD) (t : Fin cfg0.N) (ht : ¬ t.val < 2) (d : Vec F S2048x1024 .f32)
    (hd : Summed m c ⟨t.val - 1, Nat.lt_of_le_of_lt (Nat.sub_le _ _) t.isLt⟩ d)
    (inb : ∀ a, k0_off2 (grid0.coords t) a + S1024x1024.size a ≤ S2048x1024.size a) :
    Summed m c t (VecWindow.put d (k0_off2 (grid0.coords t)) S1024x1024.size
      (k0_pay1 (part m c t) (VecWindow.window d (k0_off2 (grid0.coords t)) S1024x1024.size inb))) := by
  rw [added_eq]
  exact Rows.summed_step N_pos (part m c) t d _ (fun _ => hd) (Rows.added_at (part m c) t ht (off_eq t).2 d inb)

/-! ## The pipeline's proof data -/

/-- The four result windows. -/
def results : Fin 8 → Bool := fun w => w.val == 4 || w.val == 5 || w.val == 6 || w.val == 7

/-- What each result's block holds after point `t`. -/
def Left (c : Dev nD) (w : Fin cfg0.W) (t : Fin cfg0.N) (X : (cfg0.win w).block.Idx → Elt F (cfg0.win w).elt) : Prop :=
  match w, X with
  | ⟨4, _⟩, X => Summed m c t X
  | ⟨5, _⟩, X => X = k0_pay7 (iblk m c 0 t) (iblk m c 1 t)
  | ⟨6, _⟩, X => X = k0_pay8 (iblk m c 0 t) (iblk m c 2 t)
  | ⟨7, _⟩, X => X = k0_pay6 (iblk m c 0 t) (iblk m c 1 t) (iblk m c 2 t)
  | _, _ => True

/-- The pipeline's proof data: the arrays as the region finds them, each input's buffer at its block after every point;
    nothing named of the results' buffers, of which `Left` speaks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region's. -/
theorem A_eq (c : Dev nD) (w : Fin cfg0.W) : (dats m c).A w = V m c (Pipeline.arrRef spec0 w) := by dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d

/-- The same data with the results' buffers held to `Left`. -/
abbrev rdats (c : Dev nD) : Pipeline.RDat τ (Elt F) Unit ℕ (UR sig nD τ) ℕ cfg0 c := (dats m c).toRRel results (Left m c)

/-- After the first point the sum's buffer is found as the point before left it. -/
theorem found (c : Dev nD) (t : Fin cfg0.N) (ht : t.val ≠ 0) (X : (cfg0.win 4).block.Idx → Elt F (cfg0.win 4).elt)
    (h : (rdats m c).Finds 4 t X) : Summed m c ⟨t.val - 1, Nat.lt_of_le_of_lt (Nat.sub_le _ _) t.isLt⟩ X := by
  have hN : t.val < 16 := lt_of_lt_of_eq t.isLt (show cfg0.N = 16 from N_0)
  rcases ((rdats m c).finds_of_pos rfl ht X).mp h with hf | hl
  · have := (flush0_4 _).mp hf
    exfalso; simp only at this; omega
  · exact (dats m c).toRRel_leaves (fgt := results) (Rl := Left m c) rfl hl

/-! ## The body at every point -/

/-- The body at any point leaves each result's buffer as `Left` says. -/
theorem sound_body (c : Dev nD) (t : Fin cfg0.N) :
    iprop((dats m c).Φ t.castSucc ∗ (dats m c).owesAt () t.castSucc
      ∗ (∃ d, owns (c : Thread nD τ) (st0_0 t) fullShare ((dats m c).before 0 t d))
      ∗ (∃ d, owns (c : Thread nD τ) (st0_1 t) fullShare ((dats m c).before 1 t d))
      ∗ (∃ d, owns (c : Thread nD τ) (st0_2 t) fullShare ((dats m c).before 2 t d))
      ∗ (∃ d, owns (c : Thread nD τ) (st0_3 t) fullShare ((dats m c).before 3 t d))
      ∗ (∃ Y, ⌜(rdats m c).Finds 4 t Y⌝ ∗ owns (c : Thread nD τ) (st0_4 t) fullShare Y)
      ∗ (∃ Y, ⌜(rdats m c).Finds 5 t Y⌝ ∗ owns (c : Thread nD τ) (st0_5 t) fullShare Y)
      ∗ (∃ Y, ⌜(rdats m c).Finds 6 t Y⌝ ∗ owns (c : Thread nD τ) (st0_6 t) fullShare Y)
      ∗ (∃ Y, ⌜(rdats m c).Finds 7 t Y⌝ ∗ owns (c : Thread nD τ) (st0_7 t) fullShare Y))
    ⊢ wp frame (wpE (defs₀ (F := F)) Variants.none c none) Set.univ (bodyAt0 t) (fun _ =>
      iprop((dats m c).Φ t.succ ∗ (dats m c).owesAt () t.succ
        ∗ owns (c : Thread nD τ) (st0_0 t) fullShare ((dats m c).after 0 t)
        ∗ owns (c : Thread nD τ) (st0_1 t) fullShare ((dats m c).after 1 t)
        ∗ owns (c : Thread nD τ) (st0_2 t) fullShare ((dats m c).after 2 t)
        ∗ owns (c : Thread nD τ) (st0_3 t) fullShare ((dats m c).after 3 t)
        ∗ (∃ X, ⌜Left m c 4 t X⌝ ∗ owns (c : Thread nD τ) (st0_4 t) fullShare X)
        ∗ (∃ X, ⌜Left m c 5 t X⌝ ∗ owns (c : Thread nD τ) (st0_5 t) fullShare X)
        ∗ (∃ X, ⌜Left m c 6 t X⌝ ∗ owns (c : Thread nD τ) (st0_6 t) fullShare X)
        ∗ (∃ X, ⌜Left m c 7 t X⌝ ∗ owns (c : Thread nD τ) (st0_7 t) fullShare X))) := by
  unfold bodyAt0
  simp only [before_0, before_1, before_2, before_3, after_0, after_1, after_2, after_3]
  rw [show (dats m c).Φ t.succ = (dats m c).Φ t.castSucc from rfl,
    show (dats m c).owesAt () t.succ = (dats m c).owesAt () t.castSucc from rfl]
  iintro ⟨HΦ, Ho, ⟨%d0, H0⟩, ⟨%d1, H1⟩, ⟨%d2, H2⟩, ⟨%d3, H3⟩, ⟨%d4, %h4, H4⟩, ⟨%d5, %h5, H5⟩, ⟨%d6, %h6, H6⟩, ⟨%d7, %h7, H7⟩⟩
  by_cases h0 : t.val < 2
  · iapply (run_first c (grid0.coords t) _ _ _ _ _ _ _ _ _ _ _ _ _ _ _ _ ((first_iff t).mpr h0) (fun h => (later_iff t).mp h h0) (iblk m c 0 t) (iblk m c 1 t) (iblk m c 2 t) (iblk m c 3 t) d4 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; exact summed_first m c t h0 d4 (fun h => found m c t h d4 h4)
    isplitl [H5]
    · iexists _; isplitr; swap; · iexact H5
      ipureintro; exact rfl
    isplitl [H6]
    · iexists _; isplitr; swap; · iexact H6
      ipureintro; exact rfl
    iexists _; isplitr; swap; · iexact H7
    ipureintro; exact rfl
  · iapply (run_later c (grid0.coords t) _ _ _ _ _ _ _ _ _ _ _ _ _ _ _ _ (fun h => h0 ((first_iff t).mp h)) ((later_iff t).mpr h0) (iblk m c 0 t) (iblk m c 1 t) (iblk m c 2 t) (iblk m c 3 t) d4 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; exact summed_later m c t h0 d4 (found m c t (by omega) d4 h4) _
    isplitl [H5]
    · iexists _; isplitr; swap; · iexact H5
      ipureintro; exact rfl
    isplitl [H6]
    · iexists _; isplitr; swap; · iexact H6
      ipureintro; exact rfl
    iexists _; isplitr; swap; · iexact H7
    ipureintro; exact rfl

/-- The body's row of the table of bodies, at a point's staging buffers. -/
theorem body_row (t : Fin cfg0.N) : defs₀ (F := F) .tc cfg0.body (cfg0.bodyArgs t (cfg0.slots t)) = bodyAt0 t := by
  unfold defs₀; rw [Defs.onTc_tc]

/-- The obligation the pipeline asks of the body. -/
theorem obligation (c : Dev nD) :
    Pipeline.BodyObligationRel (dats m c) (defs₀ (F := F)) Variants.none () Set.univ results (Left m c) := fun t => by
  rw [bigSep_W0, bigSep_W0, body_row]
  exact triple_restated (sound_body m c t) rfl .rfl fun _ => .rfl

/-! ## The launch -/

set_option backward.isDefEq.respectTransparency.types false in
/-- From any memory with zero counters every weakly fair execution ends, with every array as the proof data say and every
    counter at zero. -/
theorem launch : θ_run defs (onTc (τ := τ) (main (F := F))) (s₀ m ρ)
    (fun r => (Pipeline.RDat.FramePost (cfgs 0) (rdats m) (V m)) r ∧ r.2.sem = fun _ => 0) :=
  Pipeline.RDat.θ_run_frame_track_shared (Q' := _) cfgs (0 : Fin 1) launch₀0 defs₀ Variants.none (rdats m) m ρ main
    (hbody := fun c => (obligation m c).toRRel) (hq := fun _ _ _ => rfl)
    (howed := fun _ _ => rfl) (V := V m) (hmain := hmain m Variants.none) (hA := A_eq m)
    (hin := fun _ => .rfl) (hout := fun _ => .rfl)

/-- The arguments end unchanged. -/
theorem args_kept {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The program ends from every memory, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept m h.1 c, h.2⟩) (launch m ρ)

end Cert.FfnIdeal.Block

end
-- ==== Proof.Ffn.Value.lean ====
/-
  The feed-forward block's four results are the reference's: the products in front of the gate, the gated values, and the
  sum over the shards and their features.
-/
module

public import proofs.«01_k».proof.Proof.Ffn.Sum
public import proofs.«01_k».proof.Proof.Gen.FfnRefIdeal.Read
public import Idealize.ShloMosaic.Lib.Pipeline.ValueKit

@[expose] public section

set_option maxRecDepth 16384

noncomputable section

namespace Cert.Proof.Ffn

open Idealize.ShloMosaic Idealize.ShloMosaic.TcCoe Idealize.SL.Sem
open Cert.FfnIdeal Cert.FfnIdeal.Gen Cert.FfnIdeal.Block

variable (m : (ℓ : Loc nD τ sig) → Buf (Elt Ideal) ℓ)

/-- The hidden input, as the reference's argument. -/
abbrev hOf (c : Dev nD) := m ((c : Thread nD τ).loc main_arg0)
/-- The weights in front of the gate. -/
abbrev guOf (c : Dev nD) := m ((c : Thread nD τ).loc main_arg1)
/-- The weights of the down projection. -/
abbrev wdOf (c : Dev nD) := m ((c : Thread nD τ).loc main_arg2)

/-- Which block each window shows at grid point `t`: the shard is `t / 2`, the row tile `t % 2`. -/
theorem idx : ∀ t : Fin cfg0.N, win0_0.index t = ![t.val % 2, 0] ∧ win0_1.index t = ![t.val / 2, 0, 0, 0]
    ∧ win0_2.index t = ![t.val / 2, 1, 0, 0] ∧ win0_3.index t = ![t.val / 2, 0, 0]
    ∧ win0_5.index t = ![t.val / 2, t.val % 2, 0] ∧ win0_6.index t = ![t.val / 2, t.val % 2, 0]
    ∧ win0_7.index t = ![t.val / 2, 0, t.val % 2] :=
  (by decide +kernel : ∀ t : Fin grid0.N, _)

/-- The gate's product at a point is the reference's. -/
theorem gate_at (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay3 (F := Ideal) (iblk m c 0 t) (iblk m c 1 t) i = Cert.FfnRefIdeal.Read.val_main_v3 (F := Ideal) (hOf m c) (guOf m c) j := by
  pointwise [k0_pay3, k0_pay2, Cert.FfnRefIdeal.Read.val_main_v3, Cert.FfnRefIdeal.Read.val_main_v2, Cert.FfnRefIdeal.Read.val_main_v1, Cert.FfnRefIdeal.Read.val_main_v0]
  refine Finset.sum_congr rfl fun x _ => Eq.trans ?_ (mul_comm _ _)
  blk_point [iblk, V, idx t]

/-- The up projection's product at a point is the reference's. -/
theorem up_at (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay4 (F := Ideal) (iblk m c 0 t) (iblk m c 2 t) i = Cert.FfnRefIdeal.Read.val_main_v7 (F := Ideal) (hOf m c) (guOf m c) j := by
  pointwise [k0_pay4, k0_pay2, Cert.FfnRefIdeal.Read.val_main_v7, Cert.FfnRefIdeal.Read.val_main_v6, Cert.FfnRefIdeal.Read.val_main_v5, Cert.FfnRefIdeal.Read.val_main_v4]
  refine Finset.sum_congr rfl fun x _ => Eq.trans ?_ (mul_comm _ _)
  blk_point [iblk, V, idx t]

/-- The gated values at a point are the reference's. -/
theorem act_at (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay5 (F := Ideal) (iblk m c 0 t) (iblk m c 1 t) (iblk m c 2 t) i
      = Cert.FfnRefIdeal.Read.val_main_v9 (F := Ideal) (hOf m c) (guOf m c) j := by
  have e3 := gate_at m c t i j h0 h1 h2
  have e4 := up_at m c t i j h0 h1 h2
  pointwise [k0_pay5, Cert.FfnRefIdeal.Read.val_main_v9, Cert.FfnRefIdeal.Read.val_main_v8, Cert.FfnRefIdeal.Read.val_main_call0_v5,
    Cert.FfnRefIdeal.Read.val_main_call0_v4, Cert.FfnRefIdeal.Read.val_main_call0_cst_0, Cert.FfnRefIdeal.Read.val_main_call0_v3,
    Cert.FfnRefIdeal.Read.val_main_call0_v2, Cert.FfnRefIdeal.Read.val_main_call0_cst, Cert.FfnRefIdeal.Read.val_main_call0_v1, Cert.FfnRefIdeal.Read.val_main_call0_v0]
  rw [e3, e4]
  rfl

/-- A point's part of the sum is the reference's terms of its shard. -/
theorem part_at (c : Dev nD) (t : Fin cfg0.N) (d : Fin 8) (y : S2048x1024.Idx) (hd : t.val / 2 = d.val) (hb : t.val % 2 = (y 0).val / 1024) :
    part m c t (Rows.inTile y) = ∑ f : Fin 384, Cert.FfnRefIdeal.Read.val_main_v9 (F := Ideal) (hOf m c) (guOf m c) (ValueIdx.ix3 d (y 0) f)
      * wdOf m c (ValueIdx.ix3 d f (y 1)) := by
  unfold part Rows.inTile
  pointwise [k0_pay9]
  refine Finset.sum_congr rfl fun f _ => ?_
  rw [act_at m c t _ (ValueIdx.ix3 d (y 0) f) hd.symm
    (by show (y 0).val = t.val % 2 * 1024 + (y 0).val % 1024; omega) rfl]
  refine congrArg _ ?_
  blk_point [iblk, V, idx t]

/-- All points together add up to the reference's sum over the shards and their features. -/
theorem sum_at (c : Dev nD) (y : S2048x1024.Idx) :
    Rows.total N_pos (part m c) 15 y = Cert.FfnRefIdeal.Read.val_main_v10 (F := Ideal) (hOf m c) (guOf m c) (wdOf m c) y := by
  have hy : (y 0).val < 2048 := (y 0).isLt
  have e : Cert.FfnRefIdeal.Read.val_main_v10 (F := Ideal) (hOf m c) (guOf m c) (wdOf m c) y
      = ∑ d : Fin 8, ∑ f : Fin 384, Cert.FfnRefIdeal.Read.val_main_v9 (F := Ideal) (hOf m c) (guOf m c) (ValueIdx.ix3 d (y 0) f)
        * wdOf m c (ValueIdx.ix3 d f (y 1)) := by
    pointwise [Cert.FfnRefIdeal.Read.val_main_v10]
    exact Finset.sum_comm
  rw [e]
  exact Rows.total_shards N_pos (part m c) N_0 y _ fun t d hd hb => part_at m c t d y hd hb

/-- Contents of the staging buffers that the body may have left at every point. -/
abbrev After := (w : Fin cfg0.W) → Fin cfg0.N → (cfg0.win w).block.Idx → Elt Ideal (cfg0.win w).elt

variable (c : Dev nD) (after : After)
  (hL : ∀ (w : Fin cfg0.W) (u : Fin cfg0.N), (cfg0.win w).flush u = true → (rdats m c).Leaves w u (after w u))

include hL

/-- The sum's array after the run is the reference's. -/
theorem final_sum : ((rdats m c).withAfter after).arrAt 4 cfg0.N
    = Cert.FfnRefIdeal.Read.val_main_v10 (F := Ideal) (hOf m c) (guOf m c) (wdOf m c) := by
  refine ((rdats m c).withAfter after).arrAt_eq_of_after_last 4 t0_15 (by decide +kernel) _ fun j => ?_
  have h : Summed m c t0_15 (after 4 t0_15) := (dats m c).toRRel_leaves (fgt := results) (Rl := Left m c) rfl (hL 4 t0_15 (by decide +kernel))
  have hj : (j 0).val < 2048 := (j 0).isLt
  exact (h j (by show (j 0).val / 1024 ≤ 15; omega)).trans (sum_at m c j)

/-- The gate's products after the run are the reference's. -/
theorem final_gate : ((rdats m c).withAfter after).arrAt 5 cfg0.N
    = Cert.FfnRefIdeal.Read.val_main_v11 (F := Ideal) (hOf m c) (guOf m c) := by
  refine ((rdats m c).withAfter after).arrAt_eq_of_covers 5 _ (by decide +kernel) fun t hf y => ?_
  have h : after 5 t = k0_pay7 (iblk m c 0 t) (iblk m c 1 t) :=
    (dats m c).toRRel_leaves (fgt := results) (Rl := Left m c) rfl (hL 5 t hf)
  blk_simp
  rw [Pipeline.RDat.withAfter_after, h]
  pointwise [k0_pay7, Cert.FfnRefIdeal.Read.val_main_v11]
  refine gate_at m c t _ _ ?_ ?_ ?_ <;> (blk_simp [idx t] <;> try omega)

/-- The up projection's products after the run are the reference's. -/
theorem final_up : ((rdats m c).withAfter after).arrAt 6 cfg0.N
    = Cert.FfnRefIdeal.Read.val_main_v12 (F := Ideal) (hOf m c) (guOf m c) := by
  refine ((rdats m c).withAfter after).arrAt_eq_of_covers 6 _ (by decide +kernel) fun t hf y => ?_
  have h : after 6 t = k0_pay8 (iblk m c 0 t) (iblk m c 2 t) :=
    (dats m c).toRRel_leaves (fgt := results) (Rl := Left m c) rfl (hL 6 t hf)
  blk_simp
  rw [Pipeline.RDat.withAfter_after, h]
  pointwise [k0_pay8, Cert.FfnRefIdeal.Read.val_main_v12]
  refine up_at m c t _ _ ?_ ?_ ?_ <;> (blk_simp [idx t] <;> try omega)

/-- The gated values after the run, features before rows, are the reference's. -/
theorem final_act : ((rdats m c).withAfter after).arrAt 7 cfg0.N
    = Cert.FfnRefIdeal.Read.val_main_v14 (F := Ideal) (hOf m c) (guOf m c) := by
  refine ((rdats m c).withAfter after).arrAt_eq_of_covers 7 _ (by decide +kernel) fun t hf y => ?_
  have h : after 7 t = k0_pay6 (iblk m c 0 t) (iblk m c 1 t) (iblk m c 2 t) :=
    (dats m c).toRRel_leaves (fgt := results) (Rl := Left m c) rfl (hL 7 t hf)
  blk_simp
  rw [Pipeline.RDat.withAfter_after, h]
  pointwise [k0_pay6, Cert.FfnRefIdeal.Read.val_main_v14, Cert.FfnRefIdeal.Read.val_main_v13]
  refine act_at m c t _ _ ?_ ?_ ?_ <;> (blk_simp [idx t] <;> try omega)

omit hL

/-- From any memory with zero counters every weakly fair execution ends with the four results at the reference's terms of
    the arguments, and the arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v3_0) = Cert.FfnRefIdeal.Read.val_main_v10 (F := Ideal) (hOf m c) (guOf m c) (wdOf m c)
    ∧ r.2.mem ((c.tc : Thread nD τ).loc main_v3_1) = Cert.FfnRefIdeal.Read.val_main_v11 (F := Ideal) (hOf m c) (guOf m c)
    ∧ r.2.mem ((c.tc : Thread nD τ).loc main_v3_2) = Cert.FfnRefIdeal.Read.val_main_v12 (F := Ideal) (hOf m c) (guOf m c)
    ∧ r.2.mem ((c.tc : Thread nD τ).loc main_v3_3) = Cert.FfnRefIdeal.Read.val_main_v14 (F := Ideal) (hOf m c) (guOf m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (launch m ρ)
  obtain ⟨after, hL, hA⟩ := h.1.exists_exact c
  exact ⟨(hA 4).trans (final_sum m c after hL), (hA 5).trans (final_gate m c after hL), (hA 6).trans (final_up m c after hL),
    (hA 7).trans (final_act m c after hL), args_kept m h.1 c⟩

end Cert.Proof.Ffn

end
-- ==== Proof.FfnGrad.Run.lean ====
/-
  The run of the feed-forward block's gradient over the idealized program, at any float values: what the body leaves in
  each result's block and in the scratch buffer, from the blocks of the inputs and what the buffers held.
-/
module

public import proofs.«01_k».proof.Proof.Gen.FfnGradIdeal.Frame
public import proofs.«01_k».proof.Proof.Gen.FfnGradIdeal.Launch
public import proofs.«01_k».proof.Proof.Gen.FfnGradIdeal.Skeleton
public import proofs.«01_k».proof.Proof.Gen.FfnGradIdeal.Points
public import Idealize.ShloMosaic.Lib.VecWindow
public import Idealize.ShloMosaic.Lib.Pipeline.FrameBody
public import Idealize.ShloMosaic.Lib.Pipeline.ValueKit
public import Idealize.ShloMosaic.Lib.Tactic
public import Idealize.ShloMosaic.Lib.WordCmp

@[expose] public section

set_option maxRecDepth 16384

noncomputable section

namespace Cert.FfnGradIdeal.Block

open Cert.FfnGradIdeal Cert.FfnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row tile is the first: the scratch buffer is overwritten. -/
abbrev RowFirst (i : grid0.Coords) : Prop :=
  Scalar.cmpi .ne (Scalar.extui (Scalar.cmpi .eq (BitVec.ofNat 32 (i 1).val) 0#32) : BitVec 32) 0#32 = 1#1
/-- The row tile is a later one: the scratch buffer is added to. -/
abbrev RowLater (i : grid0.Coords) : Prop :=
  Scalar.cmpi .ne (Scalar.extui (Scalar.cmpi .sgt (BitVec.ofNat 32 (i 1).val) 0#32) : BitVec 32) 0#32 = 1#1
/-- The row tile is the last: the gradient of the down projection's weight is stored. -/
abbrev RowLast (i : grid0.Coords) : Prop := k0_cond3 i = 1#1
/-- The shard is the first: the row tile of the input's gradient is overwritten. -/
abbrev ShardFirst (i : grid0.Coords) : Prop := k0_cond4 i = 1#1
/-- The shard is a later one: the row tile of the input's gradient is added to. -/
abbrev ShardLater (i : grid0.Coords) : Prop := k0_cond5 i = 1#1

/-- The gradient of the gate's input at one shard and row tile. -/
def gatePart (x0 : Vec F S1024x1024 .bf16) (x3 : Vec F S1x384x1024 .bf16) (x4 x5 : Vec F S1x1024x384 .bf16) : Vec F S1x1x1024x384 .bf16 :=
  k0_pay3 (k0_pay13 x4) (k0_pay14 x0 x3 x5) (k0_pay15 x4)

/-- The gradient of the up projection at one shard and row tile. -/
def upPart (x0 : Vec F S1024x1024 .bf16) (x3 : Vec F S1x384x1024 .bf16) (x4 : Vec F S1x1024x384 .bf16) : Vec F S1x1x1024x384 .bf16 :=
  k0_pay4 (k0_pay11 x0 x3) (k0_pay12 x4) (k0_pay13 x4)

/-- What one shard contributes to a row tile of the input's gradient. -/
def rowsPart (x0 : Vec F S1024x1024 .bf16) (x1 x2 : Vec F S1x1x1024x384 .bf16) (x3 : Vec F S1x384x1024 .bf16) (x4 x5 : Vec F S1x1024x384 .bf16) :
    Vec F S1024x1024 .f32 :=
  k0_pay5 (k0_pay11 x0 x3) (k0_pay12 x4) (k0_pay13 x4) (k0_pay14 x0 x3 x5) (k0_pay15 x4) x1 x2

/-- A block of two slabs after both are stored. -/
def slabs (d : Vec F S2x1x1024x384 .bf16) (g u : Vec F S1x1x1024x384 .bf16) : Vec F S2x1x1024x384 .bf16 :=
  VecWindow.put (VecWindow.put d ![0, 0, 0, 0] S1x1x1024x384.size g) ![1, 0, 0, 0] S1x1x1024x384.size u

/-- The input's gradient after a point: the row tile is the part, or the part added to what was there. -/
def sumAfter (i : grid0.Coords) (d : Vec F S2048x1024 .f32) (p : Vec F S1024x1024 .f32) : Vec F S2048x1024 .f32 :=
  if h : ShardLater i then
    VecWindow.put d (k0_off2 i) S1024x1024.size (addf (VecWindow.window d (k0_off2 i) S1024x1024.size (k0_off2_inb i h) : Vec F S1024x1024 .f32) p)
  else VecWindow.put d (k0_off1 i) S1024x1024.size p

/-- The scratch buffer after a point: the row tile's part, or the part added to what was there. -/
def heldAfter (i : grid0.Coords) (x6 : Vec F S1x384x1024 .bf16) (x0 : Vec F S1024x1024 .bf16) (s : Vec F S384x1024 .f32) : Vec F S384x1024 .f32 :=
  if RowLast i then k0_pay9 x6 x0 s else k0_pay8 x6 x0

/-- The block of the down projection's weight gradient after a point: written at the last row tile only. -/
def downAfter (i : grid0.Coords) (x6 : Vec F S1x384x1024 .bf16) (x0 : Vec F S1024x1024 .bf16) (s : Vec F S384x1024 .f32) (d : Vec F S1x384x1024 .bf16) :
    Vec F S1x384x1024 .bf16 :=
  if RowLast i then k0_pay10 (k0_pay9 x6 x0 s) else d

/-- The sum that a later shard stores: what was there and the shard's part. -/
theorem added_eq (a b e f g : FVec F S1024x384 .f32) (x1 x2 : Vec F S1x1x1024x384 .bf16) (p : Vec F S1024x1024 .f32) :
    k0_pay6 a b e f g x1 x2 p = addf p (k0_pay5 a b e f g x1 x2) :=
  congrArg (fun q => addf q (k0_pay5 a b e f g x1 x2)) (shapeCast_self p _)

set_option maxHeartbeats 4000000 in
/-- The body at any point of the grid: the row tile is the first or the last, the shard the first or a later one. -/
theorem run_point (c : Dev nD) (i : grid0.Coords) (arg2 : Memref sig .tc .vmem S1024x1024 .bf16) (harg2 : arg2.IsWhole) (arg3 : Memref sig .tc .vmem S1x1x1024x384 .bf16) (harg3 : arg3.IsWhole) (arg4 : Memref sig .tc .vmem S1x1x1024x384 .bf16) (harg4 : arg4.IsWhole) (arg5 : Memref sig .tc .vmem S1x384x1024 .bf16) (harg5 : arg5.IsWhole) (arg6 : Memref sig .tc .vmem S1x1024x384 .bf16) (harg6 : arg6.IsWhole) (arg7 : Memref sig .tc .vmem S1x1024x384 .bf16) (harg7 : arg7.IsWhole) (arg8 : Memref sig .tc .vmem S1x384x1024 .bf16) (harg8 : arg8.IsWhole) (arg9 : Memref sig .tc .vmem S2x1x1024x384 .bf16) (harg9 : arg9.IsWhole) (arg10 : Memref sig .tc .vmem S2048x1024 .f32) (harg10 : arg10.IsWhole) (arg11 : Memref sig .tc .vmem S1x384x1024 .bf16) (harg11 : arg11.IsWhole) (arg12 : Memref sig .tc .vmem S384x1024 .f32) (harg12 : arg12.IsWhole)
    (hrow : (RowFirst i ∧ ¬ RowLater i ∧ ¬ RowLast i) ∨ (¬ RowFirst i ∧ RowLater i ∧ RowLast i))
    (hsh : (ShardFirst i ∧ ¬ ShardLater i) ∨ (¬ ShardFirst i ∧ ShardLater i))
    (x0 : Vec F S1024x1024 .bf16) (x1 : Vec F S1x1x1024x384 .bf16) (x2 : Vec F S1x1x1024x384 .bf16) (x3 : Vec F S1x384x1024 .bf16) (x4 : Vec F S1x1024x384 .bf16) (x5 : Vec F S1x1024x384 .bf16) (x6 : Vec F S1x384x1024 .bf16)
    (d7 : Vec F S2x1x1024x384 .bf16) (d8 : Vec F S2048x1024 .f32) (d9 : Vec F S1x384x1024 .bf16) (s : Vec F S384x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare d7 ∗ owns (c : Thread nD τ) arg10 fullShare d8 ∗ owns (c : Thread nD τ) arg11 fullShare d9 ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (slabs d7 (gatePart x0 x3 x4 x5) (upPart x0 x3 x4))
          ∗ owns (c : Thread nD τ) arg10 fullShare (sumAfter i d8 (rowsPart x0 x1 x2 x3 x4 x5))
          ∗ owns (c : Thread nD τ) arg11 fullShare (downAfter i x6 x0 s d9)
          ∗ owns (c : Thread nD τ) arg12 fullShare (heldAfter i x6 x0 s)) -∗ K ⟨⟩))
      ⊢ wp frame (wpE (defs₀ (F := F)) Variants.none c none) E (cc0_ffn_grad i arg2 harg2 arg3 harg3 arg4 harg4 arg5 harg5 arg6 harg6 arg7 harg7 arg8 harg8 arg9 harg9 arg10 harg10 arg11 harg11 arg12 harg12) K := by
  simp only [cc0_ffn_grad_eq_skeleton]; unfold cc0_ffn_grad_skel
  simp only [k0_part1_eq_skeleton]; unfold k0_part1_skel
  unfold owns slabs gatePart upPart rowsPart
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  have e0 := (View.readAt_full arg2.view (harg2.unread x0) inb_S1024x1024_S1024x1024_0_0).trans hf0
  have e1 := (View.readAt_full arg3.view (harg3.unread x1) inb_S1x1x1024x384_S1x1x1024x384_0_0_0_0).trans hf1
  have e2 := (View.readAt_full arg4.view (harg4.unread x2) inb_S1x1x1024x384_S1x1x1024x384_0_0_0_0).trans hf2
  have e3 := (View.readAt_full arg5.view (harg5.unread x3) inb_S1x384x1024_S1x384x1024_0_0_0).trans hf3
  have e4 := (View.readAt_full arg6.view (harg6.unread x4) inb_S1x1024x384_S1x1024x384_0_0_0).trans hf4
  have e5 := (View.readAt_full arg7.view (harg7.unread x5) inb_S1x1024x384_S1x1024x384_0_0_0).trans hf5
  have e6 := (View.readAt_full arg8.view (harg8.unread x6) inb_S1x384x1024_S1x384x1024_0_0_0).trans hf6
  have e10 := (View.readAt_full arg12.view (harg12.unread s) inb_S384x1024_S384x1024_0_0).trans hf10
  have e8 : ∀ h : ShardLater i, arg10.view.readAt (Elt F) (Rect.unit (s := S2048x1024) (k0_off2 i) S1024x1024.size (k0_off2_inb i h)).toLoadRect (harg10.unread d8) = VecWindow.window d8 (k0_off2 i) S1024x1024.size (k0_off2_inb i h) := by
    intro h; rw [View.readAt_unit _ _ _ rfl (k0_off2_inb i h), hf8]
  rcases hrow with ⟨h1, h2, h3⟩ | ⟨h1, h2, h3⟩ <;> rcases hsh with ⟨h4, h5⟩ | ⟨h4, h5⟩
  · rw [show sumAfter i d8 _ = _ from dif_neg h5, show downAfter i x6 x0 s d9 = _ from if_neg h3, show heldAfter i x6 x0 s = _ from if_neg h3]
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; dsimp only
      refine (View.read_writes_cons_put _ _ _ _ _ rfl).trans ?_
      refine congrArg (fun z : Vec F S2x1x1024x384 .bf16 => VecWindow.put z ![1, 0, 0, 0] S1x1x1024x384.size _) ?_
      refine (View.read_writes_cons_put _ _ _ _ [] rfl).trans ?_
      rw [View.writes_nil, hf7]
    isplitl [H8]
    · iexists _; isplitr; swap; · iexact H8
      ipureintro; dsimp only
      refine (View.read_writes_cons_put _ _ _ _ [] rfl).trans ?_
      rw [View.writes_nil, hf8]
    isplitl [H9]
    · iexists _; isplitr; swap; · iexact H9
      ipureintro
      exact hf9
    iexists _; isplitr; swap; · iexact H10
    ipureintro; exact View.read_writes_full _ _ _ _ _
  · have e8 := e8 h5
    rw [show sumAfter i d8 _ = _ from dif_pos h5, show downAfter i x6 x0 s d9 = _ from if_neg h3, show heldAfter i x6 x0 s = _ from if_neg h3]
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; dsimp only
      refine (View.read_writes_cons_put _ _ _ _ _ rfl).trans ?_
      refine congrArg (fun z : Vec F S2x1x1024x384 .bf16 => VecWindow.put z ![1, 0, 0, 0] S1x1x1024x384.size _) ?_
      refine (View.read_writes_cons_put _ _ _ _ [] rfl).trans ?_
      rw [View.writes_nil, hf7]
    isplitl [H8]
    · iexists _; isplitr; swap; · iexact H8
      ipureintro; dsimp only
      refine (View.read_writes_cons_put _ _ _ _ [] rfl).trans ?_
      rw [View.writes_nil, hf8, added_eq]
    isplitl [H9]
    · iexists _; isplitr; swap; · iexact H9
      ipureintro
      exact hf9
    iexists _; isplitr; swap; · iexact H10
    ipureintro; exact View.read_writes_full _ _ _ _ _
  · rw [show sumAfter i d8 _ = _ from dif_neg h5, show downAfter i x6 x0 s d9 = _ from if_pos h3, show heldAfter i x6 x0 s = _ from if_pos h3]
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; dsimp only
      refine (View.read_writes_cons_put _ _ _ _ _ rfl).trans ?_
      refine congrArg (fun z : Vec F S2x1x1024x384 .bf16 => VecWindow.put z ![1, 0, 0, 0] S1x1x1024x384.size _) ?_
      refine (View.read_writes_cons_put _ _ _ _ [] rfl).trans ?_
      rw [View.writes_nil, hf7]
    isplitl [H8]
    · iexists _; isplitr; swap; · iexact H8
      ipureintro; dsimp only
      refine (View.read_writes_cons_put _ _ _ _ [] rfl).trans ?_
      rw [View.writes_nil, hf8]
    isplitl [H9]
    · iexists _; isplitr; swap; · iexact H9
      ipureintro
      exact (View.read_writes_full _ _ _ _ _).trans (congrArg k0_pay10 (View.readCov_full _ _ _ _ _))
    iexists _; isplitr; swap; · iexact H10
    ipureintro; exact View.read_writes_full _ _ _ _ _
  · have e8 := e8 h5
    rw [show sumAfter i d8 _ = _ from dif_pos h5, show downAfter i x6 x0 s d9 = _ from if_pos h3, show heldAfter i x6 x0 s = _ from if_pos h3]
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; dsimp only
      refine (View.read_writes_cons_put _ _ _ _ _ rfl).trans ?_
      refine congrArg (fun z : Vec F S2x1x1024x384 .bf16 => VecWindow.put z ![1, 0, 0, 0] S1x1x1024x384.size _) ?_
      refine (View.read_writes_cons_put _ _ _ _ [] rfl).trans ?_
      rw [View.writes_nil, hf7]
    isplitl [H8]
    · iexists _; isplitr; swap; · iexact H8
      ipureintro; dsimp only
      refine (View.read_writes_cons_put _ _ _ _ [] rfl).trans ?_
      rw [View.writes_nil, hf8, added_eq]
    isplitl [H9]
    · iexists _; isplitr; swap; · iexact H9
      ipureintro
      exact (View.read_writes_full _ _ _ _ _).trans (congrArg k0_pay10 (View.readCov_full _ _ _ _ _))
    iexists _; isplitr; swap; · iexact H10
    ipureintro; exact View.read_writes_full _ _ _ _ _

end Cert.FfnGradIdeal.Block

end
-- ==== Proof.FfnGrad.Sum.lean ====
/-
  The feed-forward block's gradient, from its launch to its end, at any float values: at each grid point the two blocked
  results hold what the point computes, the rows of the input's gradient that the points so far have reached hold the
  parts of those points added in their order, and the scratch buffer holds the first row tile's part of its shard.
-/
module

public import proofs.«01_k».proof.Proof.FfnGrad.Run
public import proofs.«01_k».proof.Proof.Rows
public import Idealize.ShloMosaic.Lib.Pipeline.DatRel
public import Idealize.ShloMosaic.Lib.Pipeline.ArrRel
public import Idealize.ShloMosaic.Lib.ValueIdx

@[expose] public section

set_option maxRecDepth 16384

noncomputable section

namespace Cert.FfnGradIdeal.Block

open Cert.FfnGradIdeal Cert.FfnGradIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branches a point takes -/

/-- The row tile of a point is the first or the last, by its number's parity. -/
theorem row_cases : ∀ t : Fin cfg0.N, (t.val % 2 = 0 ∧ RowFirst (grid0.coords t) ∧ ¬ RowLater (grid0.coords t) ∧ ¬ RowLast (grid0.coords t))
    ∨ (t.val % 2 = 1 ∧ ¬ RowFirst (grid0.coords t) ∧ RowLater (grid0.coords t) ∧ RowLast (grid0.coords t)) :=
  (by decide +kernel : ∀ t : Fin grid0.N, _)

/-- The shard of a point is the first at the first two points. -/
theorem shard_cases : ∀ t : Fin cfg0.N, (t.val < 2 ∧ ShardFirst (grid0.coords t) ∧ ¬ ShardLater (grid0.coords t))
    ∨ (¬ t.val < 2 ∧ ¬ ShardFirst (grid0.coords t) ∧ ShardLater (grid0.coords t)) :=
  (by decide +kernel : ∀ t : Fin grid0.N, _)

/-- The rows stored at a point: its row tile, whole. -/
theorem off_eq : ∀ t : Fin cfg0.N, k0_off1 (grid0.coords t) = ![t.val % 2 * 1024, 0] ∧ k0_off2 (grid0.coords t) = ![t.val % 2 * 1024, 0] :=
  (by decide +kernel : ∀ t : Fin grid0.N, k0_off1 (grid0.coords t) = ![t.val % 2 * 1024, 0] ∧ k0_off2 (grid0.coords t) = ![t.val % 2 * 1024, 0])

/-! ## The accumulated gradient of the input -/

/-- What grid point `t` contributes to its row tile of the input's gradient. -/
def part (c : Dev nD) (t : Fin cfg0.N) : Vec F S1024x1024 .f32 :=
  rowsPart (iblk m c 0 t) (iblk m c 1 t) (iblk m c 2 t) (iblk m c 3 t) (iblk m c 4 t) (iblk m c 5 t)

/-- There is a first point. -/
theorem N_pos : 0 < cfg0.N := by rw [show cfg0.N = 16 from N_0]; decide

/-- What a point stores into the input's gradient, index by index. -/
theorem sumAfter_at (c : Dev nD) (t : Fin cfg0.N) (d : Vec F S2048x1024 .f32) (y : S2048x1024.Idx) :
    sumAfter (grid0.coords t) d (part m c t) y = Rows.step (part m c) t y (d y) := by
  unfold sumAfter
  rcases shard_cases t with ⟨ht, -, hn⟩ | ⟨ht, -, hl⟩
  · rw [dif_neg hn]; exact Rows.stored_at (part m c) t ht (off_eq t).1 d y
  · rw [dif_pos hl]; exact Rows.added_at (part m c) t ht (off_eq t).2 d _ y

/-- Of the block of the input's gradient: the rows reached by the points up to `t` hold what those points leave. -/
abbrev Summed (c : Dev nD) (t : Fin cfg0.N) (X : S2048x1024.Idx → F .f32) : Prop := Rows.Summed N_pos (part m c) t.val X

/-! ## The two slabs of the gate's and the up projection's gradients -/

/-- The position, within its slab, of an index of the two slabs. -/
def inSlab (y : S2x1x1024x384.Idx) : S1x1x1024x384.Idx := ValueIdx.ix4 (0 : Fin 1) (0 : Fin 1) (y 2) (y 3)

/-- A slab put: read inside it the payload, outside it what was there. -/
theorem slab_at (d : Vec F S2x1x1024x384 .bf16) (b : ℕ) (w : Vec F S1x1x1024x384 .bf16) (y : S2x1x1024x384.Idx) :
    VecWindow.put d ![b, 0, 0, 0] S1x1x1024x384.size w y = if b = (y 0).val then w (inSlab y) else d y := by
  have h1 : (y 1).val < 1 := (y 1).isLt
  have h2 : (y 2).val < 1024 := (y 2).isLt
  have h3 : (y 3).val < 384 := (y 3).isLt
  unfold VecWindow.put
  by_cases h : b = (y 0).val
  · have hin : ∀ a : Fin 4, (![b, 0, 0, 0] : Fin 4 → ℕ) a ≤ (y a).val ∧ (y a).val < (![b, 0, 0, 0] : Fin 4 → ℕ) a + S1x1x1024x384.size a := fun
      | 0 => ⟨show b ≤ (y 0).val by omega, show (y 0).val < b + 1 by omega⟩
      | 1 => ⟨show 0 ≤ (y 1).val by omega, show (y 1).val < 0 + 1 by omega⟩
      | 2 => ⟨show 0 ≤ (y 2).val by omega, show (y 2).val < 0 + 1024 by omega⟩
      | 3 => ⟨show 0 ≤ (y 3).val by omega, show (y 3).val < 0 + 384 by omega⟩
    rw [if_pos h, dif_pos hin]
    refine congrArg w (funext fun
      | 0 => Fin.ext ?_
      | 1 => Fin.ext ?_
      | 2 => Fin.ext ?_
      | 3 => Fin.ext ?_)
    · show (y 0).val - b = 0; omega
    · show (y 1).val - 0 = 0; omega
    · show (y 2).val - 0 = (y 2).val; omega
    · show (y 3).val - 0 = (y 3).val; omega
  · rw [if_neg h, dif_neg]
    intro hin
    have e : b ≤ (y 0).val ∧ (y 0).val < b + 1 := hin 0
    omega

/-- Both slabs stored: the gate's gradient in the first, the up projection's in the second. -/
theorem slabs_at (d : Vec F S2x1x1024x384 .bf16) (g u : Vec F S1x1x1024x384 .bf16) (y : S2x1x1024x384.Idx) :
    slabs d g u y = if (y 0).val = 0 then g (inSlab y) else u (inSlab y) := by
  have h0 : (y 0).val < 2 := (y 0).isLt
  unfold slabs
  rw [slab_at, slab_at]
  by_cases h : (y 0).val = 0
  · rw [if_neg (by omega), if_pos h.symm, if_pos h]
  · rw [if_pos (by omega), if_neg h]

/-- What the block of the two slabs holds after point `t`. -/
def Slabbed (c : Dev nD) (t : Fin cfg0.N) (X : S2x1x1024x384.Idx → F .bf16) : Prop :=
  ∀ y : S2x1x1024x384.Idx, X y = if (y 0).val = 0
    then gatePart (iblk m c 0 t) (iblk m c 3 t) (iblk m c 4 t) (iblk m c 5 t) (inSlab y)
    else upPart (iblk m c 0 t) (iblk m c 3 t) (iblk m c 4 t) (inSlab y)

/-! ## The scratch buffer and the gradient of the down projection's weight -/

/-- The point before. -/
abbrev before (t : Fin cfg0.N) : Fin cfg0.N := ⟨t.val - 1, Nat.lt_of_le_of_lt (Nat.sub_le _ _) t.isLt⟩

/-- Of the scratch buffer after `n` points: in the middle of a shard it holds the first row tile's part. -/
def Held (c : Dev nD) (n : ℕ) (s : S384x1024.Idx → F .f32) : Prop :=
  ∀ h : n - 1 < cfg0.N, n % 2 = 1 → s = k0_pay8 (iblk m c 6 ⟨n - 1, h⟩) (iblk m c 0 ⟨n - 1, h⟩)

/-- What the block of the down projection's weight gradient holds after point `t`: at a shard's last point, both row
    tiles' parts. -/
def Downed (c : Dev nD) (t : Fin cfg0.N) (X : S1x384x1024.Idx → F .bf16) : Prop :=
  t.val % 2 = 1 → X = k0_pay10 (k0_pay9 (iblk m c 6 t) (iblk m c 0 t) (k0_pay8 (iblk m c 6 (before t)) (iblk m c 0 (before t))))

/-- The scratch buffer after a point. -/
theorem held_step (c : Dev nD) (t : Fin cfg0.N) (s : Vec F S384x1024 .f32) :
    Held m c (t.val + 1) (heldAfter (grid0.coords t) (iblk m c 6 t) (iblk m c 0 t) s) := by
  intro h hp
  rcases row_cases t with ⟨ht, -, -, hn⟩ | ⟨ht, -, -, hl⟩
  · exact if_neg hn
  · omega

/-- The weight's gradient after a point. -/
theorem downed_step (c : Dev nD) (t : Fin cfg0.N) (s : Vec F S384x1024 .f32) (d : Vec F S1x384x1024 .bf16) (hs : Held m c t.val s) :
    Downed m c t (downAfter (grid0.coords t) (iblk m c 6 t) (iblk m c 0 t) s d) := by
  intro hp
  rcases row_cases t with ⟨ht, -, -, hn⟩ | ⟨ht, -, -, hl⟩
  · omega
  · refine (if_pos hl).trans ?_
    rw [hs (before t).isLt hp]

/-! ## The pipeline's proof data -/

/-- The three result windows. -/
def results : Fin 10 → Bool := fun w => w.val == 7 || w.val == 8 || w.val == 9

/-- What each result's block holds after point `t`. -/
def Left (c : Dev nD) (w : Fin cfg0.W) (t : Fin cfg0.N) (X : (cfg0.win w).block.Idx → Elt F (cfg0.win w).elt) : Prop :=
  match w, X with
  | ⟨7, _⟩, X => Slabbed m c t X
  | ⟨8, _⟩, X => Summed m c t X
  | ⟨9, _⟩, X => Downed m c t X
  | _, _ => True

/-- The scratch buffer after `n` points, and the generator's register. -/
def scratch (c : Dev nD) (n : ℕ) : sProp 𝕄 :=
  iprop((∃ s : Vec F S384x1024 .f32, ⌜Held m c n s⌝ ∗ owns (c : Thread nD τ) (Memref.whole cc0_scratch0) fullShare s) ∗ (∃ r, prngReg c r))

/-- The pipeline's proof data: the arrays as the region finds them, each input's buffer at its block after every point;
    nothing named of the results' buffers, of which `Left` speaks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ s := scratch m c s.val
  q w := Pipeline.shareOf spec0 w
  owed _ := 0

/-- The proof data's arrays are the region's. -/
theorem A_eq (c : Dev nD) (w : Fin cfg0.W) : (dats m c).A w = V m c (Pipeline.arrRef spec0 w) := by dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem after_6 (c : Dev nD) (t : Fin cfg0.N) : (dats m c).after 6 t = iblk m c 6 t := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem before_5 (c : Dev nD) (t : Fin cfg0.N) (d) : (dats m c).before 5 t d = iblk m c 5 t :=
  before0_5_of m (dats m c) (A_eq m c 5) (after_5 m c) t d
theorem before_6 (c : Dev nD) (t : Fin cfg0.N) (d) : (dats m c).before 6 t d = iblk m c 6 t :=
  before0_6_of m (dats m c) (A_eq m c 6) (after_6 m c) t d

/-- The same data with the results' buffers held to `Left`. -/
abbrev rdats (c : Dev nD) : Pipeline.RDat τ (Elt F) Unit ℕ (UR sig nD τ) ℕ cfg0 c := (dats m c).toRRel results (Left m c)

/-- After the first point the buffer of the input's gradient is found as the point before left it. -/
theorem found (c : Dev nD) (t : Fin cfg0.N) (ht : t.val ≠ 0) (X : (cfg0.win 8).block.Idx → Elt F (cfg0.win 8).elt)
    (h : (rdats m c).Finds 8 t X) : Summed m c ⟨t.val - 1, Nat.lt_of_le_of_lt (Nat.sub_le _ _) t.isLt⟩ X := by
  have hN : t.val < 16 := lt_of_lt_of_eq t.isLt (show cfg0.N = 16 from N_0)
  rcases ((rdats m c).finds_of_pos rfl ht X).mp h with hf | hl
  · have := (flush0_8 _).mp hf
    exfalso; simp only at this; omega
  · exact (dats m c).toRRel_leaves (fgt := results) (Rl := Left m c) rfl hl

/-! ## The body at every point -/

/-- The body at any point leaves each result's buffer as `Left` says. -/
theorem sound_body (c : Dev nD) (t : Fin cfg0.N) :
    iprop((dats m c).Φ t.castSucc ∗ (dats m c).owesAt () t.castSucc
      ∗ (∃ d, owns (c : Thread nD τ) (st0_0 t) fullShare ((dats m c).before 0 t d))
      ∗ (∃ d, owns (c : Thread nD τ) (st0_1 t) fullShare ((dats m c).before 1 t d))
      ∗ (∃ d, owns (c : Thread nD τ) (st0_2 t) fullShare ((dats m c).before 2 t d))
      ∗ (∃ d, owns (c : Thread nD τ) (st0_3 t) fullShare ((dats m c).before 3 t d))
      ∗ (∃ d, owns (c : Thread nD τ) (st0_4 t) fullShare ((dats m c).before 4 t d))
      ∗ (∃ d, owns (c : Thread nD τ) (st0_5 t) fullShare ((dats m c).before 5 t d))
      ∗ (∃ d, owns (c : Thread nD τ) (st0_6 t) fullShare ((dats m c).before 6 t d))
      ∗ (∃ Y, ⌜(rdats m c).Finds 7 t Y⌝ ∗ owns (c : Thread nD τ) (st0_7 t) fullShare Y)
      ∗ (∃ Y, ⌜(rdats m c).Finds 8 t Y⌝ ∗ owns (c : Thread nD τ) (st0_8 t) fullShare Y)
      ∗ (∃ Y, ⌜(rdats m c).Finds 9 t Y⌝ ∗ owns (c : Thread nD τ) (st0_9 t) fullShare Y))
    ⊢ wp frame (wpE (defs₀ (F := F)) Variants.none c none) Set.univ (bodyAt0 t) (fun _ =>
      iprop((dats m c).Φ t.succ ∗ (dats m c).owesAt () t.succ
        ∗ owns (c : Thread nD τ) (st0_0 t) fullShare ((dats m c).after 0 t)
        ∗ owns (c : Thread nD τ) (st0_1 t) fullShare ((dats m c).after 1 t)
        ∗ owns (c : Thread nD τ) (st0_2 t) fullShare ((dats m c).after 2 t)
        ∗ owns (c : Thread nD τ) (st0_3 t) fullShare ((dats m c).after 3 t)
        ∗ owns (c : Thread nD τ) (st0_4 t) fullShare ((dats m c).after 4 t)
        ∗ owns (c : Thread nD τ) (st0_5 t) fullShare ((dats m c).after 5 t)
        ∗ owns (c : Thread nD τ) (st0_6 t) fullShare ((dats m c).after 6 t)
        ∗ (∃ X, ⌜Left m c 7 t X⌝ ∗ owns (c : Thread nD τ) (st0_7 t) fullShare X)
        ∗ (∃ X, ⌜Left m c 8 t X⌝ ∗ owns (c : Thread nD τ) (st0_8 t) fullShare X)
        ∗ (∃ X, ⌜Left m c 9 t X⌝ ∗ owns (c : Thread nD τ) (st0_9 t) fullShare X))) := by
  unfold bodyAt0
  simp only [before_0, before_1, before_2, before_3, before_4, before_5, before_6, after_0, after_1, after_2, after_3, after_4, after_5, after_6]
  rw [show (dats m c).Φ t.succ = scratch m c (t.val + 1) from rfl, show (dats m c).Φ t.castSucc = scratch m c t.val from rfl,
    show (dats m c).owesAt () t.succ = (dats m c).owesAt () t.castSucc from rfl]
  unfold scratch
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩, ⟨%d9, %h9, H9⟩⟩
  iapply (run_point c (grid0.coords t) _ _ _ _ _ _ _ _ _ _ _ _ _ _ _ _ _ _ _ _ _ _
    ((row_cases t).imp (fun h => h.2) (fun h => h.2)) ((shard_cases t).imp (fun h => h.2) (fun h => h.2))
    (iblk m c 0 t) (iblk m c 1 t) (iblk m c 2 t) (iblk m c 3 t) (iblk m c 4 t) (iblk m c 5 t) (iblk m c 6 t) d7 d8 d9 s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]
    · iexists _; isplitr; swap; · iexact HS
      ipureintro; exact held_step m c t s
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact fun y => slabs_at d7 _ _ y
  isplitl [H8]
  · iexists _; isplitr; swap; · iexact H8
    ipureintro; exact Rows.summed_step N_pos (part m c) t d8 _ (fun h => found m c t h d8 h8) (sumAfter_at m c t d8)
  iexists _; isplitr; swap; · iexact H9
  ipureintro; exact downed_step m c t s d9 hs

/-- The body's row of the table of bodies, at a point's staging buffers. -/
theorem body_row (t : Fin cfg0.N) : defs₀ (F := F) .tc cfg0.body (cfg0.bodyArgs t (cfg0.slots t)) = bodyAt0 t := by
  unfold defs₀; rw [Defs.onTc_tc]

/-- The obligation the pipeline asks of the body. -/
theorem obligation (c : Dev nD) :
    Pipeline.BodyObligationRel (dats m c) (defs₀ (F := F)) Variants.none () Set.univ results (Left m c) := fun t => by
  rw [bigSep_W0, bigSep_W0, body_row]
  exact triple_restated (sound_body m c t) rfl .rfl fun _ => .rfl

/-! ## The launch -/

/-- The scratch buffer as the region finds it, at any contents, -/
theorem scratch_in (c : Dev nD) : Pipeline.ΦA spec0 c ⊢ (scratch m c 0 : sProp 𝕄) := by
  unfold Pipeline.ΦA scratch; rw [scopedRest0_eq]; simp only [owns_whole]
  iintro ⟨⟨%f, H⟩, Hg⟩
  isplitl [H]
  · iexists f; isplitr
    · ipureintro; intro h hp; exact absurd hp (by decide)
    iexact H
  iexact Hg

/-- and as the region leaves it. -/
theorem scratch_out (c : Dev nD) (n : ℕ) : (scratch m c n : sProp 𝕄) ⊢ Pipeline.ΦA spec0 c := by
  unfold Pipeline.ΦA scratch; rw [scopedRest0_eq]; simp only [owns_whole]
  iintro ⟨⟨%s, -, H⟩, Hg⟩
  isplitl [H]
  · iexists s; iexact H
  iexact Hg

set_option backward.isDefEq.respectTransparency.types false in
/-- From any memory with zero counters every weakly fair execution ends, with every array as the proof data say and every
    counter at zero. -/
theorem launch : θ_run defs (onTc (τ := τ) (main (F := F))) (s₀ m ρ)
    (fun r => (Pipeline.RDat.FramePost (cfgs 0) (rdats m) (V m)) r ∧ r.2.sem = fun _ => 0) :=
  Pipeline.RDat.θ_run_frame_track_shared (Q' := _) cfgs (0 : Fin 1) launch₀0 defs₀ Variants.none (rdats m) m ρ main
    (hbody := fun c => (obligation m c).toRRel) (hq := fun _ _ _ => rfl)
    (howed := fun _ _ => rfl) (V := V m) (hmain := hmain m Variants.none) (hA := A_eq m)
    (hin := scratch_in m) (hout := fun c => scratch_out m c _)

/-- The arguments end unchanged. -/
theorem args_kept {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c)⟩

/-- The program ends from every memory, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m h.1 c, h.2⟩) (launch m ρ)

end Cert.FfnGradIdeal.Block

end
-- ==== Proof.FfnGrad.Point.lean ====
/-
  What one grid point of the feed-forward block's gradient computes, in the reference's terms, at arguments that are real
  numbers: the gradients of the gate's and the up projection's products, and the point's part of the input's gradient.
-/
module

public import proofs.«01_k».proof.Proof.FfnGrad.Sum
public import proofs.«01_k».proof.Proof.Gen.FfnGradRefIdeal.Read
public import Idealize.ShloMosaic.Lib.Pipeline.ValueKit

@[expose] public section

set_option maxRecDepth 16384

noncomputable section

namespace Cert.Proof.FfnGrad

open Idealize.ShloMosaic Idealize.ShloMosaic.TcCoe Idealize.SL.Sem
open Cert.FfnGradIdeal Cert.FfnGradIdeal.Gen Cert.FfnGradIdeal.Block
open Cert.FfnGradRefIdeal.Read

variable (m : (ℓ : Loc nD τ sig) → Buf (Elt Ideal) ℓ)

/-- The hidden input. -/
abbrev hOf (c : Dev nD) := m ((c : Thread nD τ).loc main_arg0)
/-- The weights in front of the gate. -/
abbrev guOf (c : Dev nD) := m ((c : Thread nD τ).loc main_arg1)
/-- The weights of the down projection. -/
abbrev wdOf (c : Dev nD) := m ((c : Thread nD τ).loc main_arg2)
/-- The result's gradient. -/
abbrev ctOf (c : Dev nD) := m ((c : Thread nD τ).loc main_arg3)

/-- Which block each window shows at grid point `t`: the shard is `t / 2`, the row tile `t % 2`. -/
theorem idx : ∀ t : Fin cfg0.N, win0_0.index t = ![t.val % 2, 0] ∧ win0_1.index t = ![t.val / 2, 0, 0, 0]
    ∧ win0_2.index t = ![t.val / 2, 1, 0, 0] ∧ win0_3.index t = ![t.val / 2, 0, 0]
    ∧ win0_4.index t = ![t.val / 2, t.val % 2, 0] ∧ win0_5.index t = ![t.val / 2, t.val % 2, 0]
    ∧ win0_6.index t = ![t.val / 2, 0, t.val % 2] ∧ win0_7.index t = ![0, t.val / 2, t.val % 2, 0]
    ∧ win0_9.index t = ![t.val / 2, 0, 0] :=
  (by decide +kernel : ∀ t : Fin grid0.N, _)

/-- The gate's product, as the kernel's call finds it, is the reference's. -/
theorem gate_in (c : Dev nD) : V m c main_v14 = val_main_v3 (F := Ideal) (hOf m c) (guOf m c) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The up projection's product, as the kernel's call finds it, is the reference's. -/
theorem up_in (c : Dev nD) : V m c main_v15 = val_main_v7 (F := Ideal) (hOf m c) (guOf m c) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The gated values, features before rows, as the kernel's call finds them, are the reference's, rows before features. -/
theorem act_in (c : Dev nD) : V m c main_v16
    = transpose S8x384x2048 [0, 2, 1] (val_main_v9 (F := Ideal) (hOf m c) (guOf m c)) transposes_S8x2048x384_S8x384x2048_0_2_1 := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The gate's product in a point's block. -/
theorem gate_block (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay12 (F := Ideal) (iblk m c 4 t) i = val_main_v3 (F := Ideal) (hOf m c) (guOf m c) j := by
  pointwise [k0_pay12]
  blk_point [iblk, gate_in m c, idx t]

/-- The gradient of the gated values at a point is the reference's. -/
theorem dact_at (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay11 (F := Ideal) (iblk m c 0 t) (iblk m c 3 t) i = val_main_v14 (F := Ideal) (wdOf m c) (ctOf m c) j := by
  pointwise [k0_pay11, val_main_v14, val_main_v13]
  refine Finset.sum_congr rfl fun x _ => ?_
  blk_point [iblk, V, idx t]

/-- That gradient times the up projection's product. -/
theorem dact_up_at (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay14 (F := Ideal) (iblk m c 0 t) (iblk m c 3 t) (iblk m c 5 t) i
      = val_main_v16 (F := Ideal) (hOf m c) (guOf m c) (wdOf m c) (ctOf m c) j := by
  have e := dact_at m c t i j h0 h1 h2
  unfold k0_pay14
  rw [val_main_v16_apply, ← e]
  refine congrArg (k0_pay11 (F := Ideal) (iblk m c 0 t) (iblk m c 3 t) i * ·) ?_
  pointwise
  blk_point [iblk, up_in m c, idx t]

/-! ## Real numbers -/

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ x, IsReal (f x)) : IsReal (∑ x, f x) := by
  choose g hg using h
  refine ⟨∑ x, g x, ?_⟩
  rw [Finset.sum_congr rfl fun x _ => hg x]
  induction (Finset.univ : Finset (Fin n)) using Finset.induction_on with
  | empty => simp
  | insert a s ha ih => rw [Finset.sum_insert ha, Finset.sum_insert ha, ih, EReal.coe_add]

/-- The four arguments hold real numbers. -/
structure Finite (c : Dev nD) : Prop where
  h : ∀ i, IsReal (hOf m c i)
  gu : ∀ i, IsReal (guOf m c i)
  wd : ∀ i, IsReal (wdOf m c i)
  ct : ∀ i, IsReal (ctOf m c i)

variable {m}

/-- So are the gate's products, -/
theorem Finite.gate {c : Dev nD} (hf : Finite m c) (j : S8x2048x384.Idx) : IsReal (val_main_v3 (F := Ideal) (hOf m c) (guOf m c) j) := by
  pointwise [val_main_v3, val_main_v2, val_main_v1, val_main_v0]
  exact IsReal.sum fun x => (hf.gu _).mul (hf.h _)

/-- the up projection's products, -/
theorem Finite.up {c : Dev nD} (hf : Finite m c) (j : S8x2048x384.Idx) : IsReal (val_main_v7 (F := Ideal) (hOf m c) (guOf m c) j) := by
  pointwise [val_main_v7, val_main_v6, val_main_v5, val_main_v4]
  exact IsReal.sum fun x => (hf.gu _).mul (hf.h _)

/-- and the gated values' gradient times the up projection's products. -/
theorem Finite.dact_up {c : Dev nD} (hf : Finite m c) (j : S8x2048x384.Idx) :
    IsReal (val_main_v16 (F := Ideal) (hOf m c) (guOf m c) (wdOf m c) (ctOf m c) j) := by
  refine IsReal.mul ?_ (hf.up j)
  pointwise [val_main_v14, val_main_v13]
  first
    | exact IsReal.sum fun x => (hf.ct _).mul (hf.wd _)
    | exact IsReal.sum fun x => (hf.wd _).mul (hf.ct _)

variable (m)

/-- The number one. -/
theorem one_bits : (FloatOps.ofBits (F := Ideal) .f32 0x3F800000#32) = ((1 : ℝ) : EReal) := by
  show Ideal.ofBits .f32 0x3F800000#32 = _
  simp [Ideal.ofBits, Ideal.ieee, -EReal.coe_mul]; norm_num

/-- The reference's sigmoid of the gate's product. -/
theorem sigmoid_at (c : Dev nD) (j : S8x2048x384.Idx) : val_main_v8_2 (F := Ideal) (hOf m c) (guOf m c) j
    = Ideal.logistic (val_main_v3 (F := Ideal) (hOf m c) (guOf m c) j) := by
  pointwise [val_main_v8_2, val_main_call0_v4, val_main_call0_cst_0, val_main_call0_v3,
    val_main_call0_v2, val_main_call0_cst, val_main_call0_v1, val_main_call0_v0]
  rfl

/-- The gradient of the gated linear unit, in its two forms, over the real numbers: `a` is what comes from behind times
    the up projection's product, `h` the gate's product and `s` its sigmoid. -/
theorem gate_real (a h s : ℝ) : (a : EReal) * ((s : EReal) * (((1 : ℝ) : EReal) + (h : EReal) * (((1 : ℝ) : EReal) - (s : EReal))))
    = (a : EReal) * (s : EReal) + (h : EReal) * (a : EReal) * ((s : EReal) * (((1 : ℝ) : EReal) - (s : EReal))) := by
  simp only [← EReal.coe_mul, ← EReal.coe_add, ← EReal.coe_sub]
  exact congrArg _ (by ring)

/-! ## The gradients in front of the gate -/

/-- The gradient of the gate's product at a point is the reference's. -/
theorem dgate_at (c : Dev nD) (hf : Finite m c) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay1 (F := Ideal) (k0_pay13 (iblk m c 4 t)) (k0_pay14 (iblk m c 0 t) (iblk m c 3 t) (iblk m c 5 t)) (k0_pay15 (iblk m c 4 t)) i
      = val_main_v17 (F := Ideal) (hOf m c) (guOf m c) (wdOf m c) (ctOf m c) j := by
  have e : k0_pay1 (F := Ideal) (k0_pay13 (iblk m c 4 t)) (k0_pay14 (iblk m c 0 t) (iblk m c 3 t) (iblk m c 5 t)) (k0_pay15 (iblk m c 4 t)) i
      = k0_pay14 (F := Ideal) (iblk m c 0 t) (iblk m c 3 t) (iblk m c 5 t) i
        * (Ideal.logistic (k0_pay12 (F := Ideal) (iblk m c 4 t) i) * (FloatOps.ofBits (F := Ideal) .f32 0x3F800000#32
          + k0_pay12 (F := Ideal) (iblk m c 4 t) i * (FloatOps.ofBits (F := Ideal) .f32 0x3F800000#32
            - Ideal.logistic (k0_pay12 (F := Ideal) (iblk m c 4 t) i)))) := rfl
  have e' : val_main_v17 (F := Ideal) (hOf m c) (guOf m c) (wdOf m c) (ctOf m c) j
      = val_main_v16 (F := Ideal) (hOf m c) (guOf m c) (wdOf m c) (ctOf m c) j * val_main_v8_2 (F := Ideal) (hOf m c) (guOf m c) j
        + val_main_v3 (F := Ideal) (hOf m c) (guOf m c) j * val_main_v16 (F := Ideal) (hOf m c) (guOf m c) (wdOf m c) (ctOf m c) j
          * (val_main_v8_2 (F := Ideal) (hOf m c) (guOf m c) j * (FloatOps.ofBits (F := Ideal) .f32 0x3F800000#32
            - val_main_v8_2 (F := Ideal) (hOf m c) (guOf m c) j)) := by
    pointwise [val_main_v17, val_main_call1_v0, val_main_call1_v1, val_main_call1_v2, val_main_v8_1, val_main_call0_v7, val_main_call0_v6,
      val_main_call0_cst_1]
  rw [e, e', gate_block m c t i j h0 h1 h2, dact_up_at m c t i j h0 h1 h2, sigmoid_at, one_bits]
  obtain ⟨a, ha⟩ := hf.dact_up j
  obtain ⟨h, hh⟩ := hf.gate j
  rw [ha, hh, Ideal.logistic_coe]
  exact gate_real a h _

/-- The gradient of the up projection's product at a point is the reference's. -/
theorem dup_at (c : Dev nD) (t : Fin cfg0.N) (i : S1024x384.Idx) (j : S8x2048x384.Idx)
    (h0 : (j 0 : ℕ) = t.val / 2) (h1 : (j 1 : ℕ) = t.val % 2 * 1024 + (i 0).val) (h2 : (j 2 : ℕ) = (i 1).val) :
    k0_pay2 (F := Ideal) (k0_pay11 (iblk m c 0 t) (iblk m c 3 t)) (k0_pay12 (iblk m c 4 t)) (k0_pay13 (iblk m c 4 t)) i
      = val_main_v15 (F := Ideal) (hOf m c) (guOf m c) (wdOf m c) (ctOf m c) j := by
  have e : k0_pay2 (F := Ideal) (k0_pay11 (iblk m c 0 t) (iblk m c 3 t)) (k0_pay12 (iblk m c 4 t)) (k0_pay13 (iblk m c 4 t)) i
      = k0_pay11 (F := Ideal) (iblk m c 0 t) (iblk m c 3 t) i * k0_pay12 (F := Ideal) (iblk m c 4 t) i
        * Ideal.logistic (k0_pay12 (F := Ideal) (iblk m c 4 t) i) := rfl
  have e' : val_main_v15 (F := Ideal) (hOf m c) (guOf m c) (wdOf m c) (ctOf m c) j
      = val_main_v3 (F := Ideal) (hOf m c) (guOf m c) j * val_main_v8_2 (F := Ideal) (hOf m c) (guOf m c) j
        * val_main_v14 (F := Ideal) (wdOf m c) (ctOf m c) j := rfl
  rw [e, e', gate_block m c t i j h0 h1 h2, dact_at m c t i j h0 h1 h2, sigmoid_at, mul_assoc, mul_comm]

/-! ## The input's gradient -/

/-- A point's part of the input's gradient is the reference's terms of its shard: the gate's and the up projection's. -/
theorem part_at (c : Dev nD) (hf : Finite m c) (t : Fin cfg0.N) (d : Fin 8) (y : S2048x1024.Idx) (hd : t.val / 2 = d.val)
    (hb : t.val % 2 = (y 0).val / 1024) : part m c t (Rows.inTile y)
      = (∑ f : Fin 384, val_main_v17 (F := Ideal) (hOf m c) (guOf m c) (wdOf m c) (ctOf m c) (ValueIdx.ix3 d (y 0) f)
          * guOf m c (ValueIdx.ix4 d 0 (y 1) f))
        + ∑ f : Fin 384, val_main_v15 (F := Ideal) (hOf m c) (guOf m c) (wdOf m c) (ctOf m c) (ValueIdx.ix3 d (y 0) f)
          * guOf m c (ValueIdx.ix4 d 1 (y 1) f) := by
  unfold part rowsPart Rows.inTile
  pointwise [k0_pay5]
  refine congrArg₂ (· + ·) (Finset.sum_congr rfl fun f _ => ?_) (Finset.sum_congr rfl fun f _ => ?_)
  · rw [dgate_at m c hf t _ (ValueIdx.ix3 d (y 0) f) hd.symm
      (by show (y 0).val = t.val % 2 * 1024 + (y 0).val % 1024; omega) rfl]
    refine congrArg _ ?_
    blk_point [iblk, V, idx t]
  · rw [dup_at m c t _ (ValueIdx.ix3 d (y 0) f) hd.symm
      (by show (y 0).val = t.val % 2 * 1024 + (y 0).val % 1024; omega) rfl]
    refine congrArg _ ?_
    blk_point [iblk, V, idx t]

end Cert.Proof.FfnGrad

end
-- ==== Proof.FfnGrad.Value.lean ====
/-
  The three results of the feed-forward block's gradient are the reference's, at arguments that are real numbers: the
  gradients of the gate's and the up projection's products, the input's gradient summed over the shards and their
  features, and the gradient of the down projection's weight.
-/
module

public import proofs.«01_k».proof.Proof.FfnGrad.Point

@[expose] public section

set_option maxRecDepth 16384

noncomputable section

namespace Cert.Proof.FfnGrad

open Idealize.ShloMosaic Idealize.ShloMosaic.TcCoe Idealize.SL.Sem
open Cert.FfnGradIdeal Cert.FfnGradIdeal.Gen Cert.FfnGradIdeal.Block
open Cert.FfnGradRefIdeal.Read

variable (m : (ℓ : Loc nD τ sig) → Buf (Elt Ideal) ℓ)

/-- All points together add up to the reference's gradient of the input. -/
theorem total_at (c : Dev nD) (hf : Finite m c) (y : S2048x1024.Idx) :
    Rows.total N_pos (part m c) 15 y = val_main_v22 (F := Ideal) (hOf m c) (guOf m c) (wdOf m c) (ctOf m c) y := by
  have hy : (y 0).val < 2048 := (y 0).isLt
  have hN : cfg0.N = 16 := N_0
  have e : val_main_v22 (F := Ideal) (hOf m c) (guOf m c) (wdOf m c) (ctOf m c) y
      = (∑ d : Fin 8, ∑ f : Fin 384, val_main_v15 (F := Ideal) (hOf m c) (guOf m c) (wdOf m c) (ctOf m c) (ValueIdx.ix3 d (y 0) f)
          * guOf m c (ValueIdx.ix4 d 1 (y 1) f))
        + ∑ d : Fin 8, ∑ f : Fin 384, val_main_v17 (F := Ideal) (hOf m c) (guOf m c) (wdOf m c) (ctOf m c) (ValueIdx.ix3 d (y 0) f)
          * guOf m c (ValueIdx.ix4 d 0 (y 1) f) := by
    pointwise [val_main_v22, val_main_v19, val_main_v18, val_main_v21, val_main_v20, val_main_v0, val_main_v1, val_main_v4, val_main_v5]
    rfl
  rw [e, add_comm, ← Finset.sum_add_distrib]
  exact Rows.total_shards N_pos (part m c) N_0 y _ fun t d hd hb => part_at m c hf t d y hd hb

/-! ## The gradient of the down projection's weight -/

/-- The result's gradient in a point's block. -/
theorem ct_block (c : Dev nD) (t : Fin cfg0.N) (i : S1024x1024.Idx) (j : S2048x1024.Idx)
    (h0 : (j 0 : ℕ) = t.val % 2 * 1024 + (i 0).val) (h1 : (j 1 : ℕ) = (i 1).val) : iblk m c 0 t i = ctOf m c j := by
  blk_point [iblk, V, idx t]

/-- The gated values in a point's block. -/
theorem act_block (c : Dev nD) (t : Fin cfg0.N) (i : S1x384x1024.Idx) (j : S8x2048x384.Idx)
    (h0 : (j 0 : ℕ) = t.val / 2) (h1 : (j 1 : ℕ) = t.val % 2 * 1024 + (i 2).val) (h2 : (j 2 : ℕ) = (i 1).val) :
    iblk m c 6 t i = val_main_v9 (F := Ideal) (hOf m c) (guOf m c) j := by
  unfold iblk
  refine (congrFun (act_in m c) _).trans ?_
  pointwise
  blk_point [idx t]

/-- The gradient of the down projection's weight, both row tiles' parts added, is the reference's. -/
theorem down_at (c : Dev nD) (t : Fin cfg0.N) (hp : t.val % 2 = 1) (i : S384x1024.Idx) (j : S8x384x1024.Idx)
    (h0 : (j 0 : ℕ) = t.val / 2) (h1 : (j 1 : ℕ) = (i 0).val) (h2 : (j 2 : ℕ) = (i 1).val) :
    k0_pay8 (F := Ideal) (iblk m c 6 (before t)) (iblk m c 0 (before t)) i + k0_pay7 (F := Ideal) (iblk m c 6 t) (iblk m c 0 t) i
      = val_main_v12 (F := Ideal) (hOf m c) (guOf m c) (ctOf m c) j := by
  pointwise [k0_pay8, k0_pay7, val_main_v12, val_main_v11]
  refine Eq.trans ?_ (Fin.sum_univ_two_halves 1024 1024 rfl _).symm
  refine congrArg₂ (· + ·) (Finset.sum_congr rfl fun x _ => ?_) (Finset.sum_congr rfl fun x _ => ?_)
  · refine (congrArg₂ (fun a b : EReal => a * b) (act_block m c (before t) (ValueIdx.ix3 0 (i 0) x) (ValueIdx.ix3 (j 0) ⟨x.val, by omega⟩ (j 1)) ?_ ?_ h1)
      (ct_block m c (before t) (ValueIdx.ix2 x (i 1)) (ValueIdx.ix2 ⟨x.val, by omega⟩ (j 2)) ?_ h2)).trans (mul_comm _ _)
    · show (j 0).val = (t.val - 1) / 2; omega
    · show x.val = (t.val - 1) % 2 * 1024 + x.val; omega
    · show x.val = (t.val - 1) % 2 * 1024 + x.val; omega
  · refine (congrArg₂ (fun a b : EReal => a * b) (act_block m c t (ValueIdx.ix3 0 (i 0) x) (ValueIdx.ix3 (j 0) ⟨1024 + x.val, by omega⟩ (j 1)) h0 ?_ h1)
      (ct_block m c t (ValueIdx.ix2 x (i 1)) (ValueIdx.ix2 ⟨1024 + x.val, by omega⟩ (j 2)) ?_ h2)).trans (mul_comm _ _)
    · show 1024 + x.val = t.val % 2 * 1024 + x.val; omega
    · show 1024 + x.val = t.val % 2 * 1024 + x.val; omega

/-- Contents of the staging buffers that the body may have left at every point. -/
abbrev After := (w : Fin cfg0.W) → Fin cfg0.N → (cfg0.win w).block.Idx → Elt Ideal (cfg0.win w).elt

variable (c : Dev nD) (hf : Finite m c) (after : After)
  (hL : ∀ (w : Fin cfg0.W) (u : Fin cfg0.N), (cfg0.win w).flush u = true → (rdats m c).Leaves w u (after w u))

include hf hL

/-- The input's gradient after the run is the reference's. -/
theorem final_sum : ((rdats m c).withAfter after).arrAt 8 cfg0.N
    = val_main_v22 (F := Ideal) (hOf m c) (guOf m c) (wdOf m c) (ctOf m c) := by
  refine ((rdats m c).withAfter after).arrAt_eq_of_after_last 8 t0_15 (by decide +kernel) _ fun j => ?_
  have h : Summed m c t0_15 (after 8 t0_15) := (dats m c).toRRel_leaves (fgt := results) (Rl := Left m c) rfl (hL 8 t0_15 (by decide +kernel))
  have hj : (j 0).val < 2048 := (j 0).isLt
  exact (h j (by show (j 0).val / 1024 ≤ 15; omega)).trans (total_at m c hf j)

/-- The two slabs after the run are the reference's. -/
theorem final_slabs : ((rdats m c).withAfter after).arrAt 7 cfg0.N
    = val_main_v26 (F := Ideal) (hOf m c) (guOf m c) (wdOf m c) (ctOf m c) := by
  refine ((rdats m c).withAfter after).arrAt_eq_of_covers 7 _ (by decide +kernel) fun t hfl y => ?_
  have h : Slabbed m c t (after 7 t) :=
    (dats m c).toRRel_leaves (fgt := results) (Rl := Left m c) rfl (hL 7 t hfl)
  blk_simp
  rw [Pipeline.RDat.withAfter_after, h y]
  unfold gatePart upPart inSlab
  pointwise [k0_pay3, k0_pay4, val_main_v26, val_main_v25, val_main_v24, val_main_v23]
  have h0 : (y 0).val < 2 := (y 0).isLt
  have hz : ((((View.whole main_v17_0).slice (win0_7.rect t)).emb y) 0 : ℕ) = (y 0).val := by
    blk_simp [idx t]
  by_cases hy : (y 0).val = 0
  · rw [if_pos hy, dif_pos (by rw [hz, hy]; decide)]
    refine dgate_at m c hf t _ _ ?_ ?_ ?_ <;> (blk_simp [idx t] <;> try omega)
  · rw [if_neg hy, dif_neg (by rw [hz]; omega)]
    refine dup_at m c t _ _ ?_ ?_ ?_ <;> (blk_simp [idx t] <;> try omega)

omit hf

/-- The gradient of the down projection's weight after the run is the reference's. -/
theorem final_down : ((rdats m c).withAfter after).arrAt 9 cfg0.N
    = val_main_v27 (F := Ideal) (hOf m c) (guOf m c) (ctOf m c) := by
  refine ((rdats m c).withAfter after).arrAt_eq_of_covers 9 _ (by decide +kernel) fun t hfl y => ?_
  have h : Downed m c t (after 9 t) :=
    (dats m c).toRRel_leaves (fgt := results) (Rl := Left m c) rfl (hL 9 t hfl)
  have hp : t.val % 2 = 1 := by have := (flush0_9 _).mp hfl; simpa using this
  blk_simp
  rw [Pipeline.RDat.withAfter_after, h hp]
  pointwise [k0_pay10, k0_pay9, val_main_v27]
  refine down_at m c t hp _ _ ?_ ?_ ?_ <;> (blk_simp [idx t] <;> try omega)

omit hL

/-- From any memory of real arguments with zero counters every weakly fair execution ends with the three results at the
    reference's terms of the arguments, and the arguments unchanged. -/
theorem run (ρ : Dev nD → PrngReg) (hr : ∀ c, Finite m c) :
    θ_run defs (onTc (τ := τ) (main (F := Ideal))) ⟨m, fun _ => 0, ρ⟩ fun r => ∀ c : Dev nD,
    r.2.mem ((c.tc : Thread nD τ).loc main_v17_0) = val_main_v26 (F := Ideal) (hOf m c) (guOf m c) (wdOf m c) (ctOf m c)
    ∧ r.2.mem ((c.tc : Thread nD τ).loc main_v17_1) = val_main_v22 (F := Ideal) (hOf m c) (guOf m c) (wdOf m c) (ctOf m c)
    ∧ r.2.mem ((c.tc : Thread nD τ).loc main_v17_2) = val_main_v27 (F := Ideal) (hOf m c) (guOf m c) (ctOf m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (launch m ρ)
  obtain ⟨after, hL, hA⟩ := h.1.exists_exact c
  exact ⟨(hA 7).trans (final_slabs m c (hr c) after hL), (hA 8).trans (final_sum m c (hr c) after hL),
    (hA 9).trans (final_down m c after hL), args_kept m h.1 c⟩

end Cert.Proof.FfnGrad

end
-- ==== Proof.FfnGrad.Finite.lean ====
/-
  The precondition of the feed-forward block's gradient read back: every element of the four arguments is a real number.
-/
module

public import proofs.«01_k».proof.Defs
public import proofs.«01_k».proof.Proof.FfnGrad.Point
public import Idealize.ShloMosaic.Lib.ReduceAll

@[expose] public section

noncomputable section

namespace Cert.Proof.FfnGrad

open Idealize.ShloMosaic Idealize.ShloMosaic.TcCoe Idealize.SL.Sem

/-- The side conditions of the precondition's operations. -/
theorem finite_facts : Cert.Pre_finite.Facts where
  bcast_S_S2048x1024 := by decide
  reducesTo_S2048x1024_S_d0_1 := by decide
  h_S_ := by decide
  bcast_S_S8x2x1024x384 := by decide
  reducesTo_S8x2x1024x384_S_d0_1_2_3 := by decide
  bcast_S_S8x384x1024 := by decide
  reducesTo_S8x384x1024_S_d0_1_2 := by decide

/-- The one index of a scalar. -/
instance scalar_idx : Subsingleton Cert.Pre_finite.S_.Idx := ⟨fun a b => funext fun k => k.elim0⟩

/-- The word of the constant the precondition compares with is infinity. -/
theorem infinity_bits : Ideal.ofBits .f32 0x7F800000#32 = (⊤ : EReal) := by
  simp [Ideal.ofBits, Ideal.ieee]

/-- A value whose absolute value is below infinity is a real number. -/
theorem real_of_abs (x : EReal) (h : Ideal.cmp .olt (max x (-x)) (Ideal.ofBits .f32 0x7F800000#32) = 1#1) : IsReal x := by
  rw [infinity_bits] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => exact absurd hlt (by simp)
  | coe r => exact ⟨r, rfl⟩
  | top => exact absurd hlt (by simp)

/-- Under the precondition the four arguments hold real numbers. -/
theorem finite_of_pre (m : (ℓ : Loc Cert.FfnGradIdeal.nD Cert.FfnGradIdeal.τ Cert.FfnGradIdeal.sig) → Buf (Elt Ideal) ℓ)
    (h : Cert.Pre_FfnGradIdeal_finite (hPre_finite := finite_facts) m) (c : Dev Cert.FfnGradIdeal.nD) : Finite m c := by
  have h1 := congrFun (h c) (fun a => a.elim0)
  obtain ⟨h012, h3⟩ := IntOp.andi_eq_one.1 h1
  obtain ⟨h01, h2⟩ := IntOp.andi_eq_one.1 h012
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩

end Cert.Proof.FfnGrad

end
-- ==== Proof.Steps.Update.lean ====
/- One step of the optimiser at one element, as the kernels and the references compute it: the two new moments and the
   weight's change from the gradient `g`, the moments `m` and `v` and the weight `w`. -/
module

public import Idealize.ShloMosaic.PureOps.Ideal.Laws

@[expose] public section

noncomputable section

namespace Cert.Proof.Update

open Idealize.ShloMosaic

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The weight's change. -/
def delta (g w m v : EReal) : EReal :=
  FloatOps.mulf (F := Ideal) (φ := .f32) (FloatOps.ofBits .f32 0xBA83126F#32)
    (FloatOps.addf (F := Ideal) (φ := .f32)
      (FloatOps.divf (F := Ideal) (φ := .f32) (FloatOps.divf (F := Ideal) (φ := .f32) (newM g m) (FloatOps.ofBits .f32 0x3F26BD02#32))
        (FloatOps.addf (F := Ideal) (φ := .f32)
          (FloatOps.sqrt (F := Ideal) (φ := .f32) (FloatOps.divf (F := Ideal) (φ := .f32) (newV g v) (FloatOps.ofBits .f32 0x3C231ACC#32)))
          (FloatOps.ofBits .f32 0x322BCC77#32)))
      (FloatOps.mulf (F := Ideal) (φ := .f32) (FloatOps.ofBits .f32 0x3C23D70A#32) w))

/-- The change at equal gradients, weights and moments. -/
theorem delta_congr {g g' w w' m m' v v' : EReal} (hg : g = g') (hw : w = w') (hm : m = m') (hv : v = v') :
    delta g w m v = delta g' w' m' v' := by
  rw [hg, hw, hm, hv]

/-- The constant the references' sums start from. -/
theorem zero_bits : (FloatOps.ofBits (F := Ideal) .f32 0#32) = (0 : EReal) := by
  show Ideal.ofBits .f32 0#32 = _
  simp [Ideal.ofBits, Ideal.ieee]

end Cert.Proof.Update

end
-- ==== Proof.Steps.Small.lean ====
/- The optimiser's step on the small parameters, read over the extended reals: the kernel's sum over the eight devices and
   its formula at one element are the reference's. -/
module

public import proofs.«01_k».proof.Proof.Gen.SmallStepIdeal.Frame
public import proofs.«01_k».proof.Proof.Gen.SmallStepRefIdeal.Read
public import proofs.«01_k».proof.Proof.Steps.Update
public import Idealize.ShloMosaic.Lib.Pipeline.Value
public import Idealize.ShloMosaic.Lib.Pipeline.ValueKit

@[expose] public section

set_option maxRecDepth 16384

noncomputable section

namespace Cert.Proof.SmallStep

open Idealize.ShloMosaic Idealize.ShloMosaic.TcCoe Idealize.SL.Sem
open Cert.SmallStepIdeal Cert.SmallStepIdeal.Gen Cert.SmallStepRefIdeal.Read Cert.Proof.Update

variable (m : (ℓ : Loc nD τ sig) → Buf (Elt Ideal) ℓ) (hO : Ok m)

/-- The device's number, taken as 0: no window of this call reads it. -/
abbrev at0 : (pcfg0 (F := Ideal)).Adm := ⟨fun | 0 => fun _ => (0#32 : BitVec 32), trivial⟩

/-- Every window is one block. -/
theorem idx (t : Fin (cfgM m hO).N) (w : Fin 8) : ((cfgM m hO).win w).index t = fun _ => 0 :=
  (by decide +kernel : ∀ (t : Fin (cfg0 at0).N) (w : Fin 8), ((cfg0 at0).win w).index t = fun _ => 0) t w

/-- An element of a block lies in the array at the same place. -/
theorem emb_at (t : Fin (cfgM m hO).N) (w : Fin 8) (y : (((cfgM m hO).win w).xblock ((cfgM m hO).grid.coords t)).Idx)
    (a : Fin ((cfgM m hO).win w).shape.rank) : ((((cfgM m hO).win w).rect t).emb y a : ℕ) = (y a).val :=
  ((cfgM m hO).win w).rect_emb_val_of_index_zero t a (by rw [idx m hO t w]) y

/-- An element of the devices' gradients, read in its block, is the argument's. -/
theorem read_land (c : Dev nD) (t : Fin (cfgM m hO).N) (hw : (ms0_0 m hO t).IsWhole) (i j : S8x128x128.Idx) (h0 : (i 0).val = (j 0).val)
    (h1 : (i 1).val = (j 1).val) (h2 : (i 2).val = (j 2).val) : View.read (Elt Ideal) (ms0_0 m hO t).view
      (hw.unread (View.read (Elt Ideal) (((cfgM m hO).win 0).blk t).view (V m c (Pipeline.arrRef spec0 0)))) i
      = m ((c : Thread nD τ).loc main_arg1) j := by
  refine (congrFun (hw.read_unread _) i).trans ?_
  show m ((c : Thread nD τ).loc main_arg1) ((((cfgM m hO).win 0).blk t).view.emb i) = _
  refine congrArg _ (funext fun a => Fin.ext ((emb_at m hO t 0 i a).trans ?_))
  fin_cases a
  exacts [h0, h1, h2]

/-- An element of the weight, read in its block. -/
theorem read_w (c : Dev nD) (t : Fin (cfgM m hO).N) (hw : (ms0_1 m hO t).IsWhole) (i j : S1x128x128.Idx)
    (h : ∀ a, (i a).val = (j a).val) : View.read (Elt Ideal) (ms0_1 m hO t).view (hw.unread (iblk m hO c 1 t)) i
      = m ((c : Thread nD τ).loc main_arg2) j := by
  exact (congrFun (hw.read_unread _) i).trans (congrArg (m ((c : Thread nD τ).loc main_arg2)) (funext fun a => Fin.ext ((emb_at m hO t 1 i a).trans (h a))))

/-- An element of the first moment, read in its block. -/
theorem read_m (c : Dev nD) (t : Fin (cfgM m hO).N) (hw : (ms0_2 m hO t).IsWhole) (i j : S1x128x128.Idx)
    (h : ∀ a, (i a).val = (j a).val) : View.read (Elt Ideal) (ms0_2 m hO t).view (hw.unread (iblk m hO c 2 t)) i
      = m ((c : Thread nD τ).loc main_arg3) j := by
  exact (congrFun (hw.read_unread _) i).trans (congrArg (m ((c : Thread nD τ).loc main_arg3)) (funext fun a => Fin.ext ((emb_at m hO t 2 i a).trans (h a))))

/-- An element of the second moment, read in its block. -/
theorem read_v (c : Dev nD) (t : Fin (cfgM m hO).N) (hw : (ms0_3 m hO t).IsWhole) (i j : S1x128x128.Idx)
    (h : ∀ a, (i a).val = (j a).val) : View.read (Elt Ideal) (ms0_3 m hO t).view (hw.unread (iblk m hO c 3 t)) i
      = m ((c : Thread nD τ).loc main_arg4) j := by
  exact (congrFun (hw.read_unread _) i).trans (congrArg (m ((c : Thread nD τ).loc main_arg4)) (funext fun a => Fin.ext ((emb_at m hO t 3 i a).trans (h a))))

/-- The sum of the eight devices' gradients at one element is the reference's. -/
theorem grad_at (c : Dev nD) (t : Fin (cfgM m hO).N) (hw : (ms0_0 m hO t).IsWhole) (a b : Fin 128) (e : S1x128x128.Idx)
    (ha : a.val = (e 1).val) (hb : b.val = (e 2).val) :
    let L := fun k : Fin 8 => View.read (Elt Ideal) (ms0_0 m hO t).view
      (hw.unread (View.read (Elt Ideal) (((cfgM m hO).win 0).blk t).view (V m c (Pipeline.arrRef spec0 0)))) (ix3 k a b)
    L 0 + L 1 + L 2 + L 3 + L 4 + L 5 + L 6 + L 7 = val_main_v1 (F := Ideal) (m ((c : Thread nD τ).loc main_arg1)) e := by
  pointwise [val_main_v1, val_main_v0]
  rw [Fin.sum_univ_eight, val_main_cst_apply, zero_bits, zero_add]
  congr 8 <;> exact read_land m hO c t _ _ _ rfl ha hb

/-- The gradient after the last point is the reference's. -/
theorem final_grad (c : Dev nD) : (dats m hO 0 c).arrAt 4 (cfgM m hO).N
    = val_main_v1 (F := Ideal) (m ((c : Thread nD τ).loc main_arg1)) := by
  refine (dats m hO 0 c).arrAt_eq_of_covers 4 _ (by decide +kernel : ((cfg0 at0).win 4).Covers) fun t _ y => ?_
  blk_simp
  rw [after0_4, outsAt0]
  frame_out
  pointwise [k0_pay5, k0_pay2]
  exact grad_at m hO c t _ _ _ _ (emb_at m hO t 4 y 1).symm (emb_at m hO t 4 y 2).symm

/-- The new first moment after the last point is the reference's. -/
theorem final_m (c : Dev nD) : (dats m hO 0 c).arrAt 6 (cfgM m hO).N
    = val_main_v6 (F := Ideal) (m ((c : Thread nD τ).loc main_arg1)) (m ((c : Thread nD τ).loc main_arg3)) := by
  refine (dats m hO 0 c).arrAt_eq_of_covers 6 _ (by decide +kernel : ((cfg0 at0).win 6).Covers) fun t _ y => ?_
  blk_simp
  rw [after0_6, outsAt0]
  frame_out
  pointwise [k0_pay7, k0_pay3, k0_pay2]
  exact congrArg₂ newM (grad_at m hO c t _ _ _ _ (emb_at m hO t 6 y 1).symm (emb_at m hO t 6 y 2).symm)
    (read_m m hO c t _ _ _ fun a => (emb_at m hO t 6 y a).symm)

/-- The new second moment after the last point is the reference's. -/
theorem final_v (c : Dev nD) : (dats m hO 0 c).arrAt 7 (cfgM m hO).N
    = val_main_v12 (F := Ideal) (m ((c : Thread nD τ).loc main_arg1)) (m ((c : Thread nD τ).loc main_arg4)) := by
  refine (dats m hO 0 c).arrAt_eq_of_covers 7 _ (by decide +kernel : ((cfg0 at0).win 7).Covers) fun t _ y => ?_
  blk_simp
  rw [after0_7, outsAt0]
  frame_out
  pointwise [k0_pay1, k0_pay4, k0_pay2]
  exact congrArg₂ newV (grad_at m hO c t _ _ _ _ (emb_at m hO t 7 y 1).symm (emb_at m hO t 7 y 2).symm)
    (read_v m hO c t _ _ _ fun a => (emb_at m hO t 7 y a).symm)

/-- The weight's change after the last point is the reference's. -/
theorem final_delta (c : Dev nD) : (dats m hO 0 c).arrAt 5 (cfgM m hO).N
    = val_main_v25 (F := Ideal) (m ((c : Thread nD τ).loc main_arg1)) (m ((c : Thread nD τ).loc main_arg2))
      (m ((c : Thread nD τ).loc main_arg3)) (m ((c : Thread nD τ).loc main_arg4)) := by
  refine (dats m hO 0 c).arrAt_eq_of_covers 5 _ (by decide +kernel : ((cfg0 at0).win 5).Covers) fun t _ y => ?_
  blk_simp
  rw [after0_5, outsAt0]
  frame_out
  pointwise [k0_pay6, k0_pay4, k0_pay3, k0_pay2]
  exact delta_congr (grad_at m hO c t _ _ _ _ (emb_at m hO t 5 y 1).symm (emb_at m hO t 5 y 2).symm)
    (read_w m hO c t _ _ _ fun a => (emb_at m hO t 5 y a).symm) (read_m m hO c t _ _ _ fun a => (emb_at m hO t 5 y a).symm)
    (read_v m hO c t _ _ _ fun a => (emb_at m hO t 5 y a).symm)

include hO in
/-- From any memory with zero counters every weakly fair execution ends with the gradient, the change and the two moments
    at the reference's terms of the arguments, and the arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v0_0) = val_main_v1 (F := Ideal) (m ((c : Thread nD τ).loc main_arg1))
    ∧ r.2.mem ((c.tc : Thread nD τ).loc main_v0_1) = val_main_v25 (F := Ideal) (m ((c : Thread nD τ).loc main_arg1))
        (m ((c : Thread nD τ).loc main_arg2)) (m ((c : Thread nD τ).loc main_arg3)) (m ((c : Thread nD τ).loc main_arg4))
    ∧ r.2.mem ((c.tc : Thread nD τ).loc main_v0_2)
        = val_main_v6 (F := Ideal) (m ((c : Thread nD τ).loc main_arg1)) (m ((c : Thread nD τ).loc main_arg3))
    ∧ r.2.mem ((c.tc : Thread nD τ).loc main_v0_3)
        = val_main_v12 (F := Ideal) (m ((c : Thread nD τ).loc main_arg1)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (θ_run_and (run_main m ρ hO) (unchanged m ρ hO))
  exact ⟨((h.1 c).1 4).trans (final_grad m hO c), ((h.1 c).1 5).trans (final_delta m hO c),
    ((h.1 c).1 6).trans (final_m m hO c), ((h.1 c).1 7).trans (final_v m hO c), h.2 c⟩

end Cert.Proof.SmallStep

end
-- ==== Proof.Steps.Number.lean ====
/- The number of a device: its range, read from the precondition, and the row of an array that it selects. -/
module

public import Idealize.ShloMosaic.Lib.ValueIdxCore

@[expose] public section

namespace Cert.Proof.Number

open Idealize.ShloMosaic

/-- A number from 0 to 7, compared as a signed one, is at most 7 read unsigned. -/
theorem le_seven (v : BitVec 32) (h : IntOp.andi (IntOp.cmpi .sge v 0#32) (IntOp.cmpi .sle v 7#32) = 1#1) : v.toNat ≤ 7 := by
  have one : ∀ p q : Bool, IntOp.andi (BitVec.ofBool p) (BitVec.ofBool q) = 1#1 → p = true ∧ q = true := by decide
  obtain ⟨h0, h7⟩ := one _ _ h
  simp only [BitVec.sle, decide_eq_true_eq, BitVec.toInt, BitVec.toNat_ofNat] at h0 h7
  omega

/-- Such a number is not negative, so read signed it is the same. -/
theorem signed (v : BitVec 32) (h : v.toNat ≤ 7) : IntOp.cmpi .slt v 0#32 = 0#1 ∧ min v.toInt.toNat 7 = v.toNat := by
  have hi : v.toInt = v.toNat := by simp only [BitVec.toInt]; omega
  refine ⟨?_, by rw [hi]; omega⟩
  have hf : v.slt 0#32 = false := by
    simp only [BitVec.slt, decide_eq_false_iff_not, hi]; simp
  simp only [IntOp.cmpi, hf]; rfl

/-- One entry has one index. -/
theorem one_idx (i j : (⟨1, ![1]⟩ : Shape).Idx) : i = j :=
  funext fun a => by
    obtain rfl : a = 0 := Subsingleton.elim _ _
    exact Subsingleton.elim (α := Fin 1) _ _

/-- A choice whose condition holds is its first value, -/
theorem pick_one {α : Type} (p q : α) : Scalar.select 1#1 p q = p := rfl

/-- and one whose condition fails its second. -/
theorem pick_zero {α : Type} (p q : α) : Scalar.select 0#1 p q = q := rfl

/-- The one index of an axis of one adds nothing to a place. -/
theorem first0 (n : Nat) (i : Fin 1) : n + i.val = n := by omega

section Row
variable {A B : Nat}

/-- The dimension numbers of "the row of the given number" in an array of eight rows. -/
abbrev rowDims (wf : GatherDims.WF ⟨3, ![8, A, B]⟩ ⟨2, ![1, 1]⟩ ⟨3, ![1, A, B]⟩ [1, 2] [0] [] [0] [] 1 ![1, A, B]) :
    GatherDims ⟨3, ![8, A, B]⟩ ⟨2, ![1, 1]⟩ ⟨3, ![1, A, B]⟩ :=
  ⟨[1, 2], [0], [], [], [0], 1, ![1, A, B], wf⟩

/-- Of a number in range the gather takes that row. -/
theorem gather_row {α : Type} (wf) (x : (⟨3, ![8, A, B]⟩ : Shape).Idx → α) (n : IVec ⟨2, ![1, 1]⟩ 32) (v : BitVec 32) (hn : ∀ i, n i = v)
    (hv : v.toNat ≤ 7) (y : (⟨3, ![1, A, B]⟩ : Shape).Idx) (z : (⟨3, ![8, A, B]⟩ : Shape).Idx) (h0 : v.toNat = (z 0).val)
    (h1 : (y 1).val = (z 1).val) (h2 : (y 2).val = (z 2).val) : Host.gather (rowDims (A := A) (B := B) wf) x n y = x z := by
  unfold Host.gather
  congr 1
  funext a
  refine Fin.ext ?_
  show (rowDims (A := A) (B := B) wf).start y n a + (rowDims (A := A) (B := B) wf).batchCoord y a
    + (rowDims (A := A) (B := B) wf).offCoord y a = _
  rw [GatherDims.batchCoord_eq_zero _ _ _ List.not_mem_nil, Nat.add_zero]
  have rest : ∀ b : Fin 3, b ≠ 0 → (rowDims (A := A) (B := B) wf).start y n b = 0 := fun b hb => by
    unfold GatherDims.start
    rw [dif_neg fun h => hb (List.mem_singleton.mp h)]
  have three : ∀ b : Fin 3, b = 0 ∨ b = 1 ∨ b = 2 := by decide
  rcases three a with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (rowDims (A := A) (B := B) wf).startIndexMap from List.mem_singleton.mpr rfl), hn]
    exact ((signed v hv).2).trans h0
  · rw [show (rowDims (A := A) (B := B) wf).start y n 1 = 0 from rest 1 (by decide), Nat.zero_add]
    exact h1
  · rw [show (rowDims (A := A) (B := B) wf).start y n 2 = 0 from rest 2 (by decide), Nat.zero_add]
    exact h2

end Row

end Cert.Proof.Number
-- ==== Proof.Steps.DilO.lean ====
/- The optimiser's step on the dilated layer's output projection, read over the extended reals: the sum of this device's
   gradient with the seven others' and the formula at one element are the reference's. -/
module

public import proofs.«01_k».proof.Proof.Gen.DilOStep.Frame
public import proofs.«01_k».proof.Proof.Gen.DilOStepIdeal.Frame
public import proofs.«01_k».proof.Proof.Gen.DilOStepRefIdeal.Read
public import proofs.«01_k».proof.Proof.Steps.Update
public import proofs.«01_k».proof.Proof.Steps.Number
public import proofs.«01_k».proof.Defs
public import Idealize.ShloMosaic.Lib.Pipeline.Value
public import Idealize.ShloMosaic.Lib.Pipeline.ValueKit

@[expose] public section

set_option maxRecDepth 16384

noncomputable section

namespace Cert.Proof.DilOStep

open Idealize.ShloMosaic Idealize.ShloMosaic.TcCoe Idealize.SL.Sem
open Cert.DilOStepIdeal Cert.DilOStepIdeal.Gen Cert.DilOStepRefIdeal.Read Cert.Proof.Update Cert.Proof.Number

/-- A table of one entry. -/
abbrev table {F : FTy → Type} (v : BitVec 32) : pre0.Contents (Elt F) := fun | 0 => fun _ => v

/-- Of a number in range every block lies in its array. -/
theorem ok_table : ∀ k : Fin 8, ok0 (F := Ideal) (table (BitVec.ofNat 32 k.val)) := by decide +kernel

/-- Of any number in range every block lies in its array. -/
theorem ok_number (v : BitVec 32) (hv : v.toNat ≤ 7) : ok0 (F := Ideal) (table v) := by
  have h := ok_table ⟨v.toNat, by omega⟩
  rwa [BitVec.ofNat_toNat, BitVec.setWidth_eq] at h

/-- The kernel's own blocks lie in the arrays wherever its idealization's do. -/
theorem ok_bits (m : (ℓ : Loc nD τ sig) → Buf (Elt Bits) ℓ)
    (hv : BitVec.toNat (m (((0 : Dev nD) : Thread nD τ).loc main_arg0) (ix1 (0 : Fin 1))) ≤ 7) : Cert.DilOStep.Gen.Ok m := by
  have ht : Cert.DilOStep.Gen.tbl m = table (m (((0 : Dev nD) : Thread nD τ).loc main_arg0) (ix1 (0 : Fin 1))) := by
    funext j
    obtain rfl : j = 0 := Subsingleton.elim _ _
    funext i
    exact (congrFun (Cert.DilOStep.Gen.V_main_arg0 m 0) i).trans
      (congrArg (m (((0 : Dev nD) : Thread nD τ).loc main_arg0)) (one_idx _ _))
  show Cert.DilOStep.ok0 _
  rw [ht]
  exact ok_number _ hv

variable (m : (ℓ : Loc nD τ sig) → Buf (Elt Ideal) ℓ)

/-- The device's number. -/
def number : BitVec 32 := m (((0 : Dev nD) : Thread nD τ).loc main_arg0) (ix1 (0 : Fin 1))

/-- The table holds the number alone. -/
theorem tbl_eq : tbl m = table (number m) := by
  funext j
  obtain rfl : j = 0 := Subsingleton.elim _ _
  funext i
  exact (congrFun (V_main_arg0 m 0) i).trans (congrArg (m (((0 : Dev nD) : Thread nD τ).loc main_arg0)) (one_idx _ _))

/-- The blocks lie in the arrays when the number is in range. -/
theorem ok_of_number (h : (number m).toNat ≤ 7) : Ok m := by
  show ok0 _
  rw [tbl_eq]
  exact ok_number _ h

/-- The precondition puts the number in range. -/
theorem number_of_pre [Cert.Pre_numbered_out.Facts] (h : Cert.Pre_DilOStepIdeal m) : (number m).toNat ≤ 7 := by
  exact le_seven _ (congrFun (h 0) (ix1 (0 : Fin 1)))

/-- The blocks lie in the arrays under the precondition, -/
theorem okIdeal [Cert.Pre_numbered_out.Facts] (h : Cert.Pre_DilOStepIdeal m) : Ok m := ok_of_number m (number_of_pre m h)

/-- and the kernel's own too. -/
theorem ok [Cert.Pre_numbered_out.Facts] (m : (ℓ : Loc nD τ sig) → Buf (Elt Bits) ℓ) (h : Cert.Pre_DilOStep m) : Cert.DilOStep.Gen.Ok m :=
  ok_bits m (le_seven _ (congrFun (h 0) (ix1 (0 : Fin 1))))

variable (hO : Ok m)

/-- The number 0, of which every window but the own gradient's has the same blocks. -/
abbrev at0 : (pcfg0 (F := Ideal)).Adm := ⟨table 0#32, ok_number _ (by decide)⟩

/-- Every window but the own gradient's is one block. -/
theorem idx (t : Fin (cfgM m hO).N) (w : Fin 9) (hw : w ≠ 1) : ((cfgM m hO).win w).index t = fun _ => 0 := by
  have h : ∀ (t : Fin (cfg0 at0).N) (w : Fin 9), w ≠ 1 → ((cfg0 at0).win w).index t = fun _ => 0 := by decide +kernel
  have e : ((cfgM m hO).win w).index t = ((cfg0 at0).win w).index t := by
    fin_cases w <;> first | rfl | exact absurd rfl hw
  exact e.trans (h t w hw)

/-- The own gradient's block is the row of the device's number. -/
theorem idx_own (t : Fin (cfgM m hO).N) : ((cfgM m hO).win 1).index t = ![(number m).toNat, 0, 0] := by
  show cc0_transform_1 _ _ (tbl m) (grid0.coords t) = _
  rw [tbl_eq]
  have h : ∀ t : Fin grid0.N, (BitVec.ofNat 32 (grid0.coords t 0).val).toNat = 0 := by decide +kernel
  show ![(number m).toNat, (BitVec.ofNat 32 (grid0.coords t 0).val).toNat, 0] = _
  rw [h t]

/-- An element of a block lies in the array at the same place. -/
theorem emb_at (t : Fin (cfgM m hO).N) (w : Fin 9) (hw : w ≠ 1) (y : (((cfgM m hO).win w).xblock ((cfgM m hO).grid.coords t)).Idx)
    (a : Fin ((cfgM m hO).win w).shape.rank) : ((((cfgM m hO).win w).rect t).emb y a : ℕ) = (y a).val :=
  ((cfgM m hO).win w).rect_emb_val_of_index_zero t a (by rw [idx m hO t w hw]) y

/-- An element of the other devices' gradients, read in its block, is the argument's. -/
theorem read_land (c : Dev nD) (t : Fin (cfgM m hO).N) (hw : (ms0_0 m hO t).IsWhole) (i j : S7x128x1024.Idx) (h0 : (i 0).val = (j 0).val)
    (h1 : (i 1).val = (j 1).val) (h2 : (i 2).val = (j 2).val) : View.read (Elt Ideal) (ms0_0 m hO t).view
      (hw.unread (View.read (Elt Ideal) (((cfgM m hO).win 0).blk t).view (V m c (Pipeline.arrRef spec0 0)))) i
      = m ((c : Thread nD τ).loc main_arg1) j := by
  refine (congrFun (hw.read_unread _) i).trans ?_
  show m ((c : Thread nD τ).loc main_arg1) ((((cfgM m hO).win 0).blk t).view.emb i) = _
  refine congrArg _ (funext fun a => Fin.ext ((emb_at m hO t 0 (by decide) i a).trans ?_))
  fin_cases a
  exacts [h0, h1, h2]

/-- An element of the own gradient, read in its block, is the argument's in the row of the device's number. -/
theorem read_own (c : Dev nD) (t : Fin (cfgM m hO).N) (hw : (ms0_1 m hO t).IsWhole) (i : S1x128x1024.Idx) (j : S8x128x1024.Idx)
    (h0 : (number m).toNat = (j 0).val) (h1 : (i 1).val = (j 1).val) (h2 : (i 2).val = (j 2).val) : View.read (Elt Ideal) (ms0_1 m hO t).view
      (hw.unread (View.read (Elt Ideal) (((cfgM m hO).win 1).blk t).view (V m c (Pipeline.arrRef spec0 1)))) i
      = m ((c : Thread nD τ).loc main_arg2) j := by
  refine (congrFun (hw.read_unread _) i).trans ?_
  show m ((c : Thread nD τ).loc main_arg2) ((((cfgM m hO).win 1).blk t).view.emb i) = _
  refine congrArg _ (funext fun a => Fin.ext ((((cfgM m hO).win 1).rect_emb_val t i a).trans ?_))
  rw [idx_own]
  have hi : (i 0).val = 0 := Nat.lt_one_iff.mp (i 0).isLt
  fin_cases a
  · exact (show (number m).toNat * 1 + (i 0).val = (j 0).val by omega)
  · exact (show 0 * 128 + (i 1).val = (j 1).val by omega)
  · exact (show 0 * 1024 + (i 2).val = (j 2).val by omega)

/-- An element of the weight, read in its block. -/
theorem read_w (c : Dev nD) (t : Fin (cfgM m hO).N) (hw : (ms0_2 m hO t).IsWhole) (i j : S1x128x1024.Idx)
    (h : ∀ a, (i a).val = (j a).val) : View.read (Elt Ideal) (ms0_2 m hO t).view (hw.unread (iblk m hO c 2 t)) i
      = m ((c : Thread nD τ).loc main_arg3) j := by
  exact (congrFun (hw.read_unread _) i).trans (congrArg (m ((c : Thread nD τ).loc main_arg3))
    (funext fun a => Fin.ext ((emb_at m hO t 2 (by decide) i a).trans (h a))))

/-- An element of the first moment, read in its block. -/
theorem read_m (c : Dev nD) (t : Fin (cfgM m hO).N) (hw : (ms0_3 m hO t).IsWhole) (i j : S1x128x1024.Idx)
    (h : ∀ a, (i a).val = (j a).val) : View.read (Elt Ideal) (ms0_3 m hO t).view (hw.unread (iblk m hO c 3 t)) i
      = m ((c : Thread nD τ).loc main_arg4) j := by
  exact (congrFun (hw.read_unread _) i).trans (congrArg (m ((c : Thread nD τ).loc main_arg4))
    (funext fun a => Fin.ext ((emb_at m hO t 3 (by decide) i a).trans (h a))))

/-- An element of the second moment, read in its block. -/
theorem read_v (c : Dev nD) (t : Fin (cfgM m hO).N) (hw : (ms0_4 m hO t).IsWhole) (i j : S1x128x1024.Idx)
    (h : ∀ a, (i a).val = (j a).val) : View.read (Elt Ideal) (ms0_4 m hO t).view (hw.unread (iblk m hO c 4 t)) i
      = m ((c : Thread nD τ).loc main_arg5) j := by
  exact (congrFun (hw.read_unread _) i).trans (congrArg (m ((c : Thread nD τ).loc main_arg5))
    (funext fun a => Fin.ext ((emb_at m hO t 4 (by decide) i a).trans (h a))))

/-- The reference's start index is the number itself. -/
theorem start_eq (hn : (number m).toNat ≤ 7) (i : Cert.DilOStepRefIdeal.S1x1.Idx) :
    val_main_v5 (F := Ideal) (m (((0 : Dev nD) : Thread nD τ).loc main_arg0)) i = number m := by
  rw [val_main_v5_apply, val_main_v4_apply, val_main_v1_apply, val_main_v0_apply]
  have h : m (((0 : Dev nD) : Thread nD τ).loc main_arg0) (idx_main_v5 i) = number m :=
    congrArg (m (((0 : Dev nD) : Thread nD τ).loc main_arg0)) (one_idx _ _)
  rw [h]
  show Scalar.select (IntOp.cmpi .slt (number m) 0#32) _ _ = _
  rw [(signed _ hn).1]
  rfl

/-- The sum of the eight devices' gradients at one element is the reference's. -/
theorem grad_at (hn : (number m).toNat ≤ 7) (c : Dev nD) (t : Fin (cfgM m hO).N) (hw : (ms0_0 m hO t).IsWhole) (hx : (ms0_1 m hO t).IsWhole)
    (i e : S1x128x1024.Idx) (ha : (i 1).val = (e 1).val) (hb : (i 2).val = (e 2).val) :
    let L := fun k : Fin 7 => View.read (Elt Ideal) (ms0_0 m hO t).view
      (hw.unread (View.read (Elt Ideal) (((cfgM m hO).win 0).blk t).view (V m c (Pipeline.arrRef spec0 0)))) (ix3 k (i 1) (i 2))
    View.read (Elt Ideal) (ms0_1 m hO t).view
      (hx.unread (View.read (Elt Ideal) (((cfgM m hO).win 1).blk t).view (V m c (Pipeline.arrRef spec0 1)))) i
      + L 0 + L 1 + L 2 + L 3 + L 4 + L 5 + L 6
      = val_main_v9 (F := Ideal) (m ((c : Thread nD τ).loc main_arg0)) (m ((c : Thread nD τ).loc main_arg1)) (m ((c : Thread nD τ).loc main_arg2)) e := by
  obtain rfl : c = 0 := Subsingleton.elim _ _
  pointwise [val_main_v9, val_main_v8, val_main_v7]
  rw [Fin.sum_univ_seven, val_main_cst_apply, zero_bits, zero_add]
  simp only [add_assoc]
  refine congrArg₂ (· + ·) ((read_own m hO 0 t _ _ (ix3 (⟨(number m).toNat, by omega⟩ : Fin 8) (i 1) (i 2)) rfl rfl rfl).trans ?_) ?_
  · exact (gather_row _ _ _ (number m) (start_eq m hn) hn e _ rfl ha.symm hb.symm).symm
  congr 6 <;> exact read_land m hO 0 t _ _ _ rfl ha hb

/-- The gradient after the run is the reference's. -/
theorem final_grad (hn : (number m).toNat ≤ 7) (c : Dev nD) : (dats m hO 0 c).arrAt 5 (cfgM m hO).N
    = val_main_v9 (F := Ideal) (m ((c : Thread nD τ).loc main_arg0)) (m ((c : Thread nD τ).loc main_arg1)) (m ((c : Thread nD τ).loc main_arg2)) := by
  refine (dats m hO 0 c).arrAt_eq_of_covers 5 _ (by decide +kernel : ((cfg0 at0).win 5).Covers) fun t _ y => ?_
  blk_simp
  rw [after0_5, outsAt0]
  frame_out
  pointwise [k0_pay6, k0_pay3]
  exact grad_at m hO hn c t _ _ _ _ (emb_at m hO t 5 (by decide) y 1).symm (emb_at m hO t 5 (by decide) y 2).symm

/-- The new first moment after the run is the reference's. -/
theorem final_m (hn : (number m).toNat ≤ 7) (c : Dev nD) : (dats m hO 0 c).arrAt 7 (cfgM m hO).N
    = val_main_v14 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (by decide +kernel : ((cfg0 at0).win 7).Covers) fun t _ y => ?_
  blk_simp
  rw [after0_7, outsAt0]
  frame_out
  pointwise [k0_pay1, k0_pay4, k0_pay3]
  exact congrArg₂ newM (grad_at m hO hn c t _ _ _ _ (emb_at m hO t 7 (by decide) y 1).symm (emb_at m hO t 7 (by decide) y 2).symm)
    (read_m m hO c t _ _ _ fun a => (emb_at m hO t 7 (by decide) y a).symm)

/-- The new second moment after the run is the reference's. -/
theorem final_v (hn : (number m).toNat ≤ 7) (c : Dev nD) : (dats m hO 0 c).arrAt 8 (cfgM m hO).N
    = val_main_v20 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (by decide +kernel : ((cfg0 at0).win 8).Covers) fun t _ y => ?_
  blk_simp
  rw [after0_8, outsAt0]
  frame_out
  pointwise [k0_pay2, k0_pay5, k0_pay3]
  exact congrArg₂ newV (grad_at m hO hn c t _ _ _ _ (emb_at m hO t 8 (by decide) y 1).symm (emb_at m hO t 8 (by decide) y 2).symm)
    (read_v m hO c t _ _ _ fun a => (emb_at m hO t 8 (by decide) y a).symm)

/-- The weight's change after the run is the reference's. -/
theorem final_delta (hn : (number m).toNat ≤ 7) (c : Dev nD) : (dats m hO 0 c).arrAt 6 (cfgM m hO).N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (by decide +kernel : ((cfg0 at0).win 6).Covers) fun t _ y => ?_
  blk_simp
  rw [after0_6, outsAt0]
  frame_out
  pointwise [k0_pay7, k0_pay5, k0_pay4, k0_pay3]
  exact delta_congr (grad_at m hO hn c t _ _ _ _ (emb_at m hO t 6 (by decide) y 1).symm (emb_at m hO t 6 (by decide) y 2).symm)
    (read_w m hO c t _ _ _ fun a => (emb_at m hO t 6 (by decide) y a).symm)
    (read_m m hO c t _ _ _ fun a => (emb_at m hO t 6 (by decide) y a).symm)
    (read_v m hO c t _ _ _ fun a => (emb_at m hO t 6 (by decide) y a).symm)

include hO in
/-- From any memory with zero counters and a number in range every weakly fair execution ends with the gradient, the change
    and the two moments at the reference's terms of the arguments, and the arguments unchanged. -/
theorem run (hn : (number m).toNat ≤ 7) (ρ : Dev nD → PrngReg) :
    θ_run defs (onTc (τ := τ) (main (F := Ideal))) ⟨m, fun _ => 0, ρ⟩ fun r => ∀ c : Dev nD,
    r.2.mem ((c.tc : Thread nD τ).loc main_v2_0) = val_main_v9 (F := Ideal) (m ((c : Thread nD τ).loc main_arg0)) (m ((c : Thread nD τ).loc main_arg1)) (m ((c : Thread nD τ).loc main_arg2))
    ∧ r.2.mem ((c.tc : Thread nD τ).loc main_v2_1) = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
    ∧ r.2.mem ((c.tc : Thread nD τ).loc main_v2_2) = val_main_v14 (F := Ideal) (m ((c : Thread nD τ).loc main_arg0)) (m ((c : Thread nD τ).loc main_arg1)) (m ((c : Thread nD τ).loc main_arg2))
        (m ((c : Thread nD τ).loc main_arg4))
    ∧ r.2.mem ((c.tc : Thread nD τ).loc main_v2_3) = val_main_v20 (F := Ideal) (m ((c : Thread nD τ).loc main_arg0)) (m ((c : Thread nD τ).loc main_arg1)) (m ((c : Thread nD τ).loc main_arg2))
        (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (θ_run_and (run_main m ρ hO) (unchanged m ρ hO))
  exact ⟨((h.1 c).1 5).trans (final_grad m hO hn c), ((h.1 c).1 6).trans (final_delta m hO hn c),
    ((h.1 c).1 7).trans (final_m m hO hn c), ((h.1 c).1 8).trans (final_v m hO hn c), h.2 c⟩

end Cert.Proof.DilOStep

end
-- ==== Proof.Steps.NaO.lean ====
/- The optimiser's step on the neighbourhood layer's output projection: the program has the same text as the dilated layer's
   (`DilO`), and its run is that one. -/
module

public import proofs.«01_k».proof.Proof.Gen.NaOStep.Frame
public import proofs.«01_k».proof.Proof.Gen.NaOStepIdeal.Frame
public import proofs.«01_k».proof.Proof.Gen.NaOStepRefIdeal.Read
public import proofs.«01_k».proof.Proof.Steps.DilO

@[expose] public section

set_option maxRecDepth 16384

noncomputable section

namespace Cert.Proof.NaOStep

open Idealize.ShloMosaic Idealize.ShloMosaic.TcCoe Idealize.SL.Sem
open Cert.NaOStepIdeal Cert.NaOStepIdeal.Gen Cert.NaOStepRefIdeal.Read Cert.Proof.Number

/-- The kernel's own blocks lie in the arrays under the precondition. -/
theorem ok [Cert.Pre_numbered_out.Facts] (m : (ℓ : Loc nD τ sig) → Buf (Elt Bits) ℓ) (h : Cert.Pre_NaOStep m) : Cert.NaOStep.Gen.Ok m :=
  Cert.Proof.DilOStep.ok m h

variable (m : (ℓ : Loc nD τ sig) → Buf (Elt Ideal) ℓ)

/-- The idealization's blocks lie in the arrays under the precondition. -/
theorem okIdeal [Cert.Pre_numbered_out.Facts] (h : Cert.Pre_NaOStepIdeal m) : Ok m := Cert.Proof.DilOStep.okIdeal m h

/-- The precondition puts the number in range. -/
theorem number_of_pre [Cert.Pre_numbered_out.Facts] (h : Cert.Pre_NaOStepIdeal m) : (Cert.Proof.DilOStep.number m).toNat ≤ 7 :=
  Cert.Proof.DilOStep.number_of_pre m h

/-- The table of bodies is that of the dilated layer's step. -/
theorem bodies : Cert.NaOStepIdeal.defs₀ (F := Ideal) = Cert.DilOStepIdeal.defs₀ := by
  unfold Cert.NaOStepIdeal.defs₀ Cert.DilOStepIdeal.defs₀
  refine congrArg Defs.onTc (funext fun l => ?_)
  obtain ⟨n, h⟩ := l
  cases n with
  | zero => exact funext fun ⟨t, s⟩ => rfl
  | succ n => exact absurd h (Nat.not_lt.2 (Nat.le_add_left _ _))

/-- From any memory with zero counters and a number in range every weakly fair execution ends with the gradient, the change
    and the two moments at the reference's terms of the arguments, and the arguments unchanged. -/
theorem run (hO : Ok m) (hn : (Cert.Proof.DilOStep.number m).toNat ≤ 7) (ρ : Dev nD → PrngReg) :
    θ_run defs (onTc (τ := τ) (main (F := Ideal))) ⟨m, fun _ => 0, ρ⟩ fun r => ∀ c : Dev nD,
    r.2.mem ((c.tc : Thread nD τ).loc main_v2_0) = val_main_v9 (F := Ideal) (m ((c : Thread nD τ).loc main_arg0)) (m ((c : Thread nD τ).loc main_arg1)) (m ((c : Thread nD τ).loc main_arg2))
    ∧ r.2.mem ((c.tc : Thread nD τ).loc main_v2_1) = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
    ∧ r.2.mem ((c.tc : Thread nD τ).loc main_v2_2) = val_main_v14 (F := Ideal) (m ((c : Thread nD τ).loc main_arg0)) (m ((c : Thread nD τ).loc main_arg1)) (m ((c : Thread nD τ).loc main_arg2))
        (m ((c : Thread nD τ).loc main_arg4))
    ∧ r.2.mem ((c.tc : Thread nD τ).loc main_v2_3) = val_main_v20 (F := Ideal) (m ((c : Thread nD τ).loc main_arg0)) (m ((c : Thread nD τ).loc main_arg1)) (m ((c : Thread nD τ).loc main_arg2))
        (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have h := Cert.Proof.DilOStep.run m hO hn ρ
  rw [← show Cert.NaOStepIdeal.defs (F := Ideal) = Cert.DilOStepIdeal.defs from congrArg (Pipeline.defs _) bodies] at h
  exact h

end Cert.Proof.NaOStep

end
-- ==== Proof.Steps.DilQkv.lean ====
/- The optimiser's step on the dilated layer's queries, keys and values, read over the extended reals: the sum of this device's
   gradient with the seven others' and the formula at one element are the reference's. -/
module

public import proofs.«01_k».proof.Proof.Gen.DilQkvStep.Frame
public import proofs.«01_k».proof.Proof.Gen.DilQkvStepIdeal.Frame
public import proofs.«01_k».proof.Proof.Gen.DilQkvStepRefIdeal.Read
public import proofs.«01_k».proof.Proof.Steps.Update
public import proofs.«01_k».proof.Proof.Steps.Number
public import proofs.«01_k».proof.Defs
public import Idealize.ShloMosaic.Lib.Pipeline.Value
public import Idealize.ShloMosaic.Lib.Pipeline.ValueKit

@[expose] public section

set_option maxRecDepth 16384

noncomputable section

namespace Cert.Proof.DilQkvStep

open Idealize.ShloMosaic Idealize.ShloMosaic.TcCoe Idealize.SL.Sem
open Cert.DilQkvStepIdeal Cert.DilQkvStepIdeal.Gen Cert.DilQkvStepRefIdeal.Read Cert.Proof.Update Cert.Proof.Number

/-- A table of one entry. -/
abbrev table {F : FTy → Type} (v : BitVec 32) : pre0.Contents (Elt F) := fun | 0 => fun _ => v

/-- Of a number in range every block lies in its array. -/
theorem ok_table : ∀ k : Fin 8, ok0 (F := Ideal) (table (BitVec.ofNat 32 k.val)) := by decide +kernel

/-- Of any number in range every block lies in its array. -/
theorem ok_number (v : BitVec 32) (hv : v.toNat ≤ 7) : ok0 (F := Ideal) (table v) := by
  have h := ok_table ⟨v.toNat, by omega⟩
  rwa [BitVec.ofNat_toNat, BitVec.setWidth_eq] at h

/-- The kernel's own blocks lie in the arrays wherever its idealization's do. -/
theorem ok_bits (m : (ℓ : Loc nD τ sig) → Buf (Elt Bits) ℓ)
    (hv : BitVec.toNat (m (((0 : Dev nD) : Thread nD τ).loc main_arg0) (ix1 (0 : Fin 1))) ≤ 7) : Cert.DilQkvStep.Gen.Ok m := by
  have ht : Cert.DilQkvStep.Gen.tbl m = table (m (((0 : Dev nD) : Thread nD τ).loc main_arg0) (ix1 (0 : Fin 1))) := by
    funext j
    obtain rfl : j = 0 := Subsingleton.elim _ _
    funext i
    exact (congrFun (Cert.DilQkvStep.Gen.V_main_arg0 m 0) i).trans
      (congrArg (m (((0 : Dev nD) : Thread nD τ).loc main_arg0)) (one_idx _ _))
  show Cert.DilQkvStep.ok0 _
  rw [ht]
  exact ok_number _ hv

variable (m : (ℓ : Loc nD τ sig) → Buf (Elt Ideal) ℓ)

/-- The device's number. -/
def number : BitVec 32 := m (((0 : Dev nD) : Thread nD τ).loc main_arg0) (ix1 (0 : Fin 1))

/-- The table holds the number alone. -/
theorem tbl_eq : tbl m = table (number m) := by
  funext j
  obtain rfl : j = 0 := Subsingleton.elim _ _
  funext i
  exact (congrFun (V_main_arg0 m 0) i).trans (congrArg (m (((0 : Dev nD) : Thread nD τ).loc main_arg0)) (one_idx _ _))

/-- The blocks lie in the arrays when the number is in range. -/
theorem ok_of_number (h : (number m).toNat ≤ 7) : Ok m := by
  show ok0 _
  rw [tbl_eq]
  exact ok_number _ h

/-- The precondition puts the number in range. -/
theorem number_of_pre [Cert.Pre_numbered_dil.Facts] (h : Cert.Pre_DilQkvStepIdeal m) : (number m).toNat ≤ 7 := by
  exact le_seven _ (congrFun (h 0) (ix1 (0 : Fin 1)))

/-- The blocks lie in the arrays under the precondition, -/
theorem okIdeal [Cert.Pre_numbered_dil.Facts] (h : Cert.Pre_DilQkvStepIdeal m) : Ok m := ok_of_number m (number_of_pre m h)

/-- and the kernel's own too. -/
theorem ok [Cert.Pre_numbered_dil.Facts] (m : (ℓ : Loc nD τ sig) → Buf (Elt Bits) ℓ) (h : Cert.Pre_DilQkvStep m) : Cert.DilQkvStep.Gen.Ok m :=
  ok_bits m (le_seven _ (congrFun (h 0) (ix1 (0 : Fin 1))))

variable (hO : Ok m)

/-- The number 0, of which every window but the own gradient's has the same blocks. -/
abbrev at0 : (pcfg0 (F := Ideal)).Adm := ⟨table 0#32, ok_number _ (by decide)⟩

/-- How far into its array a block begins: `128` rows a point, on the rows' axis. -/
abbrev off (t a : ℕ) : ℕ := if a = 1 then t * 128 else 0

/-- Every window but the own gradient's moves along the rows. -/
theorem idx (t : Fin (cfgM m hO).N) (w : Fin 9) (hw : w ≠ 1) (a : Fin ((cfgM m hO).win w).shape.rank) :
    ((cfgM m hO).win w).index t a * ((cfgM m hO).win w).size a = off t.val a.val := by
  have h : ∀ (t : Fin (cfg0 at0).N) (w : Fin 9), w ≠ 1 → ∀ a : Fin ((cfg0 at0).win w).shape.rank,
      ((cfg0 at0).win w).index t a * ((cfg0 at0).win w).size a = off t.val a.val := by decide +kernel
  have h' := h t w hw
  fin_cases w <;> first | exact h' a | exact absurd rfl hw

/-- The own gradient's block is in the columns of the device's number. -/
theorem idx_own (t : Fin (cfgM m hO).N) : ((cfgM m hO).win 1).index t = ![t.val, (number m).toNat] := by
  show cc0_transform_1 _ _ (tbl m) (grid0.coords t) = _
  rw [tbl_eq]
  have h : ∀ t : Fin grid0.N, (BitVec.ofNat 32 (grid0.coords t 0).val).toNat = t.val := by decide +kernel
  show ![(BitVec.ofNat 32 (grid0.coords t 0).val).toNat, (number m).toNat] = _
  rw [h t]

/-- Where an element of a block lies in the array. -/
theorem emb_at (t : Fin (cfgM m hO).N) (w : Fin 9) (hw : w ≠ 1) (y : (((cfgM m hO).win w).xblock ((cfgM m hO).grid.coords t)).Idx)
    (a : Fin ((cfgM m hO).win w).shape.rank) : ((((cfgM m hO).win w).rect t).emb y a : ℕ) = off t.val a.val + (y a).val := by
  have hk : ((cfgM m hO).win w).kind = .blocked := by fin_cases w <;> rfl
  rw [((cfgM m hO).win w).rect_emb_val t y a hk, idx m hO t w hw a]

/-- An element of the other devices' gradients, read in its block, is the argument's. -/
theorem read_land (c : Dev nD) (t : Fin (cfgM m hO).N) (hw : (ms0_0 m hO t).IsWhole) (i : S7x128x1152.Idx) (j : S7x1024x1152.Idx)
    (h0 : (i 0).val = (j 0).val) (h1 : t.val * 128 + (i 1).val = (j 1).val) (h2 : (i 2).val = (j 2).val) : View.read (Elt Ideal) (ms0_0 m hO t).view
      (hw.unread (View.read (Elt Ideal) (((cfgM m hO).win 0).blk t).view (V m c (Pipeline.arrRef spec0 0)))) i
      = m ((c : Thread nD τ).loc main_arg1) j := by
  refine (congrFun (hw.read_unread _) i).trans ?_
  show m ((c : Thread nD τ).loc main_arg1) ((((cfgM m hO).win 0).blk t).view.emb i) = _
  refine congrArg _ (funext fun a => Fin.ext ((emb_at m hO t 0 (by decide) i a).trans ?_))
  fin_cases a
  exacts [(Nat.zero_add _).trans h0, h1, (Nat.zero_add _).trans h2]

/-- An element of the own gradient, read in its block, is the argument's in the columns of the device's number. -/
theorem read_own (c : Dev nD) (t : Fin (cfgM m hO).N) (hw : (ms0_1 m hO t).IsWhole) (i : S128x1152.Idx) (j : S1024x9216.Idx)
    (h0 : t.val * 128 + (i 0).val = (j 0).val) (h1 : (number m).toNat * 1152 + (i 1).val = (j 1).val) :
    View.read (Elt Ideal) (ms0_1 m hO t).view
      (hw.unread (View.read (Elt Ideal) (((cfgM m hO).win 1).blk t).view (V m c (Pipeline.arrRef spec0 1)))) i
      = m ((c : Thread nD τ).loc main_arg2) j := by
  refine (congrFun (hw.read_unread _) i).trans ?_
  show m ((c : Thread nD τ).loc main_arg2) ((((cfgM m hO).win 1).blk t).view.emb i) = _
  refine congrArg _ (funext fun a => Fin.ext ((((cfgM m hO).win 1).rect_emb_val t i a).trans ?_))
  rw [idx_own]
  fin_cases a
  exacts [h0, h1]

/-- An element of the weight, read in its block. -/
theorem read_w (c : Dev nD) (t : Fin (cfgM m hO).N) (hw : (ms0_2 m hO t).IsWhole) (i : S1x128x1152.Idx) (j : S1x1024x1152.Idx)
    (h : ∀ a, off t.val a.val + (i a).val = (j a).val) : View.read (Elt Ideal) (ms0_2 m hO t).view (hw.unread (iblk m hO c 2 t)) i
      = m ((c : Thread nD τ).loc main_arg3) j := by
  exact (congrFun (hw.read_unread _) i).trans (congrArg (m ((c : Thread nD τ).loc main_arg3))
    (funext fun a => Fin.ext ((emb_at m hO t 2 (by decide) i a).trans (h a))))

/-- An element of the first moment, read in its block. -/
theorem read_m (c : Dev nD) (t : Fin (cfgM m hO).N) (hw : (ms0_3 m hO t).IsWhole) (i : S1x128x1152.Idx) (j : S1x1024x1152.Idx)
    (h : ∀ a, off t.val a.val + (i a).val = (j a).val) : View.read (Elt Ideal) (ms0_3 m hO t).view (hw.unread (iblk m hO c 3 t)) i
      = m ((c : Thread nD τ).loc main_arg4) j := by
  exact (congrFun (hw.read_unread _) i).trans (congrArg (m ((c : Thread nD τ).loc main_arg4))
    (funext fun a => Fin.ext ((emb_at m hO t 3 (by decide) i a).trans (h a))))

/-- An element of the second moment, read in its block. -/
theorem read_v (c : Dev nD) (t : Fin (cfgM m hO).N) (hw : (ms0_4 m hO t).IsWhole) (i : S1x128x1152.Idx) (j : S1x1024x1152.Idx)
    (h : ∀ a, off t.val a.val + (i a).val = (j a).val) : View.read (Elt Ideal) (ms0_4 m hO t).view (hw.unread (iblk m hO c 4 t)) i
      = m ((c : Thread nD τ).loc main_arg5) j := by
  exact (congrFun (hw.read_unread _) i).trans (congrArg (m ((c : Thread nD τ).loc main_arg5))
    (funext fun a => Fin.ext ((emb_at m hO t 4 (by decide) i a).trans (h a))))

/-- The reference's start index is the number itself. -/
theorem start_eq (hn : (number m).toNat ≤ 7) (i : Cert.DilQkvStepRefIdeal.S1x1.Idx) :
    val_main_v7 (F := Ideal) (m (((0 : Dev nD) : Thread nD τ).loc main_arg0)) i = number m := by
  rw [val_main_v7_apply, val_main_v6_apply, val_main_v3_apply, val_main_v2_apply]
  have h : m (((0 : Dev nD) : Thread nD τ).loc main_arg0) (idx_main_v7 i) = number m :=
    congrArg (m (((0 : Dev nD) : Thread nD τ).loc main_arg0)) (one_idx _ _)
  rw [h]
  show Scalar.select (IntOp.cmpi .slt (number m) 0#32) _ _ = _
  rw [(signed _ hn).1]
  rfl

/-- The reference's own gradient at one element: the argument's in the columns of the device's number. -/
theorem own_at (hn : (number m).toNat ≤ 7) (e : S1x1024x1152.Idx) :
    val_main_v8 (F := Ideal) (m (((0 : Dev nD) : Thread nD τ).loc main_arg0)) (m (((0 : Dev nD) : Thread nD τ).loc main_arg2)) e
      = m (((0 : Dev nD) : Thread nD τ).loc main_arg2) (ix2 (e 1 : Fin 1024) (⟨(number m).toNat * 1152 + (e 2).val, by
          have h2 : (e 2).val < 1152 := (e 2).isLt
          omega⟩ : Fin 9216)) := by
  have h2 : (e 2).val < 1152 := (e 2).isLt
  refine (gather_row _ _ _ (number m) (start_eq m hn) hn e (ix3 (⟨(number m).toNat, by omega⟩ : Fin 8) (e 1 : Fin 1024) (e 2 : Fin 1152))
    rfl rfl rfl).trans ?_
  rw [val_main_v1_apply, val_main_v0_apply]
  refine congrArg (m (((0 : Dev nD) : Thread nD τ).loc main_arg2)) (funext fun a => Fin.ext ?_)
  fin_cases a
  · exact (show (((e 1).val * 8 + (number m).toNat) * 1152 + (e 2).val) / 9216 = (e 1).val by omega)
  · exact (show (((e 1).val * 8 + (number m).toNat) * 1152 + (e 2).val) % 9216 = (number m).toNat * 1152 + (e 2).val by omega)

/-- The sum of the eight devices' gradients at one element is the reference's. -/
theorem grad_at (hn : (number m).toNat ≤ 7) (c : Dev nD) (t : Fin (cfgM m hO).N) (hw : (ms0_0 m hO t).IsWhole) (hx : (ms0_1 m hO t).IsWhole)
    (a : Fin 128) (b : Fin 1152) (e : S1x1024x1152.Idx) (ha : t.val * 128 + a.val = (e 1).val) (hb : b.val = (e 2).val) :
    let L := fun k : Fin 7 => View.read (Elt Ideal) (ms0_0 m hO t).view
      (hw.unread (View.read (Elt Ideal) (((cfgM m hO).win 0).blk t).view (V m c (Pipeline.arrRef spec0 0)))) (ix3 k a b)
    View.read (Elt Ideal) (ms0_1 m hO t).view
      (hx.unread (View.read (Elt Ideal) (((cfgM m hO).win 1).blk t).view (V m c (Pipeline.arrRef spec0 1)))) (ix2 a b)
      + L 0 + L 1 + L 2 + L 3 + L 4 + L 5 + L 6
      = val_main_v11 (F := Ideal) (m ((c : Thread nD τ).loc main_arg0)) (m ((c : Thread nD τ).loc main_arg1)) (m ((c : Thread nD τ).loc main_arg2)) e := by
  obtain rfl : c = 0 := Subsingleton.elim _ _
  pointwise [val_main_v11, val_main_v10, val_main_v9]
  rw [Fin.sum_univ_seven, val_main_cst_apply, zero_bits, zero_add]
  simp only [add_assoc]
  refine congrArg₂ (· + ·) ((read_own m hO 0 t _ _ _ ha (congrArg ((number m).toNat * 1152 + ·) hb)).trans (own_at m hn e).symm) ?_
  congr 6 <;> exact read_land m hO 0 t _ _ _ rfl ha hb

/-- The gradient after the run is the reference's. -/
theorem final_grad (hn : (number m).toNat ≤ 7) (c : Dev nD) : (dats m hO 0 c).arrAt 5 (cfgM m hO).N
    = val_main_v11 (F := Ideal) (m ((c : Thread nD τ).loc main_arg0)) (m ((c : Thread nD τ).loc main_arg1)) (m ((c : Thread nD τ).loc main_arg2)) := by
  refine (dats m hO 0 c).arrAt_eq_of_covers 5 _ (by decide +kernel : ((cfg0 at0).win 5).Covers) fun t _ y => ?_
  blk_simp
  rw [after0_5, outsAt0]
  frame_out
  pointwise [k0_pay7, k0_pay3]
  exact grad_at m hO hn c t _ _ _ _ _ (emb_at m hO t 5 (by decide) y 1).symm ((Nat.zero_add _).symm.trans (emb_at m hO t 5 (by decide) y 2).symm)

/-- The new first moment after the run is the reference's. -/
theorem final_m (hn : (number m).toNat ≤ 7) (c : Dev nD) : (dats m hO 0 c).arrAt 7 (cfgM m hO).N
    = val_main_v16 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (by decide +kernel : ((cfg0 at0).win 7).Covers) fun t _ y => ?_
  blk_simp
  rw [after0_7, outsAt0]
  frame_out
  pointwise [k0_pay1, k0_pay5, k0_pay4, k0_pay3]
  exact congrArg₂ newM (grad_at m hO hn c t _ _ _ _ _ (emb_at m hO t 7 (by decide) y 1).symm ((Nat.zero_add _).symm.trans (emb_at m hO t 7 (by decide) y 2).symm))
    (read_m m hO c t _ _ _ fun a => (emb_at m hO t 7 (by decide) y a).symm)

/-- The new second moment after the run is the reference's. -/
theorem final_v (hn : (number m).toNat ≤ 7) (c : Dev nD) : (dats m hO 0 c).arrAt 8 (cfgM m hO).N
    = val_main_v22 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (by decide +kernel : ((cfg0 at0).win 8).Covers) fun t _ y => ?_
  blk_simp
  rw [after0_8, outsAt0]
  frame_out
  pointwise [k0_pay2, k0_pay6, k0_pay3]
  exact congrArg₂ newV (grad_at m hO hn c t _ _ _ _ _ (emb_at m hO t 8 (by decide) y 1).symm ((Nat.zero_add _).symm.trans (emb_at m hO t 8 (by decide) y 2).symm))
    (read_v m hO c t _ _ _ fun a => (emb_at m hO t 8 (by decide) y a).symm)

/-- The weight's change after the run is the reference's. -/
theorem final_delta (hn : (number m).toNat ≤ 7) (c : Dev nD) : (dats m hO 0 c).arrAt 6 (cfgM m hO).N
    = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (by decide +kernel : ((cfg0 at0).win 6).Covers) fun t _ y => ?_
  blk_simp
  rw [after0_6, outsAt0]
  frame_out
  pointwise [k0_pay8, k0_pay6, k0_pay5, k0_pay4, k0_pay3]
  exact delta_congr (grad_at m hO hn c t _ _ _ _ _ (emb_at m hO t 6 (by decide) y 1).symm ((Nat.zero_add _).symm.trans (emb_at m hO t 6 (by decide) y 2).symm))
    (read_w m hO c t _ _ _ fun a => (emb_at m hO t 6 (by decide) y a).symm)
    (read_m m hO c t _ _ _ fun a => (emb_at m hO t 6 (by decide) y a).symm)
    (read_v m hO c t _ _ _ fun a => (emb_at m hO t 6 (by decide) y a).symm)

include hO in
/-- From any memory with zero counters and a number in range every weakly fair execution ends with the gradient, the change
    and the two moments at the reference's terms of the arguments, and the arguments unchanged. -/
theorem run (hn : (number m).toNat ≤ 7) (ρ : Dev nD → PrngReg) :
    θ_run defs (onTc (τ := τ) (main (F := Ideal))) ⟨m, fun _ => 0, ρ⟩ fun r => ∀ c : Dev nD,
    r.2.mem ((c.tc : Thread nD τ).loc main_v2_0) = val_main_v11 (F := Ideal) (m ((c : Thread nD τ).loc main_arg0)) (m ((c : Thread nD τ).loc main_arg1)) (m ((c : Thread nD τ).loc main_arg2))
    ∧ r.2.mem ((c.tc : Thread nD τ).loc main_v2_1) = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
    ∧ r.2.mem ((c.tc : Thread nD τ).loc main_v2_2) = val_main_v16 (F := Ideal) (m ((c : Thread nD τ).loc main_arg0)) (m ((c : Thread nD τ).loc main_arg1)) (m ((c : Thread nD τ).loc main_arg2))
        (m ((c : Thread nD τ).loc main_arg4))
    ∧ r.2.mem ((c.tc : Thread nD τ).loc main_v2_3) = val_main_v22 (F := Ideal) (m ((c : Thread nD τ).loc main_arg0)) (m ((c : Thread nD τ).loc main_arg1)) (m ((c : Thread nD τ).loc main_arg2))
        (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (θ_run_and (run_main m ρ hO) (unchanged m ρ hO))
  exact ⟨((h.1 c).1 5).trans (final_grad m hO hn c), ((h.1 c).1 6).trans (final_delta m hO hn c),
    ((h.1 c).1 7).trans (final_m m hO hn c), ((h.1 c).1 8).trans (final_v m hO hn c), h.2 c⟩

end Cert.Proof.DilQkvStep

end
-- ==== Proof.Steps.NaQkv.lean ====
/- The optimiser's step on the neighbourhood layer's queries, keys and values, read over the extended reals: the sum of this device's
   gradient with the seven others' and the formula at one element are the reference's. -/
module

public import proofs.«01_k».proof.Proof.Gen.NaQkvStep.Frame
public import proofs.«01_k».proof.Proof.Gen.NaQkvStepIdeal.Frame
public import proofs.«01_k».proof.Proof.Gen.NaQkvStepRefIdeal.Read
public import proofs.«01_k».proof.Proof.Steps.Update
public import proofs.«01_k».proof.Proof.Steps.Number
public import proofs.«01_k».proof.Defs
public import Idealize.ShloMosaic.Lib.Pipeline.Value
public import Idealize.ShloMosaic.Lib.Pipeline.ValueKit

@[expose] public section

set_option maxRecDepth 16384

noncomputable section

namespace Cert.Proof.NaQkvStep

open Idealize.ShloMosaic Idealize.ShloMosaic.TcCoe Idealize.SL.Sem
open Cert.NaQkvStepIdeal Cert.NaQkvStepIdeal.Gen Cert.NaQkvStepRefIdeal.Read Cert.Proof.Update Cert.Proof.Number

/-- A table of one entry. -/
abbrev table {F : FTy → Type} (v : BitVec 32) : pre0.Contents (Elt F) := fun | 0 => fun _ => v

/-- Of a number in range every block lies in its array. -/
theorem ok_table : ∀ k : Fin 8, ok0 (F := Ideal) (table (BitVec.ofNat 32 k.val)) := by decide +kernel

/-- Of any number in range every block lies in its array. -/
theorem ok_number (v : BitVec 32) (hv : v.toNat ≤ 7) : ok0 (F := Ideal) (table v) := by
  have h := ok_table ⟨v.toNat, by omega⟩
  rwa [BitVec.ofNat_toNat, BitVec.setWidth_eq] at h

/-- The kernel's own blocks lie in the arrays wherever its idealization's do. -/
theorem ok_bits (m : (ℓ : Loc nD τ sig) → Buf (Elt Bits) ℓ)
    (hv : BitVec.toNat (m (((0 : Dev nD) : Thread nD τ).loc main_arg0) (ix1 (0 : Fin 1))) ≤ 7) : Cert.NaQkvStep.Gen.Ok m := by
  have ht : Cert.NaQkvStep.Gen.tbl m = table (m (((0 : Dev nD) : Thread nD τ).loc main_arg0) (ix1 (0 : Fin 1))) := by
    funext j
    obtain rfl : j = 0 := Subsingleton.elim _ _
    funext i
    exact (congrFun (Cert.NaQkvStep.Gen.V_main_arg0 m 0) i).trans
      (congrArg (m (((0 : Dev nD) : Thread nD τ).loc main_arg0)) (one_idx _ _))
  show Cert.NaQkvStep.ok0 _
  rw [ht]
  exact ok_number _ hv

variable (m : (ℓ : Loc nD τ sig) → Buf (Elt Ideal) ℓ)

/-- The device's number. -/
def number : BitVec 32 := m (((0 : Dev nD) : Thread nD τ).loc main_arg0) (ix1 (0 : Fin 1))

/-- The table holds the number alone. -/
theorem tbl_eq : tbl m = table (number m) := by
  funext j
  obtain rfl : j = 0 := Subsingleton.elim _ _
  funext i
  exact (congrFun (V_main_arg0 m 0) i).trans (congrArg (m (((0 : Dev nD) : Thread nD τ).loc main_arg0)) (one_idx _ _))

/-- The blocks lie in the arrays when the number is in range. -/
theorem ok_of_number (h : (number m).toNat ≤ 7) : Ok m := by
  show ok0 _
  rw [tbl_eq]
  exact ok_number _ h

/-- The precondition puts the number in range. -/
theorem number_of_pre [Cert.Pre_numbered_na.Facts] (h : Cert.Pre_NaQkvStepIdeal m) : (number m).toNat ≤ 7 := by
  exact le_seven _ (congrFun (h 0) (ix1 (0 : Fin 1)))

/-- The blocks lie in the arrays under the precondition, -/
theorem okIdeal [Cert.Pre_numbered_na.Facts] (h : Cert.Pre_NaQkvStepIdeal m) : Ok m := ok_of_number m (number_of_pre m h)

/-- and the kernel's own too. -/
theorem ok [Cert.Pre_numbered_na.Facts] (m : (ℓ : Loc nD τ sig) → Buf (Elt Bits) ℓ) (h : Cert.Pre_NaQkvStep m) : Cert.NaQkvStep.Gen.Ok m :=
  ok_bits m (le_seven _ (congrFun (h 0) (ix1 (0 : Fin 1))))

variable (hO : Ok m)

/-- The number 0, of which every window but the own gradient's has the same blocks. -/
abbrev at0 : (pcfg0 (F := Ideal)).Adm := ⟨table 0#32, ok_number _ (by decide)⟩

/-- How far into its array a block begins: `256` rows a point, on the rows' axis. -/
abbrev off (t a : ℕ) : ℕ := if a = 1 then t * 256 else 0

/-- Every window but the own gradient's moves along the rows. -/
theorem idx (t : Fin (cfgM m hO).N) (w : Fin 9) (hw : w ≠ 1) (a : Fin ((cfgM m hO).win w).shape.rank) :
    ((cfgM m hO).win w).index t a * ((cfgM m hO).win w).size a = off t.val a.val := by
  have h : ∀ (t : Fin (cfg0 at0).N) (w : Fin 9), w ≠ 1 → ∀ a : Fin ((cfg0 at0).win w).shape.rank,
      ((cfg0 at0).win w).index t a * ((cfg0 at0).win w).size a = off t.val a.val := by decide +kernel
  have h' := h t w hw
  fin_cases w <;> first | exact h' a | exact absurd rfl hw

/-- The own gradient's block is in the columns of the device's number. -/
theorem idx_own (t : Fin (cfgM m hO).N) : ((cfgM m hO).win 1).index t = ![t.val, (number m).toNat] := by
  show cc0_transform_1 _ _ (tbl m) (grid0.coords t) = _
  rw [tbl_eq]
  have h : ∀ t : Fin grid0.N, (BitVec.ofNat 32 (grid0.coords t 0).val).toNat = t.val := by decide +kernel
  show ![(BitVec.ofNat 32 (grid0.coords t 0).val).toNat, (number m).toNat] = _
  rw [h t]

/-- Where an element of a block lies in the array. -/
theorem emb_at (t : Fin (cfgM m hO).N) (w : Fin 9) (hw : w ≠ 1) (y : (((cfgM m hO).win w).xblock ((cfgM m hO).grid.coords t)).Idx)
    (a : Fin ((cfgM m hO).win w).shape.rank) : ((((cfgM m hO).win w).rect t).emb y a : ℕ) = off t.val a.val + (y a).val := by
  have hk : ((cfgM m hO).win w).kind = .blocked := by fin_cases w <;> rfl
  rw [((cfgM m hO).win w).rect_emb_val t y a hk, idx m hO t w hw a]

/-- An element of the other devices' gradients, read in its block, is the argument's. -/
theorem read_land (c : Dev nD) (t : Fin (cfgM m hO).N) (hw : (ms0_0 m hO t).IsWhole) (i : S7x256x384.Idx) (j : S7x1024x384.Idx)
    (h0 : (i 0).val = (j 0).val) (h1 : t.val * 256 + (i 1).val = (j 1).val) (h2 : (i 2).val = (j 2).val) : View.read (Elt Ideal) (ms0_0 m hO t).view
      (hw.unread (View.read (Elt Ideal) (((cfgM m hO).win 0).blk t).view (V m c (Pipeline.arrRef spec0 0)))) i
      = m ((c : Thread nD τ).loc main_arg1) j := by
  refine (congrFun (hw.read_unread _) i).trans ?_
  show m ((c : Thread nD τ).loc main_arg1) ((((cfgM m hO).win 0).blk t).view.emb i) = _
  refine congrArg _ (funext fun a => Fin.ext ((emb_at m hO t 0 (by decide) i a).trans ?_))
  fin_cases a
  exacts [(Nat.zero_add _).trans h0, h1, (Nat.zero_add _).trans h2]

/-- An element of the own gradient, read in its block, is the argument's in the columns of the device's number. -/
theorem read_own (c : Dev nD) (t : Fin (cfgM m hO).N) (hw : (ms0_1 m hO t).IsWhole) (i : S256x384.Idx) (j : S1024x3072.Idx)
    (h0 : t.val * 256 + (i 0).val = (j 0).val) (h1 : (number m).toNat * 384 + (i 1).val = (j 1).val) :
    View.read (Elt Ideal) (ms0_1 m hO t).view
      (hw.unread (View.read (Elt Ideal) (((cfgM m hO).win 1).blk t).view (V m c (Pipeline.arrRef spec0 1)))) i
      = m ((c : Thread nD τ).loc main_arg2) j := by
  refine (congrFun (hw.read_unread _) i).trans ?_
  show m ((c : Thread nD τ).loc main_arg2) ((((cfgM m hO).win 1).blk t).view.emb i) = _
  refine congrArg _ (funext fun a => Fin.ext ((((cfgM m hO).win 1).rect_emb_val t i a).trans ?_))
  rw [idx_own]
  fin_cases a
  exacts [h0, h1]

/-- An element of the weight, read in its block. -/
theorem read_w (c : Dev nD) (t : Fin (cfgM m hO).N) (hw : (ms0_2 m hO t).IsWhole) (i : S1x256x384.Idx) (j : S1x1024x384.Idx)
    (h : ∀ a, off t.val a.val + (i a).val = (j a).val) : View.read (Elt Ideal) (ms0_2 m hO t).view (hw.unread (iblk m hO c 2 t)) i
      = m ((c : Thread nD τ).loc main_arg3) j := by
  exact (congrFun (hw.read_unread _) i).trans (congrArg (m ((c : Thread nD τ).loc main_arg3))
    (funext fun a => Fin.ext ((emb_at m hO t 2 (by decide) i a).trans (h a))))

/-- An element of the first moment, read in its block. -/
theorem read_m (c : Dev nD) (t : Fin (cfgM m hO).N) (hw : (ms0_3 m hO t).IsWhole) (i : S1x256x384.Idx) (j : S1x1024x384.Idx)
    (h : ∀ a, off t.val a.val + (i a).val = (j a).val) : View.read (Elt Ideal) (ms0_3 m hO t).view (hw.unread (iblk m hO c 3 t)) i
      = m ((c : Thread nD τ).loc main_arg4) j := by
  exact (congrFun (hw.read_unread _) i).trans (congrArg (m ((c : Thread nD τ).loc main_arg4))
    (funext fun a => Fin.ext ((emb_at m hO t 3 (by decide) i a).trans (h a))))

/-- An element of the second moment, read in its block. -/
theorem read_v (c : Dev nD) (t : Fin (cfgM m hO).N) (hw : (ms0_4 m hO t).IsWhole) (i : S1x256x384.Idx) (j : S1x1024x384.Idx)
    (h : ∀ a, off t.val a.val + (i a).val = (j a).val) : View.read (Elt Ideal) (ms0_4 m hO t).view (hw.unread (iblk m hO c 4 t)) i
      = m ((c : Thread nD τ).loc main_arg5) j := by
  exact (congrFun (hw.read_unread _) i).trans (congrArg (m ((c : Thread nD τ).loc main_arg5))
    (funext fun a => Fin.ext ((emb_at m hO t 4 (by decide) i a).trans (h a))))

/-- The reference's start index is the number itself. -/
theorem start_eq (hn : (number m).toNat ≤ 7) (i : Cert.NaQkvStepRefIdeal.S1x1.Idx) :
    val_main_v7 (F := Ideal) (m (((0 : Dev nD) : Thread nD τ).loc main_arg0)) i = number m := by
  rw [val_main_v7_apply, val_main_v6_apply, val_main_v3_apply, val_main_v2_apply]
  have h : m (((0 : Dev nD) : Thread nD τ).loc main_arg0) (idx_main_v7 i) = number m :=
    congrArg (m (((0 : Dev nD) : Thread nD τ).loc main_arg0)) (one_idx _ _)
  rw [h]
  show Scalar.select (IntOp.cmpi .slt (number m) 0#32) _ _ = _
  rw [(signed _ hn).1]
  rfl

/-- The reference's own gradient at one element: the argument's in the columns of the device's number. -/
theorem own_at (hn : (number m).toNat ≤ 7) (e : S1x1024x384.Idx) :
    val_main_v8 (F := Ideal) (m (((0 : Dev nD) : Thread nD τ).loc main_arg0)) (m (((0 : Dev nD) : Thread nD τ).loc main_arg2)) e
      = m (((0 : Dev nD) : Thread nD τ).loc main_arg2) (ix2 (e 1 : Fin 1024) (⟨(number m).toNat * 384 + (e 2).val, by
          have h2 : (e 2).val < 384 := (e 2).isLt
          omega⟩ : Fin 3072)) := by
  have h2 : (e 2).val < 384 := (e 2).isLt
  refine (gather_row _ _ _ (number m) (start_eq m hn) hn e (ix3 (⟨(number m).toNat, by omega⟩ : Fin 8) (e 1 : Fin 1024) (e 2 : Fin 384))
    rfl rfl rfl).trans ?_
  rw [val_main_v1_apply, val_main_v0_apply]
  refine congrArg (m (((0 : Dev nD) : Thread nD τ).loc main_arg2)) (funext fun a => Fin.ext ?_)
  fin_cases a
  · exact (show (((e 1).val * 8 + (number m).toNat) * 384 + (e 2).val) / 3072 = (e 1).val by omega)
  · exact (show (((e 1).val * 8 + (number m).toNat) * 384 + (e 2).val) % 3072 = (number m).toNat * 384 + (e 2).val by omega)

/-- The sum of the eight devices' gradients at one element is the reference's. -/
theorem grad_at (hn : (number m).toNat ≤ 7) (c : Dev nD) (t : Fin (cfgM m hO).N) (hw : (ms0_0 m hO t).IsWhole) (hx : (ms0_1 m hO t).IsWhole)
    (a : Fin 256) (b : Fin 384) (e : S1x1024x384.Idx) (ha : t.val * 256 + a.val = (e 1).val) (hb : b.val = (e 2).val) :
    let L := fun k : Fin 7 => View.read (Elt Ideal) (ms0_0 m hO t).view
      (hw.unread (View.read (Elt Ideal) (((cfgM m hO).win 0).blk t).view (V m c (Pipeline.arrRef spec0 0)))) (ix3 k a b)
    View.read (Elt Ideal) (ms0_1 m hO t).view
      (hx.unread (View.read (Elt Ideal) (((cfgM m hO).win 1).blk t).view (V m c (Pipeline.arrRef spec0 1)))) (ix2 a b)
      + L 0 + L 1 + L 2 + L 3 + L 4 + L 5 + L 6
      = val_main_v11 (F := Ideal) (m ((c : Thread nD τ).loc main_arg0)) (m ((c : Thread nD τ).loc main_arg1)) (m ((c : Thread nD τ).loc main_arg2)) e := by
  obtain rfl : c = 0 := Subsingleton.elim _ _
  pointwise [val_main_v11, val_main_v10, val_main_v9]
  rw [Fin.sum_univ_seven, val_main_cst_apply, zero_bits, zero_add]
  simp only [add_assoc]
  refine congrArg₂ (· + ·) ((read_own m hO 0 t _ _ _ ha (congrArg ((number m).toNat * 384 + ·) hb)).trans (own_at m hn e).symm) ?_
  congr 6 <;> exact read_land m hO 0 t _ _ _ rfl ha hb

/-- The gradient after the run is the reference's. -/
theorem final_grad (hn : (number m).toNat ≤ 7) (c : Dev nD) : (dats m hO 0 c).arrAt 5 (cfgM m hO).N
    = val_main_v11 (F := Ideal) (m ((c : Thread nD τ).loc main_arg0)) (m ((c : Thread nD τ).loc main_arg1)) (m ((c : Thread nD τ).loc main_arg2)) := by
  refine (dats m hO 0 c).arrAt_eq_of_covers 5 _ (by decide +kernel : ((cfg0 at0).win 5).Covers) fun t _ y => ?_
  blk_simp
  rw [after0_5, outsAt0]
  frame_out
  pointwise [k0_pay7, k0_pay3]
  exact grad_at m hO hn c t _ _ _ _ _ (emb_at m hO t 5 (by decide) y 1).symm ((Nat.zero_add _).symm.trans (emb_at m hO t 5 (by decide) y 2).symm)

/-- The new first moment after the run is the reference's. -/
theorem final_m (hn : (number m).toNat ≤ 7) (c : Dev nD) : (dats m hO 0 c).arrAt 7 (cfgM m hO).N
    = val_main_v16 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (by decide +kernel : ((cfg0 at0).win 7).Covers) fun t _ y => ?_
  blk_simp
  rw [after0_7, outsAt0]
  frame_out
  pointwise [k0_pay1, k0_pay5, k0_pay4, k0_pay3]
  exact congrArg₂ newM (grad_at m hO hn c t _ _ _ _ _ (emb_at m hO t 7 (by decide) y 1).symm ((Nat.zero_add _).symm.trans (emb_at m hO t 7 (by decide) y 2).symm))
    (read_m m hO c t _ _ _ fun a => (emb_at m hO t 7 (by decide) y a).symm)

/-- The new second moment after the run is the reference's. -/
theorem final_v (hn : (number m).toNat ≤ 7) (c : Dev nD) : (dats m hO 0 c).arrAt 8 (cfgM m hO).N
    = val_main_v22 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (by decide +kernel : ((cfg0 at0).win 8).Covers) fun t _ y => ?_
  blk_simp
  rw [after0_8, outsAt0]
  frame_out
  pointwise [k0_pay2, k0_pay6, k0_pay3]
  exact congrArg₂ newV (grad_at m hO hn c t _ _ _ _ _ (emb_at m hO t 8 (by decide) y 1).symm ((Nat.zero_add _).symm.trans (emb_at m hO t 8 (by decide) y 2).symm))
    (read_v m hO c t _ _ _ fun a => (emb_at m hO t 8 (by decide) y a).symm)

/-- The weight's change after the run is the reference's. -/
theorem final_delta (hn : (number m).toNat ≤ 7) (c : Dev nD) : (dats m hO 0 c).arrAt 6 (cfgM m hO).N
    = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (by decide +kernel : ((cfg0 at0).win 6).Covers) fun t _ y => ?_
  blk_simp
  rw [after0_6, outsAt0]
  frame_out
  pointwise [k0_pay8, k0_pay6, k0_pay5, k0_pay4, k0_pay3]
  exact delta_congr (grad_at m hO hn c t _ _ _ _ _ (emb_at m hO t 6 (by decide) y 1).symm ((Nat.zero_add _).symm.trans (emb_at m hO t 6 (by decide) y 2).symm))
    (read_w m hO c t _ _ _ fun a => (emb_at m hO t 6 (by decide) y a).symm)
    (read_m m hO c t _ _ _ fun a => (emb_at m hO t 6 (by decide) y a).symm)
    (read_v m hO c t _ _ _ fun a => (emb_at m hO t 6 (by decide) y a).symm)

include hO in
/-- From any memory with zero counters and a number in range every weakly fair execution ends with the gradient, the change
    and the two moments at the reference's terms of the arguments, and the arguments unchanged. -/
theorem run (hn : (number m).toNat ≤ 7) (ρ : Dev nD → PrngReg) :
    θ_run defs (onTc (τ := τ) (main (F := Ideal))) ⟨m, fun _ => 0, ρ⟩ fun r => ∀ c : Dev nD,
    r.2.mem ((c.tc : Thread nD τ).loc main_v2_0) = val_main_v11 (F := Ideal) (m ((c : Thread nD τ).loc main_arg0)) (m ((c : Thread nD τ).loc main_arg1)) (m ((c : Thread nD τ).loc main_arg2))
    ∧ r.2.mem ((c.tc : Thread nD τ).loc main_v2_1) = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
    ∧ r.2.mem ((c.tc : Thread nD τ).loc main_v2_2) = val_main_v16 (F := Ideal) (m ((c : Thread nD τ).loc main_arg0)) (m ((c : Thread nD τ).loc main_arg1)) (m ((c : Thread nD τ).loc main_arg2))
        (m ((c : Thread nD τ).loc main_arg4))
    ∧ r.2.mem ((c.tc : Thread nD τ).loc main_v2_3) = val_main_v22 (F := Ideal) (m ((c : Thread nD τ).loc main_arg0)) (m ((c : Thread nD τ).loc main_arg1)) (m ((c : Thread nD τ).loc main_arg2))
        (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ?_) (θ_run_and (run_main m ρ hO) (unchanged m ρ hO))
  exact ⟨((h.1 c).1 5).trans (final_grad m hO hn c), ((h.1 c).1 6).trans (final_delta m hO hn c),
    ((h.1 c).1 7).trans (final_m m hO hn c), ((h.1 c).1 8).trans (final_v m hO hn c), h.2 c⟩

end Cert.Proof.NaQkvStep

end
-- ==== Proof.Steps.Gate.lean ====
/- The optimiser's step on the feed-forward layers' gate, read over the extended reals: in each of the two layers the sum
   of this device's gradient with the seven others' and the formula at one element are the reference's. -/
module

public import proofs.«01_k».proof.Proof.Gen.GateStep.Frame
public import proofs.«01_k».proof.Proof.Gen.GateStepIdeal.Frame
public import proofs.«01_k».proof.Proof.Gen.GateStepRefIdeal.Read
public import proofs.«01_k».proof.Proof.Steps.Update
public import proofs.«01_k».proof.Proof.Steps.Number
public import proofs.«01_k».proof.Defs
public import Idealize.ShloMosaic.Lib.Pipeline.Value
public import Idealize.ShloMosaic.Lib.Pipeline.ValueKit

@[expose] public section

set_option maxRecDepth 16384

noncomputable section

namespace Cert.Proof.GateStep

open Idealize.ShloMosaic Idealize.ShloMosaic.TcCoe Idealize.SL.Sem
open Cert.GateStepIdeal Cert.GateStepIdeal.Gen Cert.GateStepRefIdeal.Read Cert.Proof.Update Cert.Proof.Number

/-- A table of one entry. -/
abbrev table {F : FTy → Type} (v : BitVec 32) : pre0.Contents (Elt F) := fun | 0 => fun _ => v

/-- Of a number in range every block lies in its array. -/
theorem ok_table : ∀ k : Fin 8, ok0 (F := Ideal) (table (BitVec.ofNat 32 k.val)) := by decide +kernel

/-- Of any number in range every block lies in its array. -/
theorem ok_number (v : BitVec 32) (hv : v.toNat ≤ 7) : ok0 (F := Ideal) (table v) := by
  have h := ok_table ⟨v.toNat, by omega⟩
  rwa [BitVec.ofNat_toNat, BitVec.setWidth_eq] at h

/-- The kernel's own blocks lie in the arrays wherever its idealization's do. -/
theorem ok_bits (m : (ℓ : Loc nD τ sig) → Buf (Elt Bits) ℓ)
    (hv : BitVec.toNat (m (((0 : Dev nD) : Thread nD τ).loc main_arg0) (ix1 (0 : Fin 1))) ≤ 7) : Cert.GateStep.Gen.Ok m := by
  have ht : Cert.GateStep.Gen.tbl m = table (m (((0 : Dev nD) : Thread nD τ).loc main_arg0) (ix1 (0 : Fin 1))) := by
    funext j
    obtain rfl : j = 0 := Subsingleton.elim _ _
    funext i
    exact (congrFun (Cert.GateStep.Gen.V_main_arg0 m 0) i).trans
      (congrArg (m (((0 : Dev nD) : Thread nD τ).loc main_arg0)) (one_idx _ _))
  show Cert.GateStep.ok0 _
  rw [ht]
  exact ok_number _ hv

variable (m : (ℓ : Loc nD τ sig) → Buf (Elt Ideal) ℓ)

/-- The device's number. -/
def number : BitVec 32 := m (((0 : Dev nD) : Thread nD τ).loc main_arg0) (ix1 (0 : Fin 1))

/-- The table holds the number alone. -/
theorem tbl_eq : tbl m = table (number m) := by
  funext j
  obtain rfl : j = 0 := Subsingleton.elim _ _
  funext i
  exact (congrFun (V_main_arg0 m 0) i).trans (congrArg (m (((0 : Dev nD) : Thread nD τ).loc main_arg0)) (one_idx _ _))

/-- The blocks lie in the arrays when the number is in range. -/
theorem ok_of_number (h : (number m).toNat ≤ 7) : Ok m := by
  show ok0 _
  rw [tbl_eq]
  exact ok_number _ h

/-- The precondition puts the number in range. -/
theorem number_of_pre [Cert.Pre_numbered_ffn.Facts] (h : Cert.Pre_GateStepIdeal m) : (number m).toNat ≤ 7 := by
  exact le_seven _ (congrFun (h 0) (ix1 (0 : Fin 1)))

/-- The blocks lie in the arrays under the precondition, -/
theorem okIdeal [Cert.Pre_numbered_ffn.Facts] (h : Cert.Pre_GateStepIdeal m) : Ok m := ok_of_number m (number_of_pre m h)

/-- and the kernel's own too. -/
theorem ok [Cert.Pre_numbered_ffn.Facts] (m : (ℓ : Loc nD τ sig) → Buf (Elt Bits) ℓ) (h : Cert.Pre_GateStep m) : Cert.GateStep.Gen.Ok m :=
  ok_bits m (le_seven _ (congrFun (h 0) (ix1 (0 : Fin 1))))

variable (hO : Ok m)

/-- The number 0, of which every window but the own gradients' has the same blocks. -/
abbrev at0 : (pcfg0 (F := Ideal)).Adm := ⟨table 0#32, ok_number _ (by decide)⟩

/-- How far into its array a block of the weight begins: a layer for eight points, `128` rows a point within it. -/
abbrev off (t a : ℕ) : ℕ := if a = 0 then t / 8 else if a = 1 then t % 8 * 128 else 0

/-- The weight's windows, the moments' and the outputs' go over the rows of the one layer and then of the other. -/
theorem idx (t : Fin (cfgM m hO).N) (w : Fin 11) (hw : 4 ≤ w.val) (a : Fin ((cfgM m hO).win w).shape.rank) :
    ((cfgM m hO).win w).index t a * ((cfgM m hO).win w).size a = off t.val a.val := by
  have h : ∀ (t : Fin (cfg0 at0).N) (w : Fin 11), 4 ≤ w.val → ∀ a : Fin ((cfg0 at0).win w).shape.rank,
      ((cfg0 at0).win w).index t a * ((cfg0 at0).win w).size a = off t.val a.val := by decide +kernel
  have h' := h t w hw
  fin_cases w <;> first | exact h' a | exact absurd hw (by decide)

/-- Where an element of a block of the weight lies in the array. -/
theorem emb_at (t : Fin (cfgM m hO).N) (w : Fin 11) (hw : 4 ≤ w.val) (y : (((cfgM m hO).win w).xblock ((cfgM m hO).grid.coords t)).Idx)
    (a : Fin ((cfgM m hO).win w).shape.rank) : ((((cfgM m hO).win w).rect t).emb y a : ℕ) = off t.val a.val + (y a).val := by
  have hk : ((cfgM m hO).win w).kind = .blocked := by fin_cases w <;> rfl
  rw [((cfgM m hO).win w).rect_emb_val t y a hk, idx m hO t w hw a]

/-- In the first layer's points the other devices' gradients of that layer move along the rows, -/
theorem idx_land0 (t : Fin (cfgM m hO).N) (ht : t.val / 8 = 0) : ((cfgM m hO).win 0).index t = ![0, 0, t.val % 8, 0] :=
  (by decide +kernel : ∀ t : Fin (cfg0 at0).N, t.val / 8 = 0 → ((cfg0 at0).win 0).index t = ![0, 0, t.val % 8, 0]) t ht

/-- and so does the own gradient of that layer, in the row of the device's number. -/
theorem idx_own0 (t : Fin (cfgM m hO).N) (ht : t.val / 8 = 0) : ((cfgM m hO).win 2).index t = ![(number m).toNat, 0, t.val % 8, 0] := by
  show cc0_transform_2 _ _ (tbl m) (grid0.coords t) = _
  rw [tbl_eq]
  have h : ∀ t : Fin grid0.N, t.val / 8 = 0 → (Scalar.select (Scalar.cmpi .eq (BitVec.ofNat 32 (grid0.coords t 0).val) 0#32)
      (BitVec.ofNat 32 (grid0.coords t 1).val) 7#32).toNat = t.val % 8 := by decide +kernel
  show ![(number m).toNat, 0, (Scalar.select (Scalar.cmpi .eq (BitVec.ofNat 32 (grid0.coords t 0).val) 0#32)
      (BitVec.ofNat 32 (grid0.coords t 1).val) 7#32).toNat, 0] = _
  rw [h t ht]

/-- An element of the other devices' gradients of the first layer, read in its block, is the argument's. -/
theorem read_land0 (c : Dev nD) (t : Fin (cfgM m hO).N) (ht : t.val / 8 = 0) (hw : (ms0_0 m hO t).IsWhole) (i : S7x1x128x384.Idx) (j : S7x2x1024x384.Idx)
    (h0 : (i 0).val = (j 0).val) (h1 : 0 = (j 1).val) (h2 : t.val % 8 * 128 + (i 2).val = (j 2).val) (h3 : (i 3).val = (j 3).val) :
    View.read (Elt Ideal) (ms0_0 m hO t).view (hw.unread (iblk m hO c 0 t)) i = m ((c : Thread nD τ).loc main_arg1) j := by
  refine (congrFun (hw.read_unread _) i).trans ?_
  show m ((c : Thread nD τ).loc main_arg1) ((((cfgM m hO).win 0).blk t).view.emb i) = _
  refine congrArg _ (funext fun a => Fin.ext ((((cfgM m hO).win 0).rect_emb_val t i a).trans ?_))
  rw [idx_land0 m hO t ht]
  have hi : (i 1).val = 0 := Nat.lt_one_iff.mp (i 1).isLt
  fin_cases a
  · exact (show 0 * 7 + (i 0).val = (j 0).val by omega)
  · exact (show 0 * 1 + (i 1).val = (j 1).val by omega)
  · exact h2
  · exact (show 0 * 384 + (i 3).val = (j 3).val by omega)

/-- An element of the own gradient of the first layer, read in its block, is the argument's in the row of the device's number. -/
theorem read_own0 (c : Dev nD) (t : Fin (cfgM m hO).N) (ht : t.val / 8 = 0) (hw : (ms0_2 m hO t).IsWhole) (i : S1x1x128x384.Idx) (j : S8x2x1024x384.Idx)
    (h0 : (number m).toNat = (j 0).val) (h1 : 0 = (j 1).val) (h2 : t.val % 8 * 128 + (i 2).val = (j 2).val) (h3 : (i 3).val = (j 3).val) :
    View.read (Elt Ideal) (ms0_2 m hO t).view (hw.unread (iblk m hO c 2 t)) i = m ((c : Thread nD τ).loc main_arg3) j := by
  refine (congrFun (hw.read_unread _) i).trans ?_
  show m ((c : Thread nD τ).loc main_arg3) ((((cfgM m hO).win 2).blk t).view.emb i) = _
  refine congrArg _ (funext fun a => Fin.ext ((((cfgM m hO).win 2).rect_emb_val t i a).trans ?_))
  rw [idx_own0 m hO t ht]
  have hi : (i 1).val = 0 := Nat.lt_one_iff.mp (i 1).isLt
  have hj : (i 0).val = 0 := Nat.lt_one_iff.mp (i 0).isLt
  fin_cases a
  · exact (show (number m).toNat * 1 + (i 0).val = (j 0).val by omega)
  · exact (show 0 * 1 + (i 1).val = (j 1).val by omega)
  · exact h2
  · exact (show 0 * 384 + (i 3).val = (j 3).val by omega)

/-- In the second layer's points the other devices' gradients of that layer move along the rows, -/
theorem idx_land1 (t : Fin (cfgM m hO).N) (ht : t.val / 8 ≠ 0) : ((cfgM m hO).win 1).index t = ![0, 0, t.val % 8, 0] :=
  (by decide +kernel : ∀ t : Fin (cfg0 at0).N, t.val / 8 ≠ 0 → ((cfg0 at0).win 1).index t = ![0, 0, t.val % 8, 0]) t ht

/-- and so does the own gradient of that layer, in the row of the device's number. -/
theorem idx_own1 (t : Fin (cfgM m hO).N) (ht : t.val / 8 ≠ 0) : ((cfgM m hO).win 3).index t = ![(number m).toNat, 0, t.val % 8, 0] := by
  show cc0_transform_3 _ _ (tbl m) (grid0.coords t) = _
  rw [tbl_eq]
  have h : ∀ t : Fin grid0.N, t.val / 8 ≠ 0 → (Scalar.select (Scalar.cmpi .eq (BitVec.ofNat 32 (grid0.coords t 0).val) 0#32)
      0#32 (BitVec.ofNat 32 (grid0.coords t 1).val)).toNat = t.val % 8 := by decide +kernel
  show ![(number m).toNat, 0, (Scalar.select (Scalar.cmpi .eq (BitVec.ofNat 32 (grid0.coords t 0).val) 0#32)
      0#32 (BitVec.ofNat 32 (grid0.coords t 1).val)).toNat, 0] = _
  rw [h t ht]

/-- An element of the other devices' gradients of the second layer, read in its block, is the argument's. -/
theorem read_land1 (c : Dev nD) (t : Fin (cfgM m hO).N) (ht : t.val / 8 ≠ 0) (hw : (ms0_1 m hO t).IsWhole) (i : S7x1x128x384.Idx) (j : S7x2x1024x384.Idx)
    (h0 : (i 0).val = (j 0).val) (h1 : 0 = (j 1).val) (h2 : t.val % 8 * 128 + (i 2).val = (j 2).val) (h3 : (i 3).val = (j 3).val) :
    View.read (Elt Ideal) (ms0_1 m hO t).view (hw.unread (iblk m hO c 1 t)) i = m ((c : Thread nD τ).loc main_arg2) j := by
  refine (congrFun (hw.read_unread _) i).trans ?_
  show m ((c : Thread nD τ).loc main_arg2) ((((cfgM m hO).win 1).blk t).view.emb i) = _
  refine congrArg _ (funext fun a => Fin.ext ((((cfgM m hO).win 1).rect_emb_val t i a).trans ?_))
  rw [idx_land1 m hO t ht]
  have hi : (i 1).val = 0 := Nat.lt_one_iff.mp (i 1).isLt
  fin_cases a
  · exact (show 0 * 7 + (i 0).val = (j 0).val by omega)
  · exact (show 0 * 1 + (i 1).val = (j 1).val by omega)
  · exact h2
  · exact (show 0 * 384 + (i 3).val = (j 3).val by omega)

/-- An element of the own gradient of the second layer, read in its block, is the argument's in the row of the device's number. -/
theorem read_own1 (c : Dev nD) (t : Fin (cfgM m hO).N) (ht : t.val / 8 ≠ 0) (hw : (ms0_3 m hO t).IsWhole) (i : S1x1x128x384.Idx) (j : S8x2x1024x384.Idx)
    (h0 : (number m).toNat = (j 0).val) (h1 : 0 = (j 1).val) (h2 : t.val % 8 * 128 + (i 2).val = (j 2).val) (h3 : (i 3).val = (j 3).val) :
    View.read (Elt Ideal) (ms0_3 m hO t).view (hw.unread (iblk m hO c 3 t)) i = m ((c : Thread nD τ).loc main_arg4) j := by
  refine (congrFun (hw.read_unread _) i).trans ?_
  show m ((c : Thread nD τ).loc main_arg4) ((((cfgM m hO).win 3).blk t).view.emb i) = _
  refine congrArg _ (funext fun a => Fin.ext ((((cfgM m hO).win 3).rect_emb_val t i a).trans ?_))
  rw [idx_own1 m hO t ht]
  have hi : (i 1).val = 0 := Nat.lt_one_iff.mp (i 1).isLt
  have hj : (i 0).val = 0 := Nat.lt_one_iff.mp (i 0).isLt
  fin_cases a
  · exact (show (number m).toNat * 1 + (i 0).val = (j 0).val by omega)
  · exact (show 0 * 1 + (i 1).val = (j 1).val by omega)
  · exact h2
  · exact (show 0 * 384 + (i 3).val = (j 3).val by omega)

/-- An element of the weight, read in its block. -/
theorem read_w (c : Dev nD) (t : Fin (cfgM m hO).N) (hw : (ms0_4 m hO t).IsWhole) (i : S1x128x352.Idx) (j : S2x1024x352.Idx)
    (h : ∀ a, off t.val a.val + (i a).val = (j a).val) : View.read (Elt Ideal) (ms0_4 m hO t).view (hw.unread (iblk m hO c 4 t)) i
      = m ((c : Thread nD τ).loc main_arg5) j := by
  exact (congrFun (hw.read_unread _) i).trans (congrArg (m ((c : Thread nD τ).loc main_arg5))
    (funext fun a => Fin.ext ((emb_at m hO t 4 (by decide) i a).trans (h a))))

/-- An element of the first moment, read in its block. -/
theorem read_m (c : Dev nD) (t : Fin (cfgM m hO).N) (hw : (ms0_5 m hO t).IsWhole) (i : S1x128x352.Idx) (j : S2x1024x352.Idx)
    (h : ∀ a, off t.val a.val + (i a).val = (j a).val) : View.read (Elt Ideal) (ms0_5 m hO t).view (hw.unread (iblk m hO c 5 t)) i
      = m ((c : Thread nD τ).loc main_arg6) j := by
  exact (congrFun (hw.read_unread _) i).trans (congrArg (m ((c : Thread nD τ).loc main_arg6))
    (funext fun a => Fin.ext ((emb_at m hO t 5 (by decide) i a).trans (h a))))

/-- An element of the second moment, read in its block. -/
theorem read_v (c : Dev nD) (t : Fin (cfgM m hO).N) (hw : (ms0_6 m hO t).IsWhole) (i : S1x128x352.Idx) (j : S2x1024x352.Idx)
    (h : ∀ a, off t.val a.val + (i a).val = (j a).val) : View.read (Elt Ideal) (ms0_6 m hO t).view (hw.unread (iblk m hO c 6 t)) i
      = m ((c : Thread nD τ).loc main_arg7) j := by
  exact (congrFun (hw.read_unread _) i).trans (congrArg (m ((c : Thread nD τ).loc main_arg7))
    (funext fun a => Fin.ext ((emb_at m hO t 6 (by decide) i a).trans (h a))))

/-- The reference's start index is the number itself. -/
theorem start_eq (hn : (number m).toNat ≤ 7) (i : Cert.GateStepRefIdeal.S1x1.Idx) :
    val_main_v7 (F := Ideal) (m (((0 : Dev nD) : Thread nD τ).loc main_arg0)) i = number m := by
  rw [val_main_v7_apply, val_main_v6_apply, val_main_v3_apply, val_main_v2_apply]
  have h : m (((0 : Dev nD) : Thread nD τ).loc main_arg0) (idx_main_v7 i) = number m :=
    congrArg (m (((0 : Dev nD) : Thread nD τ).loc main_arg0)) (one_idx _ _)
  rw [h]
  show Scalar.select (IntOp.cmpi .slt (number m) 0#32) _ _ = _
  rw [(signed _ hn).1]
  rfl

/-- Where an element of the shard lies in a layer's padded gradients: the gate's plane, and the same row and column. -/
abbrev place {N : Nat} (n : Fin N) (e : Cert.GateStepRefIdeal.S1x1024x352.Idx) : (⟨4, ![N, 2, 1024, 384]⟩ : Shape).Idx :=
  ix4 n (0 : Fin 2) (e 1 : Fin 1024) (⟨(e 2).val, Nat.lt_trans (show (e 2).val < 352 from (e 2).isLt) (by decide)⟩ : Fin 384)

/-- The reference's sum of one layer's gradients at one element. -/
theorem sum_at (hn : (number m).toNat ≤ 7) (land : (⟨S7x2x1024x384, .f32⟩ : BufTy).Contents (Elt Ideal))
    (own : (⟨S8x2x1024x384, .f32⟩ : BufTy).Contents (Elt Ideal)) (e : Cert.GateStepRefIdeal.S1x1024x352.Idx) :
    val_main_v13 (F := Ideal) (m (((0 : Dev nD) : Thread nD τ).loc main_arg0)) land own e
      = FloatOps.addf (F := Ideal) (φ := .f32) (own (place (⟨(number m).toNat, by omega⟩ : Fin 8) e))
        (∑ k : Fin 7, land (place k e)) := by
  have h1 : (e 1).val < 1024 := (e 1).isLt
  have h2 : (e 2).val < 352 := (e 2).isLt
  rw [val_main_v13_apply, val_main_v12_apply, val_main_v11_apply, val_main_cst_apply, zero_bits, zero_add]
  refine congrArg₂ (FloatOps.addf (F := Ideal) (φ := .f32)) ((gather_row _ _ _ (number m) (start_eq m hn) hn e
    (ix3 (⟨(number m).toNat, by omega⟩ : Fin 8) (e 1 : Fin 1024) (e 2 : Fin 352)) rfl rfl rfl).trans ?_)
    (Finset.sum_congr rfl fun k _ => ?_)
  · rw [val_main_v1_apply, val_main_v0_apply]
    refine congrArg own (funext fun a => Fin.ext ?_)
    fin_cases a
    · exact (show (((number m).toNat * 1024 + (e 1).val) * 352 + (e 2).val) / 360448 = (number m).toNat by omega)
    · rfl
    · exact (show (((number m).toNat * 1024 + (e 1).val) * 352 + (e 2).val) / 352 % 1024 = (e 1).val by omega)
    · exact (show (((number m).toNat * 1024 + (e 1).val) * 352 + (e 2).val) % 352 = (e 2).val by omega)
  · rw [val_main_v10_apply, val_main_v9_apply]
    refine congrArg land (funext fun a => Fin.ext ?_)
    have hk : k.val < 7 := k.isLt
    fin_cases a
    · exact (show ((k.val * 1024 + (e 1).val) * 352 + (e 2).val) / 360448 = k.val by omega)
    · rfl
    · exact (show ((k.val * 1024 + (e 1).val) * 352 + (e 2).val) / 352 % 1024 = (e 1).val by omega)
    · exact (show ((k.val * 1024 + (e 1).val) * 352 + (e 2).val) % 352 = (e 2).val by omega)

/-- The sum of the eight devices' gradients at one element, of the layer the point is in, is the reference's. -/
theorem grad_at (hn : (number m).toNat ≤ 7) (c : Dev nD) (t : Fin (cfgM m hO).N) (w0 : (ms0_0 m hO t).IsWhole) (w1 : (ms0_1 m hO t).IsWhole)
    (w2 : (ms0_2 m hO t).IsWhole) (w3 : (ms0_3 m hO t).IsWhole) (a : Fin 128) (b : Fin 384) (e : S2x1024x352.Idx)
    (h0 : t.val / 8 = (e 0).val) (ha : t.val % 8 * 128 + a.val = (e 1).val) (hb : b.val = (e 2).val) :
    let L0 := fun k : Fin 7 => View.read (Elt Ideal) (ms0_0 m hO t).view (w0.unread (iblk m hO c 0 t)) (ix4 k (0 : Fin 1) a b)
    let L1 := fun k : Fin 7 => View.read (Elt Ideal) (ms0_1 m hO t).view (w1.unread (iblk m hO c 1 t)) (ix4 k (0 : Fin 1) a b)
    Scalar.select (Scalar.cmpi .eq (BitVec.ofNat 32 (grid0.coords t 0).val) 0#32)
      (View.read (Elt Ideal) (ms0_2 m hO t).view (w2.unread (iblk m hO c 2 t)) (ix4 (0 : Fin 1) (0 : Fin 1) a b)
        + L0 0 + L0 1 + L0 2 + L0 3 + L0 4 + L0 5 + L0 6)
      (View.read (Elt Ideal) (ms0_3 m hO t).view (w3.unread (iblk m hO c 3 t)) (ix4 (0 : Fin 1) (0 : Fin 1) a b)
        + L1 0 + L1 1 + L1 2 + L1 3 + L1 4 + L1 5 + L1 6)
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) e := by
  intro L0 L1
  obtain rfl : c = 0 := Subsingleton.elim _ _
  let e' : Cert.GateStepRefIdeal.S1x1024x352.Idx := ix3 (0 : Fin 1) (e 1 : Fin 1024) (e 2 : Fin 352)
  by_cases ht : t.val / 8 = 0
  · rw [(by decide +kernel : ∀ t : Fin grid0.N, t.val / 8 = 0 → Scalar.cmpi .eq (BitVec.ofNat 32 (grid0.coords t 0).val) 0#32 = 1#1) t ht]
    refine Eq.trans ?_ ((concatenate_pair_apply_left (t := S2x1024x352) (s₁ := Cert.GateStepRefIdeal.S1x1024x352) (s₂ := Cert.GateStepRefIdeal.S1x1024x352) 0 _ _ _ e rfl e' fun
      | ⟨0, _⟩ => ht.symm.trans h0
      | ⟨1, _⟩ => rfl
      | ⟨2, _⟩ => rfl).trans (sum_at m hn _ _ e')).symm
    rw [Fin.sum_univ_seven]
    rw [pick_one]
    refine Eq.trans ?_ (congrArg₂ (· + ·) (read_own0 m hO 0 t ht w2 (ix4 (0 : Fin 1) (0 : Fin 1) a b) _ rfl rfl ha hb) rfl)
    simp only [add_assoc]
    congr 1
    congr 6 <;> exact read_land0 m hO 0 t ht w0 (ix4 _ (0 : Fin 1) a b) (place _ e') rfl rfl ha hb
  · have h1 : (e 0).val < 2 := (e 0).isLt
    rw [(by decide +kernel : ∀ t : Fin grid0.N, t.val / 8 ≠ 0 → Scalar.cmpi .eq (BitVec.ofNat 32 (grid0.coords t 0).val) 0#32 = 0#1) t ht]
    refine Eq.trans ?_ ((concatenate_pair_apply_right (t := S2x1024x352) (s₁ := Cert.GateStepRefIdeal.S1x1024x352) (s₂ := Cert.GateStepRefIdeal.S1x1024x352) 0 _ _ _ e rfl rfl e' (fun
      | ⟨0, _⟩, hne => absurd rfl hne
      | ⟨1, _⟩, _ => rfl
      | ⟨2, _⟩, _ => rfl) (show 0 + 1 = (e 0).val by omega)).trans (sum_at m hn _ _ e')).symm
    rw [Fin.sum_univ_seven]
    rw [pick_zero]
    refine Eq.trans ?_ (congrArg₂ (· + ·) (read_own1 m hO 0 t ht w3 (ix4 (0 : Fin 1) (0 : Fin 1) a b) _ rfl rfl ha hb) rfl)
    simp only [add_assoc]
    congr 1
    congr 6 <;> exact read_land1 m hO 0 t ht w1 (ix4 _ (0 : Fin 1) a b) (place _ e') rfl rfl ha hb

/-- The gradient after the run is the reference's. -/
theorem final_grad (hn : (number m).toNat ≤ 7) (c : Dev nD) : (dats m hO 0 c).arrAt 7 (cfgM m hO).N
    = val_main_v28 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m hO 0 c).arrAt_eq_of_covers 7 _ (by decide +kernel : ((cfg0 at0).win 7).Covers) fun t _ y => ?_
  blk_simp
  rw [after0_7, outsAt0]
  frame_out
  pointwise [k0_pay11, k0_pay8, k0_pay7, k0_pay6, k0_pay5, k0_pay4]
  exact (grad_at m hO hn c t _ _ _ _ _ _ _ ((emb_at m hO t 7 (by decide) y 0).trans (first0 _ _)).symm
      (emb_at m hO t 7 (by decide) y 1).symm ((Nat.zero_add _).symm.trans (emb_at m hO t 7 (by decide) y 2).symm))

/-- The new first moment after the run is the reference's. -/
theorem final_m (hn : (number m).toNat ≤ 7) (c : Dev nD) : (dats m hO 0 c).arrAt 9 (cfgM m hO).N
    = val_main_v33 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)) := by
  refine (dats m hO 0 c).arrAt_eq_of_covers 9 _ (by decide +kernel : ((cfg0 at0).win 9).Covers) fun t _ y => ?_
  blk_simp
  rw [after0_9, outsAt0]
  frame_out
  pointwise [k0_pay2, k0_pay9, k0_pay8, k0_pay7, k0_pay6, k0_pay5, k0_pay4]
  exact congrArg₂ newM (grad_at m hO hn c t _ _ _ _ _ _ _ ((emb_at m hO t 9 (by decide) y 0).trans (first0 _ _)).symm
      (emb_at m hO t 9 (by decide) y 1).symm ((Nat.zero_add _).symm.trans (emb_at m hO t 9 (by decide) y 2).symm))
    (read_m m hO c t _ _ _ fun a => (emb_at m hO t 9 (by decide) y a).symm)

/-- The new second moment after the run is the reference's. -/
theorem final_v (hn : (number m).toNat ≤ 7) (c : Dev nD) : (dats m hO 0 c).arrAt 10 (cfgM m hO).N
    = val_main_v39 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg7)) := by
  refine (dats m hO 0 c).arrAt_eq_of_covers 10 _ (by decide +kernel : ((cfg0 at0).win 10).Covers) fun t _ y => ?_
  blk_simp
  rw [after0_10, outsAt0]
  frame_out
  pointwise [k0_pay3, k0_pay10, k0_pay8, k0_pay7, k0_pay6, k0_pay5, k0_pay4]
  exact congrArg₂ newV (grad_at m hO hn c t _ _ _ _ _ _ _ ((emb_at m hO t 10 (by decide) y 0).trans (first0 _ _)).symm
      (emb_at m hO t 10 (by decide) y 1).symm ((Nat.zero_add _).symm.trans (emb_at m hO t 10 (by decide) y 2).symm))
    (read_v m hO c t _ _ _ fun a => (emb_at m hO t 10 (by decide) y a).symm)

/-- The weight's change after the run is the reference's. -/
theorem final_delta (hn : (number m).toNat ≤ 7) (c : Dev nD) : (dats m hO 0 c).arrAt 8 (cfgM m hO).N
    = val_main_v52 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m hO 0 c).arrAt_eq_of_covers 8 _ (by decide +kernel : ((cfg0 at0).win 8).Covers) fun t _ y => ?_
  blk_simp
  rw [after0_8, outsAt0]
  frame_out
  pointwise [k0_pay1, k0_pay12, k0_pay10, k0_pay9, k0_pay8, k0_pay7, k0_pay6, k0_pay5, k0_pay4]
  exact delta_congr (grad_at m hO hn c t _ _ _ _ _ _ _ ((emb_at m hO t 8 (by decide) y 0).trans (first0 _ _)).symm
      (emb_at m hO t 8 (by decide) y 1).symm ((Nat.zero_add _).symm.trans (emb_at m hO t 8 (by decide) y 2).symm))
    (read_w m hO c t _ _ _ fun a => (emb_at m hO t 8 (by decide) y a).symm)
    (read_m m hO c t _ _ _ fun a => (emb_at m hO t 8 (by decide) y a).symm)
    (read_v m hO c t _ _ _ fun a => (emb_at m hO t 8 (by decide) y a).symm)

include hO in
/-- From any memory with zero counters and a number in range every weakly fair execution ends with the gradient, the change
    and the two moments at the reference's terms of the arguments, and the arguments unchanged. -/
theorem run (hn : (number m).toNat ≤ 7) (ρ : Dev nD → PrngReg) :
    θ_run defs (onTc (τ := τ) (main (F := Ideal))) ⟨m, fun _ => 0, ρ⟩ fun r => ∀ c : Dev nD,
    r.2.mem ((c.tc : Thread nD τ).loc main_v4_0) = val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
    ∧ r.2.mem ((c.tc : Thread nD τ).loc main_v4_1) = val_main_v52 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_v4_2) = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6))
    ∧ r.2.mem ((c.tc : Thread nD τ).loc main_v4_3) = val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono (fun r h c => ?_) (θ_run_and (run_main m ρ hO) (unchanged m ρ hO))
  exact ⟨((h.1 c).1 7).trans (final_grad m hO hn c), ((h.1 c).1 8).trans (final_delta m hO hn c),
    ((h.1 c).1 9).trans (final_m m hO hn c), ((h.1 c).1 10).trans (final_v m hO hn c), h.2 c⟩

end Cert.Proof.GateStep

end
-- ==== Proof.Steps.Up.lean ====
/- The optimiser's step on the feed-forward layers' up projection, read over the extended reals: in each of the two layers the sum
   of this device's gradient with the seven others' and the formula at one element are the reference's. -/
module

public import proofs.«01_k».proof.Proof.Gen.UpStep.Frame
public import proofs.«01_k».proof.Proof.Gen.UpStepIdeal.Frame
public import proofs.«01_k».proof.Proof.Gen.UpStepRefIdeal.Read
public import proofs.«01_k».proof.Proof.Steps.Update
public import proofs.«01_k».proof.Proof.Steps.Number
public import proofs.«01_k».proof.Defs
public import Idealize.ShloMosaic.Lib.Pipeline.Value
public import Idealize.ShloMosaic.Lib.Pipeline.ValueKit

@[expose] public section

set_option maxRecDepth 16384

noncomputable section

namespace Cert.Proof.UpStep

open Idealize.ShloMosaic Idealize.ShloMosaic.TcCoe Idealize.SL.Sem
open Cert.UpStepIdeal Cert.UpStepIdeal.Gen Cert.UpStepRefIdeal.Read Cert.Proof.Update Cert.Proof.Number

/-- A table of one entry. -/
abbrev table {F : FTy → Type} (v : BitVec 32) : pre0.Contents (Elt F) := fun | 0 => fun _ => v

/-- Of a number in range every block lies in its array. -/
theorem ok_table : ∀ k : Fin 8, ok0 (F := Ideal) (table (BitVec.ofNat 32 k.val)) := by decide +kernel

/-- Of any number in range every block lies in its array. -/
theorem ok_number (v : BitVec 32) (hv : v.toNat ≤ 7) : ok0 (F := Ideal) (table v) := by
  have h := ok_table ⟨v.toNat, by omega⟩
  rwa [BitVec.ofNat_toNat, BitVec.setWidth_eq] at h

/-- The kernel's own blocks lie in the arrays wherever its idealization's do. -/
theorem ok_bits (m : (ℓ : Loc nD τ sig) → Buf (Elt Bits) ℓ)
    (hv : BitVec.toNat (m (((0 : Dev nD) : Thread nD τ).loc main_arg0) (ix1 (0 : Fin 1))) ≤ 7) : Cert.UpStep.Gen.Ok m := by
  have ht : Cert.UpStep.Gen.tbl m = table (m (((0 : Dev nD) : Thread nD τ).loc main_arg0) (ix1 (0 : Fin 1))) := by
    funext j
    obtain rfl : j = 0 := Subsingleton.elim _ _
    funext i
    exact (congrFun (Cert.UpStep.Gen.V_main_arg0 m 0) i).trans
      (congrArg (m (((0 : Dev nD) : Thread nD τ).loc main_arg0)) (one_idx _ _))
  show Cert.UpStep.ok0 _
  rw [ht]
  exact ok_number _ hv

variable (m : (ℓ : Loc nD τ sig) → Buf (Elt Ideal) ℓ)

/-- The device's number. -/
def number : BitVec 32 := m (((0 : Dev nD) : Thread nD τ).loc main_arg0) (ix1 (0 : Fin 1))

/-- The table holds the number alone. -/
theorem tbl_eq : tbl m = table (number m) := by
  funext j
  obtain rfl : j = 0 := Subsingleton.elim _ _
  funext i
  exact (congrFun (V_main_arg0 m 0) i).trans (congrArg (m (((0 : Dev nD) : Thread nD τ).loc main_arg0)) (one_idx _ _))

/-- The blocks lie in the arrays when the number is in range. -/
theorem ok_of_number (h : (number m).toNat ≤ 7) : Ok m := by
  show ok0 _
  rw [tbl_eq]
  exact ok_number _ h

/-- The precondition puts the number in range. -/
theorem number_of_pre [Cert.Pre_numbered_ffn.Facts] (h : Cert.Pre_UpStepIdeal m) : (number m).toNat ≤ 7 := by
  exact le_seven _ (congrFun (h 0) (ix1 (0 : Fin 1)))

/-- The blocks lie in the arrays under the precondition, -/
theorem okIdeal [Cert.Pre_numbered_ffn.Facts] (h : Cert.Pre_UpStepIdeal m) : Ok m := ok_of_number m (number_of_pre m h)

/-- and the kernel's own too. -/
theorem ok [Cert.Pre_numbered_ffn.Facts] (m : (ℓ : Loc nD τ sig) → Buf (Elt Bits) ℓ) (h : Cert.Pre_UpStep m) : Cert.UpStep.Gen.Ok m :=
  ok_bits m (le_seven _ (congrFun (h 0) (ix1 (0 : Fin 1))))

variable (hO : Ok m)

/-- The number 0, of which every window but the own gradients' has the same blocks. -/
abbrev at0 : (pcfg0 (F := Ideal)).Adm := ⟨table 0#32, ok_number _ (by decide)⟩

/-- How far into its array a block of the weight begins: a layer for eight points, `128` rows a point within it. -/
abbrev off (t a : ℕ) : ℕ := if a = 0 then t / 8 else if a = 1 then t % 8 * 128 else 0

/-- The weight's windows, the moments' and the outputs' go over the rows of the one layer and then of the other. -/
theorem idx (t : Fin (cfgM m hO).N) (w : Fin 11) (hw : 4 ≤ w.val) (a : Fin ((cfgM m hO).win w).shape.rank) :
    ((cfgM m hO).win w).index t a * ((cfgM m hO).win w).size a = off t.val a.val := by
  have h : ∀ (t : Fin (cfg0 at0).N) (w : Fin 11), 4 ≤ w.val → ∀ a : Fin ((cfg0 at0).win w).shape.rank,
      ((cfg0 at0).win w).index t a * ((cfg0 at0).win w).size a = off t.val a.val := by decide +kernel
  have h' := h t w hw
  fin_cases w <;> first | exact h' a | exact absurd hw (by decide)

/-- Where an element of a block of the weight lies in the array. -/
theorem emb_at (t : Fin (cfgM m hO).N) (w : Fin 11) (hw : 4 ≤ w.val) (y : (((cfgM m hO).win w).xblock ((cfgM m hO).grid.coords t)).Idx)
    (a : Fin ((cfgM m hO).win w).shape.rank) : ((((cfgM m hO).win w).rect t).emb y a : ℕ) = off t.val a.val + (y a).val := by
  have hk : ((cfgM m hO).win w).kind = .blocked := by fin_cases w <;> rfl
  rw [((cfgM m hO).win w).rect_emb_val t y a hk, idx m hO t w hw a]

/-- In the first layer's points the other devices' gradients of that layer move along the rows, -/
theorem idx_land0 (t : Fin (cfgM m hO).N) (ht : t.val / 8 = 0) : ((cfgM m hO).win 0).index t = ![0, 1, t.val % 8, 0] :=
  (by decide +kernel : ∀ t : Fin (cfg0 at0).N, t.val / 8 = 0 → ((cfg0 at0).win 0).index t = ![0, 1, t.val % 8, 0]) t ht

/-- and so does the own gradient of that layer, in the row of the device's number. -/
theorem idx_own0 (t : Fin (cfgM m hO).N) (ht : t.val / 8 = 0) : ((cfgM m hO).win 2).index t = ![(number m).toNat, 1, t.val % 8, 0] := by
  show cc0_transform_2 _ _ (tbl m) (grid0.coords t) = _
  rw [tbl_eq]
  have h : ∀ t : Fin grid0.N, t.val / 8 = 0 → (Scalar.select (Scalar.cmpi .eq (BitVec.ofNat 32 (grid0.coords t 0).val) 0#32)
      (BitVec.ofNat 32 (grid0.coords t 1).val) 7#32).toNat = t.val % 8 := by decide +kernel
  show ![(number m).toNat, 1, (Scalar.select (Scalar.cmpi .eq (BitVec.ofNat 32 (grid0.coords t 0).val) 0#32)
      (BitVec.ofNat 32 (grid0.coords t 1).val) 7#32).toNat, 0] = _
  rw [h t ht]

/-- An element of the other devices' gradients of the first layer, read in its block, is the argument's. -/
theorem read_land0 (c : Dev nD) (t : Fin (cfgM m hO).N) (ht : t.val / 8 = 0) (hw : (ms0_0 m hO t).IsWhole) (i : S7x1x128x384.Idx) (j : S7x2x1024x384.Idx)
    (h0 : (i 0).val = (j 0).val) (h1 : 1 = (j 1).val) (h2 : t.val % 8 * 128 + (i 2).val = (j 2).val) (h3 : (i 3).val = (j 3).val) :
    View.read (Elt Ideal) (ms0_0 m hO t).view (hw.unread (iblk m hO c 0 t)) i = m ((c : Thread nD τ).loc main_arg1) j := by
  refine (congrFun (hw.read_unread _) i).trans ?_
  show m ((c : Thread nD τ).loc main_arg1) ((((cfgM m hO).win 0).blk t).view.emb i) = _
  refine congrArg _ (funext fun a => Fin.ext ((((cfgM m hO).win 0).rect_emb_val t i a).trans ?_))
  rw [idx_land0 m hO t ht]
  have hi : (i 1).val = 0 := Nat.lt_one_iff.mp (i 1).isLt
  fin_cases a
  · exact (show 0 * 7 + (i 0).val = (j 0).val by omega)
  · exact (show 1 * 1 + (i 1).val = (j 1).val by omega)
  · exact h2
  · exact (show 0 * 384 + (i 3).val = (j 3).val by omega)

/-- An element of the own gradient of the first layer, read in its block, is the argument's in the row of the device's number. -/
theorem read_own0 (c : Dev nD) (t : Fin (cfgM m hO).N) (ht : t.val / 8 = 0) (hw : (ms0_2 m hO t).IsWhole) (i : S1x1x128x384.Idx) (j : S8x2x1024x384.Idx)
    (h0 : (number m).toNat = (j 0).val) (h1 : 1 = (j 1).val) (h2 : t.val % 8 * 128 + (i 2).val = (j 2).val) (h3 : (i 3).val = (j 3).val) :
    View.read (Elt Ideal) (ms0_2 m hO t).view (hw.unread (iblk m hO c 2 t)) i = m ((c : Thread nD τ).loc main_arg3) j := by
  refine (congrFun (hw.read_unread _) i).trans ?_
  show m ((c : Thread nD τ).loc main_arg3) ((((cfgM m hO).win 2).blk t).view.emb i) = _
  refine congrArg _ (funext fun a => Fin.ext ((((cfgM m hO).win 2).rect_emb_val t i a).trans ?_))
  rw [idx_own0 m hO t ht]
  have hi : (i 1).val = 0 := Nat.lt_one_iff.mp (i 1).isLt
  have hj : (i 0).val = 0 := Nat.lt_one_iff.mp (i 0).isLt
  fin_cases a
  · exact (show (number m).toNat * 1 + (i 0).val = (j 0).val by omega)
  · exact (show 1 * 1 + (i 1).val = (j 1).val by omega)
  · exact h2
  · exact (show 0 * 384 + (i 3).val = (j 3).val by omega)

/-- In the second layer's points the other devices' gradients of that layer move along the rows, -/
theorem idx_land1 (t : Fin (cfgM m hO).N) (ht : t.val / 8 ≠ 0) : ((cfgM m hO).win 1).index t = ![0, 1, t.val % 8, 0] :=
  (by decide +kernel : ∀ t : Fin (cfg0 at0).N, t.val / 8 ≠ 0 → ((cfg0 at0).win 1).index t = ![0, 1, t.val % 8, 0]) t ht

/-- and so does the own gradient of that layer, in the row of the device's number. -/
theorem idx_own1 (t : Fin (cfgM m hO).N) (ht : t.val / 8 ≠ 0) : ((cfgM m hO).win 3).index t = ![(number m).toNat, 1, t.val % 8, 0] := by
  show cc0_transform_3 _ _ (tbl m) (grid0.coords t) = _
  rw [tbl_eq]
  have h : ∀ t : Fin grid0.N, t.val / 8 ≠ 0 → (Scalar.select (Scalar.cmpi .eq (BitVec.ofNat 32 (grid0.coords t 0).val) 0#32)
      0#32 (BitVec.ofNat 32 (grid0.coords t 1).val)).toNat = t.val % 8 := by decide +kernel
  show ![(number m).toNat, 1, (Scalar.select (Scalar.cmpi .eq (BitVec.ofNat 32 (grid0.coords t 0).val) 0#32)
      0#32 (BitVec.ofNat 32 (grid0.coords t 1).val)).toNat, 0] = _
  rw [h t ht]

/-- An element of the other devices' gradients of the second layer, read in its block, is the argument's. -/
theorem read_land1 (c : Dev nD) (t : Fin (cfgM m hO).N) (ht : t.val / 8 ≠ 0) (hw : (ms0_1 m hO t).IsWhole) (i : S7x1x128x384.Idx) (j : S7x2x1024x384.Idx)
    (h0 : (i 0).val = (j 0).val) (h1 : 1 = (j 1).val) (h2 : t.val % 8 * 128 + (i 2).val = (j 2).val) (h3 : (i 3).val = (j 3).val) :
    View.read (Elt Ideal) (ms0_1 m hO t).view (hw.unread (iblk m hO c 1 t)) i = m ((c : Thread nD τ).loc main_arg2) j := by
  refine (congrFun (hw.read_unread _) i).trans ?_
  show m ((c : Thread nD τ).loc main_arg2) ((((cfgM m hO).win 1).blk t).view.emb i) = _
  refine congrArg _ (funext fun a => Fin.ext ((((cfgM m hO).win 1).rect_emb_val t i a).trans ?_))
  rw [idx_land1 m hO t ht]
  have hi : (i 1).val = 0 := Nat.lt_one_iff.mp (i 1).isLt
  fin_cases a
  · exact (show 0 * 7 + (i 0).val = (j 0).val by omega)
  · exact (show 1 * 1 + (i 1).val = (j 1).val by omega)
  · exact h2
  · exact (show 0 * 384 + (i 3).val = (j 3).val by omega)

/-- An element of the own gradient of the second layer, read in its block, is the argument's in the row of the device's number. -/
theorem read_own1 (c : Dev nD) (t : Fin (cfgM m hO).N) (ht : t.val / 8 ≠ 0) (hw : (ms0_3 m hO t).IsWhole) (i : S1x1x128x384.Idx) (j : S8x2x1024x384.Idx)
    (h0 : (number m).toNat = (j 0).val) (h1 : 1 = (j 1).val) (h2 : t.val % 8 * 128 + (i 2).val = (j 2).val) (h3 : (i 3).val = (j 3).val) :
    View.read (Elt Ideal) (ms0_3 m hO t).view (hw.unread (iblk m hO c 3 t)) i = m ((c : Thread nD τ).loc main_arg4) j := by
  refine (congrFun (hw.read_unread _) i).trans ?_
  show m ((c : Thread nD τ).loc main_arg4) ((((cfgM m hO).win 3).blk t).view.emb i) = _
  refine congrArg _ (funext fun a => Fin.ext ((((cfgM m hO).win 3).rect_emb_val t i a).trans ?_))
  rw [idx_own1 m hO t ht]
  have hi : (i 1).val = 0 := Nat.lt_one_iff.mp (i 1).isLt
  have hj : (i 0).val = 0 := Nat.lt_one_iff.mp (i 0).isLt
  fin_cases a
  · exact (show (number m).toNat * 1 + (i 0).val = (j 0).val by omega)
  · exact (show 1 * 1 + (i 1).val = (j 1).val by omega)
  · exact h2
  · exact (show 0 * 384 + (i 3).val = (j 3).val by omega)

/-- An element of the weight, read in its block. -/
theorem read_w (c : Dev nD) (t : Fin (cfgM m hO).N) (hw : (ms0_4 m hO t).IsWhole) (i : S1x128x352.Idx) (j : S2x1024x352.Idx)
    (h : ∀ a, off t.val a.val + (i a).val = (j a).val) : View.read (Elt Ideal) (ms0_4 m hO t).view (hw.unread (iblk m hO c 4 t)) i
      = m ((c : Thread nD τ).loc main_arg5) j := by
  exact (congrFun (hw.read_unread _) i).trans (congrArg (m ((c : Thread nD τ).loc main_arg5))
    (funext fun a => Fin.ext ((emb_at m hO t 4 (by decide) i a).trans (h a))))

/-- An element of the first moment, read in its block. -/
theorem read_m (c : Dev nD) (t : Fin (cfgM m hO).N) (hw : (ms0_5 m hO t).IsWhole) (i : S1x128x352.Idx) (j : S2x1024x352.Idx)
    (h : ∀ a, off t.val a.val + (i a).val = (j a).val) : View.read (Elt Ideal) (ms0_5 m hO t).view (hw.unread (iblk m hO c 5 t)) i
      = m ((c : Thread nD τ).loc main_arg6) j := by
  exact (congrFun (hw.read_unread _) i).trans (congrArg (m ((c : Thread nD τ).loc main_arg6))
    (funext fun a => Fin.ext ((emb_at m hO t 5 (by decide) i a).trans (h a))))

/-- An element of the second moment, read in its block. -/
theorem read_v (c : Dev nD) (t : Fin (cfgM m hO).N) (hw : (ms0_6 m hO t).IsWhole) (i : S1x128x352.Idx) (j : S2x1024x352.Idx)
    (h : ∀ a, off t.val a.val + (i a).val = (j a).val) : View.read (Elt Ideal) (ms0_6 m hO t).view (hw.unread (iblk m hO c 6 t)) i
      = m ((c : Thread nD τ).loc main_arg7) j := by
  exact (congrFun (hw.read_unread _) i).trans (congrArg (m ((c : Thread nD τ).loc main_arg7))
    (funext fun a => Fin.ext ((emb_at m hO t 6 (by decide) i a).trans (h a))))

/-- The reference's start index is the number itself. -/
theorem start_eq (hn : (number m).toNat ≤ 7) (i : Cert.UpStepRefIdeal.S1x1.Idx) :
    val_main_v7 (F := Ideal) (m (((0 : Dev nD) : Thread nD τ).loc main_arg0)) i = number m := by
  rw [val_main_v7_apply, val_main_v6_apply, val_main_v3_apply, val_main_v2_apply]
  have h : m (((0 : Dev nD) : Thread nD τ).loc main_arg0) (idx_main_v7 i) = number m :=
    congrArg (m (((0 : Dev nD) : Thread nD τ).loc main_arg0)) (one_idx _ _)
  rw [h]
  show Scalar.select (IntOp.cmpi .slt (number m) 0#32) _ _ = _
  rw [(signed _ hn).1]
  rfl

/-- Where an element of the shard lies in a layer's padded gradients: the up projection's plane, and the same row and column. -/
abbrev place {N : Nat} (n : Fin N) (e : Cert.UpStepRefIdeal.S1x1024x352.Idx) : (⟨4, ![N, 2, 1024, 384]⟩ : Shape).Idx :=
  ix4 n (1 : Fin 2) (e 1 : Fin 1024) (⟨(e 2).val, Nat.lt_trans (show (e 2).val < 352 from (e 2).isLt) (by decide)⟩ : Fin 384)

/-- The reference's sum of one layer's gradients at one element. -/
theorem sum_at (hn : (number m).toNat ≤ 7) (land : (⟨S7x2x1024x384, .f32⟩ : BufTy).Contents (Elt Ideal))
    (own : (⟨S8x2x1024x384, .f32⟩ : BufTy).Contents (Elt Ideal)) (e : Cert.UpStepRefIdeal.S1x1024x352.Idx) :
    val_main_v13 (F := Ideal) (m (((0 : Dev nD) : Thread nD τ).loc main_arg0)) land own e
      = FloatOps.addf (F := Ideal) (φ := .f32) (own (place (⟨(number m).toNat, by omega⟩ : Fin 8) e))
        (∑ k : Fin 7, land (place k e)) := by
  have h1 : (e 1).val < 1024 := (e 1).isLt
  have h2 : (e 2).val < 352 := (e 2).isLt
  rw [val_main_v13_apply, val_main_v12_apply, val_main_v11_apply, val_main_cst_apply, zero_bits, zero_add]
  refine congrArg₂ (FloatOps.addf (F := Ideal) (φ := .f32)) ((gather_row _ _ _ (number m) (start_eq m hn) hn e
    (ix3 (⟨(number m).toNat, by omega⟩ : Fin 8) (e 1 : Fin 1024) (e 2 : Fin 352)) rfl rfl rfl).trans ?_)
    (Finset.sum_congr rfl fun k _ => ?_)
  · rw [val_main_v1_apply, val_main_v0_apply]
    refine congrArg own (funext fun a => Fin.ext ?_)
    fin_cases a
    · exact (show (((number m).toNat * 1024 + (e 1).val) * 352 + (e 2).val) / 360448 = (number m).toNat by omega)
    · rfl
    · exact (show (((number m).toNat * 1024 + (e 1).val) * 352 + (e 2).val) / 352 % 1024 = (e 1).val by omega)
    · exact (show (((number m).toNat * 1024 + (e 1).val) * 352 + (e 2).val) % 352 = (e 2).val by omega)
  · rw [val_main_v10_apply, val_main_v9_apply]
    refine congrArg land (funext fun a => Fin.ext ?_)
    have hk : k.val < 7 := k.isLt
    fin_cases a
    · exact (show ((k.val * 1024 + (e 1).val) * 352 + (e 2).val) / 360448 = k.val by omega)
    · rfl
    · exact (show ((k.val * 1024 + (e 1).val) * 352 + (e 2).val) / 352 % 1024 = (e 1).val by omega)
    · exact (show ((k.val * 1024 + (e 1).val) * 352 + (e 2).val) % 352 = (e 2).val by omega)

/-- The sum of the eight devices' gradients at one element, of the layer the point is in, is the reference's. -/
theorem grad_at (hn : (number m).toNat ≤ 7) (c : Dev nD) (t : Fin (cfgM m hO).N) (w0 : (ms0_0 m hO t).IsWhole) (w1 : (ms0_1 m hO t).IsWhole)
    (w2 : (ms0_2 m hO t).IsWhole) (w3 : (ms0_3 m hO t).IsWhole) (a : Fin 128) (b : Fin 384) (e : S2x1024x352.Idx)
    (h0 : t.val / 8 = (e 0).val) (ha : t.val % 8 * 128 + a.val = (e 1).val) (hb : b.val = (e 2).val) :
    let L0 := fun k : Fin 7 => View.read (Elt Ideal) (ms0_0 m hO t).view (w0.unread (iblk m hO c 0 t)) (ix4 k (0 : Fin 1) a b)
    let L1 := fun k : Fin 7 => View.read (Elt Ideal) (ms0_1 m hO t).view (w1.unread (iblk m hO c 1 t)) (ix4 k (0 : Fin 1) a b)
    Scalar.select (Scalar.cmpi .eq (BitVec.ofNat 32 (grid0.coords t 0).val) 0#32)
      (View.read (Elt Ideal) (ms0_2 m hO t).view (w2.unread (iblk m hO c 2 t)) (ix4 (0 : Fin 1) (0 : Fin 1) a b)
        + L0 0 + L0 1 + L0 2 + L0 3 + L0 4 + L0 5 + L0 6)
      (View.read (Elt Ideal) (ms0_3 m hO t).view (w3.unread (iblk m hO c 3 t)) (ix4 (0 : Fin 1) (0 : Fin 1) a b)
        + L1 0 + L1 1 + L1 2 + L1 3 + L1 4 + L1 5 + L1 6)
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) e := by
  intro L0 L1
  obtain rfl : c = 0 := Subsingleton.elim _ _
  let e' : Cert.UpStepRefIdeal.S1x1024x352.Idx := ix3 (0 : Fin 1) (e 1 : Fin 1024) (e 2 : Fin 352)
  by_cases ht : t.val / 8 = 0
  · rw [(by decide +kernel : ∀ t : Fin grid0.N, t.val / 8 = 0 → Scalar.cmpi .eq (BitVec.ofNat 32 (grid0.coords t 0).val) 0#32 = 1#1) t ht]
    refine Eq.trans ?_ ((concatenate_pair_apply_left (t := S2x1024x352) (s₁ := Cert.UpStepRefIdeal.S1x1024x352) (s₂ := Cert.UpStepRefIdeal.S1x1024x352) 0 _ _ _ e rfl e' fun
      | ⟨0, _⟩ => ht.symm.trans h0
      | ⟨1, _⟩ => rfl
      | ⟨2, _⟩ => rfl).trans (sum_at m hn _ _ e')).symm
    rw [Fin.sum_univ_seven]
    rw [pick_one]
    refine Eq.trans ?_ (congrArg₂ (· + ·) (read_own0 m hO 0 t ht w2 (ix4 (0 : Fin 1) (0 : Fin 1) a b) _ rfl rfl ha hb) rfl)
    simp only [add_assoc]
    congr 1
    congr 6 <;> exact read_land0 m hO 0 t ht w0 (ix4 _ (0 : Fin 1) a b) (place _ e') rfl rfl ha hb
  · have h1 : (e 0).val < 2 := (e 0).isLt
    rw [(by decide +kernel : ∀ t : Fin grid0.N, t.val / 8 ≠ 0 → Scalar.cmpi .eq (BitVec.ofNat 32 (grid0.coords t 0).val) 0#32 = 0#1) t ht]
    refine Eq.trans ?_ ((concatenate_pair_apply_right (t := S2x1024x352) (s₁ := Cert.UpStepRefIdeal.S1x1024x352) (s₂ := Cert.UpStepRefIdeal.S1x1024x352) 0 _ _ _ e rfl rfl e' (fun
      | ⟨0, _⟩, hne => absurd rfl hne
      | ⟨1, _⟩, _ => rfl
      | ⟨2, _⟩, _ => rfl) (show 0 + 1 = (e 0).val by omega)).trans (sum_at m hn _ _ e')).symm
    rw [Fin.sum_univ_seven]
    rw [pick_zero]
    refine Eq.trans ?_ (congrArg₂ (· + ·) (read_own1 m hO 0 t ht w3 (ix4 (0 : Fin 1) (0 : Fin 1) a b) _ rfl rfl ha hb) rfl)
    simp only [add_assoc]
    congr 1
    congr 6 <;> exact read_land1 m hO 0 t ht w1 (ix4 _ (0 : Fin 1) a b) (place _ e') rfl rfl ha hb

/-- The gradient after the run is the reference's. -/
theorem final_grad (hn : (number m).toNat ≤ 7) (c : Dev nD) : (dats m hO 0 c).arrAt 7 (cfgM m hO).N
    = val_main_v28 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m hO 0 c).arrAt_eq_of_covers 7 _ (by decide +kernel : ((cfg0 at0).win 7).Covers) fun t _ y => ?_
  blk_simp
  rw [after0_7, outsAt0]
  frame_out
  pointwise [k0_pay11, k0_pay8, k0_pay7, k0_pay6, k0_pay5, k0_pay4]
  exact (grad_at m hO hn c t _ _ _ _ _ _ _ ((emb_at m hO t 7 (by decide) y 0).trans (first0 _ _)).symm
      (emb_at m hO t 7 (by decide) y 1).symm ((Nat.zero_add _).symm.trans (emb_at m hO t 7 (by decide) y 2).symm))

/-- The new first moment after the run is the reference's. -/
theorem final_m (hn : (number m).toNat ≤ 7) (c : Dev nD) : (dats m hO 0 c).arrAt 9 (cfgM m hO).N
    = val_main_v33 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)) := by
  refine (dats m hO 0 c).arrAt_eq_of_covers 9 _ (by decide +kernel : ((cfg0 at0).win 9).Covers) fun t _ y => ?_
  blk_simp
  rw [after0_9, outsAt0]
  frame_out
  pointwise [k0_pay2, k0_pay9, k0_pay8, k0_pay7, k0_pay6, k0_pay5, k0_pay4]
  exact congrArg₂ newM (grad_at m hO hn c t _ _ _ _ _ _ _ ((emb_at m hO t 9 (by decide) y 0).trans (first0 _ _)).symm
      (emb_at m hO t 9 (by decide) y 1).symm ((Nat.zero_add _).symm.trans (emb_at m hO t 9 (by decide) y 2).symm))
    (read_m m hO c t _ _ _ fun a => (emb_at m hO t 9 (by decide) y a).symm)

/-- The new second moment after the run is the reference's. -/
theorem final_v (hn : (number m).toNat ≤ 7) (c : Dev nD) : (dats m hO 0 c).arrAt 10 (cfgM m hO).N
    = val_main_v39 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg7)) := by
  refine (dats m hO 0 c).arrAt_eq_of_covers 10 _ (by decide +kernel : ((cfg0 at0).win 10).Covers) fun t _ y => ?_
  blk_simp
  rw [after0_10, outsAt0]
  frame_out
  pointwise [k0_pay3, k0_pay10, k0_pay8, k0_pay7, k0_pay6, k0_pay5, k0_pay4]
  exact congrArg₂ newV (grad_at m hO hn c t _ _ _ _ _ _ _ ((emb_at m hO t 10 (by decide) y 0).trans (first0 _ _)).symm
      (emb_at m hO t 10 (by decide) y 1).symm ((Nat.zero_add _).symm.trans (emb_at m hO t 10 (by decide) y 2).symm))
    (read_v m hO c t _ _ _ fun a => (emb_at m hO t 10 (by decide) y a).symm)

/-- The weight's change after the run is the reference's. -/
theorem final_delta (hn : (number m).toNat ≤ 7) (c : Dev nD) : (dats m hO 0 c).arrAt 8 (cfgM m hO).N
    = val_main_v52 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m hO 0 c).arrAt_eq_of_covers 8 _ (by decide +kernel : ((cfg0 at0).win 8).Covers) fun t _ y => ?_
  blk_simp
  rw [after0_8, outsAt0]
  frame_out
  pointwise [k0_pay1, k0_pay12, k0_pay10, k0_pay9, k0_pay8, k0_pay7, k0_pay6, k0_pay5, k0_pay4]
  exact delta_congr (grad_at m hO hn c t _ _ _ _ _ _ _ ((emb_at m hO t 8 (by decide) y 0).trans (first0 _ _)).symm
      (emb_at m hO t 8 (by decide) y 1).symm ((Nat.zero_add _).symm.trans (emb_at m hO t 8 (by decide) y 2).symm))
    (read_w m hO c t _ _ _ fun a => (emb_at m hO t 8 (by decide) y a).symm)
    (read_m m hO c t _ _ _ fun a => (emb_at m hO t 8 (by decide) y a).symm)
    (read_v m hO c t _ _ _ fun a => (emb_at m hO t 8 (by decide) y a).symm)

include hO in
/-- From any memory with zero counters and a number in range every weakly fair execution ends with the gradient, the change
    and the two moments at the reference's terms of the arguments, and the arguments unchanged. -/
theorem run (hn : (number m).toNat ≤ 7) (ρ : Dev nD → PrngReg) :
    θ_run defs (onTc (τ := τ) (main (F := Ideal))) ⟨m, fun _ => 0, ρ⟩ fun r => ∀ c : Dev nD,
    r.2.mem ((c.tc : Thread nD τ).loc main_v4_0) = val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
    ∧ r.2.mem ((c.tc : Thread nD τ).loc main_v4_1) = val_main_v52 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_v4_2) = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6))
    ∧ r.2.mem ((c.tc : Thread nD τ).loc main_v4_3) = val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono (fun r h c => ?_) (θ_run_and (run_main m ρ hO) (unchanged m ρ hO))
  exact ⟨((h.1 c).1 7).trans (final_grad m hO hn c), ((h.1 c).1 8).trans (final_delta m hO hn c),
    ((h.1 c).1 9).trans (final_m m hO hn c), ((h.1 c).1 10).trans (final_v m hO hn c), h.2 c⟩

end Cert.Proof.UpStep

end
-- ==== Proof.Steps.Facts.lean ====
/- The side conditions of the preconditions' operations: the comparisons' bounds spread over the one entry of the number. -/
module

public import proofs.«01_k».proof.Defs

@[expose] public section

namespace Cert.Proof.Facts

open Idealize.ShloMosaic

/-- Those of the precondition of the output projections' steps. -/
instance numbered_out : Cert.Pre_numbered_out.Facts where
  bcast_S_S1 := by decide

/-- Those of the precondition of the dilated layer's queries', keys' and values' steps. -/
instance numbered_dil : Cert.Pre_numbered_dil.Facts where
  bcast_S_S1 := by decide

/-- Those of the precondition of the neighbourhood layer's queries', keys' and values' steps. -/
instance numbered_na : Cert.Pre_numbered_na.Facts where
  bcast_S_S1 := by decide

/-- Those of the precondition of the feed-forward layers' steps. -/
instance numbered_ffn : Cert.Pre_numbered_ffn.Facts where
  bcast_S_S1 := by decide

end Cert.Proof.Facts
-- ==== Proof.Frames.lean ====
/-
  The frames of the two programs of the feed-forward layer at the hardware's own float values: each program has the text
  of its idealized one, so the run of the idealized text, stated over any float values, serves.
-/
module

public import proofs.«01_k».proof.Proof.FfnGrad.Sum
public import proofs.«01_k».proof.Proof.Ffn.Sum
public import proofs.«01_k».proof.Proof.Gen.Ffn.Frame
public import proofs.«01_k».proof.Proof.Gen.FfnGrad.Frame
public import proofs.«01_k».proof.Defs

@[expose] public section

set_option maxRecDepth 16384

noncomputable section

namespace Cert.Proof

open Idealize.ShloMosaic Idealize.ShloMosaic.TcCoe Idealize.SL.Sem

/-- The table of bodies of the feed-forward layer is that of its idealized program. -/
theorem ffn_bodies : Cert.Ffn.defs₀ (F := Bits) = Cert.FfnIdeal.defs₀ := by
  unfold Cert.Ffn.defs₀ Cert.FfnIdeal.defs₀
  refine congrArg Defs.onTc (funext fun l => ?_)
  obtain ⟨n, h⟩ := l
  cases n with
  | zero => exact funext fun ⟨t, s⟩ => rfl
  | succ n => exact absurd h (Nat.not_lt.2 (Nat.le_add_left _ _))

/-- The feed-forward layer ends from every memory, its arguments unchanged. -/
theorem ffn_frame : Cert.quiescent_Ffn := fun m ρ _ => by
  have h := Cert.FfnIdeal.Block.frame (F := Bits) m ρ
  rw [← show Cert.Ffn.defs (F := Bits) = Cert.FfnIdeal.defs from congrArg (Pipeline.defs _) ffn_bodies] at h
  exact h

/-- The table of bodies of the layer's gradient is that of its idealized program. -/
theorem ffn_grad_bodies : Cert.FfnGrad.defs₀ (F := Bits) = Cert.FfnGradIdeal.defs₀ := by
  unfold Cert.FfnGrad.defs₀ Cert.FfnGradIdeal.defs₀
  refine congrArg Defs.onTc (funext fun l => ?_)
  obtain ⟨n, h⟩ := l
  cases n with
  | zero => exact funext fun ⟨t, s⟩ => rfl
  | succ n => exact absurd h (Nat.not_lt.2 (Nat.le_add_left _ _))

/-- The layer's gradient ends from every memory, its arguments unchanged. -/
theorem ffn_grad_frame : Cert.quiescent_FfnGrad := fun m ρ _ => by
  have h := Cert.FfnGradIdeal.Block.frame (F := Bits) m ρ
  rw [← show Cert.FfnGrad.defs (F := Bits) = Cert.FfnGradIdeal.defs from congrArg (Pipeline.defs _) ffn_grad_bodies] at h
  exact h

end Cert.Proof

end
-- ==== Proof.lean ====
module

public import proofs.«01_k».proof.Defs
public import Idealize.ShloMosaic.Lib.Claim
public import proofs.«01_k».proof.Proof.Gen.Gate.Frame
public import proofs.«01_k».proof.Proof.Gen.GateRefIdeal.Run
public import proofs.«01_k».proof.Proof.Products.Gate
public import proofs.«01_k».proof.Proof.Gen.DilDw.Frame
public import proofs.«01_k».proof.Proof.Gen.DilDwRefIdeal.Run
public import proofs.«01_k».proof.Proof.Products.DilDw
public import proofs.«01_k».proof.Proof.Gen.DilDh.Frame
public import proofs.«01_k».proof.Proof.Gen.DilDhRefIdeal.Run
public import proofs.«01_k».proof.Proof.Products.DilDh
public import proofs.«01_k».proof.Proof.Gen.NaDw.Frame
public import proofs.«01_k».proof.Proof.Gen.NaDwRefIdeal.Run
public import proofs.«01_k».proof.Proof.Products.NaDw
public import proofs.«01_k».proof.Proof.Gen.NaDh.Frame
public import proofs.«01_k».proof.Proof.Gen.NaDhRefIdeal.Run
public import proofs.«01_k».proof.Proof.Products.NaDh
public import proofs.«01_k».proof.Proof.Gen.ProjDw.Frame
public import proofs.«01_k».proof.Proof.Gen.ProjDwRefIdeal.Run
public import proofs.«01_k».proof.Proof.Products.ProjDw
public import proofs.«01_k».proof.Proof.Gen.ProjDo.Frame
public import proofs.«01_k».proof.Proof.Gen.ProjDoRefIdeal.Run
public import proofs.«01_k».proof.Proof.Products.ProjDo
public import proofs.«01_k».proof.Proof.Gen.Dil.Frame
public import proofs.«01_k».proof.Proof.Gen.DilRefIdeal.Run
public import proofs.«01_k».proof.Proof.Products.Dil
public import proofs.«01_k».proof.Proof.Gen.Na.Frame
public import proofs.«01_k».proof.Proof.Gen.NaRefIdeal.Run
public import proofs.«01_k».proof.Proof.Products.Na
public import proofs.«01_k».proof.Proof.Gen.Proj.Frame
public import proofs.«01_k».proof.Proof.Gen.ProjRefIdeal.Run
public import proofs.«01_k».proof.Proof.Products.Proj
public import proofs.«01_k».proof.Proof.Gen.Ffn.Frame
public import proofs.«01_k».proof.Proof.Gen.FfnRefIdeal.Run
public import proofs.«01_k».proof.Proof.Ffn.Value
public import proofs.«01_k».proof.Proof.Gen.FfnGrad.Frame
public import proofs.«01_k».proof.Proof.Gen.FfnGradRefIdeal.Run
public import proofs.«01_k».proof.Proof.FfnGrad.Value
public import proofs.«01_k».proof.Proof.FfnGrad.Finite
public import proofs.«01_k».proof.Proof.Gen.SmallStep.Frame
public import proofs.«01_k».proof.Proof.Gen.SmallStepRefIdeal.Run
public import proofs.«01_k».proof.Proof.Steps.Small
public import proofs.«01_k».proof.Proof.Gen.DilOStep.Frame
public import proofs.«01_k».proof.Proof.Gen.DilOStepRefIdeal.Run
public import proofs.«01_k».proof.Proof.Steps.DilO
public import proofs.«01_k».proof.Proof.Gen.NaOStep.Frame
public import proofs.«01_k».proof.Proof.Gen.NaOStepRefIdeal.Run
public import proofs.«01_k».proof.Proof.Steps.NaO
public import proofs.«01_k».proof.Proof.Gen.DilQkvStep.Frame
public import proofs.«01_k».proof.Proof.Gen.DilQkvStepRefIdeal.Run
public import proofs.«01_k».proof.Proof.Steps.DilQkv
public import proofs.«01_k».proof.Proof.Gen.NaQkvStep.Frame
public import proofs.«01_k».proof.Proof.Gen.NaQkvStepRefIdeal.Run
public import proofs.«01_k».proof.Proof.Steps.NaQkv
public import proofs.«01_k».proof.Proof.Gen.GateStep.Frame
public import proofs.«01_k».proof.Proof.Gen.GateStepRefIdeal.Run
public import proofs.«01_k».proof.Proof.Steps.Gate
public import proofs.«01_k».proof.Proof.Gen.UpStep.Frame
public import proofs.«01_k».proof.Proof.Gen.UpStepRefIdeal.Run
public import proofs.«01_k».proof.Proof.Steps.Up
public import proofs.«01_k».proof.Proof.Steps.Facts
public import proofs.«01_k».proof.Proof.Frames

@[expose] public section

noncomputable section

namespace Cert.Proof

open Idealize.ShloMosaic Idealize.ShloMosaic.TcCoe Idealize.SL.Sem

/-- The kernel and the reference of the gate and up projections' weight gradient end with the same array. -/
theorem algebraicGate : Cert.algebraic_GateIdeal_GateRefIdeal (hGateIdeal := Cert.GateIdeal.Gen.facts) (hGateRefIdeal := Cert.GateRefIdeal.Gen.facts) := by
  pair_intro
  · run_from Cert.GateIdeal.Gen.run_main m g
  · run_from Cert.GateRefIdeal.Value.run m' g'
    exact (Cert.Proof.Gate.final m c).symm

/-- The kernel and the reference of the dilated layer's query, key and value weight gradient end with the same array. -/
theorem algebraicDilDw : Cert.algebraic_DilDwIdeal_DilDwRefIdeal (hDilDwIdeal := Cert.DilDwIdeal.Gen.facts) (hDilDwRefIdeal := Cert.DilDwRefIdeal.Gen.facts) := by
  pair_intro
  · run_from Cert.DilDwIdeal.Gen.run_main m g
  · run_from Cert.DilDwRefIdeal.Value.run m' g'
    exact (Cert.Proof.DilDw.final m c).symm

/-- The kernel and the reference of the gradient of the dilated layer's normalised input end with the same array. -/
theorem algebraicDilDh : Cert.algebraic_DilDhIdeal_DilDhRefIdeal (hDilDhIdeal := Cert.DilDhIdeal.Gen.facts) (hDilDhRefIdeal := Cert.DilDhRefIdeal.Gen.facts) := by
  pair_intro
  · run_from Cert.DilDhIdeal.Gen.run_main m g
  · run_from Cert.DilDhRefIdeal.Value.run m' g'
    exact (Cert.Proof.DilDh.final m c).symm

/-- The kernel and the reference of the neighbourhood layer's query, key and value weight gradient end with the same array. -/
theorem algebraicNaDw : Cert.algebraic_NaDwIdeal_NaDwRefIdeal (hNaDwIdeal := Cert.NaDwIdeal.Gen.facts) (hNaDwRefIdeal := Cert.NaDwRefIdeal.Gen.facts) := by
  pair_intro
  · run_from Cert.NaDwIdeal.Gen.run_main m g
  · run_from Cert.NaDwRefIdeal.Value.run m' g'
    exact (Cert.Proof.NaDw.final m c).symm

/-- The kernel and the reference of the gradient of the neighbourhood layer's normalised input end with the same array. -/
theorem algebraicNaDh : Cert.algebraic_NaDhIdeal_NaDhRefIdeal (hNaDhIdeal := Cert.NaDhIdeal.Gen.facts) (hNaDhRefIdeal := Cert.NaDhRefIdeal.Gen.facts) := by
  pair_intro
  · run_from Cert.NaDhIdeal.Gen.run_main m g
  · run_from Cert.NaDhRefIdeal.Value.run m' g'
    exact (Cert.Proof.NaDh.final m c).symm

/-- The kernel and the reference of the output projection's weight gradient end with the same array. -/
theorem algebraicProjDw : Cert.algebraic_ProjDwIdeal_ProjDwRefIdeal (hProjDwIdeal := Cert.ProjDwIdeal.Gen.facts) (hProjDwRefIdeal := Cert.ProjDwRefIdeal.Gen.facts) := by
  pair_intro
  · run_from Cert.ProjDwIdeal.Gen.run_main m g
  · run_from Cert.ProjDwRefIdeal.Value.run m' g'
    exact (Cert.Proof.ProjDw.final m c).symm

/-- The kernel and the reference of the gradient of the output projection's input end with the same array. -/
theorem algebraicProjDo : Cert.algebraic_ProjDoIdeal_ProjDoRefIdeal (hProjDoIdeal := Cert.ProjDoIdeal.Gen.facts) (hProjDoRefIdeal := Cert.ProjDoRefIdeal.Gen.facts) := by
  pair_intro
  · run_from Cert.ProjDoIdeal.Gen.run_main m g
  · run_from Cert.ProjDoRefIdeal.Value.run m' g'
    exact (Cert.Proof.ProjDo.final m c).symm

/-- The kernel and the reference of the dilated layer's queries, keys and values end with the same array. -/
theorem algebraicDil : Cert.algebraic_DilIdeal_DilRefIdeal (hDilIdeal := Cert.DilIdeal.Gen.facts) (hDilRefIdeal := Cert.DilRefIdeal.Gen.facts) := by
  pair_intro
  · run_from Cert.DilIdeal.Gen.run_main m g
  · run_from Cert.DilRefIdeal.Value.run m' g'
    exact (Cert.Proof.Dil.final m c).symm

/-- The kernel and the reference of the neighbourhood layer's queries, keys and values end with the same array. -/
theorem algebraicNa : Cert.algebraic_NaIdeal_NaRefIdeal (hNaIdeal := Cert.NaIdeal.Gen.facts) (hNaRefIdeal := Cert.NaRefIdeal.Gen.facts) := by
  pair_intro
  · run_from Cert.NaIdeal.Gen.run_main m g
  · run_from Cert.NaRefIdeal.Value.run m' g'
    exact (Cert.Proof.Na.final m c).symm

/-- The kernel and the reference of the output projection end with the same array. -/
theorem algebraicProj : Cert.algebraic_ProjIdeal_ProjRefIdeal (hProjIdeal := Cert.ProjIdeal.Gen.facts) (hProjRefIdeal := Cert.ProjRefIdeal.Gen.facts) := by
  pair_intro
  · run_from Cert.ProjIdeal.Gen.run_main m g
  · run_from Cert.ProjRefIdeal.Value.run m' g'
    exact (Cert.Proof.Proj.final m c).symm

/-- The kernel and the reference of the feed-forward layer end with the same four arrays. -/
theorem algebraicFfn : Cert.algebraic_FfnIdeal_FfnRefIdeal (hFfnIdeal := Cert.FfnIdeal.Gen.facts) (hFfnRefIdeal := Cert.FfnRefIdeal.Gen.facts) := by
  pair_intro
  · exact Cert.Proof.Ffn.run m g
  · refine (θ_run Cert.FfnRefIdeal.defs _ _).mono (fun r h c => ?_) (Cert.FfnRefIdeal.Value.run m' g')
    obtain ⟨e0, e1, e2, e3, ea⟩ := h c
    obtain ⟨a0, a1, a2⟩ := hagree c
    refine ⟨e0.trans ?_, e1.trans ?_, e2.trans ?_, e3.trans ?_, ea⟩
    · rw [Cert.FfnRefIdeal.Read.val_main_v10_eq, a0, a1, a2]
    · rw [Cert.FfnRefIdeal.Read.val_main_v11_eq, a0, a1]
    · rw [Cert.FfnRefIdeal.Read.val_main_v12_eq, a0, a1]
    · rw [Cert.FfnRefIdeal.Read.val_main_v14_eq, a0, a1]

/-- The kernel and the reference of the feed-forward layer's gradient end with the same three arrays. -/
theorem algebraicFfnGrad : Cert.algebraic_FfnGradIdeal_FfnGradRefIdeal_pre_finite (hFfnGradIdeal := Cert.FfnGradIdeal.Gen.facts)
    (hFfnGradRefIdeal := Cert.FfnGradRefIdeal.Gen.facts) (hPre_finite := Cert.Proof.FfnGrad.finite_facts) := by
  pair_intro
  · exact Cert.Proof.FfnGrad.run m g (Cert.Proof.FfnGrad.finite_of_pre m hpre)
  · refine (θ_run Cert.FfnGradRefIdeal.defs _ _).mono (fun r h c => ?_) (Cert.FfnGradRefIdeal.Value.run m' g')
    obtain ⟨e0, e1, e2, ea⟩ := h c
    obtain ⟨a0, a1, a2, a3⟩ := hagree c
    refine ⟨e0.trans ?_, e1.trans ?_, e2.trans ?_, ea⟩
    · rw [Cert.FfnGradRefIdeal.Read.val_main_v26_eq, a0, a1, a2, a3]
    · rw [Cert.FfnGradRefIdeal.Read.val_main_v22_eq, a0, a1, a2, a3]
    · rw [Cert.FfnGradRefIdeal.Read.val_main_v27_eq, a0, a1, a3]

/-- The kernel and the reference of the optimiser's step on the small parameters end with the same four arrays. -/
theorem algebraicSmallStep : Cert.algebraic_SmallStepIdeal_SmallStepRefIdeal (hSmallStepIdeal := Cert.SmallStepIdeal.Gen.facts)
    (hSmallStepRefIdeal := Cert.SmallStepRefIdeal.Gen.facts) := by
  pair_intro
  · exact Cert.Proof.SmallStep.run m trivial g
  · refine (θ_run Cert.SmallStepRefIdeal.defs _ _).mono (fun r h c => ?_) (Cert.SmallStepRefIdeal.Value.run m' g')
    obtain ⟨e0, e1, e2, e3, ea⟩ := h c
    obtain ⟨a0, a1, a2, a3, a4⟩ := hagree c
    refine ⟨e0.trans ?_, e1.trans ?_, e2.trans ?_, e3.trans ?_, ea⟩
    · rw [Cert.SmallStepRefIdeal.Read.val_main_v1_eq, a1]
    · rw [Cert.SmallStepRefIdeal.Read.val_main_v25_eq, a1, a2, a3, a4]
    · rw [Cert.SmallStepRefIdeal.Read.val_main_v6_eq, a1, a3]
    · rw [Cert.SmallStepRefIdeal.Read.val_main_v12_eq, a1, a4]

/-- The kernel and the reference of the optimiser's step on the dilated layer's output projection end with the same four arrays. -/
theorem algebraicDilOStep : Cert.algebraic_DilOStepIdeal_DilOStepRefIdeal (hDilOStepIdeal := Cert.DilOStepIdeal.Gen.facts)
    (hDilOStepRefIdeal := Cert.DilOStepRefIdeal.Gen.facts)
    (hPre_numbered_out := Cert.Proof.Facts.numbered_out) := by
  pair_intro
  · exact Cert.Proof.DilOStep.run m (Cert.Proof.DilOStep.okIdeal m hpre) (Cert.Proof.DilOStep.number_of_pre m hpre) g
  · refine (θ_run Cert.DilOStepRefIdeal.defs _ _).mono (fun r h c => ?_) (Cert.DilOStepRefIdeal.Value.run m' g')
    obtain ⟨e0, e1, e2, e3, ea⟩ := h c
    obtain ⟨a0, a1, a2, a3, a4, a5⟩ := hagree c
    refine ⟨e0.trans ?_, e1.trans ?_, e2.trans ?_, e3.trans ?_, ea⟩
    · rw [Cert.DilOStepRefIdeal.Read.val_main_v9_eq, a0, a1, a2]
    · rw [Cert.DilOStepRefIdeal.Read.val_main_v33_eq, a0, a1, a2, a3, a4, a5]
    · rw [Cert.DilOStepRefIdeal.Read.val_main_v14_eq, a0, a1, a2, a4]
    · rw [Cert.DilOStepRefIdeal.Read.val_main_v20_eq, a0, a1, a2, a5]

/-- The kernel and the reference of the optimiser's step on the neighbourhood layer's output projection end with the same four arrays. -/
theorem algebraicNaOStep : Cert.algebraic_NaOStepIdeal_NaOStepRefIdeal (hNaOStepIdeal := Cert.NaOStepIdeal.Gen.facts)
    (hNaOStepRefIdeal := Cert.NaOStepRefIdeal.Gen.facts)
    (hPre_numbered_out := Cert.Proof.Facts.numbered_out) := by
  pair_intro
  · exact Cert.Proof.NaOStep.run m (Cert.Proof.NaOStep.okIdeal m hpre) (Cert.Proof.NaOStep.number_of_pre m hpre) g
  · refine (θ_run Cert.NaOStepRefIdeal.defs _ _).mono (fun r h c => ?_) (Cert.NaOStepRefIdeal.Value.run m' g')
    obtain ⟨e0, e1, e2, e3, ea⟩ := h c
    obtain ⟨a0, a1, a2, a3, a4, a5⟩ := hagree c
    refine ⟨e0.trans ?_, e1.trans ?_, e2.trans ?_, e3.trans ?_, ea⟩
    · rw [Cert.NaOStepRefIdeal.Read.val_main_v9_eq, a0, a1, a2]
    · rw [Cert.NaOStepRefIdeal.Read.val_main_v33_eq, a0, a1, a2, a3, a4, a5]
    · rw [Cert.NaOStepRefIdeal.Read.val_main_v14_eq, a0, a1, a2, a4]
    · rw [Cert.NaOStepRefIdeal.Read.val_main_v20_eq, a0, a1, a2, a5]

/-- The kernel and the reference of the optimiser's step on the dilated layer's queries, keys and values end with the same four arrays. -/
theorem algebraicDilQkvStep : Cert.algebraic_DilQkvStepIdeal_DilQkvStepRefIdeal (hDilQkvStepIdeal := Cert.DilQkvStepIdeal.Gen.facts)
    (hDilQkvStepRefIdeal := Cert.DilQkvStepRefIdeal.Gen.facts)
    (hPre_numbered_dil := Cert.Proof.Facts.numbered_dil) := by
  pair_intro
  · exact Cert.Proof.DilQkvStep.run m (Cert.Proof.DilQkvStep.okIdeal m hpre) (Cert.Proof.DilQkvStep.number_of_pre m hpre) g
  · refine (θ_run Cert.DilQkvStepRefIdeal.defs _ _).mono (fun r h c => ?_) (Cert.DilQkvStepRefIdeal.Value.run m' g')
    obtain ⟨e0, e1, e2, e3, ea⟩ := h c
    obtain ⟨a0, a1, a2, a3, a4, a5⟩ := hagree c
    refine ⟨e0.trans ?_, e1.trans ?_, e2.trans ?_, e3.trans ?_, ea⟩
    · rw [Cert.DilQkvStepRefIdeal.Read.val_main_v11_eq, a0, a1, a2]
    · rw [Cert.DilQkvStepRefIdeal.Read.val_main_v35_eq, a0, a1, a2, a3, a4, a5]
    · rw [Cert.DilQkvStepRefIdeal.Read.val_main_v16_eq, a0, a1, a2, a4]
    · rw [Cert.DilQkvStepRefIdeal.Read.val_main_v22_eq, a0, a1, a2, a5]

/-- The kernel and the reference of the optimiser's step on the neighbourhood layer's queries, keys and values end with the same four arrays. -/
theorem algebraicNaQkvStep : Cert.algebraic_NaQkvStepIdeal_NaQkvStepRefIdeal (hNaQkvStepIdeal := Cert.NaQkvStepIdeal.Gen.facts)
    (hNaQkvStepRefIdeal := Cert.NaQkvStepRefIdeal.Gen.facts)
    (hPre_numbered_na := Cert.Proof.Facts.numbered_na) := by
  pair_intro
  · exact Cert.Proof.NaQkvStep.run m (Cert.Proof.NaQkvStep.okIdeal m hpre) (Cert.Proof.NaQkvStep.number_of_pre m hpre) g
  · refine (θ_run Cert.NaQkvStepRefIdeal.defs _ _).mono (fun r h c => ?_) (Cert.NaQkvStepRefIdeal.Value.run m' g')
    obtain ⟨e0, e1, e2, e3, ea⟩ := h c
    obtain ⟨a0, a1, a2, a3, a4, a5⟩ := hagree c
    refine ⟨e0.trans ?_, e1.trans ?_, e2.trans ?_, e3.trans ?_, ea⟩
    · rw [Cert.NaQkvStepRefIdeal.Read.val_main_v11_eq, a0, a1, a2]
    · rw [Cert.NaQkvStepRefIdeal.Read.val_main_v35_eq, a0, a1, a2, a3, a4, a5]
    · rw [Cert.NaQkvStepRefIdeal.Read.val_main_v16_eq, a0, a1, a2, a4]
    · rw [Cert.NaQkvStepRefIdeal.Read.val_main_v22_eq, a0, a1, a2, a5]

/-- The kernel and the reference of the optimiser's step on the gate projections end with the same four arrays. -/
theorem algebraicGateStep : Cert.algebraic_GateStepIdeal_GateStepRefIdeal (hGateStepIdeal := Cert.GateStepIdeal.Gen.facts)
    (hGateStepRefIdeal := Cert.GateStepRefIdeal.Gen.facts)
    (hPre_numbered_ffn := Cert.Proof.Facts.numbered_ffn) := by
  pair_intro
  · exact Cert.Proof.GateStep.run m (Cert.Proof.GateStep.okIdeal m hpre) (Cert.Proof.GateStep.number_of_pre m hpre) g
  · refine (θ_run Cert.GateStepRefIdeal.defs _ _).mono (fun r h c => ?_) (Cert.GateStepRefIdeal.Value.run m' g')
    obtain ⟨e0, e1, e2, e3, ea⟩ := h c
    obtain ⟨a0, a1, a2, a3, a4, a5, a6, a7⟩ := hagree c
    refine ⟨e0.trans ?_, e1.trans ?_, e2.trans ?_, e3.trans ?_, ea⟩
    · rw [Cert.GateStepRefIdeal.Read.val_main_v28_eq, a0, a1, a2, a3, a4]
    · rw [Cert.GateStepRefIdeal.Read.val_main_v52_eq, a0, a1, a2, a3, a4, a5, a6, a7]
    · rw [Cert.GateStepRefIdeal.Read.val_main_v33_eq, a0, a1, a2, a3, a4, a6]
    · rw [Cert.GateStepRefIdeal.Read.val_main_v39_eq, a0, a1, a2, a3, a4, a7]

/-- The kernel and the reference of the optimiser's step on the up projections end with the same four arrays. -/
theorem algebraicUpStep : Cert.algebraic_UpStepIdeal_UpStepRefIdeal (hUpStepIdeal := Cert.UpStepIdeal.Gen.facts)
    (hUpStepRefIdeal := Cert.UpStepRefIdeal.Gen.facts)
    (hPre_numbered_ffn := Cert.Proof.Facts.numbered_ffn) := by
  pair_intro
  · exact Cert.Proof.UpStep.run m (Cert.Proof.UpStep.okIdeal m hpre) (Cert.Proof.UpStep.number_of_pre m hpre) g
  · refine (θ_run Cert.UpStepRefIdeal.defs _ _).mono (fun r h c => ?_) (Cert.UpStepRefIdeal.Value.run m' g')
    obtain ⟨e0, e1, e2, e3, ea⟩ := h c
    obtain ⟨a0, a1, a2, a3, a4, a5, a6, a7⟩ := hagree c
    refine ⟨e0.trans ?_, e1.trans ?_, e2.trans ?_, e3.trans ?_, ea⟩
    · rw [Cert.UpStepRefIdeal.Read.val_main_v28_eq, a0, a1, a2, a3, a4]
    · rw [Cert.UpStepRefIdeal.Read.val_main_v52_eq, a0, a1, a2, a3, a4, a5, a6, a7]
    · rw [Cert.UpStepRefIdeal.Read.val_main_v33_eq, a0, a1, a2, a3, a4, a6]
    · rw [Cert.UpStepRefIdeal.Read.val_main_v39_eq, a0, a1, a2, a3, a4, a7]

/-- Every claim of the certificate. -/
theorem claim : Cert.Claim :=
  ⟨Cert.Gate.Gen.facts, Cert.GateIdeal.Gen.facts, Cert.GateRefIdeal.Gen.facts, Cert.DilDw.Gen.facts, Cert.DilDwIdeal.Gen.facts, Cert.DilDwRefIdeal.Gen.facts, Cert.DilDh.Gen.facts, Cert.DilDhIdeal.Gen.facts, Cert.DilDhRefIdeal.Gen.facts, Cert.NaDw.Gen.facts, Cert.NaDwIdeal.Gen.facts, Cert.NaDwRefIdeal.Gen.facts, Cert.NaDh.Gen.facts, Cert.NaDhIdeal.Gen.facts, Cert.NaDhRefIdeal.Gen.facts, Cert.ProjDw.Gen.facts, Cert.ProjDwIdeal.Gen.facts, Cert.ProjDwRefIdeal.Gen.facts, Cert.ProjDo.Gen.facts, Cert.ProjDoIdeal.Gen.facts, Cert.ProjDoRefIdeal.Gen.facts, Cert.Dil.Gen.facts, Cert.DilIdeal.Gen.facts, Cert.DilRefIdeal.Gen.facts, Cert.Na.Gen.facts, Cert.NaIdeal.Gen.facts, Cert.NaRefIdeal.Gen.facts, Cert.Proj.Gen.facts, Cert.ProjIdeal.Gen.facts, Cert.ProjRefIdeal.Gen.facts, Cert.Ffn.Gen.facts, Cert.FfnIdeal.Gen.facts, Cert.FfnRefIdeal.Gen.facts, Cert.FfnGrad.Gen.facts, Cert.FfnGradIdeal.Gen.facts, Cert.FfnGradRefIdeal.Gen.facts, Cert.SmallStep.Gen.facts, Cert.SmallStepIdeal.Gen.facts, Cert.SmallStepRefIdeal.Gen.facts, Cert.DilOStep.Gen.facts, Cert.DilOStepIdeal.Gen.facts, Cert.DilOStepRefIdeal.Gen.facts, Cert.NaOStep.Gen.facts, Cert.NaOStepIdeal.Gen.facts, Cert.NaOStepRefIdeal.Gen.facts, Cert.DilQkvStep.Gen.facts, Cert.DilQkvStepIdeal.Gen.facts, Cert.DilQkvStepRefIdeal.Gen.facts, Cert.NaQkvStep.Gen.facts, Cert.NaQkvStepIdeal.Gen.facts, Cert.NaQkvStepRefIdeal.Gen.facts, Cert.GateStep.Gen.facts, Cert.GateStepIdeal.Gen.facts, Cert.GateStepRefIdeal.Gen.facts, Cert.UpStep.Gen.facts, Cert.UpStepIdeal.Gen.facts, Cert.UpStepRefIdeal.Gen.facts, Cert.Proof.FfnGrad.finite_facts, Cert.Proof.Facts.numbered_out, Cert.Proof.Facts.numbered_dil, Cert.Proof.Facts.numbered_na, Cert.Proof.Facts.numbered_ffn,
    fun m ρ _ => Cert.Gate.Gen.frame m ρ,
    fun m ρ _ => Cert.GateIdeal.Gen.frame m ρ,
    fun m ρ _ => (θ_run Cert.GateRefIdeal.defs _ _).mono
      (fun r h => ⟨fun c => (h c).2, Idealize.ShloMosaic.sem_eq_zero_of_no_sems (by decide) r.2⟩) (Cert.GateRefIdeal.Value.run m ρ),
    fun m ρ _ => Cert.DilDw.Gen.frame m ρ,
    fun m ρ _ => Cert.DilDwIdeal.Gen.frame m ρ,
    fun m ρ _ => (θ_run Cert.DilDwRefIdeal.defs _ _).mono
      (fun r h => ⟨fun c => (h c).2, Idealize.ShloMosaic.sem_eq_zero_of_no_sems (by decide) r.2⟩) (Cert.DilDwRefIdeal.Value.run m ρ),
    fun m ρ _ => Cert.DilDh.Gen.frame m ρ,
    fun m ρ _ => Cert.DilDhIdeal.Gen.frame m ρ,
    fun m ρ _ => (θ_run Cert.DilDhRefIdeal.defs _ _).mono
      (fun r h => ⟨fun c => (h c).2, Idealize.ShloMosaic.sem_eq_zero_of_no_sems (by decide) r.2⟩) (Cert.DilDhRefIdeal.Value.run m ρ),
    fun m ρ _ => Cert.NaDw.Gen.frame m ρ,
    fun m ρ _ => Cert.NaDwIdeal.Gen.frame m ρ,
    fun m ρ _ => (θ_run Cert.NaDwRefIdeal.defs _ _).mono
      (fun r h => ⟨fun c => (h c).2, Idealize.ShloMosaic.sem_eq_zero_of_no_sems (by decide) r.2⟩) (Cert.NaDwRefIdeal.Value.run m ρ),
    fun m ρ _ => Cert.NaDh.Gen.frame m ρ,
    fun m ρ _ => Cert.NaDhIdeal.Gen.frame m ρ,
    fun m ρ _ => (θ_run Cert.NaDhRefIdeal.defs _ _).mono
      (fun r h => ⟨fun c => (h c).2, Idealize.ShloMosaic.sem_eq_zero_of_no_sems (by decide) r.2⟩) (Cert.NaDhRefIdeal.Value.run m ρ),
    fun m ρ _ => Cert.ProjDw.Gen.frame m ρ,
    fun m ρ _ => Cert.ProjDwIdeal.Gen.frame m ρ,
    fun m ρ _ => (θ_run Cert.ProjDwRefIdeal.defs _ _).mono
      (fun r h => ⟨fun c => (h c).2, Idealize.ShloMosaic.sem_eq_zero_of_no_sems (by decide) r.2⟩) (Cert.ProjDwRefIdeal.Value.run m ρ),
    fun m ρ _ => Cert.ProjDo.Gen.frame m ρ,
    fun m ρ _ => Cert.ProjDoIdeal.Gen.frame m ρ,
    fun m ρ _ => (θ_run Cert.ProjDoRefIdeal.defs _ _).mono
      (fun r h => ⟨fun c => (h c).2, Idealize.ShloMosaic.sem_eq_zero_of_no_sems (by decide) r.2⟩) (Cert.ProjDoRefIdeal.Value.run m ρ),
    fun m ρ _ => Cert.Dil.Gen.frame m ρ,
    fun m ρ _ => Cert.DilIdeal.Gen.frame m ρ,
    fun m ρ _ => (θ_run Cert.DilRefIdeal.defs _ _).mono
      (fun r h => ⟨fun c => (h c).2, Idealize.ShloMosaic.sem_eq_zero_of_no_sems (by decide) r.2⟩) (Cert.DilRefIdeal.Value.run m ρ),
    fun m ρ _ => Cert.Na.Gen.frame m ρ,
    fun m ρ _ => Cert.NaIdeal.Gen.frame m ρ,
    fun m ρ _ => (θ_run Cert.NaRefIdeal.defs _ _).mono
      (fun r h => ⟨fun c => (h c).2, Idealize.ShloMosaic.sem_eq_zero_of_no_sems (by decide) r.2⟩) (Cert.NaRefIdeal.Value.run m ρ),
    fun m ρ _ => Cert.Proj.Gen.frame m ρ,
    fun m ρ _ => Cert.ProjIdeal.Gen.frame m ρ,
    fun m ρ _ => (θ_run Cert.ProjRefIdeal.defs _ _).mono
      (fun r h => ⟨fun c => (h c).2, Idealize.ShloMosaic.sem_eq_zero_of_no_sems (by decide) r.2⟩) (Cert.ProjRefIdeal.Value.run m ρ),
    ffn_frame,
    fun m ρ _ => Cert.FfnIdeal.Block.frame m ρ,
    fun m ρ _ => (θ_run Cert.FfnRefIdeal.defs _ _).mono
      (fun r h => ⟨fun c => (h c).2.2.2.2, Idealize.ShloMosaic.sem_eq_zero_of_no_sems (by decide) r.2⟩) (Cert.FfnRefIdeal.Value.run m ρ),
    ffn_grad_frame,
    fun m ρ _ => Cert.FfnGradIdeal.Block.frame m ρ,
    fun m ρ _ => Cert.FfnGradIdeal.Block.frame m ρ,
    fun m ρ _ => (θ_run Cert.FfnGradRefIdeal.defs _ _).mono
      (fun r h => ⟨fun c => (h c).2.2.2, Idealize.ShloMosaic.sem_eq_zero_of_no_sems (by decide) r.2⟩) (Cert.FfnGradRefIdeal.Value.run m ρ),
    fun m ρ _ => (θ_run Cert.FfnGradRefIdeal.defs _ _).mono
      (fun r h => ⟨fun c => (h c).2.2.2, Idealize.ShloMosaic.sem_eq_zero_of_no_sems (by decide) r.2⟩) (Cert.FfnGradRefIdeal.Value.run m ρ),
    fun m ρ _ => Cert.SmallStep.Gen.frame m ρ trivial,
    fun m ρ _ => Cert.SmallStepIdeal.Gen.frame m ρ trivial,
    fun m ρ _ => (θ_run Cert.SmallStepRefIdeal.defs _ _).mono
      (fun r h => ⟨fun c => (h c).2.2.2.2, Idealize.ShloMosaic.sem_eq_zero_of_no_sems (by decide) r.2⟩) (Cert.SmallStepRefIdeal.Value.run m ρ),
    fun m ρ hp => Cert.DilOStep.Gen.frame m ρ (Cert.Proof.DilOStep.ok m hp),
    fun m ρ hp => Cert.DilOStepIdeal.Gen.frame m ρ (Cert.Proof.DilOStep.okIdeal m hp),
    fun m ρ _ => (θ_run Cert.DilOStepRefIdeal.defs _ _).mono
      (fun r h => ⟨fun c => (h c).2.2.2.2, Idealize.ShloMosaic.sem_eq_zero_of_no_sems (by decide) r.2⟩) (Cert.DilOStepRefIdeal.Value.run m ρ),
    fun m ρ hp => Cert.NaOStep.Gen.frame m ρ (Cert.Proof.NaOStep.ok m hp),
    fun m ρ hp => Cert.NaOStepIdeal.Gen.frame m ρ (Cert.Proof.NaOStep.okIdeal m hp),
    fun m ρ _ => (θ_run Cert.NaOStepRefIdeal.defs _ _).mono
      (fun r h => ⟨fun c => (h c).2.2.2.2, Idealize.ShloMosaic.sem_eq_zero_of_no_sems (by decide) r.2⟩) (Cert.NaOStepRefIdeal.Value.run m ρ),
    fun m ρ hp => Cert.DilQkvStep.Gen.frame m ρ (Cert.Proof.DilQkvStep.ok m hp),
    fun m ρ hp => Cert.DilQkvStepIdeal.Gen.frame m ρ (Cert.Proof.DilQkvStep.okIdeal m hp),
    fun m ρ _ => (θ_run Cert.DilQkvStepRefIdeal.defs _ _).mono
      (fun r h => ⟨fun c => (h c).2.2.2.2, Idealize.ShloMosaic.sem_eq_zero_of_no_sems (by decide) r.2⟩) (Cert.DilQkvStepRefIdeal.Value.run m ρ),
    fun m ρ hp => Cert.NaQkvStep.Gen.frame m ρ (Cert.Proof.NaQkvStep.ok m hp),
    fun m ρ hp => Cert.NaQkvStepIdeal.Gen.frame m ρ (Cert.Proof.NaQkvStep.okIdeal m hp),
    fun m ρ _ => (θ_run Cert.NaQkvStepRefIdeal.defs _ _).mono
      (fun r h => ⟨fun c => (h c).2.2.2.2, Idealize.ShloMosaic.sem_eq_zero_of_no_sems (by decide) r.2⟩) (Cert.NaQkvStepRefIdeal.Value.run m ρ),
    fun m ρ hp => Cert.GateStep.Gen.frame m ρ (Cert.Proof.GateStep.ok m hp),
    fun m ρ hp => Cert.GateStepIdeal.Gen.frame m ρ (Cert.Proof.GateStep.okIdeal m hp),
    fun m ρ _ => (θ_run Cert.GateStepRefIdeal.defs _ _).mono
      (fun r h => ⟨fun c => (h c).2.2.2.2, Idealize.ShloMosaic.sem_eq_zero_of_no_sems (by decide) r.2⟩) (Cert.GateStepRefIdeal.Value.run m ρ),
    fun m ρ hp => Cert.UpStep.Gen.frame m ρ (Cert.Proof.UpStep.ok m hp),
    fun m ρ hp => Cert.UpStepIdeal.Gen.frame m ρ (Cert.Proof.UpStep.okIdeal m hp),
    fun m ρ _ => (θ_run Cert.UpStepRefIdeal.defs _ _).mono
      (fun r h => ⟨fun c => (h c).2.2.2.2, Idealize.ShloMosaic.sem_eq_zero_of_no_sems (by decide) r.2⟩) (Cert.UpStepRefIdeal.Value.run m ρ),
    trivial, trivial, trivial, trivial, trivial, trivial, trivial, trivial, trivial, trivial, trivial, trivial, trivial, trivial, trivial, trivial, trivial, trivial, trivial,
    algebraicGate, algebraicDilDw, algebraicDilDh, algebraicNaDw, algebraicNaDh, algebraicProjDw, algebraicProjDo, algebraicDil, algebraicNa, algebraicProj, algebraicFfn, algebraicFfnGrad, algebraicSmallStep, algebraicDilOStep, algebraicNaOStep, algebraicDilQkvStep, algebraicNaQkvStep, algebraicGateStep, algebraicUpStep⟩

end Cert.Proof

end
